-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_summable [hPre_summable : Cert.Pre_summable.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_summable.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_summable [hPre_summable : Cert.Pre_summable.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_summable.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite [hPre_finite : Cert.Pre_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite [hPre_finite : Cert.Pre_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18))
      ∧ r.2.sem = fun _ => 0)

def quiescent_Kernel4Ideal_pre_summable [hKernel4Ideal : Cert.Kernel4Ideal.Facts] [hPre_summable : Cert.Pre_summable.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_summable m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18))
      ∧ r.2.sem = fun _ => 0)

def quiescent_Reference4Ideal_pre_summable [hReference4Ideal : Cert.Reference4Ideal.Facts] [hPre_summable : Cert.Pre_summable.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_summable m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite [hKernel8Ideal : Cert.Kernel8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite [hReference8Ideal : Cert.Reference8Ideal.Facts] [hPre_finite : Cert.Pre_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_summable [hKernel4Ideal : Cert.Kernel4Ideal.Facts] [hReference4Ideal : Cert.Reference4Ideal.Facts] [hPre_summable : Cert.Pre_summable.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_summable m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v98) = v0 c
          ∧ r.2.mem ((c.tc : Thread Cert.Reference4Ideal.nD Cert.Reference4Ideal.τ).loc Cert.Reference4Ideal.main_v128) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite [hKernel8Ideal : Cert.Kernel8Ideal.Facts] [hReference8Ideal : Cert.Reference8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v37)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v37) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v127) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_summable : Cert.Pre_summable.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_summable (hKernel4Ideal := hKernel4Ideal) (hPre_summable := hPre_summable)
    ∧ quiescent_Reference4Ideal (hReference4Ideal := hReference4Ideal)
    ∧ quiescent_Reference4Ideal_pre_summable (hReference4Ideal := hReference4Ideal) (hPre_summable := hPre_summable)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite (hKernel8Ideal := hKernel8Ideal) (hPre_finite := hPre_finite)
    ∧ quiescent_Reference8Ideal (hReference8Ideal := hReference8Ideal)
    ∧ quiescent_Reference8Ideal_pre_finite (hReference8Ideal := hReference8Ideal) (hPre_finite := hPre_finite)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_summable (hKernel4Ideal := hKernel4Ideal) (hReference4Ideal := hReference4Ideal) (hPre_summable := hPre_summable)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite (hKernel8Ideal := hKernel8Ideal) (hReference8Ideal := hReference8Ideal) (hPre_finite := hPre_finite)
    ∧ preserves_Kernel9_Kernel9Ideal
    ∧ algebraic_Kernel9Ideal_Reference9Ideal (hKernel9Ideal := hKernel9Ideal) (hReference9Ideal := hReference9Ideal)
-- ==== Pre_finite.lean ====
abbrev S4x32 : Shape := ⟨2, ![4, 32]⟩
abbrev S16896x1024 : Shape := ⟨2, ![16896, 1024]⟩
abbrev S16896x256 : Shape := ⟨2, ![16896, 256]⟩
abbrev S64 : Shape := ⟨1, ![64]⟩
abbrev S_ : Shape := ⟨0, ![]⟩

class Facts : Prop where
  bcast_S_S4x32 : S_.BroadcastsInDim S4x32 (![] : Fin 0 → Fin S4x32.rank)
  reducesTo_S4x32_S_d0_1 : S4x32.ReducesTo [0, 1] S_
  h_S_ : 0 < S_.numel
  bcast_S_S16896x256 : S_.BroadcastsInDim S16896x256 (![] : Fin 0 → Fin S16896x256.rank)
  reducesTo_S16896x256_S_d0_1 : S16896x256.ReducesTo [0, 1] S_

variable [Facts]

def fn {F : FTy → Type} [FloatOps F] (main_arg0 : FVec F S4x32 .f32) (main_arg1 : FVec F S16896x1024 .f32) (main_arg2 : FVec F S16896x256 .f32) (main_arg3 : FVec F S64 .f32) : IVec S_ 1 :=
  let main_v0 : FVec F S4x32 .f32 := Host.absf main_arg0
  let main_cst : FVec F S_ .f32 := constant S_ .f32 0x7F800000#32
  let main_v1 : FVec F S4x32 .f32 := broadcastInDim S4x32 ![] bcast_S_S4x32 main_cst
  let main_v2 : IVec S4x32 1 := cmpf .olt main_v0 main_v1
  let main_c : IVec S_ 1 := constantI S_ 1 1#1
  let main_v3 : IVec S_ 1 := (fun x v => Host.reduce IntOp.andi x v reducesTo_S4x32_S_d0_1 h_S_) main_v2 main_c
  let main_v4 : FVec F S16896x256 .f32 := Host.absf main_arg2
  let main_cst_0 : FVec F S_ .f32 := constant S_ .f32 0x7F800000#32
  let main_v5 : FVec F S16896x256 .f32 := broadcastInDim S16896x256 ![] bcast_S_S16896x256 main_cst_0
  let main_v6 : IVec S16896x256 1 := cmpf .olt main_v4 main_v5
  let main_c_1 : IVec S_ 1 := constantI S_ 1 1#1
  let main_v7 : IVec S_ 1 := (fun x v => Host.reduce IntOp.andi x v reducesTo_S16896x256_S_d0_1 h_S_) main_v6 main_c_1
  let main_v8 : IVec S_ 1 := andi main_v3 main_v7
  main_v8
-- ==== Pre_summable.lean ====
abbrev S16896x256 : Shape := ⟨2, ![16896, 256]⟩
abbrev S2x16896x256 : Shape := ⟨3, ![2, 16896, 256]⟩
abbrev S128x256 : Shape := ⟨2, ![128, 256]⟩
abbrev S2x256 : Shape := ⟨2, ![2, 256]⟩
abbrev S16896x7168 : Shape := ⟨2, ![16896, 7168]⟩
abbrev S4x256x1024 : Shape := ⟨3, ![4, 256, 1024]⟩
abbrev S1024x1024 : Shape := ⟨2, ![1024, 1024]⟩
abbrev S16896x1024 : Shape := ⟨2, ![16896, 1024]⟩
abbrev S1024 : Shape := ⟨1, ![1024]⟩
abbrev S3x1x1024 : Shape := ⟨3, ![3, 1, 1024]⟩
abbrev S1024x64 : Shape := ⟨2, ![1024, 64]⟩
abbrev S64 : Shape := ⟨1, ![64]⟩
abbrev S_ : Shape := ⟨0, ![]⟩

class Facts : Prop where
  bcast_S_S16896x256 : S_.BroadcastsInDim S16896x256 (![] : Fin 0 → Fin S16896x256.rank)
  reducesTo_S16896x256_S_d0_1 : S16896x256.ReducesTo [0, 1] S_
  h_S_ : 0 < S_.numel

variable [Facts]

def fn {F : FTy → Type} [FloatOps F] (main_arg0 : FVec F S16896x256 .f32) (main_arg1 : FVec F S16896x256 .f32) (main_arg2 : FVec F S16896x256 .f32) (main_arg3 : FVec F S16896x256 .f32) (main_arg4 : FVec F S16896x256 .f32) (main_arg5 : FVec F S2x16896x256 .f32) (main_arg6 : FVec F S128x256 .f32) (main_arg7 : FVec F S2x256 .f32) (main_arg8 : FVec F S16896x7168 .f32) (main_arg9 : FVec F S4x256x1024 .f32) (main_arg10 : FVec F S1024x1024 .f32) (main_arg11 : FVec F S16896x1024 .f32) (main_arg12 : FVec F S1024 .f32) (main_arg13 : FVec F S3x1x1024 .f32) (main_arg14 : FVec F S1024 .f32) (main_arg15 : FVec F S3x1x1024 .f32) (main_arg16 : FVec F S3x1x1024 .f32) (main_arg17 : FVec F S1024x64 .f32) (main_arg18 : FVec F S64 .f32) : IVec S_ 1 :=
  let main_v0 : FVec F S16896x256 .f32 := Host.absf main_arg3
  let main_cst : FVec F S_ .f32 := constant S_ .f32 0x7F800000#32
  let main_v1 : FVec F S16896x256 .f32 := broadcastInDim S16896x256 ![] bcast_S_S16896x256 main_cst
  let main_v2 : IVec S16896x256 1 := cmpf .olt main_v0 main_v1
  let main_c : IVec S_ 1 := constantI S_ 1 1#1
  let main_v3 : IVec S_ 1 := (fun x v => Host.reduce IntOp.andi x v reducesTo_S16896x256_S_d0_1 h_S_) main_v2 main_c
  let main_v4 : FVec F S16896x256 .f32 := Host.absf main_arg4
  let main_cst_0 : FVec F S_ .f32 := constant S_ .f32 0x7F800000#32
  let main_v5 : FVec F S16896x256 .f32 := broadcastInDim S16896x256 ![] bcast_S_S16896x256 main_cst_0
  let main_v6 : IVec S16896x256 1 := cmpf .olt main_v4 main_v5
  let main_c_1 : IVec S_ 1 := constantI S_ 1 1#1
  let main_v7 : IVec S_ 1 := (fun x v => Host.reduce IntOp.andi x v reducesTo_S16896x256_S_d0_1 h_S_) main_v6 main_c_1
  let main_v8 : IVec S_ 1 := andi main_v3 main_v7
  main_v8
-- ==== Kernel.lean ====
abbrev S4x32 : Shape := ⟨2, ![4, 32]⟩
abbrev S16896x1024 : Shape := ⟨2, ![16896, 1024]⟩
abbrev S16896x256 : Shape := ⟨2, ![16896, 256]⟩
abbrev S64 : Shape := ⟨1, ![64]⟩
abbrev S_ : Shape := ⟨0, ![]⟩
abbrev S16896x768 : Shape := ⟨2, ![16896, 768]⟩
abbrev S2x8448x4x64 : Shape := ⟨4, ![2, 8448, 4, 64]⟩
abbrev S2x4x64x8448 : Shape := ⟨4, ![2, 4, 64, 8448]⟩
abbrev S2x4x16x8448 : Shape := ⟨4, ![2, 4, 16, 8448]⟩
abbrev S2x4x80x8448 : Shape := ⟨4, ![2, 4, 80, 8448]⟩
abbrev S640x8448 : Shape := ⟨2, ![640, 8448]⟩
abbrev S1x32 : Shape := ⟨2, ![1, 32]⟩
abbrev S32 : Shape := ⟨1, ![32]⟩
abbrev S1 : Shape := ⟨1, ![1]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x256 : Shape := ⟨2, ![256, 256]⟩
abbrev S8448x256 : Shape := ⟨2, ![8448, 256]⟩
abbrev S320x8448 : Shape := ⟨2, ![320, 8448]⟩
abbrev S8x256x256 : Shape := ⟨3, ![8, 256, 256]⟩
abbrev S8x8x256 : Shape := ⟨3, ![8, 8, 256]⟩
abbrev S2x320x256 : Shape := ⟨3, ![2, 320, 256]⟩
abbrev S1x256x256 : Shape := ⟨3, ![1, 256, 256]⟩
abbrev S1x8x256 : Shape := ⟨3, ![1, 8, 256]⟩
abbrev S8x256 : Shape := ⟨2, ![8, 256]⟩
abbrev S80x256 : Shape := ⟨2, ![80, 256]⟩
abbrev S1x80x256 : Shape := ⟨3, ![1, 80, 256]⟩
abbrev S1408x256 : Shape := ⟨2, ![1408, 256]⟩
abbrev S80x1408 : Shape := ⟨2, ![80, 1408]⟩
abbrev S1x64x256 : Shape := ⟨3, ![1, 64, 256]⟩
abbrev S64x256 : Shape := ⟨2, ![64, 256]⟩
abbrev S1x1x256 : Shape := ⟨3, ![1, 1, 256]⟩

abbrev nBuf : Space → Nat
  | .hbm => 49
  | .vmem => 12
  | .smem => 1
  | _ => 0

abbrev bufTy : (tb : Table) → Fin (tcTables nBuf tb) → BufTy
  | .hbm, ⟨0, _⟩ => ⟨S4x32, .f32⟩
  | .hbm, ⟨1, _⟩ => ⟨S16896x1024, .f32⟩
  | .hbm, ⟨2, _⟩ => ⟨S16896x256, .f32⟩
  | .hbm, ⟨3, _⟩ => ⟨S64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16896x256, .f32⟩
  | .hbm, ⟨12, _⟩ => ⟨S16896x256, .f32⟩
  | .hbm, ⟨13, _⟩ => ⟨S16896x256, .f32⟩
  | .hbm, ⟨14, _⟩ => ⟨S16896x768, .f32⟩
  | .hbm, ⟨15, _⟩ => ⟨S16896x1024, .f32⟩
  | .hbm, ⟨16, _⟩ => ⟨S16896x1024, .bf16⟩
  | .hbm, ⟨17, _⟩ => ⟨S2x8448x4x64, .f32⟩
  | .hbm, ⟨18, _⟩ => ⟨S2x4x64x8448, .f32⟩
  | .hbm, ⟨19, _⟩ => ⟨S_, .f32⟩
  | .hbm, ⟨20, _⟩ => ⟨S2x4x16x8448, .f32⟩
  | .hbm, ⟨21, _⟩ => ⟨S2x4x80x8448, .f32⟩
  | .hbm, ⟨22, _⟩ => ⟨S640x8448, .f32⟩
  | .hbm, ⟨23, _⟩ => ⟨S640x8448, .bf16⟩
  | .hbm, ⟨24, _⟩ => ⟨S1x32, .f32⟩
  | .hbm, ⟨25, _⟩ => ⟨S32, .f32⟩
  | .hbm, ⟨26, _⟩ => ⟨S1x32, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x32, .f32⟩
  | .hbm, ⟨33, _⟩ => ⟨S32, .f32⟩
  | .hbm, ⟨34, _⟩ => ⟨S1x32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S1x64, .f32⟩
  | .hbm, ⟨45, _⟩ => ⟨S4x64, .f32⟩
  | .hbm, ⟨46, _⟩ => ⟨S256, .f32⟩
  | .hbm, ⟨47, _⟩ => ⟨S1x256, .f32⟩
  | .hbm, ⟨48, _⟩ => ⟨S16896x256, .f32⟩
  | .local _ .vmem, ⟨0, _⟩ => ⟨S256x256, .bf16⟩
  | .local _ .vmem, ⟨1, _⟩ => ⟨S256x256, .bf16⟩
  | .local _ .vmem, ⟨2, _⟩ => ⟨S8448x256, .bf16⟩
  | .local _ .vmem, ⟨3, _⟩ => ⟨S8448x256, .bf16⟩
  | .local _ .vmem, ⟨4, _⟩ => ⟨S320x8448, .bf16⟩
  | .local _ .vmem, ⟨5, _⟩ => ⟨S320x8448, .bf16⟩
  | .local _ .vmem, ⟨6, _⟩ => ⟨S1x256, .f32⟩
  | .local _ .vmem, ⟨7, _⟩ => ⟨S256x256, .f32⟩
  | .local _ .vmem, ⟨8, _⟩ => ⟨S256x256, .f32⟩
  | .local _ .vmem, ⟨9, _⟩ => ⟨S8x256x256, .bf16⟩
  | .local _ .vmem, ⟨10, _⟩ => ⟨S8x8x256, .f32⟩
  | .local _ .vmem, ⟨11, _⟩ => ⟨S2x320x256, .f32⟩
  | .local _ .smem, ⟨0, _⟩ => ⟨S1, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 33], ![false, false]⟩

def k0_cond2 (i : grid0.Coords) : BitVec 1 :=
  let arg1 : BitVec 32 := BitVec.ofNat 32 (i 1).val
  let c0_i32_41 : BitVec 32 := 0#32
  let v94 : BitVec 1 := Scalar.cmpi .sgt arg1 c0_i32_41
  let v95 : BitVec 32 := Scalar.extui v94
  let c0_i32_42 : BitVec 32 := 0#32
  let v96 : BitVec 1 := Scalar.cmpi .ne v95 c0_i32_42
  v96

@[reducible] def k0_t1_loop : Scf.Loop 32 :=
  let c0_i32_102 : BitVec 32 := 0#32
  let c6_i32_103 : BitVec 32 := 6#32
  let v207 : BitVec 32 := Scalar.addi c0_i32_102 c6_i32_103
  let c1_i32_104 : BitVec 32 := 1#32
  ⟨c0_i32_102, v207, c1_i32_104⟩
def k0_mult1 (k0_t1 : Fin k0_t1_loop.trips) : BitVec 32 :=
  let c0_i32_102 : BitVec 32 := 0#32
  let c1_i32_104 : BitVec 32 := 1#32
  let arg11 : BitVec 32 := Scf.iv c0_i32_102 c1_i32_104 k0_t1
  let c1408_i32 : BitVec 32 := 1408#32
  let v208 : BitVec 32 := Scalar.muli arg11 c1408_i32
  v208
def k0_off1 (k0_t1 : Fin k0_t1_loop.trips) : Fin 2 → Nat :=
  let c0_i32_102 : BitVec 32 := 0#32
  let c1_i32_104 : BitVec 32 := 1#32
  let arg11 : BitVec 32 := Scf.iv c0_i32_102 c1_i32_104 k0_t1
  let c1408_i32 : BitVec 32 := 1408#32
  let v208 : BitVec 32 := Scalar.muli arg11 c1408_i32
  let v209 : BitVec 32 := v208
  let v210 : Index := Scalar.indexCast v209
  let c0_106 : Index := 0#32
  ![v210.toNat, 0]
def k0_off2 (k0_t1 : Fin k0_t1_loop.trips) : Fin 2 → Nat :=
  let c0_146 : Index := 0#32
  let c0_i32_102 : BitVec 32 := 0#32
  let c1_i32_104 : BitVec 32 := 1#32
  let arg11 : BitVec 32 := Scf.iv c0_i32_102 c1_i32_104 k0_t1
  let c1408_i32 : BitVec 32 := 1408#32
  let v208 : BitVec 32 := Scalar.muli arg11 c1408_i32
  let v209 : BitVec 32 := v208
  let v254 : Index := Scalar.indexCast v209
  ![0, v254.toNat]
def k0_off3 (k0_t1 : Fin k0_t1_loop.trips) : Fin 2 → Nat :=
  let c80_176 : Index := 80#32
  let c0_i32_102 : BitVec 32 := 0#32
  let c1_i32_104 : BitVec 32 := 1#32
  let arg11 : BitVec 32 := Scf.iv c0_i32_102 c1_i32_104 k0_t1
  let c1408_i32 : BitVec 32 := 1408#32
  let v208 : BitVec 32 := Scalar.muli arg11 c1408_i32
  let v209 : BitVec 32 := v208
  let v312 : Index := Scalar.indexCast v209
  ![80, v312.toNat]
def k0_off4 (k0_t1 : Fin k0_t1_loop.trips) : Fin 2 → Nat :=
  let c160_206 : Index := 160#32
  let c0_i32_102 : BitVec 32 := 0#32
  let c1_i32_104 : BitVec 32 := 1#32
  let arg11 : BitVec 32 := Scf.iv c0_i32_102 c1_i32_104 k0_t1
  let c1408_i32 : BitVec 32 := 1408#32
  let v208 : BitVec 32 := Scalar.muli arg11 c1408_i32
  let v209 : BitVec 32 := v208
  let v370 : Index := Scalar.indexCast v209
  ![160, v370.toNat]
def k0_off5 (k0_t1 : Fin k0_t1_loop.trips) : Fin 2 → Nat :=
  let c240_236 : Index := 240#32
  let c0_i32_102 : BitVec 32 := 0#32
  let c1_i32_104 : BitVec 32 := 1#32
  let arg11 : BitVec 32 := Scf.iv c0_i32_102 c1_i32_104 k0_t1
  let c1408_i32 : BitVec 32 := 1408#32
  let v208 : BitVec 32 := Scalar.muli arg11 c1408_i32
  let v209 : BitVec 32 := v208
  let v428 : Index := Scalar.indexCast v209
  ![240, v428.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S320x8448 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x32 : Shape := ⟨2, ![4, 32]⟩
abbrev S16896x1024 : Shape := ⟨2, ![16896, 1024]⟩
abbrev S16896x256 : Shape := ⟨2, ![16896, 256]⟩
abbrev S64 : Shape := ⟨1, ![64]⟩
abbrev S2x8448x4x2x32 : Shape := ⟨5, ![2, 8448, 4, 2, 32]⟩
abbrev S2x8448x4x64 : Shape := ⟨4, ![2, 8448, 4, 64]⟩
abbrev S1x32 : Shape := ⟨2, ![1, 32]⟩
abbrev S32 : Shape := ⟨1, ![32]⟩
abbrev S_ : Shape := ⟨0, ![]⟩
abbrev S2x256x4x2x32 : Shape := ⟨5, ![2, 256, 4, 2, 32]⟩
abbrev S2x256x4x64 : Shape := ⟨4, ![2, 256, 4, 64]⟩
abbrev S2x256x4x1x32 : Shape := ⟨5, ![2, 256, 4, 1, 32]⟩
abbrev S2x256x4x32 : Shape := ⟨4, ![2, 256, 4, 32]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x4x64x256 : Shape := ⟨4, ![2, 4, 64, 256]⟩
abbrev S2x8192x4x2x32 : Shape := ⟨5, ![2, 8192, 4, 2, 32]⟩
abbrev S2x8192x4x1x32 : Shape := ⟨5, ![2, 8192, 4, 1, 32]⟩
abbrev S2x8192x4x32 : Shape := ⟨4, ![2, 8192, 4, 32]⟩
abbrev S2x8448x4x1x32 : Shape := ⟨5, ![2, 8448, 4, 1, 32]⟩
abbrev S2x8448x4x32 : Shape := ⟨4, ![2, 8448, 4, 32]⟩
abbrev S2x4x8192x8448 : Shape := ⟨4, ![2, 4, 8192, 8448]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S2x8192x4x64 : Shape := ⟨4, ![2, 8192, 4, 64]⟩
abbrev S2x8448x4 : Shape := ⟨3, ![2, 8448, 4]⟩
abbrev S2x8448x4x1 : Shape := ⟨4, ![2, 8448, 4, 1]⟩
abbrev S1x1x1x64 : Shape := ⟨4, ![1, 1, 1, 64]⟩

abbrev nBuf : Space → Nat
  | .hbm => 155
  | .vmem => 0
  | .smem => 0
  | _ => 0

abbrev hbmTy0_0 (i : Nat) : BufTy := match i % 128 with
  | 0 => ⟨S4x32, .f32⟩
  | 1 => ⟨S16896x1024, .f32⟩
  | 2 => ⟨S16896x256, .f32⟩
  | 3 => ⟨S64, .f32⟩
  | 4 => ⟨S16896x256, .f32⟩
  | 5 => ⟨S2x8448x4x2x32, .f32⟩
  | 6 => ⟨S16896x256, .f32⟩
  | 7 => ⟨S2x8448x4x2x32, .f32⟩
  | 8 => ⟨S2x8448x4x64, .f32⟩
  | 9 => ⟨S1x32, .f32⟩
  | 10 => ⟨S32, .f32⟩
  | 11 => ⟨S1x32, .f32⟩
  | 12 => ⟨S32, .f32⟩
  | 13 => ⟨S32, .f32⟩
  | 14 => ⟨S_, .f32⟩
  | 15 => ⟨S_, .f32⟩
  | 16 => ⟨S_, .f32⟩
  | 17 => ⟨S1x32, .f32⟩
  | 18 => ⟨S32, .f32⟩
  | 19 => ⟨S1x32, .f32⟩
  | 20 => ⟨S32, .f32⟩
  | 21 => ⟨S32, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S2x256x4x2x32, .f32⟩
  | 29 => ⟨S2x256x4x2x32, .f32⟩
  | 30 => ⟨S2x256x4x64, .f32⟩
  | 31 => ⟨S_, .f32⟩
  | 32 => ⟨S_, .f32⟩
  | 33 => ⟨S_, .f32⟩
  | 34 => ⟨S_, .f32⟩
  | 35 => ⟨S2x256x4x1x32, .f32⟩
  | 36 => ⟨S2x256x4x32, .f32⟩
  | 37 => ⟨S2x256x4x1x32, .f32⟩
  | 38 => ⟨S2x256x4x32, .f32⟩
  | 39 => ⟨S2x4x256x256, .f32⟩
  | 40 => ⟨S2x4x256x256, .f32⟩
  | 41 => ⟨S2x4x256x256, .f32⟩
  | 42 => ⟨S2x256x4x1x32, .f32⟩
  | 43 => ⟨S2x256x4x32, .f32⟩
  | 44 => ⟨S2x256x4x1x32, .f32⟩
  | 45 => ⟨S2x256x4x32, .f32⟩
  | 46 => ⟨S2x4x256x256, .f32⟩
  | 47 => ⟨S2x4x256x256, .f32⟩
  | 48 => ⟨S2x4x256x256, .f32⟩
  | 49 => ⟨S_, .f32⟩
  | 50 => ⟨S2x4x256, .f32⟩
  | 51 => ⟨S_, .f32⟩
  | 52 => ⟨S2x4x256, .f32⟩
  | 53 => ⟨S2x4x256, .f32⟩
  | 54 => ⟨S2x4x256x1, .f32⟩
  | 55 => ⟨S2x4x256x256, .f32⟩
  | 56 => ⟨S2x4x256x256, .f32⟩
  | 57 => ⟨S2x4x256x256, .f32⟩
  | 58 => ⟨S_, .f32⟩
  | 59 => ⟨S2x4x256, .f32⟩
  | 60 => ⟨S2x4x256x1, .f32⟩
  | 61 => ⟨S2x4x256x256, .f32⟩
  | 62 => ⟨S2x4x256x256, .f32⟩
  | 63 => ⟨S_, .f32⟩
  | 64 => ⟨S2x4x256, .f32⟩
  | 65 => ⟨S_, .f32⟩
  | 66 => ⟨S2x4x256, .f32⟩
  | 67 => ⟨S2x4x256, .f32⟩
  | 68 => ⟨S2x4x256x1, .f32⟩
  | 69 => ⟨S2x4x256x256, .f32⟩
  | 70 => ⟨S2x4x256x256, .f32⟩
  | 71 => ⟨S2x4x256x256, .f32⟩
  | 72 => ⟨S_, .f32⟩
  | 73 => ⟨S2x4x256, .f32⟩
  | 74 => ⟨S2x4x256x1, .f32⟩
  | 75 => ⟨S2x4x256x256, .f32⟩
  | 76 => ⟨S2x4x256x256, .f32⟩
  | 77 => ⟨S2x4x256x256, .f32⟩
  | 78 => ⟨S2x4x256x256, .f32⟩
  | 79 => ⟨S2x4x256x256, .f32⟩
  | 80 => ⟨S2x4x64x256, .f32⟩
  | 81 => ⟨S2x256x4x64, .f32⟩
  | 82 => ⟨S2x8192x4x2x32, .f32⟩
  | 83 => ⟨S_, .f32⟩
  | 84 => ⟨S_, .f32⟩
  | 85 => ⟨S_, .f32⟩
  | 86 => ⟨S_, .f32⟩
  | 87 => ⟨S2x8192x4x1x32, .f32⟩
  | 88 => ⟨S2x8192x4x32, .f32⟩
  | 89 => ⟨S2x8448x4x1x32, .f32⟩
  | 90 => ⟨S2x8448x4x32, .f32⟩
  | 91 => ⟨S2x4x8192x8448, .f32⟩
  | 92 => ⟨S2x4x8192x8448, .f32⟩
  | 93 => ⟨S2x4x8192x8448, .f32⟩
  | 94 => ⟨S2x8192x4x1x32, .f32⟩
  | 95 => ⟨S2x8192x4x32, .f32⟩
  | 96 => ⟨S2x8448x4x1x32, .f32⟩
  | 97 => ⟨S2x8448x4x32, .f32⟩
  | 98 => ⟨S2x4x8192x8448, .f32⟩
  | 99 => ⟨S2x4x8192x8448, .f32⟩
  | 100 => ⟨S2x4x8192x8448, .f32⟩
  | 101 => ⟨S_, .f32⟩
  | 102 => ⟨S2x4x8192, .f32⟩
  | 103 => ⟨S_, .f32⟩
  | 104 => ⟨S2x4x8192, .f32⟩
  | 105 => ⟨S2x4x8192, .f32⟩
  | 106 => ⟨S2x4x8192x1, .f32⟩
  | 107 => ⟨S2x4x8192x8448, .f32⟩
  | 108 => ⟨S2x4x8192x8448, .f32⟩
  | 109 => ⟨S2x4x8192x8448, .f32⟩
  | 110 => ⟨S_, .f32⟩
  | 111 => ⟨S2x4x8192, .f32⟩
  | 112 => ⟨S2x4x8192x1, .f32⟩
  | 113 => ⟨S2x4x8192x8448, .f32⟩
  | 114 => ⟨S2x4x8192x8448, .f32⟩
  | 115 => ⟨S_, .f32⟩
  | 116 => ⟨S2x4x8192, .f32⟩
  | 117 => ⟨S_, .f32⟩
  | 118 => ⟨S2x4x8192, .f32⟩
  | 119 => ⟨S2x4x8192, .f32⟩
  | 120 => ⟨S2x4x8192x1, .f32⟩
  | 121 => ⟨S2x4x8192x8448, .f32⟩
  | 122 => ⟨S2x4x8192x8448, .f32⟩
  | 123 => ⟨S2x4x8192x8448, .f32⟩
  | 124 => ⟨S_, .f32⟩
  | 125 => ⟨S2x4x8192, .f32⟩
  | 126 => ⟨S2x4x8192x1, .f32⟩
  | 127 => ⟨S2x4x8192x8448, .f32⟩
  | _ => ⟨S4x32, .f32⟩

abbrev hbmTy0_1 (i : Nat) : BufTy := match i % 128 with
  | 0 => ⟨S2x4x8192x8448, .f32⟩
  | 1 => ⟨S2x4x8192x8448, .f32⟩
  | 2 => ⟨S2x4x8192x8448, .f32⟩
  | 3 => ⟨S2x4x8192x8448, .f32⟩
  | 4 => ⟨S2x4x64x8192, .f32⟩
  | 5 => ⟨S2x8192x4x64, .f32⟩
  | 6 => ⟨S2x8448x4x64, .f32⟩
  | 7 => ⟨S2x8448x4x64, .f32⟩
  | 8 => ⟨S_, .f32⟩
  | 9 => ⟨S2x8448x4, .f32⟩
  | 10 => ⟨S2x8448x4x1, .f32⟩
  | 11 => ⟨S_, .f32⟩
  | 12 => ⟨S2x8448x4x1, .f32⟩
  | 13 => ⟨S2x8448x4x1, .f32⟩
  | 14 => ⟨S_, .f32⟩
  | 15 => ⟨S2x8448x4x1, .f32⟩
  | 16 => ⟨S2x8448x4x1, .f32⟩
  | 17 => ⟨S2x8448x4x1, .f32⟩
  | 18 => ⟨S2x8448x4x64, .f32⟩
  | 19 => ⟨S2x8448x4x64, .f32⟩
  | 20 => ⟨S1x1x1x64, .f32⟩
  | 21 => ⟨S2x8448x4x64, .f32⟩
  | 22 => ⟨S2x8448x4x64, .f32⟩
  | 23 => ⟨S_, .f32⟩
  | 24 => ⟨S2x8448x4x64, .f32⟩
  | 25 => ⟨S2x8448x4x64, .f32⟩
  | 26 => ⟨S16896x256, .f32⟩
  | _ => ⟨S4x32, .f32⟩

abbrev hbmTy (i : Nat) : BufTy := match i / 128 with
  | 0 => hbmTy0_0 i
  | 1 => hbmTy0_1 i
  | _ => ⟨S4x32, .f32⟩

abbrev bufTy : (tb : Table) → Fin (tcTables nBuf tb) → BufTy
  | .hbm, ⟨i, _⟩ => hbmTy i
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_cst_11 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_12 : Ref sig .tc := ⟨.hbm, 101, rfl⟩
abbrev main_v84 : Ref sig .tc := ⟨.hbm, 102, rfl⟩
abbrev main_cst_13 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_14 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_15 : Ref sig .tc := ⟨.hbm, 115, rfl⟩
abbrev main_v95 : Ref sig .tc := ⟨.hbm, 116, rfl⟩
abbrev main_cst_16 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_17 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_18 : Ref sig .tc := ⟨.hbm, 136, rfl⟩
abbrev main_v113 : Ref sig .tc := ⟨.hbm, 137, rfl⟩
abbrev main_v114 : Ref sig .tc := ⟨.hbm, 138, rfl⟩
abbrev main_cst_19 : Ref sig .tc := ⟨.hbm, 139, rfl⟩
abbrev main_v115 : Ref sig .tc := ⟨.hbm, 140, rfl⟩
abbrev main_v116 : Ref sig .tc := ⟨.hbm, 141, rfl⟩
abbrev main_cst_20 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_21 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩

abbrev nD : Nat := 1
abbrev τ : Topo := Topo.v7x

variable {F : FTy → Type} [FloatOps F]
-- ==== Kernel2.lean ====
abbrev S16896x1024 : Shape := ⟨2, ![16896, 1024]⟩
abbrev S1024 : Shape := ⟨1, ![1024]⟩
abbrev S3x1x1024 : Shape := ⟨3, ![3, 1, 1024]⟩
abbrev S1024x7168 : Shape := ⟨2, ![1024, 7168]⟩
abbrev S1x1024 : Shape := ⟨2, ![1, 1024]⟩
abbrev S16896x7168 : Shape := ⟨2, ![16896, 7168]⟩
abbrev S512x1024 : Shape := ⟨2, ![512, 1024]⟩
abbrev S1x1x1024 : Shape := ⟨3, ![1, 1, 1024]⟩
abbrev S1024x3584 : Shape := ⟨2, ![1024, 3584]⟩
abbrev S512x3584 : Shape := ⟨2, ![512, 3584]⟩
abbrev S512 : Shape := ⟨1, ![512]⟩
abbrev S512x1 : Shape := ⟨2, ![512, 1]⟩
abbrev S256x1024 : Shape := ⟨2, ![256, 1024]⟩

abbrev nBuf : Space → Nat
  | .hbm => 8
  | .vmem => 15
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S3x1x1024, .f32⟩
  | .hbm, ⟨3, _⟩ => ⟨S3x1x1024, .f32⟩
  | .hbm, ⟨4, _⟩ => ⟨S1024x7168, .f32⟩
  | .hbm, ⟨5, _⟩ => ⟨S1024x7168, .bf16⟩
  | .hbm, ⟨6, _⟩ => ⟨S1x1024, .f32⟩
  | .hbm, ⟨7, _⟩ => ⟨S16896x7168, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x3584, .bf16⟩
  | .local _ .vmem, ⟨12, _⟩ => ⟨S1024x3584, .bf16⟩
  | .local _ .vmem, ⟨13, _⟩ => ⟨S512x3584, .f32⟩
  | .local _ .vmem, ⟨14, _⟩ => ⟨S512x3584, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c33_i32 : BitVec 32 := 33#32
  let c0_i32_0 : BitVec 32 := 0#32
  let v2 : BitVec 1 := Scalar.cmpi .eq c33_i32 c0_i32_0
  let c1_i32 : BitVec 32 := 1#32
  let v3 : BitVec 32 := Scalar.select v2 c1_i32 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c33_i32_5 : BitVec 32 := 33#32
  let v13 : BitVec 32 := Scalar.divsi v1 c33_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c33_i32_5 c0_i32_8
  let v20 : BitVec 32 := Scalar.extui v19
  let c0_i32_9 : BitVec 32 := 0#32
  let v21 : BitVec 1 := Scalar.cmpi .slt c33_i32_5 c0_i32_9
  let v22 : BitVec 32 := Scalar.extui v21
  let v23 : BitVec 32 := Scalar.subi v20 v22
  let v24 : BitVec 1 := Scalar.cmpi .ne v18 v23
  let v25 : BitVec 32 := Scalar.remsi v1 c33_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32_12 : BitVec 32 := 2#32
  let v30 : BitVec 32 := Scalar.select v12 c2_i32_12 v29
  let c0_i32_13 : BitVec 32 := 0#32
  let c0_i32_14 : BitVec 32 := 0#32
  let c0_i32_15 : BitVec 32 := 0#32
  ![v30.toNat, c0_i32_13.toNat, c0_i32_14.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c33_i32 : BitVec 32 := 33#32
  let c0_i32_0 : BitVec 32 := 0#32
  let v2 : BitVec 1 := Scalar.cmpi .eq c33_i32 c0_i32_0
  let c1_i32 : BitVec 32 := 1#32
  let v3 : BitVec 32 := Scalar.select v2 c1_i32 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c33_i32_5 : BitVec 32 := 33#32
  let v13 : BitVec 32 := Scalar.divsi v1 c33_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c33_i32_5 c0_i32_8
  let v20 : BitVec 32 := Scalar.extui v19
  let c0_i32_9 : BitVec 32 := 0#32
  let v21 : BitVec 1 := Scalar.cmpi .slt c33_i32_5 c0_i32_9
  let v22 : BitVec 32 := Scalar.extui v21
  let v23 : BitVec 32 := Scalar.subi v20 v22
  let v24 : BitVec 1 := Scalar.cmpi .ne v18 v23
  let v25 : BitVec 32 := Scalar.remsi v1 c33_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32_12 : BitVec 32 := 2#32
  let v30 : BitVec 32 := Scalar.select v12 c2_i32_12 v29
  let c0_i32_13 : BitVec 32 := 0#32
  let c0_i32_14 : BitVec 32 := 0#32
  let c0_i32_15 : BitVec 32 := 0#32
  ![v30.toNat, c0_i32_13.toNat, c0_i32_14.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c33_i32 : BitVec 32 := 33#32
  let c0_i32 : BitVec 32 := 0#32
  let v2 : BitVec 1 := Scalar.cmpi .eq c33_i32 c0_i32
  let c1_i32_0 : BitVec 32 := 1#32
  let v3 : BitVec 32 := Scalar.select v2 c1_i32_0 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c33_i32_5 : BitVec 32 := 33#32
  let v13 : BitVec 32 := Scalar.divsi v1 c33_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c33_i32_5 c0_i32_8
  let v20 : BitVec 32 := Scalar.extui v19
  let c0_i32_9 : BitVec 32 := 0#32
  let v21 : BitVec 1 := Scalar.cmpi .slt c33_i32_5 c0_i32_9
  let v22 : BitVec 32 := Scalar.extui v21
  let v23 : BitVec 32 := Scalar.subi v20 v22
  let v24 : BitVec 1 := Scalar.cmpi .ne v18 v23
  let v25 : BitVec 32 := Scalar.remsi v1 c33_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32_12 : BitVec 32 := 2#32
  let v30 : BitVec 32 := Scalar.select v12 c2_i32_12 v29
  let c0_i32_13 : BitVec 32 := 0#32
  let c0_i32_14 : BitVec 32 := 0#32
  let c0_i32_15 : BitVec 32 := 0#32
  ![v30.toNat, c0_i32_13.toNat, c0_i32_14.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c33_i32 : BitVec 32 := 33#32
  let c0_i32 : BitVec 32 := 0#32
  let v2 : BitVec 1 := Scalar.cmpi .eq c33_i32 c0_i32
  let c1_i32_0 : BitVec 32 := 1#32
  let v3 : BitVec 32 := Scalar.select v2 c1_i32_0 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c33_i32_5 : BitVec 32 := 33#32
  let v13 : BitVec 32 := Scalar.divsi v1 c33_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c33_i32_5 c0_i32_8
  let v20 : BitVec 32 := Scalar.extui v19
  let c0_i32_9 : BitVec 32 := 0#32
  let v21 : BitVec 1 := Scalar.cmpi .slt c33_i32_5 c0_i32_9
  let v22 : BitVec 32 := Scalar.extui v21
  let v23 : BitVec 32 := Scalar.subi v20 v22
  let v24 : BitVec 1 := Scalar.cmpi .ne v18 v23
  let v25 : BitVec 32 := Scalar.remsi v1 c33_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32_12 : BitVec 32 := 2#32
  let v30 : BitVec 32 := Scalar.select v12 c2_i32_12 v29
  let c0_i32_13 : BitVec 32 := 0#32
  let c0_i32_14 : BitVec 32 := 0#32
  let c0_i32_15 : BitVec 32 := 0#32
  ![v30.toNat, c0_i32_13.toNat, c0_i32_14.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x3584 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16896x1024 : Shape := ⟨2, ![16896, 1024]⟩
abbrev S1024 : Shape := ⟨1, ![1024]⟩
abbrev S3x1x1024 : Shape := ⟨3, ![3, 1, 1024]⟩
abbrev S1024x7168 : Shape := ⟨2, ![1024, 7168]⟩
abbrev S2x8448x1024 : Shape := ⟨3, ![2, 8448, 1024]⟩
abbrev S2x256x1024 : Shape := ⟨3, ![2, 256, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x8192x1024 : Shape := ⟨3, ![2, 8192, 1024]⟩
abbrev S2x8192 : Shape := ⟨2, ![2, 8192]⟩
abbrev S2x8192x1 : Shape := ⟨3, ![2, 8192, 1]⟩
abbrev S2x1x1024 : Shape := ⟨3, ![2, 1, 1024]⟩
abbrev S2x8448x7168 : Shape := ⟨3, ![2, 8448, 7168]⟩
abbrev S16896x7168 : Shape := ⟨2, ![16896, 7168]⟩

abbrev nBuf : Space → Nat
  | .hbm => 61
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S3x1x1024, .f32⟩
  | .hbm, ⟨3, _⟩ => ⟨S3x1x1024, .f32⟩
  | .hbm, ⟨4, _⟩ => ⟨S1024x7168, .f32⟩
  | .hbm, ⟨5, _⟩ => ⟨S2x8448x1024, .f32⟩
  | .hbm, ⟨6, _⟩ => ⟨S2x256x1024, .f32⟩
  | .hbm, ⟨7, _⟩ => ⟨S2x256x1024, .f32⟩
  | .hbm, ⟨8, _⟩ => ⟨S_, .f32⟩
  | .hbm, ⟨9, _⟩ => ⟨S2x256, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S_, .f32⟩
  | .hbm, ⟨15, _⟩ => ⟨S2x256x1, .f32⟩
  | .hbm, ⟨16, _⟩ => ⟨S2x256x1, .f32⟩
  | .hbm, ⟨17, _⟩ => ⟨S2x256x1, .f32⟩
  | .hbm, ⟨18, _⟩ => ⟨S2x256x1024, .f32⟩
  | .hbm, ⟨19, _⟩ => ⟨S2x256x1024, .f32⟩
  | .hbm, ⟨20, _⟩ => ⟨S1x1x1024, .f32⟩
  | .hbm, ⟨21, _⟩ => ⟨S2x256x1024, .f32⟩
  | .hbm, ⟨22, _⟩ => ⟨S2x256x1024, .f32⟩
  | .hbm, ⟨23, _⟩ => ⟨S1x1x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S2x256x1024, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | .hbm, ⟨49, _⟩ => ⟨S2x1x1024, .f32⟩
  | .hbm, ⟨50, _⟩ => ⟨S2x1x1024, .f32⟩
  | .hbm, ⟨51, _⟩ => ⟨S_, .f32⟩
  | .hbm, ⟨52, _⟩ => ⟨S2x1x1024, .f32⟩
  | .hbm, ⟨53, _⟩ => ⟨S2x1x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S2x8448x1024, .f32⟩
  | .hbm, ⟨59, _⟩ => ⟨S2x8448x7168, .f32⟩
  | .hbm, ⟨60, _⟩ => ⟨S16896x7168, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel3.lean ====
abbrev S16896x1024 : Shape := ⟨2, ![16896, 1024]⟩
abbrev S16896x64 : Shape := ⟨2, ![16896, 64]⟩
abbrev S2x64x1024x512 : Shape := ⟨4, ![2, 64, 1024, 512]⟩
abbrev S2x64x256x1024 : Shape := ⟨4, ![2, 64, 256, 1024]⟩
abbrev S1024x512 : Shape := ⟨2, ![1024, 512]⟩
abbrev S256x1024 : Shape := ⟨2, ![256, 1024]⟩
abbrev S2112x1024 : Shape := ⟨2, ![2112, 1024]⟩
abbrev S2112x64 : Shape := ⟨2, ![2112, 64]⟩
abbrev S1x2x1024x512 : Shape := ⟨4, ![1, 2, 1024, 512]⟩
abbrev S1x2x256x1024 : Shape := ⟨4, ![1, 2, 256, 1024]⟩
abbrev S2112x512 : Shape := ⟨2, ![2112, 512]⟩
abbrev S2112x256 : Shape := ⟨2, ![2112, 256]⟩
abbrev S2112 : Shape := ⟨1, ![2112]⟩
abbrev S2112x1 : Shape := ⟨2, ![2112, 1]⟩
abbrev S1x1x1024x512 : Shape := ⟨4, ![1, 1, 1024, 512]⟩
abbrev S1x1x256x1024 : Shape := ⟨4, ![1, 1, 256, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16896x1024, .f32⟩
  | .hbm, ⟨1, _⟩ => ⟨S16896x64, .f32⟩
  | .hbm, ⟨2, _⟩ => ⟨S2x64x1024x512, .f32⟩
  | .hbm, ⟨3, _⟩ => ⟨S2x64x256x1024, .f32⟩
  | .hbm, ⟨4, _⟩ => ⟨S1024x512, .f32⟩
  | .hbm, ⟨5, _⟩ => ⟨S256x1024, .f32⟩
  | .hbm, ⟨6, _⟩ => ⟨S16896x1024, .bf16⟩
  | .hbm, ⟨7, _⟩ => ⟨S1024x512, .bf16⟩
  | .hbm, ⟨8, _⟩ => ⟨S256x1024, .bf16⟩
  | .hbm, ⟨9, _⟩ => ⟨S16896x1024, .f32⟩
  | .local _ .vmem, ⟨0, _⟩ => ⟨S2112x1024, .bf16⟩
  | .local _ .vmem, ⟨1, _⟩ => ⟨S2112x1024, .bf16⟩
  | .local _ .vmem, ⟨2, _⟩ => ⟨S2112x64, .f32⟩
  | .local _ .vmem, ⟨3, _⟩ => ⟨S2112x64, .f32⟩
  | .local _ .vmem, ⟨4, _⟩ => ⟨S1x2x1024x512, .f32⟩
  | .local _ .vmem, ⟨5, _⟩ => ⟨S1x2x1024x512, .f32⟩
  | .local _ .vmem, ⟨6, _⟩ => ⟨S1x2x256x1024, .f32⟩
  | .local _ .vmem, ⟨7, _⟩ => ⟨S1x2x256x1024, .f32⟩
  | .local _ .vmem, ⟨8, _⟩ => ⟨S1024x512, .bf16⟩
  | .local _ .vmem, ⟨9, _⟩ => ⟨S256x1024, .bf16⟩
  | .local _ .vmem, ⟨10, _⟩ => ⟨S2112x1024, .f32⟩
  | .local _ .vmem, ⟨11, _⟩ => ⟨S2112x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2112x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2112x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16896x1024 : Shape := ⟨2, ![16896, 1024]⟩
abbrev S16896x64 : Shape := ⟨2, ![16896, 64]⟩
abbrev S2x64x1024x512 : Shape := ⟨4, ![2, 64, 1024, 512]⟩
abbrev S2x64x256x1024 : Shape := ⟨4, ![2, 64, 256, 1024]⟩
abbrev S1024x512 : Shape := ⟨2, ![1024, 512]⟩
abbrev S256x1024 : Shape := ⟨2, ![256, 1024]⟩
abbrev S1x64x1024x512 : Shape := ⟨4, ![1, 64, 1024, 512]⟩
abbrev S64x1024x512 : Shape := ⟨3, ![64, 1024, 512]⟩
abbrev S64x512x16896 : Shape := ⟨3, ![64, 512, 16896]⟩
abbrev S64x16896x512 : Shape := ⟨3, ![64, 16896, 512]⟩
abbrev S64x16896x256 : Shape := ⟨3, ![64, 16896, 256]⟩
abbrev S_ : Shape := ⟨0, ![]⟩
abbrev S1x64x256x1024 : Shape := ⟨4, ![1, 64, 256, 1024]⟩
abbrev S64x256x1024 : Shape := ⟨3, ![64, 256, 1024]⟩
abbrev S64x16896x1024 : Shape := ⟨3, ![64, 16896, 1024]⟩
abbrev S16896x512 : Shape := ⟨2, ![16896, 512]⟩
abbrev S16896x256 : Shape := ⟨2, ![16896, 256]⟩

abbrev nBuf : Space → Nat
  | .hbm => 41
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x64, .f32⟩
  | .hbm, ⟨2, _⟩ => ⟨S2x64x1024x512, .f32⟩
  | .hbm, ⟨3, _⟩ => ⟨S2x64x256x1024, .f32⟩
  | .hbm, ⟨4, _⟩ => ⟨S1024x512, .f32⟩
  | .hbm, ⟨5, _⟩ => ⟨S256x1024, .f32⟩
  | .hbm, ⟨6, _⟩ => ⟨S1x64x1024x512, .f32⟩
  | .hbm, ⟨7, _⟩ => ⟨S64x1024x512, .f32⟩
  | .hbm, ⟨8, _⟩ => ⟨S64x512x16896, .f32⟩
  | .hbm, ⟨9, _⟩ => ⟨S64x16896x512, .f32⟩
  | .hbm, ⟨10, _⟩ => ⟨S64x16896x256, .f32⟩
  | .hbm, ⟨11, _⟩ => ⟨S64x16896x256, .f32⟩
  | .hbm, ⟨12, _⟩ => ⟨S64x16896x256, .f32⟩
  | .hbm, ⟨13, _⟩ => ⟨S_, .f32⟩
  | .hbm, ⟨14, _⟩ => ⟨S64x16896x256, .f32⟩
  | .hbm, ⟨15, _⟩ => ⟨S64x16896x256, .f32⟩
  | .hbm, ⟨16, _⟩ => ⟨S_, .f32⟩
  | .hbm, ⟨17, _⟩ => ⟨S64x16896x256, .f32⟩
  | .hbm, ⟨18, _⟩ => ⟨S64x16896x256, .f32⟩
  | .hbm, ⟨19, _⟩ => ⟨S64x16896x256, .f32⟩
  | .hbm, ⟨20, _⟩ => ⟨S64x16896x256, .f32⟩
  | .hbm, ⟨21, _⟩ => ⟨S64x16896x256, .f32⟩
  | .hbm, ⟨22, _⟩ => ⟨S1x64x256x1024, .f32⟩
  | .hbm, ⟨23, _⟩ => ⟨S64x256x1024, .f32⟩
  | .hbm, ⟨24, _⟩ => ⟨S64x16896x1024, .f32⟩
  | .hbm, ⟨25, _⟩ => ⟨S16896x512, .f32⟩
  | .hbm, ⟨26, _⟩ => ⟨S16896x1024, .f32⟩
  | .hbm, ⟨27, _⟩ => ⟨S16896x256, .f32⟩
  | .hbm, ⟨28, _⟩ => ⟨S16896x256, .f32⟩
  | .hbm, ⟨29, _⟩ => ⟨S16896x256, .f32⟩
  | .hbm, ⟨30, _⟩ => ⟨S_, .f32⟩
  | .hbm, ⟨31, _⟩ => ⟨S16896x256, .f32⟩
  | .hbm, ⟨32, _⟩ => ⟨S16896x256, .f32⟩
  | .hbm, ⟨33, _⟩ => ⟨S_, .f32⟩
  | .hbm, ⟨34, _⟩ => ⟨S16896x256, .f32⟩
  | .hbm, ⟨35, _⟩ => ⟨S16896x256, .f32⟩
  | .hbm, ⟨36, _⟩ => ⟨S16896x256, .f32⟩
  | .hbm, ⟨37, _⟩ => ⟨S16896x256, .f32⟩
  | .hbm, ⟨38, _⟩ => ⟨S16896x256, .f32⟩
  | .hbm, ⟨39, _⟩ => ⟨S16896x1024, .f32⟩
  | .hbm, ⟨40, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩

abbrev nD : Nat := 1
abbrev τ : Topo := Topo.v7x

variable {F : FTy → Type} [FloatOps F]
-- ==== Kernel4.lean ====
abbrev S16896x256 : Shape := ⟨2, ![16896, 256]⟩
abbrev S2x16896x256 : Shape := ⟨3, ![2, 16896, 256]⟩
abbrev S128x256 : Shape := ⟨2, ![128, 256]⟩
abbrev S2x256 : Shape := ⟨2, ![2, 256]⟩
abbrev S16896x7168 : Shape := ⟨2, ![16896, 7168]⟩
abbrev S4x256x1024 : Shape := ⟨3, ![4, 256, 1024]⟩
abbrev S1024x1024 : Shape := ⟨2, ![1024, 1024]⟩
abbrev S16896x1024 : Shape := ⟨2, ![16896, 1024]⟩
abbrev S1024 : Shape := ⟨1, ![1024]⟩
abbrev S3x1x1024 : Shape := ⟨3, ![3, 1, 1024]⟩
abbrev S1024x64 : Shape := ⟨2, ![1024, 64]⟩
abbrev S64 : Shape := ⟨1, ![64]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S64x1024 : Shape := ⟨2, ![64, 1024]⟩
abbrev S1x1024 : Shape := ⟨2, ![1, 1024]⟩
abbrev S64x1 : Shape := ⟨2, ![64, 1]⟩
abbrev S64x16896 : Shape := ⟨2, ![64, 16896]⟩
abbrev S512x256 : Shape := ⟨2, ![512, 256]⟩
abbrev S2x512x256 : Shape := ⟨3, ![2, 512, 256]⟩
abbrev S512x128 : Shape := ⟨2, ![512, 128]⟩
abbrev S512x4096 : Shape := ⟨2, ![512, 4096]⟩
abbrev S512x1024 : Shape := ⟨2, ![512, 1024]⟩
abbrev S1x1x1024 : Shape := ⟨3, ![1, 1, 1024]⟩
abbrev S64x512 : Shape := ⟨2, ![64, 512]⟩
abbrev S1x512x256 : Shape := ⟨3, ![1, 512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S8x8x512 : Shape := ⟨3, ![8, 8, 512]⟩
abbrev S8x8x1 : Shape := ⟨3, ![8, 8, 1]⟩
abbrev S8x512 : Shape := ⟨2, ![8, 512]⟩
abbrev S8x1x512 : Shape := ⟨3, ![8, 1, 512]⟩
abbrev S1x8x512 : Shape := ⟨3, ![1, 8, 512]⟩
abbrev S1x512 : Shape := ⟨2, ![1, 512]⟩
abbrev S1x1x512 : Shape := ⟨3, ![1, 1, 512]⟩

abbrev nBuf : Space → Nat
  | .hbm => 54
  | .vmem => 45
  | .smem => 0
  | _ => 0

abbrev bufTy : (tb : Table) → Fin (tcTables nBuf tb) → BufTy
  | .hbm, ⟨0, _⟩ => ⟨S16896x256, .f32⟩
  | .hbm, ⟨1, _⟩ => ⟨S16896x256, .f32⟩
  | .hbm, ⟨2, _⟩ => ⟨S16896x256, .f32⟩
  | .hbm, ⟨3, _⟩ => ⟨S16896x256, .f32⟩
  | .hbm, ⟨4, _⟩ => ⟨S16896x256, .f32⟩
  | .hbm, ⟨5, _⟩ => ⟨S2x16896x256, .f32⟩
  | .hbm, ⟨6, _⟩ => ⟨S128x256, .f32⟩
  | .hbm, ⟨7, _⟩ => ⟨S2x256, .f32⟩
  | .hbm, ⟨8, _⟩ => ⟨S16896x7168, .f32⟩
  | .hbm, ⟨9, _⟩ => ⟨S4x256x1024, .f32⟩
  | .hbm, ⟨10, _⟩ => ⟨S1024x1024, .f32⟩
  | .hbm, ⟨11, _⟩ => ⟨S16896x1024, .f32⟩
  | .hbm, ⟨12, _⟩ => ⟨S1024, .f32⟩
  | .hbm, ⟨13, _⟩ => ⟨S3x1x1024, .f32⟩
  | .hbm, ⟨14, _⟩ => ⟨S1024, .f32⟩
  | .hbm, ⟨15, _⟩ => ⟨S3x1x1024, .f32⟩
  | .hbm, ⟨16, _⟩ => ⟨S3x1x1024, .f32⟩
  | .hbm, ⟨17, _⟩ => ⟨S1024x64, .f32⟩
  | .hbm, ⟨18, _⟩ => ⟨S64, .f32⟩
  | .hbm, ⟨19, _⟩ => ⟨S256, .i32⟩
  | .hbm, ⟨20, _⟩ => ⟨S_, .i32⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256x1, .i32⟩
  | .hbm, ⟨39, _⟩ => ⟨S1x256, .i32⟩
  | .hbm, ⟨40, _⟩ => ⟨S256x256, .i32⟩
  | .hbm, ⟨41, _⟩ => ⟨S256x256, .i32⟩
  | .hbm, ⟨42, _⟩ => ⟨S256x256, .i1⟩
  | .hbm, ⟨43, _⟩ => ⟨S256x256, .bf16⟩
  | .hbm, ⟨44, _⟩ => ⟨S128x256, .bf16⟩
  | .hbm, ⟨45, _⟩ => ⟨S4x256x1024, .bf16⟩
  | .hbm, ⟨46, _⟩ => ⟨S1024x1024, .bf16⟩
  | .hbm, ⟨47, _⟩ => ⟨S64x1024, .f32⟩
  | .hbm, ⟨48, _⟩ => ⟨S1x1024, .f32⟩
  | .hbm, ⟨49, _⟩ => ⟨S1x1024, .f32⟩
  | .hbm, ⟨50, _⟩ => ⟨S64x1, .f32⟩
  | .hbm, ⟨51, _⟩ => ⟨S16896x1024, .f32⟩
  | .hbm, ⟨52, _⟩ => ⟨S16896x1024, .bf16⟩
  | .hbm, ⟨53, _⟩ => ⟨S64x16896, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S2x512x256, .f32⟩
  | .local _ .vmem, ⟨11, _⟩ => ⟨S2x512x256, .f32⟩
  | .local _ .vmem, ⟨12, _⟩ => ⟨S512x128, .f32⟩
  | .local _ .vmem, ⟨13, _⟩ => ⟨S512x128, .f32⟩
  | .local _ .vmem, ⟨14, _⟩ => ⟨S128x256, .bf16⟩
  | .local _ .vmem, ⟨15, _⟩ => ⟨S2x256, .f32⟩
  | .local _ .vmem, ⟨16, _⟩ => ⟨S256x256, .bf16⟩
  | .local _ .vmem, ⟨17, _⟩ => ⟨S512x4096, .f32⟩
  | .local _ .vmem, ⟨18, _⟩ => ⟨S512x4096, .f32⟩
  | .local _ .vmem, ⟨19, _⟩ => ⟨S4x256x1024, .bf16⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S1x1024, .f32⟩
  | .local _ .vmem, ⟨25, _⟩ => ⟨S64x1024, .f32⟩
  | .local _ .vmem, ⟨26, _⟩ => ⟨S64x1, .f32⟩
  | .local _ .vmem, ⟨27, _⟩ => ⟨S1x1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1x1024, .f32⟩
  | .local _ .vmem, ⟨31, _⟩ => ⟨S1x1x1024, .f32⟩
  | .local _ .vmem, ⟨32, _⟩ => ⟨S1x1x1024, .f32⟩
  | .local _ .vmem, ⟨33, _⟩ => ⟨S1x1x1024, .f32⟩
  | .local _ .vmem, ⟨34, _⟩ => ⟨S1x1x1024, .f32⟩
  | .local _ .vmem, ⟨35, _⟩ => ⟨S1x1x1024, .f32⟩
  | .local _ .vmem, ⟨36, _⟩ => ⟨S1x1x1024, .f32⟩
  | .local _ .vmem, ⟨37, _⟩ => ⟨S1x1x1024, .f32⟩
  | .local _ .vmem, ⟨38, _⟩ => ⟨S1x1x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .bf16⟩
  | .local _ .vmem, ⟨42, _⟩ => ⟨S512x1024, .bf16⟩
  | .local _ .vmem, ⟨43, _⟩ => ⟨S64x512, .f32⟩
  | .local _ .vmem, ⟨44, _⟩ => ⟨S64x512, .f32⟩
  | _, _ => ⟨S16896x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15_0 : Ref sig .tc := ⟨.hbm, 51, rfl⟩
abbrev main_v15_1 : Ref sig .tc := ⟨.hbm, 52, rfl⟩
abbrev main_v15_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg24_1 : Ref sig .tc := ⟨.vmem, 40, rfl⟩
abbrev cc0_stg25_0 : Ref sig .tc := ⟨.vmem, 41, rfl⟩
abbrev cc0_stg25_1 : Ref sig .tc := ⟨.vmem, 42, rfl⟩
abbrev cc0_stg26_0 : Ref sig .tc := ⟨.vmem, 43, rfl⟩
abbrev cc0_stg26_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem25_1 : DmaSem sig := 42
abbrev cc0_sem26_0 : DmaSem sig := 43
abbrev cc0_sem26_1 : DmaSem sig := 44

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c55_i32 : BitVec 32 := 55#32
  let c0_i32 : BitVec 32 := 0#32
  ![arg0.toNat, c55_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c33_i32 : BitVec 32 := 33#32
  let c0_i32_0 : BitVec 32 := 0#32
  let v2 : BitVec 1 := Scalar.cmpi .eq c33_i32 c0_i32_0
  let c1_i32 : BitVec 32 := 1#32
  let v3 : BitVec 32 := Scalar.select v2 c1_i32 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c33_i32_5 : BitVec 32 := 33#32
  let v13 : BitVec 32 := Scalar.divsi v1 c33_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c33_i32_5 c0_i32_8
  let v20 : BitVec 32 := Scalar.extui v19
  let c0_i32_9 : BitVec 32 := 0#32
  let v21 : BitVec 1 := Scalar.cmpi .slt c33_i32_5 c0_i32_9
  let v22 : BitVec 32 := Scalar.extui v21
  let v23 : BitVec 32 := Scalar.subi v20 v22
  let v24 : BitVec 1 := Scalar.cmpi .ne v18 v23
  let v25 : BitVec 32 := Scalar.remsi v1 c33_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32_12 : BitVec 32 := 2#32
  let v30 : BitVec 32 := Scalar.select v12 c2_i32_12 v29
  let c0_i32_13 : BitVec 32 := 0#32
  let c0_i32_14 : BitVec 32 := 0#32
  let c0_i32_15 : BitVec 32 := 0#32
  ![v30.toNat, c0_i32_13.toNat, c0_i32_14.toNat]

def cc0_transform_19 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c33_i32 : BitVec 32 := 33#32
  let c0_i32_0 : BitVec 32 := 0#32
  let v2 : BitVec 1 := Scalar.cmpi .eq c33_i32 c0_i32_0
  let c1_i32 : BitVec 32 := 1#32
  let v3 : BitVec 32 := Scalar.select v2 c1_i32 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c33_i32_5 : BitVec 32 := 33#32
  let v13 : BitVec 32 := Scalar.divsi v1 c33_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c33_i32_5 c0_i32_8
  let v20 : BitVec 32 := Scalar.extui v19
  let c0_i32_9 : BitVec 32 := 0#32
  let v21 : BitVec 1 := Scalar.cmpi .slt c33_i32_5 c0_i32_9
  let v22 : BitVec 32 := Scalar.extui v21
  let v23 : BitVec 32 := Scalar.subi v20 v22
  let v24 : BitVec 1 := Scalar.cmpi .ne v18 v23
  let v25 : BitVec 32 := Scalar.remsi v1 c33_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32_12 : BitVec 32 := 2#32
  let v30 : BitVec 32 := Scalar.select v12 c2_i32_12 v29
  let c0_i32_13 : BitVec 32 := 0#32
  let c0_i32_14 : BitVec 32 := 0#32
  let c0_i32_15 : BitVec 32 := 0#32
  ![v30.toNat, c0_i32_13.toNat, c0_i32_14.toNat]

def cc0_transform_20 (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c33_i32 : BitVec 32 := 33#32
  let c0_i32_0 : BitVec 32 := 0#32
  let v2 : BitVec 1 := Scalar.cmpi .eq c33_i32 c0_i32_0
  let c1_i32 : BitVec 32 := 1#32
  let v3 : BitVec 32 := Scalar.select v2 c1_i32 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c33_i32_5 : BitVec 32 := 33#32
  let v13 : BitVec 32 := Scalar.divsi v1 c33_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c33_i32_5 c0_i32_8
  let v20 : BitVec 32 := Scalar.extui v19
  let c0_i32_9 : BitVec 32 := 0#32
  let v21 : BitVec 1 := Scalar.cmpi .slt c33_i32_5 c0_i32_9
  let v22 : BitVec 32 := Scalar.extui v21
  let v23 : BitVec 32 := Scalar.subi v20 v22
  let v24 : BitVec 1 := Scalar.cmpi .ne v18 v23
  let v25 : BitVec 32 := Scalar.remsi v1 c33_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32_12 : BitVec 32 := 2#32
  let v30 : BitVec 32 := Scalar.select v12 c2_i32_12 v29
  let c0_i32_13 : BitVec 32 := 0#32
  let c0_i32_14 : BitVec 32 := 0#32
  let c0_i32_15 : BitVec 32 := 0#32
  ![v30.toNat, c0_i32_13.toNat, c0_i32_14.toNat]

def cc0_transform_21 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c33_i32 : BitVec 32 := 33#32
  let c0_i32 : BitVec 32 := 0#32
  let v2 : BitVec 1 := Scalar.cmpi .eq c33_i32 c0_i32
  let c1_i32_0 : BitVec 32 := 1#32
  let v3 : BitVec 32 := Scalar.select v2 c1_i32_0 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c33_i32_5 : BitVec 32 := 33#32
  let v13 : BitVec 32 := Scalar.divsi v1 c33_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c33_i32_5 c0_i32_8
  let v20 : BitVec 32 := Scalar.extui v19
  let c0_i32_9 : BitVec 32 := 0#32
  let v21 : BitVec 1 := Scalar.cmpi .slt c33_i32_5 c0_i32_9
  let v22 : BitVec 32 := Scalar.extui v21
  let v23 : BitVec 32 := Scalar.subi v20 v22
  let v24 : BitVec 1 := Scalar.cmpi .ne v18 v23
  let v25 : BitVec 32 := Scalar.remsi v1 c33_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32_12 : BitVec 32 := 2#32
  let v30 : BitVec 32 := Scalar.select v12 c2_i32_12 v29
  let c0_i32_13 : BitVec 32 := 0#32
  let c0_i32_14 : BitVec 32 := 0#32
  let c0_i32_15 : BitVec 32 := 0#32
  ![v30.toNat, c0_i32_13.toNat, c0_i32_14.toNat]

def cc0_transform_22 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c33_i32 : BitVec 32 := 33#32
  let c0_i32 : BitVec 32 := 0#32
  let v2 : BitVec 1 := Scalar.cmpi .eq c33_i32 c0_i32
  let c1_i32_0 : BitVec 32 := 1#32
  let v3 : BitVec 32 := Scalar.select v2 c1_i32_0 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c33_i32_5 : BitVec 32 := 33#32
  let v13 : BitVec 32 := Scalar.divsi v1 c33_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c33_i32_5 c0_i32_8
  let v20 : BitVec 32 := Scalar.extui v19
  let c0_i32_9 : BitVec 32 := 0#32
  let v21 : BitVec 1 := Scalar.cmpi .slt c33_i32_5 c0_i32_9
  let v22 : BitVec 32 := Scalar.extui v21
  let v23 : BitVec 32 := Scalar.subi v20 v22
  let v24 : BitVec 1 := Scalar.cmpi .ne v18 v23
  let v25 : BitVec 32 := Scalar.remsi v1 c33_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32_12 : BitVec 32 := 2#32
  let v30 : BitVec 32 := Scalar.select v12 c2_i32_12 v29
  let c0_i32_13 : BitVec 32 := 0#32
  let c0_i32_14 : BitVec 32 := 0#32
  let c0_i32_15 : BitVec 32 := 0#32
  ![v30.toNat, c0_i32_13.toNat, c0_i32_14.toNat]

def cc0_transform_23 (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c33_i32 : BitVec 32 := 33#32
  let c0_i32 : BitVec 32 := 0#32
  let v2 : BitVec 1 := Scalar.cmpi .eq c33_i32 c0_i32
  let c1_i32_0 : BitVec 32 := 1#32
  let v3 : BitVec 32 := Scalar.select v2 c1_i32_0 c33_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let v12 : BitVec 1 := Scalar.cmpi .eq v11 c0_i32_4
  let c33_i32_5 : BitVec 32 := 33#32
  let v13 : BitVec 32 := Scalar.divsi v1 c33_i32_5
  let c0_i32_6 : BitVec 32 := 0#32
  let v14 : BitVec 1 := Scalar.cmpi .sgt v1 c0_i32_6
  let v15 : BitVec 32 := Scalar.extui v14
  let c0_i32_7 : BitVec 32 := 0#32
  let v16 : BitVec 1 := Scalar.cmpi .slt v1 c0_i32_7
  let v17 : BitVec 32 := Scalar.extui v16
  let v18 : BitVec 32 := Scalar.subi v15 v17
  let c0_i32_8 : BitVec 32 := 0#32
  let v19 : BitVec 1 := Scalar.cmpi .sgt c33_i32_5 c0_i32_8
  let v20 : BitVec 32 := Scalar.extui v19
  let c0_i32_9 : BitVec 32 := 0#32
  let v21 : BitVec 1 := Scalar.cmpi .slt c33_i32_5 c0_i32_9
  let v22 : BitVec 32 := Scalar.extui v21
  let v23 : BitVec 32 := Scalar.subi v20 v22
  let v24 : BitVec 1 := Scalar.cmpi .ne v18 v23
  let v25 : BitVec 32 := Scalar.remsi v1 c33_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32_12 : BitVec 32 := 2#32
  let v30 : BitVec 32 := Scalar.select v12 c2_i32_12 v29
  let c0_i32_13 : BitVec 32 := 0#32
  let c0_i32_14 : BitVec 32 := 0#32
  let c0_i32_15 : BitVec 32 := 0#32
  ![v30.toNat, c0_i32_13.toNat, c0_i32_14.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S64x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== Reference4Ideal.lean ====
abbrev S16896x256 : Shape := ⟨2, ![16896, 256]⟩
abbrev S2x16896x256 : Shape := ⟨3, ![2, 16896, 256]⟩
abbrev S128x256 : Shape := ⟨2, ![128, 256]⟩
abbrev S2x256 : Shape := ⟨2, ![2, 256]⟩
abbrev S16896x7168 : Shape := ⟨2, ![16896, 7168]⟩
abbrev S4x256x1024 : Shape := ⟨3, ![4, 256, 1024]⟩
abbrev S1024x1024 : Shape := ⟨2, ![1024, 1024]⟩
abbrev S16896x1024 : Shape := ⟨2, ![16896, 1024]⟩
abbrev S1024 : Shape := ⟨1, ![1024]⟩
abbrev S3x1x1024 : Shape := ⟨3, ![3, 1, 1024]⟩
abbrev S1024x64 : Shape := ⟨2, ![1024, 64]⟩
abbrev S64 : Shape := ⟨1, ![64]⟩
abbrev S16896x4x64 : Shape := ⟨3, ![16896, 4, 64]⟩
abbrev S1x256 : Shape := ⟨2, ![1, 256]⟩
abbrev S256 : Shape := ⟨1, ![256]⟩
abbrev S4x64 : Shape := ⟨2, ![4, 64]⟩
abbrev S_ : Shape := ⟨0, ![]⟩
abbrev S16896x4 : Shape := ⟨2, ![16896, 4]⟩
abbrev S16896x4x1 : Shape := ⟨3, ![16896, 4, 1]⟩
abbrev S1x4x64 : Shape := ⟨3, ![1, 4, 64]⟩
abbrev S1x16896x256 : Shape := ⟨3, ![1, 16896, 256]⟩
abbrev S16896x128 : Shape := ⟨2, ![16896, 128]⟩
abbrev S16896x4096 : Shape := ⟨2, ![16896, 4096]⟩
abbrev S1x256x1024 : Shape := ⟨3, ![1, 256, 1024]⟩
abbrev S256x1024 : Shape := ⟨2, ![256, 1024]⟩
abbrev S2x1x1024 : Shape := ⟨3, ![2, 1, 1024]⟩
abbrev S2x8192x1024 : Shape := ⟨3, ![2, 8192, 1024]⟩
abbrev S1x1x1024 : Shape := ⟨3, ![1, 1, 1024]⟩
abbrev S2x256x1024 : Shape := ⟨3, ![2, 256, 1024]⟩
abbrev S2x8448x1024 : Shape := ⟨3, ![2, 8448, 1024]⟩
abbrev S16896 : Shape := ⟨1, ![16896]⟩
abbrev S16896x1 : Shape := ⟨2, ![16896, 1]⟩
abbrev S1x1024 : Shape := ⟨2, ![1, 1024]⟩

abbrev nBuf : Space → Nat
  | .hbm => 164
  | .vmem => 0
  | .smem => 0
  | _ => 0

abbrev hbmTy0_0 (i : Nat) : BufTy := match i % 128 with
  | 0 => ⟨S16896x256, .f32⟩
  | 1 => ⟨S16896x256, .f32⟩
  | 2 => ⟨S16896x256, .f32⟩
  | 3 => ⟨S16896x256, .f32⟩
  | 4 => ⟨S16896x256, .f32⟩
  | 5 => ⟨S2x16896x256, .f32⟩
  | 6 => ⟨S128x256, .f32⟩
  | 7 => ⟨S2x256, .f32⟩
  | 8 => ⟨S16896x7168, .f32⟩
  | 9 => ⟨S4x256x1024, .f32⟩
  | 10 => ⟨S1024x1024, .f32⟩
  | 11 => ⟨S16896x1024, .f32⟩
  | 12 => ⟨S1024, .f32⟩
  | 13 => ⟨S3x1x1024, .f32⟩
  | 14 => ⟨S1024, .f32⟩
  | 15 => ⟨S3x1x1024, .f32⟩
  | 16 => ⟨S3x1x1024, .f32⟩
  | 17 => ⟨S1024x64, .f32⟩
  | 18 => ⟨S64, .f32⟩
  | 19 => ⟨S16896x256, .f32⟩
  | 20 => ⟨S16896x4x64, .f32⟩
  | 21 => ⟨S1x256, .f32⟩
  | 22 => ⟨S256, .f32⟩
  | 23 => ⟨S4x64, .f32⟩
  | 24 => ⟨S1x256, .f32⟩
  | 25 => ⟨S256, .f32⟩
  | 26 => ⟨S4x64, .f32⟩
  | 27 => ⟨S_, .f32⟩
  | 28 => ⟨S16896x4, .f32⟩
  | 29 => ⟨S16896x4x1, .f32⟩
  | 30 => ⟨S_, .f32⟩
  | 31 => ⟨S16896x4x1, .f32⟩
  | 32 => ⟨S16896x4x1, .f32⟩
  | 33 => ⟨S16896x4x64, .f32⟩
  | 34 => ⟨S16896x4x64, .f32⟩
  | 35 => ⟨S16896x4x64, .f32⟩
  | 36 => ⟨S_, .f32⟩
  | 37 => ⟨S16896x4, .f32⟩
  | 38 => ⟨S16896x4x1, .f32⟩
  | 39 => ⟨S_, .f32⟩
  | 40 => ⟨S16896x4x1, .f32⟩
  | 41 => ⟨S16896x4x1, .f32⟩
  | 42 => ⟨S_, .f32⟩
  | 43 => ⟨S16896x4x1, .f32⟩
  | 44 => ⟨S16896x4x1, .f32⟩
  | 45 => ⟨S16896x4x1, .f32⟩
  | 46 => ⟨S16896x4x64, .f32⟩
  | 47 => ⟨S16896x4x64, .f32⟩
  | 48 => ⟨S1x4x64, .f32⟩
  | 49 => ⟨S16896x4x64, .f32⟩
  | 50 => ⟨S16896x4x64, .f32⟩
  | 51 => ⟨S1x4x64, .f32⟩
  | 52 => ⟨S16896x4x64, .f32⟩
  | 53 => ⟨S16896x4x64, .f32⟩
  | 54 => ⟨S1x16896x256, .f32⟩
  | 55 => ⟨S16896x256, .f32⟩
  | 56 => ⟨S1x16896x256, .f32⟩
  | 57 => ⟨S16896x256, .f32⟩
  | 58 => ⟨S16896x256, .f32⟩
  | 59 => ⟨S16896x4x64, .f32⟩
  | 60 => ⟨S16896x4x64, .f32⟩
  | 61 => ⟨S16896x256, .f32⟩
  | 62 => ⟨S16896x128, .f32⟩
  | 63 => ⟨S16896x128, .f32⟩
  | 64 => ⟨S16896x128, .f32⟩
  | 65 => ⟨S_, .f32⟩
  | 66 => ⟨S16896x128, .f32⟩
  | 67 => ⟨S16896x128, .f32⟩
  | 68 => ⟨S_, .f32⟩
  | 69 => ⟨S16896x128, .f32⟩
  | 70 => ⟨S16896x128, .f32⟩
  | 71 => ⟨S16896x256, .f32⟩
  | 72 => ⟨S16896x256, .f32⟩
  | 73 => ⟨S16896x4096, .f32⟩
  | 74 => ⟨S16896x4096, .f32⟩
  | 75 => ⟨S16896x4096, .f32⟩
  | 76 => ⟨S_, .f32⟩
  | 77 => ⟨S16896x4096, .f32⟩
  | 78 => ⟨S16896x4096, .f32⟩
  | 79 => ⟨S_, .f32⟩
  | 80 => ⟨S16896x4096, .f32⟩
  | 81 => ⟨S16896x4096, .f32⟩
  | 82 => ⟨S16896x1024, .f32⟩
  | 83 => ⟨S1x256x1024, .f32⟩
  | 84 => ⟨S256x1024, .f32⟩
  | 85 => ⟨S16896x1024, .f32⟩
  | 86 => ⟨S16896x1024, .f32⟩
  | 87 => ⟨S16896x1024, .f32⟩
  | 88 => ⟨S1x256x1024, .f32⟩
  | 89 => ⟨S256x1024, .f32⟩
  | 90 => ⟨S16896x1024, .f32⟩
  | 91 => ⟨S16896x1024, .f32⟩
  | 92 => ⟨S16896x1024, .f32⟩
  | 93 => ⟨S16896x1024, .f32⟩
  | 94 => ⟨S1x256x1024, .f32⟩
  | 95 => ⟨S256x1024, .f32⟩
  | 96 => ⟨S16896x1024, .f32⟩
  | 97 => ⟨S16896x1024, .f32⟩
  | 98 => ⟨S16896x1024, .f32⟩
  | 99 => ⟨S16896x1024, .f32⟩
  | 100 => ⟨S1x256x1024, .f32⟩
  | 101 => ⟨S256x1024, .f32⟩
  | 102 => ⟨S16896x1024, .f32⟩
  | 103 => ⟨S16896x1024, .f32⟩
  | 104 => ⟨S16896x1024, .f32⟩
  | 105 => ⟨S2x1x1024, .f32⟩
  | 106 => ⟨S2x8192x1024, .f32⟩
  | 107 => ⟨S1x1x1024, .f32⟩
  | 108 => ⟨S2x256x1024, .f32⟩
  | 109 => ⟨S2x8448x1024, .f32⟩
  | 110 => ⟨S16896x1024, .f32⟩
  | 111 => ⟨S16896x1024, .f32⟩
  | 112 => ⟨S16896x1024, .f32⟩
  | 113 => ⟨S_, .f32⟩
  | 114 => ⟨S16896, .f32⟩
  | 115 => ⟨S16896x1, .f32⟩
  | 116 => ⟨S_, .f32⟩
  | 117 => ⟨S16896x1, .f32⟩
  | 118 => ⟨S16896x1, .f32⟩
  | 119 => ⟨S_, .f32⟩
  | 120 => ⟨S16896x1, .f32⟩
  | 121 => ⟨S16896x1, .f32⟩
  | 122 => ⟨S16896x1, .f32⟩
  | 123 => ⟨S16896x1024, .f32⟩
  | 124 => ⟨S16896x1024, .f32⟩
  | 125 => ⟨S1x1024, .f32⟩
  | 126 => ⟨S16896x1024, .f32⟩
  | 127 => ⟨S16896x1024, .f32⟩
  | _ => ⟨S16896x256, .f32⟩

abbrev hbmTy0_1 (i : Nat) : BufTy := match i % 128 with
  | 0 => ⟨S16896x1024, .f32⟩
  | 1 => ⟨S16896x1024, .f32⟩
  | 2 => ⟨S16896x1024, .f32⟩
  | 3 => ⟨S_, .f32⟩
  | 4 => ⟨S16896, .f32⟩
  | 5 => ⟨S16896x1, .f32⟩
  | 6 => ⟨S_, .f32⟩
  | 7 => ⟨S16896x1, .f32⟩
  | 8 => ⟨S16896x1, .f32⟩
  | 9 => ⟨S_, .f32⟩
  | 10 => ⟨S16896x1, .f32⟩
  | 11 => ⟨S16896x1, .f32⟩
  | 12 => ⟨S16896x1, .f32⟩
  | 13 => ⟨S16896x1024, .f32⟩
  | 14 => ⟨S16896x1024, .f32⟩
  | 15 => ⟨S1x1024, .f32⟩
  | 16 => ⟨S16896x1024, .f32⟩
  | 17 => ⟨S16896x1024, .f32⟩
  | 18 => ⟨S2x1x1024, .f32⟩
  | 19 => ⟨S2x8192x1024, .f32⟩
  | 20 => ⟨S1x1x1024, .f32⟩
  | 21 => ⟨S2x256x1024, .f32⟩
  | 22 => ⟨S2x8448x1024, .f32⟩
  | 23 => ⟨S16896x1024, .f32⟩
  | 24 => ⟨S_, .f32⟩
  | 25 => ⟨S16896x1024, .f32⟩
  | 26 => ⟨S16896x1024, .f32⟩
  | 27 => ⟨S16896x1024, .f32⟩
  | 28 => ⟨S2x1x1024, .f32⟩
  | 29 => ⟨S2x8192x1024, .f32⟩
  | 30 => ⟨S1x1x1024, .f32⟩
  | 31 => ⟨S2x256x1024, .f32⟩
  | 32 => ⟨S2x8448x1024, .f32⟩
  | 33 => ⟨S16896x1024, .f32⟩
  | 34 => ⟨S16896x1024, .f32⟩
  | 35 => ⟨S16896x1024, .bf16⟩
  | _ => ⟨S16896x256, .f32⟩

abbrev hbmTy (i : Nat) : BufTy := match i / 128 with
  | 0 => hbmTy0_0 i
  | 1 => hbmTy0_1 i
  | _ => ⟨S16896x256, .f32⟩

abbrev bufTy : (tb : Table) → Fin (tcTables nBuf tb) → BufTy
  | .hbm, ⟨i, _⟩ => hbmTy i
  | _, _ => ⟨S16896x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_cst_5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_8 : Ref sig .tc := ⟨.hbm, 113, rfl⟩
abbrev main_v85 : Ref sig .tc := ⟨.hbm, 114, rfl⟩
abbrev main_v86 : Ref sig .tc := ⟨.hbm, 115, rfl⟩
abbrev main_cst_9 : Ref sig .tc := ⟨.hbm, 116, rfl⟩
abbrev main_v87 : Ref sig .tc := ⟨.hbm, 117, rfl⟩
abbrev main_v88 : Ref sig .tc := ⟨.hbm, 118, rfl⟩
abbrev main_cst_10 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_11 : Ref sig .tc := ⟨.hbm, 131, rfl⟩
abbrev main_v100 : Ref sig .tc := ⟨.hbm, 132, rfl⟩
abbrev main_v101 : Ref sig .tc := ⟨.hbm, 133, rfl⟩
abbrev main_cst_12 : Ref sig .tc := ⟨.hbm, 134, rfl⟩
abbrev main_v102 : Ref sig .tc := ⟨.hbm, 135, rfl⟩
abbrev main_v103 : Ref sig .tc := ⟨.hbm, 136, rfl⟩
abbrev main_cst_13 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_14 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩

abbrev nD : Nat := 1
abbrev τ : Topo := Topo.v7x

variable {F : FTy → Type} [FloatOps F]
-- ==== Kernel5.lean ====
abbrev S16896x1024 : Shape := ⟨2, ![16896, 1024]⟩
abbrev S1024 : Shape := ⟨1, ![1024]⟩
abbrev S3x1x1024 : Shape := ⟨3, ![3, 1, 1024]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S1024, .f32⟩
  | .hbm, ⟨3, _⟩ => ⟨S3x1x1024, .f32⟩
  | .hbm, ⟨4, _⟩ => ⟨S1x1024, .f32⟩
  | .hbm, ⟨5, _⟩ => ⟨S16896x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S256x1024, .f32⟩
  | .local _ .vmem, ⟨8, _⟩ => ⟨S256x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c33_i32 : BitVec 32 := 33#32
  let c0_i32 : BitVec 32 := 0#32
  let v0 : BitVec 1 := Scalar.cmpi .eq c33_i32 c0_i32
  let c1_i32 : BitVec 32 := 1#32
  let v1 : BitVec 32 := Scalar.select v0 c1_i32 c33_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c33_i32_4 : BitVec 32 := 33#32
  let v11 : BitVec 32 := Scalar.divsi arg0 c33_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c33_i32_4 c0_i32_7
  let v18 : BitVec 32 := Scalar.extui v17
  let c0_i32_8 : BitVec 32 := 0#32
  let v19 : BitVec 1 := Scalar.cmpi .slt c33_i32_4 c0_i32_8
  let v20 : BitVec 32 := Scalar.extui v19
  let v21 : BitVec 32 := Scalar.subi v18 v20
  let v22 : BitVec 1 := Scalar.cmpi .ne v16 v21
  let v23 : BitVec 32 := Scalar.remsi arg0 c33_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32 : BitVec 32 := 2#32
  let v28 : BitVec 32 := Scalar.select v10 c2_i32 v27
  let c0_i32_11 : BitVec 32 := 0#32
  let c0_i32_12 : BitVec 32 := 0#32
  let c0_i32_13 : BitVec 32 := 0#32
  ![v28.toNat, c0_i32_11.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16896x1024 : Shape := ⟨2, ![16896, 1024]⟩
abbrev S1024 : Shape := ⟨1, ![1024]⟩
abbrev S3x1x1024 : Shape := ⟨3, ![3, 1, 1024]⟩
abbrev S2x8448x1024 : Shape := ⟨3, ![2, 8448, 1024]⟩
abbrev S2x256x1024 : Shape := ⟨3, ![2, 256, 1024]⟩
abbrev S1x1x1024 : Shape := ⟨3, ![1, 1, 1024]⟩
abbrev S_ : Shape := ⟨0, ![]⟩
abbrev S2x256 : Shape := ⟨2, ![2, 256]⟩
abbrev S2x256x1 : Shape := ⟨3, ![2, 256, 1]⟩
abbrev S2x8192x1024 : Shape := ⟨3, ![2, 8192, 1024]⟩
abbrev S2x1x1024 : Shape := ⟨3, ![2, 1, 1024]⟩
abbrev S2x8192 : Shape := ⟨2, ![2, 8192]⟩
abbrev S2x8192x1 : Shape := ⟨3, ![2, 8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S1024, .f32⟩
  | .hbm, ⟨3, _⟩ => ⟨S3x1x1024, .f32⟩
  | .hbm, ⟨4, _⟩ => ⟨S2x8448x1024, .f32⟩
  | .hbm, ⟨5, _⟩ => ⟨S2x8448x1024, .f32⟩
  | .hbm, ⟨6, _⟩ => ⟨S2x256x1024, .f32⟩
  | .hbm, ⟨7, _⟩ => ⟨S1x1x1024, .f32⟩
  | .hbm, ⟨8, _⟩ => ⟨S2x256x1024, .f32⟩
  | .hbm, ⟨9, _⟩ => ⟨S2x256x1024, .f32⟩
  | .hbm, ⟨10, _⟩ => ⟨S_, .f32⟩
  | .hbm, ⟨11, _⟩ => ⟨S2x256, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S_, .f32⟩
  | .hbm, ⟨17, _⟩ => ⟨S2x256x1, .f32⟩
  | .hbm, ⟨18, _⟩ => ⟨S2x256x1, .f32⟩
  | .hbm, ⟨19, _⟩ => ⟨S2x256x1, .f32⟩
  | .hbm, ⟨20, _⟩ => ⟨S2x256x1024, .f32⟩
  | .hbm, ⟨21, _⟩ => ⟨S2x256x1024, .f32⟩
  | .hbm, ⟨22, _⟩ => ⟨S1x1x1024, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S2x8192x1024, .f32⟩
  | .hbm, ⟨29, _⟩ => ⟨S2x1x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x8192, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S2x8192x1, .f32⟩
  | .hbm, ⟨42, _⟩ => ⟨S2x8192x1024, .f32⟩
  | .hbm, ⟨43, _⟩ => ⟨S2x8192x1024, .f32⟩
  | .hbm, ⟨44, _⟩ => ⟨S1x1x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8448x1024, .f32⟩
  | .hbm, ⟨51, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel6.lean ====
abbrev S16896x1024 : Shape := ⟨2, ![16896, 1024]⟩
abbrev S1024 : Shape := ⟨1, ![1024]⟩
abbrev S3x1x1024 : Shape := ⟨3, ![3, 1, 1024]⟩
abbrev S1x1024 : Shape := ⟨2, ![1, 1024]⟩
abbrev S16384x1024 : Shape := ⟨2, ![16384, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S1024, .f32⟩
  | .hbm, ⟨3, _⟩ => ⟨S3x1x1024, .f32⟩
  | .hbm, ⟨4, _⟩ => ⟨S1x1024, .f32⟩
  | .hbm, ⟨5, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S256x1024, .f32⟩
  | .local _ .vmem, ⟨8, _⟩ => ⟨S256x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c1_i32 : BitVec 32 := 1#32
  let v1 : BitVec 32 := Scalar.addi v0 c1_i32
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let c1_i32 : BitVec 32 := 1#32
  let v1 : BitVec 32 := Scalar.addi v0 c1_i32
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S16896x1024 : Shape := ⟨2, ![16896, 1024]⟩
abbrev S1024 : Shape := ⟨1, ![1024]⟩
abbrev S3x1x1024 : Shape := ⟨3, ![3, 1, 1024]⟩
abbrev S2x8448x1024 : Shape := ⟨3, ![2, 8448, 1024]⟩
abbrev S2x8192x1024 : Shape := ⟨3, ![2, 8192, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x1024, .f32⟩
  | .hbm, ⟨2, _⟩ => ⟨S1024, .f32⟩
  | .hbm, ⟨3, _⟩ => ⟨S3x1x1024, .f32⟩
  | .hbm, ⟨4, _⟩ => ⟨S2x8448x1024, .f32⟩
  | .hbm, ⟨5, _⟩ => ⟨S2x8192x1024, .f32⟩
  | .hbm, ⟨6, _⟩ => ⟨S2x8448x1024, .f32⟩
  | .hbm, ⟨7, _⟩ => ⟨S2x8192x1024, .f32⟩
  | .hbm, ⟨8, _⟩ => ⟨S2x1x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S16384x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel7.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel8.lean ====
abbrev S4x32 : Shape := ⟨2, ![4, 32]⟩
abbrev S16896x1024 : Shape := ⟨2, ![16896, 1024]⟩
abbrev S16896x256 : Shape := ⟨2, ![16896, 256]⟩
abbrev S64 : Shape := ⟨1, ![64]⟩
abbrev S_ : Shape := ⟨0, ![]⟩
abbrev S16896x768 : Shape := ⟨2, ![16896, 768]⟩
abbrev S2x8448x4x64 : Shape := ⟨4, ![2, 8448, 4, 64]⟩
abbrev S2x4x64x8448 : Shape := ⟨4, ![2, 4, 64, 8448]⟩
abbrev S2x4x16x8448 : Shape := ⟨4, ![2, 4, 16, 8448]⟩
abbrev S2x4x80x8448 : Shape := ⟨4, ![2, 4, 80, 8448]⟩
abbrev S640x8448 : Shape := ⟨2, ![640, 8448]⟩
abbrev S1x32 : Shape := ⟨2, ![1, 32]⟩
abbrev S32 : Shape := ⟨1, ![32]⟩
abbrev S1 : Shape := ⟨1, ![1]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x256 : Shape := ⟨2, ![256, 256]⟩
abbrev S8448x256 : Shape := ⟨2, ![8448, 256]⟩
abbrev S320x8448 : Shape := ⟨2, ![320, 8448]⟩
abbrev S8x256x256 : Shape := ⟨3, ![8, 256, 256]⟩
abbrev S8x8x256 : Shape := ⟨3, ![8, 8, 256]⟩
abbrev S2x320x256 : Shape := ⟨3, ![2, 320, 256]⟩
abbrev S1x256x256 : Shape := ⟨3, ![1, 256, 256]⟩
abbrev S1x8x256 : Shape := ⟨3, ![1, 8, 256]⟩
abbrev S8x256 : Shape := ⟨2, ![8, 256]⟩
abbrev S80x256 : Shape := ⟨2, ![80, 256]⟩
abbrev S1x80x256 : Shape := ⟨3, ![1, 80, 256]⟩
abbrev S1408x256 : Shape := ⟨2, ![1408, 256]⟩
abbrev S80x1408 : Shape := ⟨2, ![80, 1408]⟩
abbrev S1x64x256 : Shape := ⟨3, ![1, 64, 256]⟩
abbrev S64x256 : Shape := ⟨2, ![64, 256]⟩
abbrev S1x1x256 : Shape := ⟨3, ![1, 1, 256]⟩

abbrev nBuf : Space → Nat
  | .hbm => 49
  | .vmem => 12
  | .smem => 1
  | _ => 0

abbrev bufTy : (tb : Table) → Fin (tcTables nBuf tb) → BufTy
  | .hbm, ⟨0, _⟩ => ⟨S4x32, .f32⟩
  | .hbm, ⟨1, _⟩ => ⟨S16896x1024, .f32⟩
  | .hbm, ⟨2, _⟩ => ⟨S16896x256, .f32⟩
  | .hbm, ⟨3, _⟩ => ⟨S64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16896x256, .f32⟩
  | .hbm, ⟨12, _⟩ => ⟨S16896x256, .f32⟩
  | .hbm, ⟨13, _⟩ => ⟨S16896x256, .f32⟩
  | .hbm, ⟨14, _⟩ => ⟨S16896x768, .f32⟩
  | .hbm, ⟨15, _⟩ => ⟨S16896x1024, .f32⟩
  | .hbm, ⟨16, _⟩ => ⟨S16896x1024, .bf16⟩
  | .hbm, ⟨17, _⟩ => ⟨S2x8448x4x64, .f32⟩
  | .hbm, ⟨18, _⟩ => ⟨S2x4x64x8448, .f32⟩
  | .hbm, ⟨19, _⟩ => ⟨S_, .f32⟩
  | .hbm, ⟨20, _⟩ => ⟨S2x4x16x8448, .f32⟩
  | .hbm, ⟨21, _⟩ => ⟨S2x4x80x8448, .f32⟩
  | .hbm, ⟨22, _⟩ => ⟨S640x8448, .f32⟩
  | .hbm, ⟨23, _⟩ => ⟨S640x8448, .bf16⟩
  | .hbm, ⟨24, _⟩ => ⟨S1x32, .f32⟩
  | .hbm, ⟨25, _⟩ => ⟨S32, .f32⟩
  | .hbm, ⟨26, _⟩ => ⟨S1x32, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x32, .f32⟩
  | .hbm, ⟨33, _⟩ => ⟨S32, .f32⟩
  | .hbm, ⟨34, _⟩ => ⟨S1x32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S1x64, .f32⟩
  | .hbm, ⟨45, _⟩ => ⟨S4x64, .f32⟩
  | .hbm, ⟨46, _⟩ => ⟨S256, .f32⟩
  | .hbm, ⟨47, _⟩ => ⟨S1x256, .f32⟩
  | .hbm, ⟨48, _⟩ => ⟨S16896x256, .f32⟩
  | .local _ .vmem, ⟨0, _⟩ => ⟨S256x256, .bf16⟩
  | .local _ .vmem, ⟨1, _⟩ => ⟨S256x256, .bf16⟩
  | .local _ .vmem, ⟨2, _⟩ => ⟨S8448x256, .bf16⟩
  | .local _ .vmem, ⟨3, _⟩ => ⟨S8448x256, .bf16⟩
  | .local _ .vmem, ⟨4, _⟩ => ⟨S320x8448, .bf16⟩
  | .local _ .vmem, ⟨5, _⟩ => ⟨S320x8448, .bf16⟩
  | .local _ .vmem, ⟨6, _⟩ => ⟨S1x256, .f32⟩
  | .local _ .vmem, ⟨7, _⟩ => ⟨S256x256, .f32⟩
  | .local _ .vmem, ⟨8, _⟩ => ⟨S256x256, .f32⟩
  | .local _ .vmem, ⟨9, _⟩ => ⟨S8x256x256, .bf16⟩
  | .local _ .vmem, ⟨10, _⟩ => ⟨S8x8x256, .f32⟩
  | .local _ .vmem, ⟨11, _⟩ => ⟨S2x320x256, .f32⟩
  | .local _ .smem, ⟨0, _⟩ => ⟨S1, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 33], ![false, false]⟩

def k0_cond2 (i : grid0.Coords) : BitVec 1 :=
  let arg1 : BitVec 32 := BitVec.ofNat 32 (i 1).val
  let c0_i32_41 : BitVec 32 := 0#32
  let v94 : BitVec 1 := Scalar.cmpi .sgt arg1 c0_i32_41
  let v95 : BitVec 32 := Scalar.extui v94
  let c0_i32_42 : BitVec 32 := 0#32
  let v96 : BitVec 1 := Scalar.cmpi .ne v95 c0_i32_42
  v96

@[reducible] def k0_t1_loop : Scf.Loop 32 :=
  let c0_i32_102 : BitVec 32 := 0#32
  let c6_i32_103 : BitVec 32 := 6#32
  let v207 : BitVec 32 := Scalar.addi c0_i32_102 c6_i32_103
  let c1_i32_104 : BitVec 32 := 1#32
  ⟨c0_i32_102, v207, c1_i32_104⟩
def k0_mult1 (k0_t1 : Fin k0_t1_loop.trips) : BitVec 32 :=
  let c0_i32_102 : BitVec 32 := 0#32
  let c1_i32_104 : BitVec 32 := 1#32
  let arg11 : BitVec 32 := Scf.iv c0_i32_102 c1_i32_104 k0_t1
  let c1408_i32 : BitVec 32 := 1408#32
  let v208 : BitVec 32 := Scalar.muli arg11 c1408_i32
  v208
def k0_off1 (k0_t1 : Fin k0_t1_loop.trips) : Fin 2 → Nat :=
  let c0_i32_102 : BitVec 32 := 0#32
  let c1_i32_104 : BitVec 32 := 1#32
  let arg11 : BitVec 32 := Scf.iv c0_i32_102 c1_i32_104 k0_t1
  let c1408_i32 : BitVec 32 := 1408#32
  let v208 : BitVec 32 := Scalar.muli arg11 c1408_i32
  let v209 : BitVec 32 := v208
  let v210 : Index := Scalar.indexCast v209
  let c0_106 : Index := 0#32
  ![v210.toNat, 0]
def k0_off2 (k0_t1 : Fin k0_t1_loop.trips) : Fin 2 → Nat :=
  let c0_146 : Index := 0#32
  let c0_i32_102 : BitVec 32 := 0#32
  let c1_i32_104 : BitVec 32 := 1#32
  let arg11 : BitVec 32 := Scf.iv c0_i32_102 c1_i32_104 k0_t1
  let c1408_i32 : BitVec 32 := 1408#32
  let v208 : BitVec 32 := Scalar.muli arg11 c1408_i32
  let v209 : BitVec 32 := v208
  let v254 : Index := Scalar.indexCast v209
  ![0, v254.toNat]
def k0_off3 (k0_t1 : Fin k0_t1_loop.trips) : Fin 2 → Nat :=
  let c80_176 : Index := 80#32
  let c0_i32_102 : BitVec 32 := 0#32
  let c1_i32_104 : BitVec 32 := 1#32
  let arg11 : BitVec 32 := Scf.iv c0_i32_102 c1_i32_104 k0_t1
  let c1408_i32 : BitVec 32 := 1408#32
  let v208 : BitVec 32 := Scalar.muli arg11 c1408_i32
  let v209 : BitVec 32 := v208
  let v312 : Index := Scalar.indexCast v209
  ![80, v312.toNat]
def k0_off4 (k0_t1 : Fin k0_t1_loop.trips) : Fin 2 → Nat :=
  let c160_206 : Index := 160#32
  let c0_i32_102 : BitVec 32 := 0#32
  let c1_i32_104 : BitVec 32 := 1#32
  let arg11 : BitVec 32 := Scf.iv c0_i32_102 c1_i32_104 k0_t1
  let c1408_i32 : BitVec 32 := 1408#32
  let v208 : BitVec 32 := Scalar.muli arg11 c1408_i32
  let v209 : BitVec 32 := v208
  let v370 : Index := Scalar.indexCast v209
  ![160, v370.toNat]
def k0_off5 (k0_t1 : Fin k0_t1_loop.trips) : Fin 2 → Nat :=
  let c240_236 : Index := 240#32
  let c0_i32_102 : BitVec 32 := 0#32
  let c1_i32_104 : BitVec 32 := 1#32
  let arg11 : BitVec 32 := Scf.iv c0_i32_102 c1_i32_104 k0_t1
  let c1408_i32 : BitVec 32 := 1408#32
  let v208 : BitVec 32 := Scalar.muli arg11 c1408_i32
  let v209 : BitVec 32 := v208
  let v428 : Index := Scalar.indexCast v209
  ![240, v428.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.muli arg0 c33_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S320x8448 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S4x32 : Shape := ⟨2, ![4, 32]⟩
abbrev S16896x1024 : Shape := ⟨2, ![16896, 1024]⟩
abbrev S16896x256 : Shape := ⟨2, ![16896, 256]⟩
abbrev S64 : Shape := ⟨1, ![64]⟩
abbrev S2x8448x4x2x32 : Shape := ⟨5, ![2, 8448, 4, 2, 32]⟩
abbrev S2x8448x4x64 : Shape := ⟨4, ![2, 8448, 4, 64]⟩
abbrev S1x32 : Shape := ⟨2, ![1, 32]⟩
abbrev S32 : Shape := ⟨1, ![32]⟩
abbrev S_ : Shape := ⟨0, ![]⟩
abbrev S2x256x4x2x32 : Shape := ⟨5, ![2, 256, 4, 2, 32]⟩
abbrev S2x256x4x64 : Shape := ⟨4, ![2, 256, 4, 64]⟩
abbrev S2x256x4x1x32 : Shape := ⟨5, ![2, 256, 4, 1, 32]⟩
abbrev S2x256x4x32 : Shape := ⟨4, ![2, 256, 4, 32]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x4x64x256 : Shape := ⟨4, ![2, 4, 64, 256]⟩
abbrev S2x8192x4x2x32 : Shape := ⟨5, ![2, 8192, 4, 2, 32]⟩
abbrev S2x8192x4x1x32 : Shape := ⟨5, ![2, 8192, 4, 1, 32]⟩
abbrev S2x8192x4x32 : Shape := ⟨4, ![2, 8192, 4, 32]⟩
abbrev S2x8448x4x1x32 : Shape := ⟨5, ![2, 8448, 4, 1, 32]⟩
abbrev S2x8448x4x32 : Shape := ⟨4, ![2, 8448, 4, 32]⟩
abbrev S2x4x8192x8448 : Shape := ⟨4, ![2, 4, 8192, 8448]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S2x8192x4x64 : Shape := ⟨4, ![2, 8192, 4, 64]⟩
abbrev S2x8448x4 : Shape := ⟨3, ![2, 8448, 4]⟩
abbrev S2x8448x4x1 : Shape := ⟨4, ![2, 8448, 4, 1]⟩
abbrev S1x1x1x64 : Shape := ⟨4, ![1, 1, 1, 64]⟩

abbrev nBuf : Space → Nat
  | .hbm => 155
  | .vmem => 0
  | .smem => 0
  | _ => 0

abbrev hbmTy0_0 (i : Nat) : BufTy := match i % 128 with
  | 0 => ⟨S4x32, .f32⟩
  | 1 => ⟨S16896x1024, .f32⟩
  | 2 => ⟨S16896x256, .f32⟩
  | 3 => ⟨S64, .f32⟩
  | 4 => ⟨S16896x256, .f32⟩
  | 5 => ⟨S2x8448x4x2x32, .f32⟩
  | 6 => ⟨S16896x256, .f32⟩
  | 7 => ⟨S2x8448x4x2x32, .f32⟩
  | 8 => ⟨S2x8448x4x64, .f32⟩
  | 9 => ⟨S1x32, .f32⟩
  | 10 => ⟨S32, .f32⟩
  | 11 => ⟨S1x32, .f32⟩
  | 12 => ⟨S32, .f32⟩
  | 13 => ⟨S32, .f32⟩
  | 14 => ⟨S_, .f32⟩
  | 15 => ⟨S_, .f32⟩
  | 16 => ⟨S_, .f32⟩
  | 17 => ⟨S1x32, .f32⟩
  | 18 => ⟨S32, .f32⟩
  | 19 => ⟨S1x32, .f32⟩
  | 20 => ⟨S32, .f32⟩
  | 21 => ⟨S32, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S2x256x4x2x32, .f32⟩
  | 29 => ⟨S2x256x4x2x32, .f32⟩
  | 30 => ⟨S2x256x4x64, .f32⟩
  | 31 => ⟨S_, .f32⟩
  | 32 => ⟨S_, .f32⟩
  | 33 => ⟨S_, .f32⟩
  | 34 => ⟨S_, .f32⟩
  | 35 => ⟨S2x256x4x1x32, .f32⟩
  | 36 => ⟨S2x256x4x32, .f32⟩
  | 37 => ⟨S2x256x4x1x32, .f32⟩
  | 38 => ⟨S2x256x4x32, .f32⟩
  | 39 => ⟨S2x4x256x256, .f32⟩
  | 40 => ⟨S2x4x256x256, .f32⟩
  | 41 => ⟨S2x4x256x256, .f32⟩
  | 42 => ⟨S2x256x4x1x32, .f32⟩
  | 43 => ⟨S2x256x4x32, .f32⟩
  | 44 => ⟨S2x256x4x1x32, .f32⟩
  | 45 => ⟨S2x256x4x32, .f32⟩
  | 46 => ⟨S2x4x256x256, .f32⟩
  | 47 => ⟨S2x4x256x256, .f32⟩
  | 48 => ⟨S2x4x256x256, .f32⟩
  | 49 => ⟨S_, .f32⟩
  | 50 => ⟨S2x4x256, .f32⟩
  | 51 => ⟨S_, .f32⟩
  | 52 => ⟨S2x4x256, .f32⟩
  | 53 => ⟨S2x4x256, .f32⟩
  | 54 => ⟨S2x4x256x1, .f32⟩
  | 55 => ⟨S2x4x256x256, .f32⟩
  | 56 => ⟨S2x4x256x256, .f32⟩
  | 57 => ⟨S2x4x256x256, .f32⟩
  | 58 => ⟨S_, .f32⟩
  | 59 => ⟨S2x4x256, .f32⟩
  | 60 => ⟨S2x4x256x1, .f32⟩
  | 61 => ⟨S2x4x256x256, .f32⟩
  | 62 => ⟨S2x4x256x256, .f32⟩
  | 63 => ⟨S_, .f32⟩
  | 64 => ⟨S2x4x256, .f32⟩
  | 65 => ⟨S_, .f32⟩
  | 66 => ⟨S2x4x256, .f32⟩
  | 67 => ⟨S2x4x256, .f32⟩
  | 68 => ⟨S2x4x256x1, .f32⟩
  | 69 => ⟨S2x4x256x256, .f32⟩
  | 70 => ⟨S2x4x256x256, .f32⟩
  | 71 => ⟨S2x4x256x256, .f32⟩
  | 72 => ⟨S_, .f32⟩
  | 73 => ⟨S2x4x256, .f32⟩
  | 74 => ⟨S2x4x256x1, .f32⟩
  | 75 => ⟨S2x4x256x256, .f32⟩
  | 76 => ⟨S2x4x256x256, .f32⟩
  | 77 => ⟨S2x4x256x256, .f32⟩
  | 78 => ⟨S2x4x256x256, .f32⟩
  | 79 => ⟨S2x4x256x256, .f32⟩
  | 80 => ⟨S2x4x64x256, .f32⟩
  | 81 => ⟨S2x256x4x64, .f32⟩
  | 82 => ⟨S2x8192x4x2x32, .f32⟩
  | 83 => ⟨S_, .f32⟩
  | 84 => ⟨S_, .f32⟩
  | 85 => ⟨S_, .f32⟩
  | 86 => ⟨S_, .f32⟩
  | 87 => ⟨S2x8192x4x1x32, .f32⟩
  | 88 => ⟨S2x8192x4x32, .f32⟩
  | 89 => ⟨S2x8448x4x1x32, .f32⟩
  | 90 => ⟨S2x8448x4x32, .f32⟩
  | 91 => ⟨S2x4x8192x8448, .f32⟩
  | 92 => ⟨S2x4x8192x8448, .f32⟩
  | 93 => ⟨S2x4x8192x8448, .f32⟩
  | 94 => ⟨S2x8192x4x1x32, .f32⟩
  | 95 => ⟨S2x8192x4x32, .f32⟩
  | 96 => ⟨S2x8448x4x1x32, .f32⟩
  | 97 => ⟨S2x8448x4x32, .f32⟩
  | 98 => ⟨S2x4x8192x8448, .f32⟩
  | 99 => ⟨S2x4x8192x8448, .f32⟩
  | 100 => ⟨S2x4x8192x8448, .f32⟩
  | 101 => ⟨S_, .f32⟩
  | 102 => ⟨S2x4x8192, .f32⟩
  | 103 => ⟨S_, .f32⟩
  | 104 => ⟨S2x4x8192, .f32⟩
  | 105 => ⟨S2x4x8192, .f32⟩
  | 106 => ⟨S2x4x8192x1, .f32⟩
  | 107 => ⟨S2x4x8192x8448, .f32⟩
  | 108 => ⟨S2x4x8192x8448, .f32⟩
  | 109 => ⟨S2x4x8192x8448, .f32⟩
  | 110 => ⟨S_, .f32⟩
  | 111 => ⟨S2x4x8192, .f32⟩
  | 112 => ⟨S2x4x8192x1, .f32⟩
  | 113 => ⟨S2x4x8192x8448, .f32⟩
  | 114 => ⟨S2x4x8192x8448, .f32⟩
  | 115 => ⟨S_, .f32⟩
  | 116 => ⟨S2x4x8192, .f32⟩
  | 117 => ⟨S_, .f32⟩
  | 118 => ⟨S2x4x8192, .f32⟩
  | 119 => ⟨S2x4x8192, .f32⟩
  | 120 => ⟨S2x4x8192x1, .f32⟩
  | 121 => ⟨S2x4x8192x8448, .f32⟩
  | 122 => ⟨S2x4x8192x8448, .f32⟩
  | 123 => ⟨S2x4x8192x8448, .f32⟩
  | 124 => ⟨S_, .f32⟩
  | 125 => ⟨S2x4x8192, .f32⟩
  | 126 => ⟨S2x4x8192x1, .f32⟩
  | 127 => ⟨S2x4x8192x8448, .f32⟩
  | _ => ⟨S4x32, .f32⟩

abbrev hbmTy0_1 (i : Nat) : BufTy := match i % 128 with
  | 0 => ⟨S2x4x8192x8448, .f32⟩
  | 1 => ⟨S2x4x8192x8448, .f32⟩
  | 2 => ⟨S2x4x8192x8448, .f32⟩
  | 3 => ⟨S2x4x8192x8448, .f32⟩
  | 4 => ⟨S2x4x64x8192, .f32⟩
  | 5 => ⟨S2x8192x4x64, .f32⟩
  | 6 => ⟨S2x8448x4x64, .f32⟩
  | 7 => ⟨S2x8448x4x64, .f32⟩
  | 8 => ⟨S_, .f32⟩
  | 9 => ⟨S2x8448x4, .f32⟩
  | 10 => ⟨S2x8448x4x1, .f32⟩
  | 11 => ⟨S_, .f32⟩
  | 12 => ⟨S2x8448x4x1, .f32⟩
  | 13 => ⟨S2x8448x4x1, .f32⟩
  | 14 => ⟨S_, .f32⟩
  | 15 => ⟨S2x8448x4x1, .f32⟩
  | 16 => ⟨S2x8448x4x1, .f32⟩
  | 17 => ⟨S2x8448x4x1, .f32⟩
  | 18 => ⟨S2x8448x4x64, .f32⟩
  | 19 => ⟨S2x8448x4x64, .f32⟩
  | 20 => ⟨S1x1x1x64, .f32⟩
  | 21 => ⟨S2x8448x4x64, .f32⟩
  | 22 => ⟨S2x8448x4x64, .f32⟩
  | 23 => ⟨S_, .f32⟩
  | 24 => ⟨S2x8448x4x64, .f32⟩
  | 25 => ⟨S2x8448x4x64, .f32⟩
  | 26 => ⟨S16896x256, .f32⟩
  | _ => ⟨S4x32, .f32⟩

abbrev hbmTy (i : Nat) : BufTy := match i / 128 with
  | 0 => hbmTy0_0 i
  | 1 => hbmTy0_1 i
  | _ => ⟨S4x32, .f32⟩

abbrev bufTy : (tb : Table) → Fin (tcTables nBuf tb) → BufTy
  | .hbm, ⟨i, _⟩ => hbmTy i
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_cst_11 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_12 : Ref sig .tc := ⟨.hbm, 101, rfl⟩
abbrev main_v84 : Ref sig .tc := ⟨.hbm, 102, rfl⟩
abbrev main_cst_13 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_14 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_15 : Ref sig .tc := ⟨.hbm, 115, rfl⟩
abbrev main_v95 : Ref sig .tc := ⟨.hbm, 116, rfl⟩
abbrev main_cst_16 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_17 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_18 : Ref sig .tc := ⟨.hbm, 136, rfl⟩
abbrev main_v113 : Ref sig .tc := ⟨.hbm, 137, rfl⟩
abbrev main_v114 : Ref sig .tc := ⟨.hbm, 138, rfl⟩
abbrev main_cst_19 : Ref sig .tc := ⟨.hbm, 139, rfl⟩
abbrev main_v115 : Ref sig .tc := ⟨.hbm, 140, rfl⟩
abbrev main_v116 : Ref sig .tc := ⟨.hbm, 141, rfl⟩
abbrev main_cst_20 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_21 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩

abbrev nD : Nat := 1
abbrev τ : Topo := Topo.v7x

variable {F : FTy → Type} [FloatOps F]
-- ==== Kernel9.lean ====
abbrev S16896x1024 : Shape := ⟨2, ![16896, 1024]⟩
abbrev S16896x64 : Shape := ⟨2, ![16896, 64]⟩
abbrev S2x64x1024x512 : Shape := ⟨4, ![2, 64, 1024, 512]⟩
abbrev S2x64x256x1024 : Shape := ⟨4, ![2, 64, 256, 1024]⟩
abbrev S1024x512 : Shape := ⟨2, ![1024, 512]⟩
abbrev S256x1024 : Shape := ⟨2, ![256, 1024]⟩
abbrev S2112x1024 : Shape := ⟨2, ![2112, 1024]⟩
abbrev S2112x64 : Shape := ⟨2, ![2112, 64]⟩
abbrev S1x2x1024x512 : Shape := ⟨4, ![1, 2, 1024, 512]⟩
abbrev S1x2x256x1024 : Shape := ⟨4, ![1, 2, 256, 1024]⟩
abbrev S2112x512 : Shape := ⟨2, ![2112, 512]⟩
abbrev S2112x256 : Shape := ⟨2, ![2112, 256]⟩
abbrev S2112 : Shape := ⟨1, ![2112]⟩
abbrev S2112x1 : Shape := ⟨2, ![2112, 1]⟩
abbrev S1x1x1024x512 : Shape := ⟨4, ![1, 1, 1024, 512]⟩
abbrev S1x1x256x1024 : Shape := ⟨4, ![1, 1, 256, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16896x1024, .f32⟩
  | .hbm, ⟨1, _⟩ => ⟨S16896x64, .f32⟩
  | .hbm, ⟨2, _⟩ => ⟨S2x64x1024x512, .f32⟩
  | .hbm, ⟨3, _⟩ => ⟨S2x64x256x1024, .f32⟩
  | .hbm, ⟨4, _⟩ => ⟨S1024x512, .f32⟩
  | .hbm, ⟨5, _⟩ => ⟨S256x1024, .f32⟩
  | .hbm, ⟨6, _⟩ => ⟨S16896x1024, .bf16⟩
  | .hbm, ⟨7, _⟩ => ⟨S1024x512, .bf16⟩
  | .hbm, ⟨8, _⟩ => ⟨S256x1024, .bf16⟩
  | .hbm, ⟨9, _⟩ => ⟨S16896x1024, .f32⟩
  | .local _ .vmem, ⟨0, _⟩ => ⟨S2112x1024, .bf16⟩
  | .local _ .vmem, ⟨1, _⟩ => ⟨S2112x1024, .bf16⟩
  | .local _ .vmem, ⟨2, _⟩ => ⟨S2112x64, .f32⟩
  | .local _ .vmem, ⟨3, _⟩ => ⟨S2112x64, .f32⟩
  | .local _ .vmem, ⟨4, _⟩ => ⟨S1x2x1024x512, .f32⟩
  | .local _ .vmem, ⟨5, _⟩ => ⟨S1x2x1024x512, .f32⟩
  | .local _ .vmem, ⟨6, _⟩ => ⟨S1x2x256x1024, .f32⟩
  | .local _ .vmem, ⟨7, _⟩ => ⟨S1x2x256x1024, .f32⟩
  | .local _ .vmem, ⟨8, _⟩ => ⟨S1024x512, .bf16⟩
  | .local _ .vmem, ⟨9, _⟩ => ⟨S256x1024, .bf16⟩
  | .local _ .vmem, ⟨10, _⟩ => ⟨S2112x1024, .f32⟩
  | .local _ .vmem, ⟨11, _⟩ => ⟨S2112x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2112x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2112x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference9Ideal.lean ====
abbrev S16896x1024 : Shape := ⟨2, ![16896, 1024]⟩
abbrev S16896x64 : Shape := ⟨2, ![16896, 64]⟩
abbrev S2x64x1024x512 : Shape := ⟨4, ![2, 64, 1024, 512]⟩
abbrev S2x64x256x1024 : Shape := ⟨4, ![2, 64, 256, 1024]⟩
abbrev S1024x512 : Shape := ⟨2, ![1024, 512]⟩
abbrev S256x1024 : Shape := ⟨2, ![256, 1024]⟩
abbrev S1x64x1024x512 : Shape := ⟨4, ![1, 64, 1024, 512]⟩
abbrev S64x1024x512 : Shape := ⟨3, ![64, 1024, 512]⟩
abbrev S64x512x16896 : Shape := ⟨3, ![64, 512, 16896]⟩
abbrev S64x16896x512 : Shape := ⟨3, ![64, 16896, 512]⟩
abbrev S64x16896x256 : Shape := ⟨3, ![64, 16896, 256]⟩
abbrev S_ : Shape := ⟨0, ![]⟩
abbrev S1x64x256x1024 : Shape := ⟨4, ![1, 64, 256, 1024]⟩
abbrev S64x256x1024 : Shape := ⟨3, ![64, 256, 1024]⟩
abbrev S64x16896x1024 : Shape := ⟨3, ![64, 16896, 1024]⟩
abbrev S16896x512 : Shape := ⟨2, ![16896, 512]⟩
abbrev S16896x256 : Shape := ⟨2, ![16896, 256]⟩

abbrev nBuf : Space → Nat
  | .hbm => 41
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x64, .f32⟩
  | .hbm, ⟨2, _⟩ => ⟨S2x64x1024x512, .f32⟩
  | .hbm, ⟨3, _⟩ => ⟨S2x64x256x1024, .f32⟩
  | .hbm, ⟨4, _⟩ => ⟨S1024x512, .f32⟩
  | .hbm, ⟨5, _⟩ => ⟨S256x1024, .f32⟩
  | .hbm, ⟨6, _⟩ => ⟨S1x64x1024x512, .f32⟩
  | .hbm, ⟨7, _⟩ => ⟨S64x1024x512, .f32⟩
  | .hbm, ⟨8, _⟩ => ⟨S64x512x16896, .f32⟩
  | .hbm, ⟨9, _⟩ => ⟨S64x16896x512, .f32⟩
  | .hbm, ⟨10, _⟩ => ⟨S64x16896x256, .f32⟩
  | .hbm, ⟨11, _⟩ => ⟨S64x16896x256, .f32⟩
  | .hbm, ⟨12, _⟩ => ⟨S64x16896x256, .f32⟩
  | .hbm, ⟨13, _⟩ => ⟨S_, .f32⟩
  | .hbm, ⟨14, _⟩ => ⟨S64x16896x256, .f32⟩
  | .hbm, ⟨15, _⟩ => ⟨S64x16896x256, .f32⟩
  | .hbm, ⟨16, _⟩ => ⟨S_, .f32⟩
  | .hbm, ⟨17, _⟩ => ⟨S64x16896x256, .f32⟩
  | .hbm, ⟨18, _⟩ => ⟨S64x16896x256, .f32⟩
  | .hbm, ⟨19, _⟩ => ⟨S64x16896x256, .f32⟩
  | .hbm, ⟨20, _⟩ => ⟨S64x16896x256, .f32⟩
  | .hbm, ⟨21, _⟩ => ⟨S64x16896x256, .f32⟩
  | .hbm, ⟨22, _⟩ => ⟨S1x64x256x1024, .f32⟩
  | .hbm, ⟨23, _⟩ => ⟨S64x256x1024, .f32⟩
  | .hbm, ⟨24, _⟩ => ⟨S64x16896x1024, .f32⟩
  | .hbm, ⟨25, _⟩ => ⟨S16896x512, .f32⟩
  | .hbm, ⟨26, _⟩ => ⟨S16896x1024, .f32⟩
  | .hbm, ⟨27, _⟩ => ⟨S16896x256, .f32⟩
  | .hbm, ⟨28, _⟩ => ⟨S16896x256, .f32⟩
  | .hbm, ⟨29, _⟩ => ⟨S16896x256, .f32⟩
  | .hbm, ⟨30, _⟩ => ⟨S_, .f32⟩
  | .hbm, ⟨31, _⟩ => ⟨S16896x256, .f32⟩
  | .hbm, ⟨32, _⟩ => ⟨S16896x256, .f32⟩
  | .hbm, ⟨33, _⟩ => ⟨S_, .f32⟩
  | .hbm, ⟨34, _⟩ => ⟨S16896x256, .f32⟩
  | .hbm, ⟨35, _⟩ => ⟨S16896x256, .f32⟩
  | .hbm, ⟨36, _⟩ => ⟨S16896x256, .f32⟩
  | .hbm, ⟨37, _⟩ => ⟨S16896x256, .f32⟩
  | .hbm, ⟨38, _⟩ => ⟨S16896x256, .f32⟩
  | .hbm, ⟨39, _⟩ => ⟨S16896x1024, .f32⟩
  | .hbm, ⟨40, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩

abbrev nD : Nat := 1
abbrev τ : Topo := Topo.v7x

variable {F : FTy → Type} [FloatOps F]
-- ==== Proof.DA.Math.lean ====
/-
  The mathematics of the proof, on extended reals and with no program in sight: a softmax whose maxima and sums are rescaled
  tile by tile (in powers of two) keeps, up to one positive factor, the weights of the softmax taken at once (in powers of
  e); and what the difference of two such softmaxes is after the normalisation, also where a softmax has no value.
-/
module

public import Idealize.ShloMosaic.Lib.Pointwise

@[expose] public section

noncomputable section

namespace Cert.DA

open Idealize.ShloMosaic
open scoped BigOperators

/-! ## Weights -/

/-- The weight of a logit `y` against the maximum `M`, in powers of two. -/
def wt (y M : EReal) : ℝ := (Ideal.exp2 (y - M)).toReal

/-- The weight of a logit `x` against the maximum `X`, in powers of e. -/
def we (x X : EReal) : ℝ := (Ideal.exp (x - X)).toReal

theorem wt_top (y : EReal) : wt y ⊤ = 0 := by
  unfold wt
  rcases eq_or_ne y ⊤ with h | h
  · subst h; simp [Ideal.exp2_bot, Ideal.exp2_top, Ideal.exp2_coe, show (⊤ : EReal) - ⊤ = ⊥ from rfl]
  · rw [EReal.sub_top]; simp [Ideal.exp2_bot, Ideal.exp2_top, Ideal.exp2_coe]

theorem wt_bot (M : EReal) : wt ⊥ M = 0 := by
  unfold wt; rw [EReal.bot_sub]; simp [Ideal.exp2_bot, Ideal.exp2_top, Ideal.exp2_coe]

theorem wt_coe (y M : ℝ) : wt y M = (2 : ℝ) ^ (y - M) := by
  unfold wt; rw [← EReal.coe_sub, Ideal.exp2_coe, EReal.toReal_coe]; rfl

theorem we_top (x : EReal) : we x ⊤ = 0 := by
  unfold we
  rw [EReal.sub_top]; simp [Ideal.exp_bot, Ideal.exp_top, Ideal.exp_coe]

theorem we_bot (X : EReal) : we ⊥ X = 0 := by
  unfold we; rw [EReal.bot_sub]; simp [Ideal.exp_bot, Ideal.exp_top, Ideal.exp_coe]

theorem we_coe (x X : ℝ) : we x X = Real.exp (x - X) := by
  unfold we; rw [← EReal.coe_sub, Ideal.exp_coe, EReal.toReal_coe]

/-- Against a maximum that is at least the logit, the exponential is a real. -/
theorem exp2_sub_eq (y M : EReal) (hM : M ≠ ⊥) (h : y ≤ M) : Ideal.exp2 (y - M) = ((wt y M : ℝ) : EReal) := by
  induction M with
  | bot => exact absurd rfl hM
  | top => rw [wt_top, EReal.sub_top]; simp [Ideal.exp2_bot, Ideal.exp2_top, Ideal.exp2_coe]
  | coe m =>
    induction y with
    | bot => rw [wt_bot, EReal.bot_sub]; simp [Ideal.exp2_bot, Ideal.exp2_top, Ideal.exp2_coe]
    | top => exact absurd h (not_le.mpr (EReal.coe_lt_top m))
    | coe r => rw [wt_coe, ← EReal.coe_sub, Ideal.exp2_coe]; rfl

theorem exp_sub_eq (x X : EReal) (h : x ≤ X) : Ideal.exp (x - X) = ((we x X : ℝ) : EReal) := by
  induction X with
  | bot => rw [le_bot_iff.mp h, we_bot, EReal.bot_sub]; simp [Ideal.exp_bot, Ideal.exp_top, Ideal.exp_coe]
  | top => rw [we_top, EReal.sub_top]; simp [Ideal.exp_bot, Ideal.exp_top, Ideal.exp_coe]
  | coe m =>
    induction x with
    | bot => rw [we_bot, EReal.bot_sub]; simp [Ideal.exp_bot, Ideal.exp_top, Ideal.exp_coe]
    | top => exact absurd h (not_le.mpr (EReal.coe_lt_top m))
    | coe r => rw [we_coe, ← EReal.coe_sub, Ideal.exp_coe]

/-- Weights compose: from the logit to one maximum, and from that to a later one. -/
theorem wt_mul (y M M' : EReal) (hM : M ≠ ⊥) (h : y ≤ M) (h' : M ≤ M') : wt y M * wt M M' = wt y M' := by
  induction M' with
  | bot => exact absurd (le_bot_iff.mp h') hM
  | top => rw [wt_top, wt_top, mul_zero]
  | coe m' =>
    induction M with
    | bot => exact absurd rfl hM
    | top => exact absurd h' (not_le.mpr (EReal.coe_lt_top m'))
    | coe m =>
      induction y with
      | bot => rw [wt_bot, wt_bot, zero_mul]
      | top => exact absurd h (not_le.mpr (EReal.coe_lt_top m))
      | coe r => rw [wt_coe, wt_coe, wt_coe, ← Real.rpow_add two_pos]; congr 1; ring

theorem we_nonneg (x X : EReal) : 0 ≤ we x X := by
  unfold we
  apply EReal.toReal_nonneg
  induction (x - X) with
  | bot => simp [Ideal.exp_bot, Ideal.exp_top, Ideal.exp_coe]
  | top => simp [Ideal.exp_bot, Ideal.exp_top, Ideal.exp_coe]
  | coe r => simp only [Ideal.exp_coe]; exact_mod_cast (Real.exp_pos r).le

/-! ## Maxima, tile by tile -/

/-- `M` is the maximum of `b` and the first `n` logits. -/
def Seen (b : ℝ) (y : ℕ → EReal) (n : ℕ) (M : EReal) : Prop :=
  (b : EReal) ≤ M ∧ (∀ k < n, y k ≤ M) ∧ (M = b ∨ ∃ k < n, M = y k)

theorem Seen.ne_bot {b : ℝ} {y : ℕ → EReal} {n : ℕ} {M : EReal} (h : Seen b y n M) : M ≠ ⊥ := by
  rintro rfl
  exact absurd h.1 (not_le.mpr (EReal.bot_lt_coe b))

theorem seen_zero (b : ℝ) (y : ℕ → EReal) : Seen b y 0 (b : EReal) :=
  ⟨le_rfl, fun k hk => absurd hk (Nat.not_lt_zero k), Or.inl rfl⟩

/-- The maximum over a finite family is one of its members, or `⊥`. -/
theorem fold_max_mem {ι : Type} (s : Finset ι) (f : ι → EReal) :
    s.fold max ⊥ f = ⊥ ∨ ∃ k ∈ s, s.fold max ⊥ f = f k := by
  classical
  induction s using Finset.induction_on with
  | empty => left; simp
  | insert a s ha ih =>
    rw [Finset.fold_insert ha]
    rcases le_total (f a) (s.fold max ⊥ f) with h | h
    · rw [max_eq_right h]
      rcases ih with ih | ⟨k, hk, e⟩
      · exact Or.inl ih
      · exact Or.inr ⟨k, Finset.mem_insert_of_mem hk, e⟩
    · rw [max_eq_left h]
      exact Or.inr ⟨a, Finset.mem_insert_self a s, rfl⟩

theorem le_fold_max {ι : Type} (s : Finset ι) (f : ι → EReal) (k : ι) (hk : k ∈ s) : f k ≤ s.fold max ⊥ f :=
  (Finset.le_fold_max (f k)).mpr (Or.inr ⟨k, hk, le_rfl⟩)

/-- One more tile of `K` logits. -/
theorem Seen.step {b : ℝ} {y : ℕ → EReal} {n : ℕ} {M : EReal} (h : Seen b y n M) (K : ℕ) :
    Seen b y (n + K) (max M (Finset.univ.fold max ⊥ (fun x : Fin K => y (n + x.val)))) := by
  refine ⟨h.1.trans (le_max_left _ _), fun k hk => ?_, ?_⟩
  · rcases Nat.lt_or_ge k n with hn | hn
    · exact (h.2.1 k hn).trans (le_max_left _ _)
    · refine le_trans ?_ (le_max_right _ _)
      have := le_fold_max Finset.univ (fun x : Fin K => y (n + x.val)) ⟨k - n, by omega⟩ (Finset.mem_univ _)
      simpa [Nat.add_sub_cancel' hn] using this
  · rcases le_total M (Finset.univ.fold max ⊥ (fun x : Fin K => y (n + x.val))) with hle | hle
    · rw [max_eq_right hle]
      rcases fold_max_mem Finset.univ (fun x : Fin K => y (n + x.val)) with e | ⟨k, -, e⟩
      · rw [e] at hle
        exact absurd (le_bot_iff.mp hle) h.ne_bot
      · exact Or.inr ⟨n + k.val, by omega, e⟩
    · rw [max_eq_left hle]
      rcases h.2.2 with e | ⟨k, hk, e⟩
      · exact Or.inl e
      · exact Or.inr ⟨k, by omega, e⟩

/-! ## Sums, tile by tile -/

/-- A finite sum of reals, seen as an extended real. -/
theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The weighted sum of the first `n` values against the maximum `M`. -/
def wsum (y : ℕ → EReal) (v : ℕ → ℝ) (n : ℕ) (M : EReal) : ℝ := ∑ k ∈ Finset.range n, wt (y k) M * v k

/-- One more tile: the old sum rescaled, plus the tile's own values against the new maximum. -/
theorem wsum_step {b : ℝ} {y : ℕ → EReal} {n : ℕ} {M : EReal} (h : Seen b y n M) (v : ℕ → ℝ) (K : ℕ) (M' : EReal)
    (h' : Seen b y (n + K) M') (hle : M ≤ M') :
    ((wsum y v n M : ℝ) : EReal) * Ideal.exp2 (M - M')
        + ∑ x : Fin K, ((v (n + x.val) : ℝ) : EReal) * Ideal.exp2 (y (n + x.val) - M')
      = ((wsum y v (n + K) M' : ℝ) : EReal) := by
  have e : ∀ x : Fin K, ((v (n + x.val) : ℝ) : EReal) * Ideal.exp2 (y (n + x.val) - M')
      = ((wt (y (n + x.val)) M' * v (n + x.val) : ℝ) : EReal) := fun x => by
    rw [exp2_sub_eq _ _ h'.ne_bot (h'.2.1 _ (by omega)), ← EReal.coe_mul, mul_comm]
  rw [Finset.sum_congr rfl (fun x _ => e x), ← coe_sum, exp2_sub_eq _ _ h'.ne_bot hle, ← EReal.coe_mul, ← EReal.coe_add,
    EReal.coe_eq_coe_iff]
  unfold wsum
  rw [Finset.sum_range_add, Finset.sum_mul, Finset.sum_range (fun x => wt (y (n + x)) M' * v (n + x))]
  congr 1
  refine Finset.sum_congr rfl fun k hk => ?_
  rw [← wt_mul (y k) M M' h.ne_bot (h.2.1 k (Finset.mem_range.mp hk)) hle]
  ring

/-! ## Multiplying by a positive real -/

/-- Multiplying by a nonnegative real passes through a finite sum of extended reals. -/
theorem coe_mul_sum {ι : Type} (s : Finset ι) (f : ι → EReal) (c : ℝ) (hc : 0 ≤ c) :
    (c : EReal) * ∑ k ∈ s, f k = ∑ k ∈ s, (c : EReal) * f k := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

/-! ## The two softmaxes have proportional weights -/

/-- The tile-by-tile weights are one positive multiple of the weights taken at once: the logits `s * t k` in powers of two
    against their running maximum, and `t k * r` in powers of e against their maximum, where `r = s * log 2`. -/
theorem wt_prop {b : ℝ} (t : ℕ → EReal) (N : ℕ) (s r : ℝ) (hs : 0 < s) (hr : r = s * Real.log 2) (M X : EReal)
    (hM : Seen b (fun k => (s : EReal) * t k) N M)
    (hX : ∀ k < N, t k * (r : EReal) ≤ X) (hX' : X = ⊥ ∨ ∃ k < N, X = t k * (r : EReal)) :
    ∃ c : ℝ, 0 < c ∧ ∀ k < N, wt ((s : EReal) * t k) M = c * we (t k * (r : EReal)) X := by
  have hr0 : 0 < r := by rw [hr]; exact mul_pos hs (Real.log_pos one_lt_two)
  have st : (s : EReal) * ⊤ = ⊤ := EReal.coe_mul_top_of_pos hs
  have sb : (s : EReal) * ⊥ = ⊥ := EReal.coe_mul_bot_of_pos hs
  have rt : ⊤ * (r : EReal) = ⊤ := EReal.top_mul_coe_of_pos hr0
  have rb : ⊥ * (r : EReal) = ⊥ := EReal.bot_mul_coe_of_pos hr0
  by_cases htop : ∃ k < N, t k = ⊤
  · obtain ⟨k, hk, e⟩ := htop
    have hMt : M = ⊤ := by
      have := hM.2.1 k hk
      simp only [e, st] at this
      exact top_le_iff.mp this
    have hXt : X = ⊤ := by
      have := hX k hk
      rw [e, rt] at this
      exact top_le_iff.mp this
    refine ⟨1, one_pos, fun k _ => ?_⟩
    rw [hMt, hXt, wt_top, we_top, mul_zero]
  · have htop : ∀ k < N, t k ≠ ⊤ := fun k hk e => htop ⟨k, hk, e⟩
    have hMc : ∃ m : ℝ, M = m := by
      rcases hM.2.2 with e | ⟨k, hk, e⟩
      · exact ⟨b, e⟩
      · have hb := hM.ne_bot
        have ht := htop k hk
        dsimp only at e
        revert e ht
        induction t k with
        | bot => intro e _; exact absurd (e.trans sb) hb
        | top => intro _ ht; exact absurd rfl ht
        | coe z => intro e _; exact ⟨s * z, by rw [e, EReal.coe_mul]⟩
    obtain ⟨m, rfl⟩ := hMc
    by_cases hXb : X = ⊥
    · refine ⟨1, one_pos, fun k hk => ?_⟩
      have h1 := hX k hk
      have ht := htop k hk
      rw [hXb] at h1 ⊢
      revert h1 ht
      induction t k with
      | bot => intro _ _; rw [sb, rb, wt_bot, we_bot, mul_zero]
      | top => intro _ ht; exact absurd rfl ht
      | coe z => intro h1 _; rw [← EReal.coe_mul] at h1; exact absurd (le_bot_iff.mp h1) (EReal.coe_ne_bot _)
    · have hXc : ∃ x : ℝ, X = x := by
        rcases hX' with e | ⟨k, hk, e⟩
        · exact absurd e hXb
        · have ht := htop k hk
          revert e ht
          induction t k with
          | bot => intro e _; exact absurd (e.trans rb) hXb
          | top => intro _ ht; exact absurd rfl ht
          | coe z => intro e _; exact ⟨z * r, by rw [e, EReal.coe_mul]⟩
      obtain ⟨x, rfl⟩ := hXc
      refine ⟨Real.exp x * (2 : ℝ) ^ (-m), mul_pos (Real.exp_pos x) (Real.rpow_pos_of_pos two_pos _), fun k hk => ?_⟩
      have ht := htop k hk
      revert ht
      induction t k with
      | bot => intro _; rw [sb, rb, wt_bot, we_bot, mul_zero]
      | top => intro ht; exact absurd rfl ht
      | coe z =>
        intro _
        rw [← EReal.coe_mul, ← EReal.coe_mul, wt_coe, we_coe, Real.rpow_def_of_pos two_pos, Real.rpow_def_of_pos two_pos,
          ← Real.exp_add, ← Real.exp_add, hr]
        congr 1
        ring

/-! ## The difference of two softmaxes, normalised -/

/-- The normalisation over 64 entries, at one entry. -/
def nrm (C E : EReal) (o : Fin 64 → EReal) (d : Fin 64) : EReal :=
  o d * Ideal.rsqrt (Ideal.div (∑ x, o x * o x) C + E)

theorem rsqrt_top : Ideal.rsqrt ⊤ = 0 := rfl

/-- A sum of squares-like terms with a `⊤` and no `⊥` is `⊤`. -/
theorem sum_eq_top {ι : Type} (s : Finset ι) (f : ι → EReal) (hb : ∀ k ∈ s, f k ≠ ⊥) (k : ι) (hk : k ∈ s) (ht : f k = ⊤) :
    ∑ k ∈ s, f k = ⊤ := by
  classical
  rw [← Finset.add_sum_erase s f hk, ht]
  apply EReal.top_add_of_ne_bot
  have : ∀ u : Finset ι, u ⊆ s → ∑ k ∈ u, f k ≠ ⊥ := by
    intro u
    induction u using Finset.induction_on with
    | empty => intro _; simp
    | insert a u ha ih =>
      intro hu
      rw [Finset.sum_insert ha, Ne, EReal.add_eq_bot_iff]
      exact not_or.mpr ⟨hb a (hu (Finset.mem_insert_self a u)), ih (fun z hz => hu (Finset.mem_insert_of_mem hz))⟩
  exact this _ (Finset.erase_subset k s)

/-- Where every entry is `0` or infinite, the normalised entries are all zero. -/
theorem nrm_inf (C : ℝ) (hC : 0 < C) (E : EReal) (hE : E ≠ ⊥) (o : Fin 64 → EReal)
    (ho : ∀ d, o d = 0 ∨ o d = ⊤ ∨ o d = ⊥) (d : Fin 64) : nrm (C : EReal) E o d = 0 := by
  unfold nrm
  by_cases hz : ∀ x, o x = 0
  · rw [hz d, zero_mul]
  · obtain ⟨x, hx⟩ := not_forall.mp hz
    have hsq : ∀ y, o y * o y = 0 ∨ o y * o y = ⊤ := fun y => by
      rcases ho y with e | e | e <;> rw [e] <;> simp
    have hxt : o x * o x = ⊤ := by
      rcases ho x with e | e | e
      · exact absurd e hx
      · rw [e]; simp
      · rw [e]; simp
    have hs : ∑ x, o x * o x = ⊤ := sum_eq_top Finset.univ _ (fun y _ => by
      rcases hsq y with e | e <;> rw [e] <;> simp) x (Finset.mem_univ x) hxt
    have hC' : (C : EReal) ≠ 0 := by exact_mod_cast hC.ne'
    rw [hs, Ideal.div, if_neg hC', ← EReal.coe_inv, EReal.top_mul_coe_of_pos (inv_pos.mpr hC),
      EReal.top_add_of_ne_bot hE, rsqrt_top, mul_zero]

theorem div_coe (x y : ℝ) (h : y ≠ 0) : Ideal.div (x : EReal) (y : EReal) = ((x / y : ℝ) : EReal) := by
  have hy : (y : EReal) ≠ 0 := by exact_mod_cast h
  rw [Ideal.div, if_neg hy, ← EReal.coe_inv, ← EReal.coe_mul, div_eq_mul_inv]

theorem div_zero_zero : Ideal.div ((0 : ℝ) : EReal) ((0 : ℝ) : EReal) = ⊥ := by
  simp [Ideal.div]

/-- An infinity times a real is `0` or infinite. -/
theorem bot_mul_coe_cases (v : ℝ) : (⊥ : EReal) * (v : EReal) = 0 ∨ (⊥ : EReal) * (v : EReal) = ⊤ ∨ (⊥ : EReal) * (v : EReal) = ⊥ := by
  rcases lt_trichotomy v 0 with h | h | h
  · right; left; exact EReal.bot_mul_coe_of_neg h
  · left; rw [h]; simp
  · right; right; exact EReal.bot_mul_coe_of_pos h

theorem top_mul_coe_cases (v : ℝ) : (⊤ : EReal) * (v : EReal) = 0 ∨ (⊤ : EReal) * (v : EReal) = ⊤ ∨ (⊤ : EReal) * (v : EReal) = ⊥ := by
  rcases lt_trichotomy v 0 with h | h | h
  · right; right; exact EReal.top_mul_coe_of_neg h
  · left; rw [h]; simp
  · right; left; exact EReal.top_mul_coe_of_pos h

/-- A sum of terms that are each `0` or infinite is `0` or infinite. -/
theorem sum_inf {ι : Type} (s : Finset ι) (f : ι → EReal) (hf : ∀ k ∈ s, f k = 0 ∨ f k = ⊤ ∨ f k = ⊥) :
    ∑ k ∈ s, f k = 0 ∨ ∑ k ∈ s, f k = ⊤ ∨ ∑ k ∈ s, f k = ⊥ := by
  classical
  induction s using Finset.induction_on with
  | empty => left; simp
  | insert a s ha ih =>
    rw [Finset.sum_insert ha]
    have h1 := hf a (Finset.mem_insert_self a s)
    have h2 := ih (fun k hk => hf k (Finset.mem_insert_of_mem hk))
    rcases h1 with e | e | e <;> rcases h2 with e' | e' | e' <;> rw [e, e'] <;> simp

/-- The difference of two softmaxes applied to values: by numerators and denominators (scaled by any positive factors) or
    by the difference of the weights, the normalised entries are the same, also where a denominator is zero. -/
theorem diff_nrm {ι : Type} [Fintype ι] (C : ℝ) (hC : 0 < C) (E : EReal) (hE : E ≠ ⊥) (lam : ℝ)
    (u1 u2 w1 w2 : ι → ℝ) (c1 c2 : ℝ) (hc1 : 0 < c1) (hc2 : 0 < c2) (h1 : ∀ k, w1 k = c1 * u1 k) (h2 : ∀ k, w2 k = c2 * u2 k)
    (n1 : ∀ k, 0 ≤ u1 k) (n2 : ∀ k, 0 ≤ u2 k) (v : ι → Fin 64 → ℝ) (d : Fin 64) :
    nrm (C : EReal) E (fun d => Ideal.div ((∑ k, w1 k * v k d : ℝ) : EReal) ((∑ k, w1 k : ℝ) : EReal)
        - (lam : EReal) * Ideal.div ((∑ k, w2 k * v k d : ℝ) : EReal) ((∑ k, w2 k : ℝ) : EReal)) d
      = nrm (C : EReal) E (fun d => ∑ k, (Ideal.div (u1 k : EReal) ((∑ k, u1 k : ℝ) : EReal)
        - (lam : EReal) * Ideal.div (u2 k : EReal) ((∑ k, u2 k : ℝ) : EReal)) * (v k d : EReal)) d := by
  have s1 : ∑ k, w1 k = c1 * ∑ k, u1 k := by rw [Finset.mul_sum]; exact Finset.sum_congr rfl fun k _ => h1 k
  have s2 : ∑ k, w2 k = c2 * ∑ k, u2 k := by rw [Finset.mul_sum]; exact Finset.sum_congr rfl fun k _ => h2 k
  have v1 : ∀ d, ∑ k, w1 k * v k d = c1 * ∑ k, u1 k * v k d := fun d => by
    rw [Finset.mul_sum]; exact Finset.sum_congr rfl fun k _ => by rw [h1 k, mul_assoc]
  have v2 : ∀ d, ∑ k, w2 k * v k d = c2 * ∑ k, u2 k * v k d := fun d => by
    rw [Finset.mul_sum]; exact Finset.sum_congr rfl fun k _ => by rw [h2 k, mul_assoc]
  have z1 : ∑ k, u1 k = 0 → ∀ k, u1 k = 0 := fun h k =>
    (Finset.sum_eq_zero_iff_of_nonneg (fun k _ => n1 k)).mp h k (Finset.mem_univ k)
  have z2 : ∑ k, u2 k = 0 → ∀ k, u2 k = 0 := fun h k =>
    (Finset.sum_eq_zero_iff_of_nonneg (fun k _ => n2 k)).mp h k (Finset.mem_univ k)
  simp only [s1, s2, v1, v2]
  by_cases d1 : ∑ k, u1 k = 0
  · -- the first softmax has no value: `⊥` at every entry and at every key
    have e1 : ∀ d, ∑ k, u1 k * v k d = 0 := fun d => Finset.sum_eq_zero fun k _ => by rw [z1 d1 k, zero_mul]
    have e1' : ∀ k, u1 k = 0 := z1 d1
    rw [nrm_inf C hC E hE _ (fun d => ?_), nrm_inf C hC E hE _ (fun d => ?_)]
    · refine sum_inf _ _ fun k _ => ?_
      rw [d1, e1' k, div_zero_zero, EReal.bot_sub]
      exact bot_mul_coe_cases _
    · right; right
      rw [d1, e1 d, mul_zero, div_zero_zero, EReal.bot_sub]
  · have q1 : c1 * ∑ k, u1 k ≠ 0 := mul_ne_zero hc1.ne' d1
    by_cases d2 : ∑ k, u2 k = 0
    · have e2 : ∀ d, ∑ k, u2 k * v k d = 0 := fun d => Finset.sum_eq_zero fun k _ => by rw [z2 d2 k, zero_mul]
      have e2' : ∀ k, u2 k = 0 := z2 d2
      rcases lt_trichotomy lam 0 with hl | hl | hl
      · rw [nrm_inf C hC E hE _ (fun d => ?_), nrm_inf C hC E hE _ (fun d => ?_)]
        · refine sum_inf _ _ fun k _ => ?_
          rw [d2, e2' k, div_zero_zero, EReal.coe_mul_bot_of_neg hl, div_coe _ _ d1, EReal.sub_top]
          exact bot_mul_coe_cases _
        · right; right
          rw [d2, e2 d, mul_zero, div_zero_zero, EReal.coe_mul_bot_of_neg hl, EReal.sub_top]
      · subst hl
        congr 1
        funext d
        simp only [EReal.coe_zero, zero_mul, sub_zero]
        rw [div_coe _ _ q1]
        have : ∀ k, Ideal.div (u1 k : EReal) ((∑ k, u1 k : ℝ) : EReal) * (v k d : EReal)
            = ((u1 k / (∑ k, u1 k) * v k d : ℝ) : EReal) := fun k => by rw [div_coe _ _ d1, EReal.coe_mul]
        rw [Finset.sum_congr rfl (fun k _ => this k), ← coe_sum, EReal.coe_eq_coe_iff, mul_div_mul_left _ _ hc1.ne',
          Finset.sum_div]
        exact Finset.sum_congr rfl fun k _ => by ring
      · have nb : ∀ x : ℝ, (x : EReal) - ⊥ = ⊤ := fun x => EReal.coe_sub_bot x
        rw [nrm_inf C hC E hE _ (fun d => ?_), nrm_inf C hC E hE _ (fun d => ?_)]
        · refine sum_inf _ _ fun k _ => ?_
          rw [d2, e2' k, div_zero_zero, EReal.coe_mul_bot_of_pos hl, div_coe _ _ d1, nb]
          exact top_mul_coe_cases _
        · right; left
          rw [d2, e2 d, mul_zero, div_zero_zero, EReal.coe_mul_bot_of_pos hl, div_coe _ _ q1, nb]
    · have q2 : c2 * ∑ k, u2 k ≠ 0 := mul_ne_zero hc2.ne' d2
      congr 1
      funext d
      rw [div_coe _ _ q1, div_coe _ _ q2, ← EReal.coe_mul, ← EReal.coe_sub]
      have : ∀ k, (Ideal.div (u1 k : EReal) ((∑ k, u1 k : ℝ) : EReal)
          - (lam : EReal) * Ideal.div (u2 k : EReal) ((∑ k, u2 k : ℝ) : EReal)) * (v k d : EReal)
          = (((u1 k / (∑ k, u1 k) - lam * (u2 k / ∑ k, u2 k)) * v k d : ℝ) : EReal) := fun k => by
        rw [div_coe _ _ d1, div_coe _ _ d2, EReal.coe_mul, EReal.coe_sub, EReal.coe_mul]
      rw [Finset.sum_congr rfl (fun k _ => this k), ← coe_sum, EReal.coe_eq_coe_iff, mul_div_mul_left _ _ hc1.ne',
        mul_div_mul_left _ _ hc2.ne', Finset.sum_div, Finset.sum_div, Finset.mul_sum, ← Finset.sum_sub_distrib]
      exact Finset.sum_congr rfl fun k _ => by ring

end Cert.DA
-- ==== Proof.DA.Data.lean ====
/-
  The attention's result at an index, twice: from the sums over the keys seen that the kernel keeps, and from the two softmaxes
  of the reference. The two are equal when the values and the factor lambda are real.
-/
module

public import proofs.«01_k».proof.Proof.DA.Math

@[expose] public section

noncomputable section

namespace Cert.DA

open Idealize.ShloMosaic

/-- Pairs with equal coordinates are equal. -/
theorem ix2_congr {n k : ℕ} {a a' : Fin n} {b b' : Fin k} (h : a.val = a'.val) (h' : b.val = b'.val) : ix2 a b = ix2 a' b' := by
  rw [Fin.ext h, Fin.ext h']

/-- The row of position `n` of sequence `b`. -/
def row (b : Fin 2) (n : Fin 8448) : Fin 16896 := ⟨b.val * 8448 + n.val, by omega⟩

/-- The column of component `l` of map `e` of head `h`. -/
def lane (h : Fin 4) (e : Fin 2) (l : Fin 32) : Fin 256 := ⟨h.val * 64 + e.val * 32 + l.val, by omega⟩

/-- The column of component `d` of head `h`. -/
def col (h : Fin 4) (d : Fin 64) : Fin 256 := ⟨h.val * 64 + d.val, by omega⟩

/-- How many keys query `n` sees. -/
def keys (n : Fin 8448) : ℕ := if n.val < 256 then 256 else 8448

section

variable (a0 : Fin 4 → Fin 32 → EReal) (a1 : Fin 16896 → Fin 1024 → EReal) (a2 : Fin 16896 → Fin 256 → EReal) (a3 : Fin 64 → EReal)

/-- The product of query `n` and key `k` in map `e` of head `h`. -/
def dotp (b : Fin 2) (h : Fin 4) (e : Fin 2) (n : Fin 8448) (k : ℕ) : EReal :=
  if hk : k < 8448 then
    ∑ l : Fin 32, a1 (row b n) ⟨(lane h e l).val, by have := (lane h e l).isLt; omega⟩
      * a1 (row b ⟨k, hk⟩) ⟨256 + (lane h e l).val, by have := (lane h e l).isLt; omega⟩
  else 0

/-- Component `d` of value `k` of head `h`. -/
def vvec (b : Fin 2) (h : Fin 4) (d : Fin 64) (k : ℕ) : EReal :=
  if hk : k < 8448 then a2 (row b ⟨k, hk⟩) (col h d) else 0

/-- The factor of the second softmax. -/
def lamOf : EReal :=
  Ideal.exp (∑ x, a0 0 x * a0 1 x) - Ideal.exp (∑ x, a0 2 x * a0 3 x) + Ideal.ofBits .f32 1045220557#32

/-- The reference's factor of the products. -/
def rr : EReal := Ideal.div 1 (Ideal.sqrt (Ideal.ofBits .f32 1107296256#32))

/-- The greatest of the first `K` logits. -/
def mx (x : ℕ → EReal) (K : ℕ) : EReal :=
  max (Ideal.ofBits .f32 4286578688#32)
    (Finset.fold max (Ideal.ofBits .f32 4286578688#32) (fun j : Fin K => x j.val) Finset.univ)

/-- The softmax of the first `K` logits. -/
def sm (x : ℕ → EReal) (K : ℕ) (k : ℕ) : EReal :=
  Ideal.div (Ideal.exp (x k - mx x K)) (∑ j : Fin K, Ideal.exp (x j.val - mx x K))

/-- The difference of the two softmaxes, applied to the values. -/
def attn (b : Fin 2) (n : Fin 8448) (h : Fin 4) (K : ℕ) (d : Fin 64) : EReal :=
  ∑ k : Fin K, vvec a2 b h d k.val
    * (sm (fun k => dotp a1 b h 0 n k * rr) K k.val - lamOf a0 * sm (fun k => dotp a1 b h 1 n k * rr) K k.val)

/-- The reference's result at an index, for a query that sees the first `K` keys. -/
def refVal (b : Fin 2) (n : Fin 8448) (h : Fin 4) (K : ℕ) (d : Fin 64) : EReal :=
  nrm (Ideal.ofBits .f32 1115684864#32) (Ideal.ofBits .f32 897988541#32) (attn a0 a1 a2 b n h K) d * a3 d
    * Ideal.ofBits .f32 1061997773#32

end

theorem negInf : Ideal.ofBits .f32 4286578688#32 = ⊥ := by simp [Ideal.ofBits, Ideal.ieee]

theorem le_mx (x : ℕ → EReal) (K k : ℕ) (hk : k < K) : x k ≤ mx x K := by
  unfold mx
  rw [negInf]
  exact le_max_of_le_right (le_fold_max Finset.univ (fun j : Fin K => x j.val) ⟨k, hk⟩ (Finset.mem_univ _))

theorem mx_mem (x : ℕ → EReal) (K : ℕ) : mx x K = ⊥ ∨ ∃ k < K, mx x K = x k := by
  unfold mx
  rw [negInf]
  rw [max_eq_right bot_le]
  rcases fold_max_mem Finset.univ (fun j : Fin K => x j.val) with h | ⟨k, _, h⟩
  · exact Or.inl h
  · exact Or.inr ⟨k.val, k.isLt, h⟩

/-- A softmax's weight, from the real weights. -/
theorem sm_eq (x : ℕ → EReal) (K k : ℕ) (hk : k < K) :
    sm x K k = Ideal.div ((we (x k) (mx x K) : ℝ) : EReal) ((∑ j : Fin K, we (x j.val) (mx x K) : ℝ) : EReal) := by
  unfold sm
  rw [exp_sub_eq _ _ (le_mx x K k hk), coe_sum]
  refine congrArg _ (Finset.sum_congr rfl fun j _ => ?_)
  exact exp_sub_eq _ _ (le_mx x K j.val j.isLt)

/-- The kernel's normalised difference of quotients is the reference's normalised weighted sum. -/
theorem heads_eq (C : ℝ) (hC : 0 < C) (E : EReal) (hE : E ≠ ⊥) (lam : ℝ) (s r b1 : ℝ) (hs : 0 < s) (hr : r = s * Real.log 2)
    (t1 t2 y1 y2 : ℕ → EReal) (vs : Fin 64 → ℕ → ℝ) (one1 one2 : ℕ → ℝ) (va : Fin 64 → ℕ → EReal) (vs' : Fin 64 → ℕ → ℝ) (K : ℕ)
    (hy1 : ∀ k < K, y1 k = ↑s * t1 k) (hy2 : ∀ k < K, y2 k = ↑s * t2 k)
    (ho1 : ∀ k < K, one1 k = 1) (ho2 : ∀ k < K, one2 k = 1)
    (hv : ∀ d, ∀ k < K, va d k = ((vs d k : ℝ) : EReal)) (hv' : ∀ d, ∀ k < K, vs' d k = vs d k)
    (M1 M2 : EReal) (h1 : Seen b1 y1 K M1) (h2 : Seen b1 y2 K M2) (d : Fin 64) :
    nrm ((C : ℝ) : EReal) E (fun d => Ideal.div ((wsum y1 (vs d) K M1 : ℝ) : EReal) ((wsum y1 one1 K M1 : ℝ) : EReal)
        - ((lam : ℝ) : EReal) * Ideal.div ((wsum y2 (vs' d) K M2 : ℝ) : EReal) ((wsum y2 one2 K M2 : ℝ) : EReal)) d
      = nrm ((C : ℝ) : EReal) E (fun d => ∑ k : Fin K, va d k.val
          * (sm (fun k => t1 k * ↑r) K k.val - ((lam : ℝ) : EReal) * sm (fun k => t2 k * ↑r) K k.val)) d := by
  have seen : ∀ (t y : ℕ → EReal) (M : EReal), (∀ k < K, y k = ↑s * t k) → Seen b1 y K M → Seen b1 (fun k => ↑s * t k) K M := by
    intro t y M hy h
    refine ⟨h.1, fun k hk => (hy k hk).symm.le.trans (h.2.1 k hk), ?_⟩
    rcases h.2.2 with h | ⟨k, hk, h⟩
    · exact Or.inl h
    · exact Or.inr ⟨k, hk, h.trans (hy k hk)⟩
  obtain ⟨c1, hc1, e1⟩ := wt_prop t1 K s r hs hr M1 (mx (fun k => t1 k * ↑r) K) (seen t1 y1 M1 hy1 h1)
    (fun k hk => le_mx (fun k => t1 k * ↑r) K k hk) (mx_mem (fun k => t1 k * ↑r) K)
  obtain ⟨c2, hc2, e2⟩ := wt_prop t2 K s r hs hr M2 (mx (fun k => t2 k * ↑r) K) (seen t2 y2 M2 hy2 h2)
    (fun k hk => le_mx (fun k => t2 k * ↑r) K k hk) (mx_mem (fun k => t2 k * ↑r) K)
  have num : ∀ (y t : ℕ → EReal) (M : EReal) (f g : ℕ → ℝ), (∀ k < K, y k = ↑s * t k) → (∀ k < K, f k = g k) →
      wsum y f K M = ∑ k : Fin K, wt (↑s * t k.val) M * g k.val := by
    intro y t M f g hy hf
    unfold wsum
    rw [← Fin.sum_univ_eq_sum_range (fun k => wt (y k) M * f k) K]
    exact Finset.sum_congr rfl fun k _ => by rw [hy k.val k.isLt, hf k.val k.isLt]
  have key := diff_nrm C hC E hE lam (fun k : Fin K => we (t1 k.val * ↑r) (mx (fun k => t1 k * ↑r) K))
    (fun k : Fin K => we (t2 k.val * ↑r) (mx (fun k => t2 k * ↑r) K))
    (fun k : Fin K => wt (↑s * t1 k.val) M1) (fun k : Fin K => wt (↑s * t2 k.val) M2) c1 c2 hc1 hc2
    (fun k => e1 k.val k.isLt) (fun k => e2 k.val k.isLt) (fun k => we_nonneg _ _) (fun k => we_nonneg _ _)
    (fun k d => vs d k.val) d
  have lhs : (fun d : Fin 64 => Ideal.div ((wsum y1 (vs d) K M1 : ℝ) : EReal) ((wsum y1 one1 K M1 : ℝ) : EReal)
        - ((lam : ℝ) : EReal) * Ideal.div ((wsum y2 (vs' d) K M2 : ℝ) : EReal) ((wsum y2 one2 K M2 : ℝ) : EReal))
      = fun d => Ideal.div ((∑ k : Fin K, wt (↑s * t1 k.val) M1 * vs d k.val : ℝ) : EReal) ((∑ k : Fin K, wt (↑s * t1 k.val) M1 : ℝ) : EReal)
        - ((lam : ℝ) : EReal) * Ideal.div ((∑ k : Fin K, wt (↑s * t2 k.val) M2 * vs d k.val : ℝ) : EReal) ((∑ k : Fin K, wt (↑s * t2 k.val) M2 : ℝ) : EReal) := by
    funext d
    rw [num y1 t1 M1 (vs d) (vs d) hy1 (fun _ _ => rfl), num y1 t1 M1 one1 (fun _ => 1) hy1 ho1,
      num y2 t2 M2 (vs' d) (vs d) hy2 (hv' d), num y2 t2 M2 one2 (fun _ => 1) hy2 ho2]
    simp only [mul_one]
  rw [lhs, key]
  refine congrArg (fun f => nrm ((C : ℝ) : EReal) E f d) (funext fun d => Finset.sum_congr rfl fun k _ => ?_)
  rw [hv d k.val k.isLt, sm_eq _ K k.val k.isLt, sm_eq _ K k.val k.isLt, mul_comm]

end Cert.DA

end
-- ==== Proof.DA.Ref.lean ====
/-
  The reference's result read at an index.
-/
module

public import proofs.«01_k».proof.Proof.Gen.ReferenceIdeal.Read
public import proofs.«01_k».proof.Proof.DA.Data

@[expose] public section

set_option maxRecDepth 16384

noncomputable section

namespace Cert.DA

open Idealize.ShloMosaic Idealize.SL.Sem Cert.ReferenceIdeal Cert.ReferenceIdeal.Gen Cert.ReferenceIdeal.Read

variable (A0 : (⟨S4x32, .f32⟩ : BufTy).Contents (Elt Ideal)) (A1 : (⟨S16896x1024, .f32⟩ : BufTy).Contents (Elt Ideal))
  (A2 : (⟨S16896x256, .f32⟩ : BufTy).Contents (Elt Ideal)) (A3 : (⟨S64, .f32⟩ : BufTy).Contents (Elt Ideal))

/-- The arrays' elements by their coordinates. -/
abbrev f0 (i : Fin 4) (j : Fin 32) : EReal := A0 (ix2 i j)
@[inherit_doc f0] abbrev f1 (i : Fin 16896) (j : Fin 1024) : EReal := A1 (ix2 i j)
@[inherit_doc f0] abbrev f2 (i : Fin 16896) (j : Fin 256) : EReal := A2 (ix2 i j)
@[inherit_doc f0] abbrev f3 (i : Fin 64) : EReal := A3 (ix1 i)

/-- The logits of the first 256 queries, first map. -/
theorem x32 (b : Fin 2) (h : Fin 4) (q k : Fin 256) :
    val_main_v32 (F := Ideal) A1 (ix4 b h q k) = dotp (f1 A1) b h 0 ⟨q.val, by omega⟩ k.val * rr := by
  pointwise [val_main_v32, val_main_v31, val_main_v30, val_main_v29, val_main_v28, val_main_v27, val_main_v26, val_main_v25,
    val_main_v24, val_main_v22, val_main_v21, val_main_v3, val_main_v2, val_main_v1, val_main_v0, val_main_cst_2, val_main_cst_3]
  unfold dotp rr
  rw [dif_pos (show k.val < 8448 by omega)]
  refine congrArg (· * _) (Finset.sum_congr rfl fun l _ => congrArg₂ (· * ·) (congrArg A1 (ix2_congr rfl ?_)) (congrArg A1 (ix2_congr rfl ?_)))
  · exact (by omega : h.val * 64 + l.val = h.val * 64 + 0 * 32 + l.val)
  · exact congrArg (256 + ·) (by omega : h.val * 64 + l.val = h.val * 64 + 0 * 32 + l.val)

/-- The logits of the first 256 queries, second map. -/
theorem x39 (b : Fin 2) (h : Fin 4) (q k : Fin 256) :
    val_main_v39 (F := Ideal) A1 (ix4 b h q k) = dotp (f1 A1) b h 1 ⟨q.val, by omega⟩ k.val * rr := by
  pointwise [val_main_v39, val_main_v38, val_main_v37, val_main_v36, val_main_v35, val_main_v34, val_main_v33, val_main_v25,
    val_main_v24, val_main_v22, val_main_v21, val_main_v3, val_main_v2, val_main_v1, val_main_v0, val_main_cst_2, val_main_cst_3]
  unfold dotp rr
  rw [dif_pos (show k.val < 8448 by omega)]
  refine congrArg (· * _) (Finset.sum_congr rfl fun l _ => congrArg₂ (· * ·) (congrArg A1 (ix2_congr rfl ?_)) (congrArg A1 (ix2_congr rfl ?_)))
  · exact (by omega : h.val * 64 + 32 + l.val = h.val * 64 + 1 * 32 + l.val)
  · exact congrArg (256 + ·) (by omega : h.val * 64 + 32 + l.val = h.val * 64 + 1 * 32 + l.val)

/-- The logits of the later queries, first map. -/
theorem x76 (b : Fin 2) (h : Fin 4) (q : Fin 8192) (k : Fin 8448) :
    val_main_v76 (F := Ideal) A1 (ix4 b h q k) = dotp (f1 A1) b h 0 ⟨256 + q.val, by omega⟩ k.val * rr := by
  pointwise [val_main_v76, val_main_v75, val_main_v74, val_main_v73, val_main_v72, val_main_v71, val_main_v70, val_main_v69,
    val_main_v68, val_main_v67, val_main_v3, val_main_v2, val_main_v1, val_main_v0, val_main_cst_10, val_main_cst_11]
  unfold dotp rr
  rw [dif_pos (show k.val < 8448 by omega)]
  refine congrArg (· * _) (Finset.sum_congr rfl fun l _ => congrArg₂ (· * ·) (congrArg A1 (ix2_congr rfl ?_)) (congrArg A1 (ix2_congr rfl ?_)))
  · exact (by omega : h.val * 64 + l.val = h.val * 64 + 0 * 32 + l.val)
  · exact congrArg (256 + ·) (by omega : h.val * 64 + l.val = h.val * 64 + 0 * 32 + l.val)

/-- The logits of the later queries, second map. -/
theorem x83 (b : Fin 2) (h : Fin 4) (q : Fin 8192) (k : Fin 8448) :
    val_main_v83 (F := Ideal) A1 (ix4 b h q k) = dotp (f1 A1) b h 1 ⟨256 + q.val, by omega⟩ k.val * rr := by
  pointwise [val_main_v83, val_main_v82, val_main_v81, val_main_v80, val_main_v79, val_main_v78, val_main_v77, val_main_v69,
    val_main_v68, val_main_v67, val_main_v3, val_main_v2, val_main_v1, val_main_v0, val_main_cst_10, val_main_cst_11]
  unfold dotp rr
  rw [dif_pos (show k.val < 8448 by omega)]
  refine congrArg (· * _) (Finset.sum_congr rfl fun l _ => congrArg₂ (· * ·) (congrArg A1 (ix2_congr rfl ?_)) (congrArg A1 (ix2_congr rfl ?_)))
  · exact (by omega : h.val * 64 + 32 + l.val = h.val * 64 + 1 * 32 + l.val)
  · exact congrArg (256 + ·) (by omega : h.val * 64 + 32 + l.val = h.val * 64 + 1 * 32 + l.val)

/-- A fold of the maximum over the logits, written with a named starting value. -/
theorem mx_of (K : ℕ) (w : EReal) (hw : w = Ideal.ofBits .f32 4286578688#32) (x : ℕ → EReal) (f : Fin K → EReal)
    (hf : f = fun k : Fin K => x k.val) : max w (Finset.univ.fold max w f) = mx x K := by
  rw [hw, hf]
  rfl

/-- The greatest logit of each of the first 256 queries. -/
def topA (y : FVec Ideal S2x4x256x256 .f32) : FVec Ideal S2x4x256 .f32 :=
  maximumf (broadcastInDim S2x4x256 ![] bcast_S_S2x4x256 (constant S_ .f32 0xFF800000#32))
    (Host.reduce FloatOps.maximumf y (constant S_ .f32 0xFF800000#32) reducesTo_S2x4x256x256_S2x4x256_d3 h_S_)

/-- The exponentials of the logits of the first 256 queries, less the greatest. -/
def exA (y : FVec Ideal S2x4x256x256 .f32) : FVec Ideal S2x4x256x256 .f32 :=
  Host.exp (subf y (broadcastInDim S2x4x256x256 ![0, 1, 2, 3] bcast_S2x4x256x1_S2x4x256x256_0_1_2_3
    (broadcastInDim S2x4x256x1 ![0, 1, 2] bcast_S2x4x256_S2x4x256x1_0_1_2 (topA y))))

/-- The softmax of the first 256 queries. -/
def softA (y : FVec Ideal S2x4x256x256 .f32) : FVec Ideal S2x4x256x256 .f32 :=
  Host.divf (exA y) (broadcastInDim S2x4x256x256 ![0, 1, 2, 3] bcast_S2x4x256x1_S2x4x256x256_0_1_2_3
    (broadcastInDim S2x4x256x1 ![0, 1, 2] bcast_S2x4x256_S2x4x256x1_0_1_2
      (Host.reduceAdd (exA y) (constant S_ .f32 0x00000000#32) reducesTo_S2x4x256x256_S2x4x256_d3 h_S_)))

theorem foldA_apply (y : FVec Ideal S2x4x256x256 .f32) (z : FVec Ideal S_ .f32) (b : Fin 2) (h : Fin 4) (q : Fin 256) :
    Host.reduce FloatOps.maximumf y z reducesTo_S2x4x256x256_S2x4x256_d3 h_S_ (ix3 b h q)
      = Finset.univ.fold max (z (Shape.Idx.first h_S_)) fun k : Fin 256 => y (ix4 b h q k) := by
  simp only [pointwise]

theorem lowA_apply (z : FVec Ideal S2x4x256 .f32) (b : Fin 2) (h : Fin 4) (q : Fin 256) :
    maximumf (broadcastInDim S2x4x256 ![] bcast_S_S2x4x256 (constant S_ .f32 0xFF800000#32)) z (ix3 b h q)
      = max (Ideal.ofBits .f32 4286578688#32) (z (ix3 b h q)) := by pointwise []

theorem maxA_apply (y : FVec Ideal S2x4x256x256 .f32) (b : Fin 2) (h : Fin 4) (q : Fin 256) (x : ℕ → EReal) (u : EReal)
    (hu : u = Ideal.ofBits .f32 4286578688#32) (hx : ∀ k : Fin 256, y (ix4 b h q k) = x k.val) :
    max u ((Host.reduce FloatOps.maximumf y (constant S_ .f32 0xFF800000#32 : FVec Ideal S_ .f32)
      reducesTo_S2x4x256x256_S2x4x256_d3 h_S_ : FVec Ideal S2x4x256 .f32) (ix3 b h q)) = mx x 256 := by
  have hc : (constant S_ .f32 0xFF800000#32 : FVec Ideal S_ .f32) (Shape.Idx.first h_S_) = Ideal.ofBits .f32 4286578688#32 := rfl
  rw [foldA_apply y (constant S_ .f32 0xFF800000#32) b h q, hc, ← hu]
  exact mx_of _ _ hu x _ (funext hx)

theorem topA_apply (y : FVec Ideal S2x4x256x256 .f32) (b : Fin 2) (h : Fin 4) (q : Fin 256) (x : ℕ → EReal)
    (hx : ∀ k : Fin 256, y (ix4 b h q k) = x k.val) : topA y (ix3 b h q) = mx x 256 := by
  unfold topA
  exact (lowA_apply _ b h q).trans (maxA_apply y b h q x _ rfl hx)

theorem exA_apply (y : FVec Ideal S2x4x256x256 .f32) (b : Fin 2) (h : Fin 4) (q : Fin 256) (x : ℕ → EReal)
    (hx : ∀ k : Fin 256, y (ix4 b h q k) = x k.val) (k : Fin 256) : exA y (ix4 b h q k) = Ideal.exp (x k.val - mx x 256) := by
  have e := topA_apply y b h q x hx
  unfold exA
  generalize topA y = z at e ⊢
  pointwise []
  rw [e, hx]

/-- The softmax of the first 256 queries, at an index. -/
theorem softA_apply (y : FVec Ideal S2x4x256x256 .f32) (b : Fin 2) (h : Fin 4) (q : Fin 256) (x : ℕ → EReal)
    (hx : ∀ k : Fin 256, y (ix4 b h q k) = x k.val) (k : Fin 256) : softA y (ix4 b h q k) = sm x 256 k.val := by
  have e := exA_apply y b h q x hx
  unfold softA sm
  generalize exA y = z at e ⊢
  pointwise []
  simp only [e]

/-- The greatest logit of each of the later queries. -/
def topB (y : FVec Ideal S2x4x8192x8448 .f32) : FVec Ideal S2x4x8192 .f32 :=
  maximumf (broadcastInDim S2x4x8192 ![] bcast_S_S2x4x8192 (constant S_ .f32 0xFF800000#32))
    (Host.reduce FloatOps.maximumf y (constant S_ .f32 0xFF800000#32) reducesTo_S2x4x8192x8448_S2x4x8192_d3 h_S_)

/-- The exponentials of the logits of the later queries, less the greatest. -/
def exB (y : FVec Ideal S2x4x8192x8448 .f32) : FVec Ideal S2x4x8192x8448 .f32 :=
  Host.exp (subf y (broadcastInDim S2x4x8192x8448 ![0, 1, 2, 3] bcast_S2x4x8192x1_S2x4x8192x8448_0_1_2_3
    (broadcastInDim S2x4x8192x1 ![0, 1, 2] bcast_S2x4x8192_S2x4x8192x1_0_1_2 (topB y))))

/-- The softmax of the later queries. -/
def softB (y : FVec Ideal S2x4x8192x8448 .f32) : FVec Ideal S2x4x8192x8448 .f32 :=
  Host.divf (exB y) (broadcastInDim S2x4x8192x8448 ![0, 1, 2, 3] bcast_S2x4x8192x1_S2x4x8192x8448_0_1_2_3
    (broadcastInDim S2x4x8192x1 ![0, 1, 2] bcast_S2x4x8192_S2x4x8192x1_0_1_2
      (Host.reduceAdd (exB y) (constant S_ .f32 0x00000000#32) reducesTo_S2x4x8192x8448_S2x4x8192_d3 h_S_)))

theorem foldB_apply (y : FVec Ideal S2x4x8192x8448 .f32) (z : FVec Ideal S_ .f32) (b : Fin 2) (h : Fin 4) (q : Fin 8192) :
    Host.reduce FloatOps.maximumf y z reducesTo_S2x4x8192x8448_S2x4x8192_d3 h_S_ (ix3 b h q)
      = Finset.univ.fold max (z (Shape.Idx.first h_S_)) fun k : Fin 8448 => y (ix4 b h q k) := by
  simp only [pointwise]

theorem lowB_apply (z : FVec Ideal S2x4x8192 .f32) (b : Fin 2) (h : Fin 4) (q : Fin 8192) :
    maximumf (broadcastInDim S2x4x8192 ![] bcast_S_S2x4x8192 (constant S_ .f32 0xFF800000#32)) z (ix3 b h q)
      = max (Ideal.ofBits .f32 4286578688#32) (z (ix3 b h q)) := by pointwise []

theorem maxB_apply (y : FVec Ideal S2x4x8192x8448 .f32) (b : Fin 2) (h : Fin 4) (q : Fin 8192) (x : ℕ → EReal) (u : EReal)
    (hu : u = Ideal.ofBits .f32 4286578688#32) (hx : ∀ k : Fin 8448, y (ix4 b h q k) = x k.val) :
    max u ((Host.reduce FloatOps.maximumf y (constant S_ .f32 0xFF800000#32 : FVec Ideal S_ .f32)
      reducesTo_S2x4x8192x8448_S2x4x8192_d3 h_S_ : FVec Ideal S2x4x8192 .f32) (ix3 b h q)) = mx x 8448 := by
  have hc : (constant S_ .f32 0xFF800000#32 : FVec Ideal S_ .f32) (Shape.Idx.first h_S_) = Ideal.ofBits .f32 4286578688#32 := rfl
  rw [foldB_apply y (constant S_ .f32 0xFF800000#32) b h q, hc, ← hu]
  exact mx_of _ _ hu x _ (funext hx)

theorem topB_apply (y : FVec Ideal S2x4x8192x8448 .f32) (b : Fin 2) (h : Fin 4) (q : Fin 8192) (x : ℕ → EReal)
    (hx : ∀ k : Fin 8448, y (ix4 b h q k) = x k.val) : topB y (ix3 b h q) = mx x 8448 := by
  unfold topB
  exact (lowB_apply _ b h q).trans (maxB_apply y b h q x _ rfl hx)

theorem exB_apply (y : FVec Ideal S2x4x8192x8448 .f32) (b : Fin 2) (h : Fin 4) (q : Fin 8192) (x : ℕ → EReal)
    (hx : ∀ k : Fin 8448, y (ix4 b h q k) = x k.val) (k : Fin 8448) : exB y (ix4 b h q k) = Ideal.exp (x k.val - mx x 8448) := by
  have e := topB_apply y b h q x hx
  unfold exB
  generalize topB y = z at e ⊢
  pointwise []
  rw [e, hx]

/-- The softmax of the later queries, at an index. -/
theorem softB_apply (y : FVec Ideal S2x4x8192x8448 .f32) (b : Fin 2) (h : Fin 4) (q : Fin 8192) (x : ℕ → EReal)
    (hx : ∀ k : Fin 8448, y (ix4 b h q k) = x k.val) (k : Fin 8448) : softB y (ix4 b h q k) = sm x 8448 k.val := by
  have e := exB_apply y b h q x hx
  unfold softB sm
  generalize exB y = z at e ⊢
  pointwise []
  simp only [e]

/-- The softmax of the first 256 queries, first map. -/
theorem x50 (b : Fin 2) (h : Fin 4) (q : Fin 256) (k : Fin 256) :
    val_main_v50 (F := Ideal) A1 (ix4 b h q k) = sm (fun k => dotp (f1 A1) b h 0 ⟨q.val, by omega⟩ k * rr) 256 k.val := by
  have e : val_main_v50 (F := Ideal) A1 = softA (val_main_v32 (F := Ideal) A1) := by
    unfold val_main_v50 val_main_v49 val_main_v48 val_main_v47 val_main_v46 val_main_v45 val_main_v44 val_main_v43 val_main_v42 val_main_v41 val_main_v40 val_main_cst_4 val_main_cst_5 val_main_cst_6 softA exA topA
    rfl
  rw [e]
  exact softA_apply _ b h q _ (x32 A1 b h q) k

/-- The softmax of the first 256 queries, second map. -/
theorem x61 (b : Fin 2) (h : Fin 4) (q : Fin 256) (k : Fin 256) :
    val_main_v61 (F := Ideal) A1 (ix4 b h q k) = sm (fun k => dotp (f1 A1) b h 1 ⟨q.val, by omega⟩ k * rr) 256 k.val := by
  have e : val_main_v61 (F := Ideal) A1 = softA (val_main_v39 (F := Ideal) A1) := by
    unfold val_main_v61 val_main_v60 val_main_v59 val_main_v58 val_main_v57 val_main_v56 val_main_v55 val_main_v54 val_main_v53 val_main_v52 val_main_v51 val_main_cst_7 val_main_cst_8 val_main_cst_9 softA exA topA
    rfl
  rw [e]
  exact softA_apply _ b h q _ (x39 A1 b h q) k

/-- The softmax of the later queries, first map. -/
theorem x94 (b : Fin 2) (h : Fin 4) (q : Fin 8192) (k : Fin 8448) :
    val_main_v94 (F := Ideal) A1 (ix4 b h q k) = sm (fun k => dotp (f1 A1) b h 0 ⟨256 + q.val, by omega⟩ k * rr) 8448 k.val := by
  have e : val_main_v94 (F := Ideal) A1 = softB (val_main_v76 (F := Ideal) A1) := by
    unfold val_main_v94 val_main_v93 val_main_v92 val_main_v91 val_main_v90 val_main_v89 val_main_v88 val_main_v87 val_main_v86 val_main_v85 val_main_v84 val_main_cst_12 val_main_cst_13 val_main_cst_14 softB exB topB
    rfl
  rw [e]
  exact softB_apply _ b h q _ (x76 A1 b h q) k

/-- The softmax of the later queries, second map. -/
theorem x105 (b : Fin 2) (h : Fin 4) (q : Fin 8192) (k : Fin 8448) :
    val_main_v105 (F := Ideal) A1 (ix4 b h q k) = sm (fun k => dotp (f1 A1) b h 1 ⟨256 + q.val, by omega⟩ k * rr) 8448 k.val := by
  have e : val_main_v105 (F := Ideal) A1 = softB (val_main_v83 (F := Ideal) A1) := by
    unfold val_main_v105 val_main_v104 val_main_v103 val_main_v102 val_main_v101 val_main_v100 val_main_v99 val_main_v98 val_main_v97 val_main_v96 val_main_v95 val_main_cst_15 val_main_cst_16 val_main_cst_17 softB exB topB
    rfl
  rw [e]
  exact softB_apply _ b h q _ (x83 A1 b h q) k

/-- The factor of the second softmax. -/
theorem x20 (i : S_.Idx) : val_main_v20 (F := Ideal) A0 i = lamOf (f0 A0) := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_cst,
    val_main_cst_0, val_main_cst_1]
  rfl

/-- The weighted sums of the first 256 queries. -/
theorem x65 (b : Fin 2) (n : Fin 256) (h : Fin 4) (d : Fin 64) :
    val_main_v65 (F := Ideal) A0 A1 A2 (ix4 b h d n) = attn (f0 A0) (f1 A1) (f2 A2) b ⟨n.val, by omega⟩ h 256 d := by
  have e1 := fun k => x50 A1 b h n k
  have e2 := fun k => x61 A1 b h n k
  have e3 := x20 A0
  unfold val_main_v65 val_main_v64 val_main_v63 val_main_v62 val_main_v23 val_main_v4
  generalize val_main_v20 (F := Ideal) A0 = y0 at e3 ⊢
  generalize val_main_v50 (F := Ideal) A1 = y1 at e1 ⊢
  generalize val_main_v61 (F := Ideal) A1 = y2 at e2 ⊢
  pointwise []
  unfold attn vvec
  refine Finset.sum_congr rfl fun k _ => ?_
  rw [e1, e2, e3, dif_pos (show k.val < 8448 by omega)]
  rfl

/-- The weighted sums of the later queries. -/
theorem x109 (b : Fin 2) (n : Fin 8192) (h : Fin 4) (d : Fin 64) :
    val_main_v109 (F := Ideal) A0 A1 A2 (ix4 b h d n) = attn (f0 A0) (f1 A1) (f2 A2) b ⟨256 + n.val, by omega⟩ h 8448 d := by
  have e1 := fun k => x94 A1 b h n k
  have e2 := fun k => x105 A1 b h n k
  have e3 := x20 A0
  unfold val_main_v109 val_main_v108 val_main_v107 val_main_v106 val_main_v4
  generalize val_main_v20 (F := Ideal) A0 = y0 at e3 ⊢
  generalize val_main_v94 (F := Ideal) A1 = y1 at e1 ⊢
  generalize val_main_v105 (F := Ideal) A1 = y2 at e2 ⊢
  pointwise []
  unfold attn vvec
  refine Finset.sum_congr rfl fun k _ => ?_
  rw [e1, e2, e3, dif_pos (show k.val < 8448 by omega)]
  rfl

/-- All the weighted sums. -/
theorem x111 (b : Fin 2) (n : Fin 8448) (h : Fin 4) (d : Fin 64) :
    val_main_v111 (F := Ideal) A0 A1 A2 (ix4 b n h d) = attn (f0 A0) (f1 A1) (f2 A2) b n h (keys n) d := by
  have e1 := fun n => x65 A0 A1 A2 b n h d
  have e2 := fun n => x109 A0 A1 A2 b n h d
  unfold val_main_v111 val_main_v66 val_main_v110
  generalize val_main_v65 (F := Ideal) A0 A1 A2 = y1 at e1 ⊢
  generalize val_main_v109 (F := Ideal) A0 A1 A2 = y2 at e2 ⊢
  pointwise []
  unfold keys
  by_cases hn : n.val < 256
  · rw [dif_pos hn, if_pos hn, e1]
  · rw [dif_neg hn, if_neg hn, e2]
    congr 1
    exact Fin.ext (by show 256 + (n.val - 256) = n.val; omega)

/-- The reference's result at an index. -/
theorem ref_apply (b : Fin 2) (n : Fin 8448) (h : Fin 4) (d : Fin 64) :
    val_main_v127 (F := Ideal) A0 A1 A2 A3 (ix2 (row b n) (col h d))
      = refVal (f0 A0) (f1 A1) (f2 A2) (f3 A3) b n h (keys n) d := by
  have e := fun d => x111 A0 A1 A2 b n h d
  unfold row col
  unfold val_main_v127 val_main_v126 val_main_v125 val_main_v124 val_main_v123 val_main_v122 val_main_v121 val_main_v120
    val_main_v119 val_main_v118 val_main_v117 val_main_v116 val_main_v115 val_main_v114 val_main_v113 val_main_v112
  generalize val_main_v111 (F := Ideal) A0 A1 A2 = y at e ⊢
  pointwise [val_main_cst_18, val_main_cst_19, val_main_cst_20, val_main_cst_21]
  unfold refVal nrm
  simp only [e, f3]

end Cert.DA

end
-- ==== Proof.DA.Pieces.lean ====
/-
  What one tile of keys does to the scratch, written once for every map and both tile widths. A tile updates, for each of the
  eight maps, eight rows of running maxima (`arg9`) and eighty rows of running sums (`arg10`); the generated runs list these
  stores one by one, and the theorems here put the lists into one uniform shape.
-/
module

public import proofs.«01_k».proof.Proof.Gen.KernelIdeal.Value
public import Idealize.ShloMosaic.Lib.Pointwise
public import Idealize.ShloMosaic.Lib.WritesUnit

@[expose] public section

set_option maxRecDepth 16384

noncomputable section

namespace Cert.DA

open Idealize.ShloMosaic Idealize.SL.Sem Cert.KernelIdeal Cert.KernelIdeal.Gen

variable {F : FTy → Type} [FloatOps F]

/-! ## One map's update of its maxima and sums -/

/-- The new maxima: the old ones against the tile's column maxima `r`. -/
def mUp (r : FVec F S256 .f32) (mold : Vec F S1x8x256 .f32) : FVec F S8x256 .f32 :=
  maximumf (shapeCast S8x256 mold) (broadcastTo S8x256 (shapeCast S1x256 r) broadcasts_S1x256_S8x256)

/-- The new maxima as they are stored. -/
def mSt (r : FVec F S256 .f32) (mold : Vec F S1x8x256 .f32) : FVec F S1x8x256 .f32 := shapeCast S1x8x256 (mUp r mold)

/-- The new sums: the old ones scaled to the new maxima, plus the tile's own. -/
def aUp (r : FVec F S256 .f32) (mold : Vec F S1x8x256 .f32) (pv : FVec F S80x256 .f32) (aold : Vec F S1x80x256 .f32) :
    FVec F S1x80x256 .f32 :=
  shapeCast S1x80x256 (addf (mulf (shapeCast S80x256 aold)
    (broadcastTo S80x256 (extractStridedSlice S1x256 ![0, 0] (exp2 (subf (shapeCast S8x256 mold) (mUp r mold)))
      slices_S8x256_o0_0_S1x256) broadcasts_S1x256_S80x256)) pv)

/-- The maximum that a tile's exponentials are taken against: the first row of the new maxima. -/
def mRow (r : FVec F S256 .f32) (mold : Vec F S1x8x256 .f32) : FVec F S1x256 .f32 :=
  extractStridedSlice S1x256 ![0, 0] (mUp r mold) slices_S8x256_o0_0_S1x256

/-- A narrow tile's logits, keys by queries. -/
def sN (kt : Vec F S256x256 .bf16) (qs : Vec F S1x256x256 .bf16) : FVec F S256x256 .f32 :=
  matmul dot_S256x256_S256x256_S256x256_1_1_0_0_n_n none (shapeCast S256x256 kt) (shapeCast S256x256 qs)
    (constant S256x256 .f32 0x00000000#32)

/-- A narrow tile's column maxima. -/
def rN (s : FVec F S256x256 .f32) : FVec F S256 .f32 :=
  multiReduction .maximumf [0] S256 s 0xFF800000#32 reduces_S256x256_S256 (.inl rfl) rfl

/-- A narrow tile's values times its exponentials. -/
def pvN (s : FVec F S256x256 .f32) (mold : Vec F S1x8x256 .f32) (vt : Vec F S80x256 .bf16) : FVec F S80x256 .f32 :=
  matmul dot_S80x256_S256x256_S80x256_1_0_0_1_n_n none (shapeCast S80x256 vt)
    (truncf .bf16 (exp2 (subf s (broadcastTo S256x256 (mRow (rN s) mold) broadcasts_S1x256_S256x256))) bitsLt_bf16_f32)
    (constant S80x256 .f32 0x00000000#32)

/-- A wide tile's logits, keys by queries. -/
def sW (kt : Vec F S1408x256 .bf16) (qs : Vec F S1x256x256 .bf16) : FVec F S1408x256 .f32 :=
  matmul dot_S1408x256_S256x256_S1408x256_1_1_0_0_n_n none (shapeCast S1408x256 kt) (shapeCast S256x256 qs)
    (constant S1408x256 .f32 0x00000000#32)

/-- A wide tile's column maxima. -/
def rW (s : FVec F S1408x256 .f32) : FVec F S256 .f32 :=
  multiReduction .maximumf [0] S256 s 0xFF800000#32 reduces_S1408x256_S256 (.inl rfl) rfl

/-- A wide tile's values times its exponentials. -/
def pvW (s : FVec F S1408x256 .f32) (mold : Vec F S1x8x256 .f32) (vt : Vec F S80x1408 .bf16) : FVec F S80x256 .f32 :=
  matmul dot_S80x1408_S1408x256_S80x256_1_0_0_1_n_n none (shapeCast S80x1408 vt)
    (truncf .bf16 (exp2 (subf s (broadcastTo S1408x256 (mRow (rW s) mold) broadcasts_S1x256_S1408x256))) bitsLt_bf16_f32)
    (constant S80x256 .f32 0x00000000#32)

/-! ## Lists of stores, one per map -/

/-- Map `c`'s rows of the maxima lie in the buffer. -/
theorem inbM (c : ℕ) : ∀ a, (![c % 8, 0, 0] : Fin 3 → ℕ) a + S1x8x256.size a ≤ S8x8x256.size a := by
  intro a
  match a with
  | ⟨0, _⟩ => show c % 8 + 1 ≤ 8; omega
  | ⟨1, _⟩ => show 0 + 8 ≤ 8; omega
  | ⟨2, _⟩ => show 0 + 256 ≤ 256; omega

/-- Map `c`'s rows of the sums lie in the buffer. -/
theorem inbA (c : ℕ) : ∀ a, (![c % 2, 80 * (c / 2 % 4), 0] : Fin 3 → ℕ) a + S1x80x256.size a ≤ S2x320x256.size a := by
  intro a
  match a with
  | ⟨0, _⟩ => show c % 2 + 1 ≤ 2; omega
  | ⟨1, _⟩ => show 80 * (c / 2 % 4) + 80 ≤ 320; omega
  | ⟨2, _⟩ => show 0 + 256 ≤ 256; omega

/-- Map `c`'s slice of the masked queries lies in the buffer. -/
theorem inbQ (c : ℕ) : ∀ a, (![c % 8, 0, 0] : Fin 3 → ℕ) a + S1x256x256.size a ≤ S8x256x256.size a := by
  intro a
  match a with
  | ⟨0, _⟩ => show c % 8 + 1 ≤ 8; omega
  | ⟨1, _⟩ => show 0 + 256 ≤ 256; omega
  | ⟨2, _⟩ => show 0 + 256 ≤ 256; omega

/-- The rectangle of map `c`'s maxima. -/
abbrev rcM (c : ℕ) : Rect S8x8x256 := Rect.unit (s := S8x8x256) ![c % 8, 0, 0] S1x8x256.size (inbM c)
/-- The rectangle of map `c`'s sums. -/
abbrev rcA (c : ℕ) : Rect S2x320x256 := Rect.unit (s := S2x320x256) ![c % 2, 80 * (c / 2 % 4), 0] S1x80x256.size (inbA c)
/-- The rectangle of map `c`'s masked queries. -/
abbrev rcQ (c : ℕ) : Rect S8x256x256 := Rect.unit (s := S8x256x256) ![c % 8, 0, 0] S1x256x256.size (inbQ c)

/-- The stores of maps `0 … n-1` to the maxima, the last first. -/
def pcM (w : ℕ → Vec F S1x8x256 .f32) : ℕ → List (View.Piece (Elt F) S8x8x256 .f32)
  | 0 => []
  | n + 1 => ⟨rcM n, w n⟩ :: pcM w n

/-- The stores of maps `0 … n-1` to the sums, the last first. -/
def pcA (w : ℕ → Vec F S1x80x256 .f32) : ℕ → List (View.Piece (Elt F) S2x320x256 .f32)
  | 0 => []
  | n + 1 => ⟨rcA n, w n⟩ :: pcA w n

/-- The stores of maps `0 … n-1` to the masked queries, the last first. -/
def pcQ (w : ℕ → Vec F S1x256x256 .bf16) : ℕ → List (View.Piece (Elt F) S8x256x256 .bf16)
  | 0 => []
  | n + 1 => ⟨rcQ n, w n⟩ :: pcQ w n

section read

theorem read_pcM (v : View sig .tc .vmem S8x8x256 .f32) (f : v.ty.Contents (Elt F)) (w : ℕ → Vec F S1x8x256 .f32)
    (L : List (View.Piece (Elt F) S8x8x256 .f32)) (n : ℕ) (hn : n ≤ 8) (c : Fin 8) (a : Fin 8) (q : Fin 256) :
    v.read (Elt F) (v.writes (Elt F) f (pcM w n ++ L)) (ix3 c a q)
      = if c.val < n then w c.val (ix3 (0 : Fin 1) a q) else v.read (Elt F) (v.writes (Elt F) f L) (ix3 c a q) := by
  induction n with
  | zero => rw [if_neg (Nat.not_lt_zero _)]; rfl
  | succ n ih =>
    rw [pcM, List.cons_append]
    rcases Nat.lt_trichotomy c.val n with h | h | h
    · rw [View.read_writes_cons_unit_of_not_mem v f (inbM n) (w n) (pcM w n ++ L) (ix3 c a q) rfl (0 : Fin 3)
        (Or.inl (show c.val < n % 8 by omega)), ih (by omega), if_pos h, if_pos (by omega)]
    · rw [View.read_writes_cons_unit_of_mem v f (inbM n) (w n) (pcM w n ++ L) (ix3 c a q) (ix3 (0 : Fin 1) a q) rfl (by
        intro b
        match b with
        | ⟨0, _⟩ => show c.val = n % 8 + 0; omega
        | ⟨1, _⟩ => show a.val = 0 + a.val; omega
        | ⟨2, _⟩ => show q.val = 0 + q.val; omega), if_pos (by omega), h]
    · rw [View.read_writes_cons_unit_of_not_mem v f (inbM n) (w n) (pcM w n ++ L) (ix3 c a q) rfl (0 : Fin 3)
        (Or.inr (show n % 8 + 1 ≤ c.val by omega)), ih (by omega), if_neg (by omega), if_neg (by omega)]

theorem read_pcQ (v : View sig .tc .vmem S8x256x256 .bf16) (f : v.ty.Contents (Elt F)) (w : ℕ → Vec F S1x256x256 .bf16)
    (n : ℕ) (hn : n ≤ 8) (c : Fin 8) (hc : c.val < n) (a : Fin 256) (q : Fin 256) :
    v.read (Elt F) (v.writes (Elt F) f (pcQ w n)) (ix3 c a q) = w c.val (ix3 (0 : Fin 1) a q) := by
  induction n with
  | zero => omega
  | succ n ih =>
    rw [pcQ]
    rcases Nat.lt_or_eq_of_le (Nat.le_of_lt_succ hc) with h | h
    · rw [View.read_writes_cons_unit_of_not_mem v f (inbQ n) (w n) (pcQ w n) (ix3 c a q) rfl (0 : Fin 3)
        (Or.inl (show c.val < n % 8 by omega)), ih (by omega) h]
    · rw [View.read_writes_cons_unit_of_mem v f (inbQ n) (w n) (pcQ w n) (ix3 c a q) (ix3 (0 : Fin 1) a q) rfl (by
        intro b
        match b with
        | ⟨0, _⟩ => show c.val = n % 8 + 0; omega
        | ⟨1, _⟩ => show a.val = 0 + a.val; omega
        | ⟨2, _⟩ => show q.val = 0 + q.val; omega), h]

/-- Row `r` of map `c`'s eighty rows in the sums. -/
def ixA (c : Fin 8) (r : Fin 80) (q : Fin 256) : S2x320x256.Idx :=
  ix3 (⟨c.val % 2, by omega⟩ : Fin 2) (⟨80 * (c.val / 2 % 4) + r.val, by omega⟩ : Fin 320) q

theorem read_pcA (v : View sig .tc .vmem S2x320x256 .f32) (f : v.ty.Contents (Elt F)) (w : ℕ → Vec F S1x80x256 .f32)
    (L : List (View.Piece (Elt F) S2x320x256 .f32)) (n : ℕ) (hn : n ≤ 8) (c : Fin 8) (r : Fin 80) (q : Fin 256) :
    v.read (Elt F) (v.writes (Elt F) f (pcA w n ++ L)) (ixA c r q)
      = if c.val < n then w c.val (ix3 (0 : Fin 1) r q) else v.read (Elt F) (v.writes (Elt F) f L) (ixA c r q) := by
  induction n with
  | zero => rw [if_neg (Nat.not_lt_zero _)]; rfl
  | succ n ih =>
    rw [pcA, List.cons_append]
    by_cases h : c.val = n
    · rw [View.read_writes_cons_unit_of_mem v f (inbA n) (w n) (pcA w n ++ L) (ixA c r q) (ix3 (0 : Fin 1) r q) rfl (by
        intro b
        match b with
        | ⟨0, _⟩ => show c.val % 2 = n % 2 + 0; omega
        | ⟨1, _⟩ => show 80 * (c.val / 2 % 4) + r.val = 80 * (n / 2 % 4) + r.val; omega
        | ⟨2, _⟩ => show q.val = 0 + q.val; omega), if_pos (by omega), h]
    · have hstep : v.read (Elt F) (v.writes (Elt F) f ((⟨rcA n, w n⟩ : View.Piece (Elt F) S2x320x256 .f32) :: (pcA w n ++ L))) (ixA c r q)
          = v.read (Elt F) (v.writes (Elt F) f (pcA w n ++ L)) (ixA c r q) := by
        by_cases h0 : c.val % 2 = n % 2
        · exact View.read_writes_cons_unit_of_not_mem v f (inbA n) (w n) (pcA w n ++ L) (ixA c r q) rfl (1 : Fin 3)
            (show 80 * (c.val / 2 % 4) + r.val < 80 * (n / 2 % 4) ∨ 80 * (n / 2 % 4) + 80 ≤ 80 * (c.val / 2 % 4) + r.val by omega)
        · exact View.read_writes_cons_unit_of_not_mem v f (inbA n) (w n) (pcA w n ++ L) (ixA c r q) rfl (0 : Fin 3)
            (show c.val % 2 < n % 2 ∨ n % 2 + 1 ≤ c.val % 2 by omega)
      rw [hstep, ih (by omega)]
      by_cases h2 : c.val < n
      · rw [if_pos h2, if_pos (by omega)]
      · rw [if_neg h2, if_neg (by omega)]

end read

end Cert.DA

end
-- ==== Proof.DA.Trip.lean ====
/-
  One trip of the kernel's loop over wide tiles: its stores to the two scratch buffers are the uniform lists of Pieces.lean.
-/
module

public import proofs.«01_k».proof.Proof.DA.Pieces

@[expose] public section

set_option maxRecDepth 16384

noncomputable section

namespace Cert.DA

open Idealize.ShloMosaic Idealize.SL.Sem Cert.KernelIdeal Cert.KernelIdeal.Gen

variable {F : FTy → Type} [FloatOps F]

/-- The offsets of head `h`'s eighty rows of the transposed values at trip `k`. -/
def vOff (k : Fin k0_t1_loop.trips) : ℕ → Fin 2 → ℕ
  | 0 => k0_off2 k
  | 1 => k0_off3 k
  | 2 => k0_off4 k
  | _ => k0_off5 k

/-- They lie in the array. -/
theorem vOff_inb (i : grid0.Coords) (k : Fin k0_t1_loop.trips) (h : k0_cond2 i = 1#1) (n : ℕ) :
    ∀ a, vOff k n a + S80x1408.size a ≤ S320x8448.size a :=
  match n with
  | 0 => Facts₀.k0_off2_inb i k h
  | 1 => Facts₀.k0_off3_inb i k h
  | 2 => Facts₀.k0_off4_inb i k h
  | _ + 3 => Facts₀.k0_off5_inb i k h

section

variable (c : Dev nD) (i : grid0.Coords) (arg2 : Memref sig .tc .smem S1 .f32) (harg2 : arg2.IsWhole) (arg3 : Memref sig .tc .vmem S256x256 .bf16) (harg3 : arg3.IsWhole) (arg4 : Memref sig .tc .vmem S8448x256 .bf16) (harg4 : arg4.IsWhole) (arg5 : Memref sig .tc .vmem S320x8448 .bf16) (harg5 : arg5.IsWhole) (arg6 : Memref sig .tc .vmem S1x256 .f32) (harg6 : arg6.IsWhole) (arg7 : Memref sig .tc .vmem S256x256 .f32) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S2x320x256 .f32) (harg10 : arg10.IsWhole) (arg1 : BitVec 32) (v1 : FVec F S256x256 .bf16) (v26 : IVec S256x256 32) (v70 : IVec S256x256 1) (cst_25 : F .bf16) (k0_h2 : k0_cond2 i = 1#1) (X4 : BufTy.Contents (Elt F) arg4.view.ty) (X5 : BufTy.Contents (Elt F) arg5.view.ty) (X8 : BufTy.Contents (Elt F) arg8.view.ty) (k : Fin k0_t1_loop.trips)
  (f9 : BufTy.Contents (Elt F) arg9.view.ty) (f10 : BufTy.Contents (Elt F) arg10.view.ty)

/-- Trip `k`'s logits of map `n`. -/
def tripS (n : ℕ) : FVec F S1408x256 .f32 :=
  sW (View.readAt (Elt F) arg4.view (Rect.unit (s := S8448x256) (k0_off1 k) S1408x256.size (Facts₀.k0_off1_inb i k k0_h2)).toLoadRect X4)
    (View.readAt (Elt F) arg8.view (rcQ n).toLoadRect X8)

/-- Map `n`'s maxima as trip `k` finds them. -/
def oldM (n : ℕ) : Vec F S1x8x256 .f32 := View.readAt (Elt F) arg9.view (rcM n).toLoadRect f9

/-- Map `n`'s sums as trip `k` finds them. -/
def oldA (n : ℕ) : Vec F S1x80x256 .f32 := View.readAt (Elt F) arg10.view (rcA n).toLoadRect f10

/-- What trip `k` stores to map `n`'s maxima. -/
def tripM (n : ℕ) : Vec F S1x8x256 .f32 :=
  mSt (rW (tripS i arg4 arg8 k0_h2 X4 X8 k n)) (oldM arg9 f9 n)

/-- What trip `k` stores to map `n`'s sums. -/
def tripA (n : ℕ) : Vec F S1x80x256 .f32 :=
  aUp (rW (tripS i arg4 arg8 k0_h2 X4 X8 k n)) (oldM arg9 f9 n)
    (pvW (tripS i arg4 arg8 k0_h2 X4 X8 k n) (oldM arg9 f9 n)
      (View.readAt (Elt F) arg5.view (Rect.unit (s := S320x8448) (vOff k (n / 2)) S80x1408.size
        (vOff_inb i k k0_h2 (n / 2))).toLoadRect X5))
    (oldA arg10 f10 n)

set_option maxHeartbeats 4000000 in
/-- Trip `k`'s stores to the maxima. -/
theorem trip_maxima :
    (trip_k0_t1 Variants.none c none i arg2 harg2 arg3 harg3 arg4 harg4 arg5 harg5 arg6 harg6 arg7 harg7 arg8 harg8 arg9 harg9 arg10 harg10 arg1 v1 v26 v70 cst_25 k0_h2 X4 X5 X8 k).1 f9 f10
      = pcM (tripM i arg4 arg8 arg9 k0_h2 X4 X8 k f9) 8 := by
  unfold trip_k0_t1
  rfl

set_option maxHeartbeats 4000000 in
/-- Trip `k`'s stores to the sums. -/
theorem trip_sums :
    (trip_k0_t1 Variants.none c none i arg2 harg2 arg3 harg3 arg4 harg4 arg5 harg5 arg6 harg6 arg7 harg7 arg8 harg8 arg9 harg9 arg10 harg10 arg1 v1 v26 v70 cst_25 k0_h2 X4 X5 X8 k).2.1 f9 f10
      = pcA (tripA i arg4 arg5 arg8 arg9 arg10 k0_h2 X4 X5 X8 k f9 f10) 8 := by
  unfold trip_k0_t1
  rfl

end

end Cert.DA

end
-- ==== Proof.DA.Runs.lean ====
/-
  The two cases of the kernel's body as uniform terms: the scratch each case ends with, and the block it writes.
-/
module

public import proofs.«01_k».proof.Proof.DA.Trip

@[expose] public section

set_option maxRecDepth 16384

noncomputable section

namespace Cert.DA

open Idealize.ShloMosaic Idealize.SL.Sem Cert.KernelIdeal Cert.KernelIdeal.Gen

variable {F : FTy → Type} [FloatOps F]

/-! ## The block from the sums -/

/-- One head's output from its two maps' sums, normalised over its 64 rows. -/
def headOut (lam : Elt F .f32) (n1 : Vec F S1x64x256 .f32) (d1 : Vec F S1x1x256 .f32) (n2 : Vec F S1x64x256 .f32)
    (d2 : Vec F S1x1x256 .f32) : FVec F S64x256 .f32 :=
  let o : FVec F S64x256 .f32 :=
    subf (divf (shapeCast S64x256 n1) (broadcastTo S64x256 (shapeCast S1x256 d1) broadcasts_S1x256_S64x256))
      (mulf (broadcast S64x256 lam)
        (divf (shapeCast S64x256 n2) (broadcastTo S64x256 (shapeCast S1x256 d2) broadcasts_S1x256_S64x256)))
  mulf o (broadcastTo S64x256 (rsqrt (addf (divf (shapeCast S1x256
    (multiReduction .add [0] S256 (mulf o o) 0x00000000#32 reduces_S64x256_S256 (.inl rfl) rfl))
      (broadcast S1x256 (Scalar.ofBits .f32 0x42800000#32))) (broadcast S1x256 (Scalar.ofBits .f32 0x358637BD#32))))
    broadcasts_S1x256_S64x256)

/-- The block of outputs from the four heads. -/
def blockOut (h0 h1 h2 h3 : FVec F S64x256 .f32) (g : Vec F S1x256 .f32) : FVec F S256x256 .f32 :=
  mulf (mulf (transpose S256x256 [1, 0] (concatenate S256x256 0
      [⟨S64x256, h0⟩, ⟨S64x256, h1⟩, ⟨S64x256, h2⟩, ⟨S64x256, h3⟩]
      concatenates_S64x256_S64x256_S64x256_S64x256_S256x256_d0) transposes_S256x256_p1_0_S256x256)
    (broadcastTo S256x256 (shapeCast S1x256 g) broadcasts_S1x256_S256x256))
    (broadcast S256x256 (Scalar.ofBits .f32 0x3F4CCCCD#32))

/-- Map `c`'s numerators lie in the sums. -/
theorem inbNum (c : ℕ) : ∀ a, (![c % 2, 80 * (c / 2 % 4), 0] : Fin 3 → ℕ) a + S1x64x256.size a ≤ S2x320x256.size a := by
  intro a
  match a with
  | ⟨0, _⟩ => show c % 2 + 1 ≤ 2; omega
  | ⟨1, _⟩ => show 80 * (c / 2 % 4) + 64 ≤ 320; omega
  | ⟨2, _⟩ => show 0 + 256 ≤ 256; omega

/-- Map `c`'s denominators lie in the sums. -/
theorem inbDen (c : ℕ) : ∀ a, (![c % 2, 80 * (c / 2 % 4) + 64, 0] : Fin 3 → ℕ) a + S1x1x256.size a ≤ S2x320x256.size a := by
  intro a
  match a with
  | ⟨0, _⟩ => show c % 2 + 1 ≤ 2; omega
  | ⟨1, _⟩ => show 80 * (c / 2 % 4) + 64 + 1 ≤ 320; omega
  | ⟨2, _⟩ => show 0 + 256 ≤ 256; omega

section

variable (arg10 : Memref sig .tc .vmem S2x320x256 .f32) (f10 : BufTy.Contents (Elt F) arg10.view.ty)

/-- Map `c`'s numerators. -/
def numOf (c : ℕ) : Vec F S1x64x256 .f32 :=
  View.readAt (Elt F) arg10.view (Rect.unit (s := S2x320x256) ![c % 2, 80 * (c / 2 % 4), 0] S1x64x256.size (inbNum c)).toLoadRect f10

/-- Map `c`'s denominators. -/
def denOf (c : ℕ) : Vec F S1x1x256 .f32 :=
  View.readAt (Elt F) arg10.view (Rect.unit (s := S2x320x256) ![c % 2, 80 * (c / 2 % 4) + 64, 0] S1x1x256.size (inbDen c)).toLoadRect f10

/-- Head `h`'s output from the sums. -/
def headAt (lam : Elt F .f32) (h : ℕ) : FVec F S64x256 .f32 :=
  headOut lam (numOf arg10 f10 (2 * h)) (denOf arg10 f10 (2 * h)) (numOf arg10 f10 (2 * h + 1)) (denOf arg10 f10 (2 * h + 1))

/-- The block from the sums. -/
def blockAt (lam : Elt F .f32) (g : Vec F S1x256 .f32) : FVec F S256x256 .f32 :=
  blockOut (headAt arg10 f10 lam 0) (headAt arg10 f10 lam 1) (headAt arg10 f10 lam 2) (headAt arg10 f10 lam 3) g

end

/-! ## The masked queries -/

/-- Map `n`'s queries: the lanes of its own half head, zero elsewhere. -/
def qMask (q : Vec F S256x256 .bf16) (n : ℕ) : Vec F S1x256x256 .bf16 :=
  shapeCast S1x256x256 (select (cmpi .eq k0_pay100 (broadcast S256x256 (BitVec.ofNat 32 n))) (shapeCast S256x256 q)
    (broadcast S256x256 (Scalar.ofBits .bf16 0x0000#16)))

/-- The scratch of masked queries. -/
def qScr (arg3 : Memref sig .tc .vmem S256x256 .bf16) (X3 : BufTy.Contents (Elt F) arg3.view.ty)
    (arg8 : Memref sig .tc .vmem S8x256x256 .bf16) : BufTy.Contents (Elt F) arg8.view.ty :=
  arg8.view.writes (Elt F) arg8.view.junk (pcQ (qMask (View.readAt (Elt F) arg3.view
    (Rect.unit (s := S256x256) ![0, 0] S256x256.size inb_S256x256_S256x256_0_0).toLoadRect X3)) 8)

/-! ## The initial scratch -/

/-- The maxima start at the lowest value. -/
def initM : List (View.Piece (Elt F) S8x8x256 .f32) :=
  [⟨Rect.unit (s := S8x8x256) ![0, 0, 0] S8x8x256.size inb_S8x8x256_S8x8x256_0_0_0, k0_pay111⟩]

/-- The sums start at zero. -/
def initA : List (View.Piece (Elt F) S2x320x256 .f32) :=
  [⟨Rect.unit (s := S2x320x256) ![0, 0, 0] S2x320x256.size inb_S2x320x256_S2x320x256_0_0_0, k0_pay112⟩]

section narrow

variable (arg9 : Memref sig .tc .vmem S8x8x256 .f32) (arg10 : Memref sig .tc .vmem S2x320x256 .f32)
  (S : ℕ → FVec F S256x256 .f32) (vt : ℕ → Vec F S80x256 .bf16)

/-- The stores to the maxima by the first `n` maps of the one narrow tile. -/
def narM : ℕ → List (View.Piece (Elt F) S8x8x256 .f32)
  | 0 => initM
  | n + 1 => ⟨rcM n, mSt (rN (S n)) (oldM arg9 (arg9.view.writes (Elt F) arg9.view.junk (narM n)) n)⟩ :: narM n

/-- The stores to the sums by the first `n` maps of the one narrow tile. -/
def narA : ℕ → List (View.Piece (Elt F) S2x320x256 .f32)
  | 0 => initA
  | n + 1 => ⟨rcA n, aUp (rN (S n)) (oldM arg9 (arg9.view.writes (Elt F) arg9.view.junk (narM arg9 S n)) n)
      (pvN (S n) (oldM arg9 (arg9.view.writes (Elt F) arg9.view.junk (narM arg9 S n)) n) (vt n))
      (oldA arg10 (arg10.view.writes (Elt F) arg10.view.junk (narA n)) n)⟩ :: narA n

end narrow

/-- The narrow tile's rows of head `h`'s values lie in the array. -/
theorem inbV (h : ℕ) : ∀ a, (![80 * (h % 4), 0] : Fin 2 → ℕ) a + S80x256.size a ≤ S320x8448.size a := by
  intro a
  match a with
  | ⟨0, _⟩ => show 80 * (h % 4) + 80 ≤ 320; omega
  | ⟨1, _⟩ => show 0 + 256 ≤ 8448; omega

section

variable (c : Dev nD) (i : grid0.Coords) (arg2 : Memref sig .tc .smem S1 .f32) (harg2 : arg2.IsWhole) (arg3 : Memref sig .tc .vmem S256x256 .bf16) (harg3 : arg3.IsWhole) (arg4 : Memref sig .tc .vmem S8448x256 .bf16) (harg4 : arg4.IsWhole) (arg5 : Memref sig .tc .vmem S320x8448 .bf16) (harg5 : arg5.IsWhole) (arg6 : Memref sig .tc .vmem S1x256 .f32) (harg6 : arg6.IsWhole) (arg7 : Memref sig .tc .vmem S256x256 .f32) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S2x320x256 .f32) (harg10 : arg10.IsWhole)
  (x0 : Vec F S1 .f32) (x1 : Vec F S256x256 .bf16) (x2 : Vec F S8448x256 .bf16) (x3 : Vec F S320x8448 .bf16) (x4 : Vec F S1x256 .f32)

/-- The narrow tile's logits of map `n`. -/
def narS (n : ℕ) : FVec F S256x256 .f32 :=
  sN (View.readAt (Elt F) arg4.view (Rect.unit (s := S8448x256) ![0, 0] S256x256.size inb_S8448x256_S256x256_0_0).toLoadRect (harg4.unread x2))
    (View.readAt (Elt F) arg8.view (rcQ n).toLoadRect (qScr arg3 (harg3.unread x1) arg8))

/-- The narrow tile's values for map `n`. -/
def narV (n : ℕ) : Vec F S80x256 .bf16 :=
  View.readAt (Elt F) arg5.view (Rect.unit (s := S320x8448) ![80 * (n / 2 % 4), 0] S80x256.size (inbV (n / 2))).toLoadRect (harg5.unread x3)

/-- The block from a finished scratch of sums. -/
def fin10 (L : List (View.Piece (Elt F) S2x320x256 .f32)) : FVec F S256x256 .f32 :=
  blockAt arg10 (arg10.view.writes (Elt F) arg10.view.junk L)
    (View.readAt (Elt F) arg2.view (Rect.unit (s := S1) ![0] S1.size inb_S1_S1_0).toLoadRect (harg2.unread x0)
      (Shape.Idx.first (s := S1) (by decide)))
    (View.readAt (Elt F) arg6.view (Rect.unit (s := S1x256) ![0, 0] S1x256.size inb_S1x256_S1x256_0_0).toLoadRect (harg6.unread x4))

/-- Reading back one store of the whole block gives what was stored. -/
theorem read_block (v : View sig .tc .vmem S256x256 .f32) (f : v.ty.Contents (Elt F)) (w : FVec F S256x256 .f32) :
    v.read (Elt F) (v.writes (Elt F) f [⟨Rect.unit (s := S256x256) ![0, 0] S256x256.size inb_S256x256_S256x256_0_0, w⟩]) = w := by
  funext y
  refine View.read_writes_cons_unit_of_mem v f inb_S256x256_S256x256_0_0 w [] y y
    (off' := (![0, 0] : Fin 2 → ℕ)) rfl ?_
  intro b
  match b with
  | ⟨0, h⟩ => exact (Nat.zero_add (y ⟨0, h⟩).val).symm
  | ⟨1, h⟩ => exact (Nat.zero_add (y ⟨1, h⟩).val).symm

set_option maxHeartbeats 4000000 in
/-- The block of a context tile. -/
theorem out_A (hc0 : cond0_0 i) (hc1 : ¬cond0_1 i) :
    out0_A_5 c i arg2 harg2 arg3 harg3 arg4 harg4 arg5 harg5 arg6 harg6 arg7 harg7 arg8 harg8 arg9 harg9 arg10 harg10 hc0 hc1 x0 x1 x2 x3 x4
      = fin10 arg2 harg2 arg6 harg6 arg10 x0 x4
          (narA arg9 arg10 (narS arg3 harg3 arg4 harg4 arg8 x1 x2) (narV arg5 harg5 x3) 8) := by
  refine Eq.trans ?_ (read_block VO0_5 VO0_5.junk _)
  unfold out0_A_5 kernelRun0_A
  rfl

set_option maxHeartbeats 4000000 in
/-- The block of a latent tile. -/
theorem out_B (hc0 : ¬cond0_0 i) (hc1 : cond0_1 i) :
    ∃ (v1 : FVec F S256x256 .bf16) (v26 : IVec S256x256 32) (v70 : IVec S256x256 1) (cst_25 : F .bf16),
    out0_B_5 c i arg2 harg2 arg3 harg3 arg4 harg4 arg5 harg5 arg6 harg6 arg7 harg7 arg8 harg8 arg9 harg9 arg10 harg10 hc0 hc1 x0 x1 x2 x3 x4
      = fin10 arg2 harg2 arg6 harg6 arg10 x0 x4
          ((pb_k0_t1 Variants.none c none i arg2 harg2 arg3 harg3 arg4 harg4 arg5 harg5 arg6 harg6 arg7 harg7 arg8 harg8 arg9 harg9 arg10 harg10
            (BitVec.ofNat 32 ↑(i 1)) v1 v26 v70 cst_25 hc1 (harg4.unread x2) (harg5.unread x3) (qScr arg3 (harg3.unread x1) arg8)
            (arg9.view.writes (Elt F) arg9.view.junk initM) (arg10.view.writes (Elt F) arg10.view.junk initA) k0_t1_loop.trips).2 ++ initA) := by
  refine ⟨kernelRun0_B.sl.r c arg3 harg3 x1, k0_pay100, k0_pay108 k0_pay100, kernelRun0_B.sl.cst_25, ?_⟩
  refine Eq.trans ?_ (read_block VO0_5 VO0_5.junk _)
  unfold out0_B_5 kernelRun0_B
  rfl

end

end Cert.DA

end
-- ==== Proof.DA.Ops.lean ====
/-
  The tile's operations read at an index, on extended reals.
-/
module

public import proofs.«01_k».proof.Proof.DA.Runs
public import proofs.«01_k».proof.Proof.DA.Math

@[expose] public section

set_option maxRecDepth 16384

noncomputable section

namespace Cert.DA

open Idealize.ShloMosaic Idealize.SL.Sem Cert.KernelIdeal Cert.KernelIdeal.Gen

/-! ## Constants -/

/-- The reductions' starting value is `⊥`. -/
theorem negInf_eq : Ideal.ofBits .f32 0xFF800000#32 = ⊥ := by simp [Ideal.ofBits, Ideal.ieee]

/-- The lowest value the maxima start at. -/
def negR : ℝ := (-1 : ℝ) * ((2 ^ 23 + 4846282 : ℕ) : ℝ) * (2 : ℝ) ^ (76 : ℤ)

theorem neg_eq : Ideal.ofBits .f32 0xF149F2CA#32 = ((negR : ℝ) : EReal) := by
  simp [Ideal.ofBits, Ideal.ieee, negR]

theorem sixtyFour_eq : Ideal.ofBits .f32 0x42800000#32 = ((64 : ℝ) : EReal) := by
  simp [Ideal.ofBits, Ideal.ieee]
  rw [← EReal.coe_mul, EReal.coe_eq_coe_iff]
  norm_num

theorem eps_ne_bot : Ideal.ofBits .f32 0x358637BD#32 ≠ ⊥ := by
  simp [Ideal.ofBits, Ideal.ieee]
  exact EReal.coe_ne_bot _

/-! ## One tile -/

theorem mSt_apply (r : FVec Ideal S256 .f32) (mold : Vec Ideal S1x8x256 .f32) (a : Fin 8) (q : Fin 256) :
    mSt r mold (ix3 (0 : Fin 1) a q) = max (mold (ix3 (0 : Fin 1) a q)) (r (ix1 q)) := by
  pointwise [mSt, mUp]

theorem aUp_apply (r : FVec Ideal S256 .f32) (mold : Vec Ideal S1x8x256 .f32) (pv : FVec Ideal S80x256 .f32)
    (aold : Vec Ideal S1x80x256 .f32) (a : Fin 80) (q : Fin 256) :
    aUp r mold pv aold (ix3 (0 : Fin 1) a q)
      = aold (ix3 (0 : Fin 1) a q)
          * Ideal.exp2 (mold (ix3 (0 : Fin 1) (0 : Fin 8) q) - max (mold (ix3 (0 : Fin 1) (0 : Fin 8) q)) (r (ix1 q)))
        + pv (ix2 a q) := by
  pointwise [aUp, mUp]
  rfl

theorem rN_apply (s : FVec Ideal S256x256 .f32) (q : Fin 256) :
    rN s (ix1 q) = Finset.univ.fold max ⊥ (fun x : Fin 256 => s (ix2 x q)) := by
  pointwise [rN]
  rw [← negInf_eq]

theorem rW_apply (s : FVec Ideal S1408x256 .f32) (q : Fin 256) :
    rW s (ix1 q) = Finset.univ.fold max ⊥ (fun x : Fin 1408 => s (ix2 x q)) := by
  pointwise [rW]
  rw [← negInf_eq]

theorem pvN_apply (s : FVec Ideal S256x256 .f32) (mold : Vec Ideal S1x8x256 .f32) (vt : Vec Ideal S80x256 .bf16) (a : Fin 80)
    (q : Fin 256) :
    pvN s mold vt (ix2 a q) = ∑ x : Fin 256, vt (ix2 a x)
      * Ideal.exp2 (s (ix2 x q) - max (mold (ix3 (0 : Fin 1) (0 : Fin 8) q)) (rN s (ix1 q))) := by
  pointwise [pvN, mRow, mUp]
  rfl

theorem pvW_apply (s : FVec Ideal S1408x256 .f32) (mold : Vec Ideal S1x8x256 .f32) (vt : Vec Ideal S80x1408 .bf16) (a : Fin 80)
    (q : Fin 256) :
    pvW s mold vt (ix2 a q) = ∑ x : Fin 1408, vt (ix2 a x)
      * Ideal.exp2 (s (ix2 x q) - max (mold (ix3 (0 : Fin 1) (0 : Fin 8) q)) (rW s (ix1 q))) := by
  pointwise [pvW, mRow, mUp]
  rfl

theorem sN_apply (kt : Vec Ideal S256x256 .bf16) (qs : Vec Ideal S1x256x256 .bf16) (a : Fin 256) (q : Fin 256) :
    sN kt qs (ix2 a q) = ∑ x : Fin 256, kt (ix2 a x) * qs (ix3 (0 : Fin 1) q x) := by
  pointwise [sN]

theorem sW_apply (kt : Vec Ideal S1408x256 .bf16) (qs : Vec Ideal S1x256x256 .bf16) (a : Fin 1408) (q : Fin 256) :
    sW kt qs (ix2 a q) = ∑ x : Fin 256, kt (ix2 a x) * qs (ix3 (0 : Fin 1) q x) := by
  pointwise [sW]

/-- Lane `l` belongs to half head `l / 32`. -/
theorem pay100_apply (a l : Fin 256) : k0_pay100 (ix2 a l) = BitVec.ofNat 32 (l.val / 32) := by
  pointwise [k0_pay100]
  revert l
  decide +kernel

theorem qMask_apply (x : Vec Ideal S256x256 .bf16) (n : ℕ) (hn : n < 8) (q l : Fin 256) :
    qMask x n (ix3 (0 : Fin 1) q l) = if l.val / 32 = n then x (ix2 q l) else 0 := by
  have e : qMask x n (ix3 (0 : Fin 1) q l)
      = Scalar.select (IntOp.cmpi .eq (k0_pay100 (ix2 q l)) (BitVec.ofNat 32 n)) (x (ix2 q l)) (0 : EReal) := by
    pointwise [qMask]
  rw [e, pay100_apply]
  by_cases h : l.val / 32 = n
  · rw [if_pos h, h]
    simp [IntOp.cmpi, Scalar.select]
  · have hne : BitVec.ofNat 32 (l.val / 32) ≠ BitVec.ofNat 32 n := fun e => h (by
      have := congrArg BitVec.toNat e
      simp only [BitVec.toNat_ofNat] at this
      omega)
    rw [if_neg h]
    simp [IntOp.cmpi, Scalar.select, beq_eq_false_iff_ne.mpr hne]

/-! ## The block from the sums -/

theorem headOut_apply (lam : Elt Ideal .f32) (n1 : Vec Ideal S1x64x256 .f32) (d1 : Vec Ideal S1x1x256 .f32)
    (n2 : Vec Ideal S1x64x256 .f32) (d2 : Vec Ideal S1x1x256 .f32) (d : Fin 64) (q : Fin 256) :
    headOut lam n1 d1 n2 d2 (ix2 d q)
      = nrm ((64 : ℝ) : EReal) (Ideal.ofBits .f32 0x358637BD#32)
          (fun x => Ideal.div (n1 (ix3 (0 : Fin 1) x q)) (d1 (ix3 (0 : Fin 1) (0 : Fin 1) q))
            - lam * Ideal.div (n2 (ix3 (0 : Fin 1) x q)) (d2 (ix3 (0 : Fin 1) (0 : Fin 1) q))) d := by
  rw [← sixtyFour_eq]
  unfold nrm
  pointwise [headOut]

theorem blockOut_apply (hs : Fin 4 → FVec Ideal S64x256 .f32) (g : Vec Ideal S1x256 .f32) (q : Fin 256) (h : Fin 4) (d : Fin 64) :
    blockOut (hs 0) (hs 1) (hs 2) (hs 3) g (ix2 q (⟨h.val * 64 + d.val, by omega⟩ : Fin 256))
      = hs h (ix2 d q) * g (ix2 (0 : Fin 1) (⟨h.val * 64 + d.val, by omega⟩ : Fin 256)) * Ideal.ofBits .f32 0x3F4CCCCD#32 := by
  pointwise [blockOut]
  congr 2
  match h with
  | 0 => rw [dif_pos (show (0 : Fin 4).val * 64 + d.val < 64 by simp)]; congr 2; exact Fin.ext (by simp)
  | 1 =>
    rw [dif_neg (show ¬(1 : Fin 4).val * 64 + d.val < 64 by simp), dif_pos (show (1 : Fin 4).val * 64 + d.val - 64 < 64 by simp)]
    congr 2
    exact Fin.ext (by simp)
  | 2 =>
    rw [dif_neg (show ¬(2 : Fin 4).val * 64 + d.val < 64 by simp; omega),
      dif_neg (show ¬(2 : Fin 4).val * 64 + d.val - 64 < 64 by simp; omega),
      dif_pos (show (2 : Fin 4).val * 64 + d.val - 64 - 64 < 64 by simp; omega)]
    congr 2
    exact Fin.ext (by simp; omega)
  | 3 =>
    rw [dif_neg (show ¬(3 : Fin 4).val * 64 + d.val < 64 by simp; omega),
      dif_neg (show ¬(3 : Fin 4).val * 64 + d.val - 64 < 64 by simp; omega),
      dif_neg (show ¬(3 : Fin 4).val * 64 + d.val - 64 - 64 < 64 by simp; omega)]
    congr 2
    exact Fin.ext (by simp; omega)

end Cert.DA

end
-- ==== Proof.DA.State.lean ====
/-
  What the scratch means on extended reals: after the first `n` keys of the batch, each map's maximum is the maximum of its
  logits so far and its sums are the weighted sums of the values so far; one tile more keeps this so.
-/
module

public import proofs.«01_k».proof.Proof.DA.Ops

@[expose] public section

set_option maxRecDepth 16384

noncomputable section

namespace Cert.DA

open Idealize.ShloMosaic Idealize.SL.Sem Cert.KernelIdeal Cert.KernelIdeal.Gen

/-- A load through a rectangle reads the view at the offset index. -/
theorem rdAt {κ : Kind} {sp : Space} {s : Shape} {e : EltTy} (v : View sig κ sp s e) (f : v.ty.Contents (Elt Ideal))
    {off size : Fin s.rank → ℕ} (inb : ∀ a, off a + size a ≤ s.size a) (j : (Rect.unit (s := s) off size inb).shape.Idx) (i : s.Idx)
    (h : ∀ a, (i a).val = off a + (j a).val) :
    v.readAt (Elt Ideal) (Rect.unit (s := s) off size inb).toLoadRect f j = v.read (Elt Ideal) f i := by
  rw [View.readAt_apply]
  congr 1
  funext a
  refine Fin.ext ?_
  show off a + 1 * (j a).val = (i a).val
  rw [h a, one_mul]

/-! ## Logits and values of a block of queries -/

section

variable (x1 : Vec Ideal S256x256 .bf16) (x2 : Vec Ideal S8448x256 .bf16) (x3 : Vec Ideal S320x8448 .bf16)

/-- Map `c`'s logit of query `q` and key `k`: over all lanes, with the query zero outside the map's own half head. -/
def logit (c : ℕ) (q : Fin 256) (k : ℕ) : EReal :=
  if h : k < 8448 then ∑ l : Fin 256, x2 (ix2 (⟨k, h⟩ : Fin 8448) l) * (if l.val / 32 = c then x1 (ix2 q l) else 0) else 0

/-- Row `r` of head `c / 2`'s values and ones, at key `k`. -/
def vrow (c : Fin 8) (r : Fin 80) (k : ℕ) : ℝ :=
  if h : k < 8448 then (x3 (ix2 (⟨80 * (c.val / 2) + r.val, by omega⟩ : Fin 320) (⟨k, h⟩ : Fin 8448)) : EReal).toReal else 0

theorem logit_of_lt (c : ℕ) (q : Fin 256) (k : ℕ) (h : k < 8448) :
    logit x1 x2 c q k = ∑ l : Fin 256, x2 (ix2 (⟨k, h⟩ : Fin 8448) l) * (if l.val / 32 = c then x1 (ix2 q l) else 0) := dif_pos h

theorem vrow_of_lt (hx3 : ∀ j, ∃ z : ℝ, x3 j = (z : EReal)) (c : Fin 8) (r : Fin 80) (k : ℕ) (h : k < 8448) :
    x3 (ix2 (⟨80 * (c.val / 2) + r.val, by omega⟩ : Fin 320) (⟨k, h⟩ : Fin 8448)) = ((vrow x3 c r k : ℝ) : EReal) := by
  unfold vrow
  rw [dif_pos h]
  obtain ⟨z, hz⟩ := hx3 (ix2 (⟨80 * (c.val / 2) + r.val, by omega⟩ : Fin 320) (⟨k, h⟩ : Fin 8448))
  rw [hz, EReal.toReal_coe]

/-- The scratch after the first `n` keys. -/
def Inv (M : S8x8x256.Idx → EReal) (A : S2x320x256.Idx → EReal) (n : ℕ) : Prop :=
  ∀ (c : Fin 8) (q : Fin 256), Seen negR (logit x1 x2 c.val q) n (M (ix3 c (0 : Fin 8) q))
    ∧ ∀ r : Fin 80, A (ixA c r q) = ((wsum (logit x1 x2 c.val q) (vrow x3 c r) n (M (ix3 c (0 : Fin 8) q)) : ℝ) : EReal)

/-- One tile of `K` keys keeps the meaning of the scratch. -/
theorem Inv.step (hx3 : ∀ j, ∃ z : ℝ, x3 j = (z : EReal)) (M : S8x8x256.Idx → EReal) (A : S2x320x256.Idx → EReal) (n : ℕ)
    (h : Inv x1 x2 x3 M A n) (K : ℕ) (hK : n + K ≤ 8448) (M' : S8x8x256.Idx → EReal) (A' : S2x320x256.Idx → EReal)
    (hM : ∀ (c : Fin 8) (q : Fin 256), M' (ix3 c (0 : Fin 8) q)
      = max (M (ix3 c (0 : Fin 8) q)) (Finset.univ.fold max ⊥ (fun x : Fin K => logit x1 x2 c.val q (n + x.val))))
    (hA : ∀ (c : Fin 8) (q : Fin 256) (r : Fin 80), A' (ixA c r q)
      = A (ixA c r q) * Ideal.exp2 (M (ix3 c (0 : Fin 8) q) - M' (ix3 c (0 : Fin 8) q))
        + ∑ x : Fin K, x3 (ix2 (⟨80 * (c.val / 2) + r.val, by omega⟩ : Fin 320) (⟨n + x.val, by omega⟩ : Fin 8448))
            * Ideal.exp2 (logit x1 x2 c.val q (n + x.val) - M' (ix3 c (0 : Fin 8) q))) :
    Inv x1 x2 x3 M' A' (n + K) := by
  intro c q
  obtain ⟨hs, ha⟩ := h c q
  have hs' : Seen negR (logit x1 x2 c.val q) (n + K) (M' (ix3 c (0 : Fin 8) q)) := by rw [hM]; exact hs.step K
  refine ⟨hs', fun r => ?_⟩
  rw [hA, ha, ← wsum_step hs (vrow x3 c r) K _ hs' (by rw [hM]; exact le_max_left _ _)]
  congr 1
  refine Finset.sum_congr rfl fun x _ => ?_
  rw [vrow_of_lt x3 hx3 c r (n + x.val) (by omega)]

end

/-! ## One wide tile -/

/-- Trip `k`'s tile of keys starts at key `1408 * k`. -/
theorem off1_eq (k : Fin k0_t1_loop.trips) : k0_off1 k = ![1408 * k.val, 0] := by
  revert k; decide +kernel

/-- And its tile of head `h`'s values at row `80 * h`. -/
theorem vOff_eq (k : Fin k0_t1_loop.trips) (h : Fin 4) : vOff k h.val = ![80 * h.val, 1408 * k.val] := by
  revert k h; decide +kernel

section

variable (i : grid0.Coords) (arg4 : Memref sig .tc .vmem S8448x256 .bf16) (arg5 : Memref sig .tc .vmem S320x8448 .bf16) (arg8 : Memref sig .tc .vmem S8x256x256 .bf16) (arg9 : Memref sig .tc .vmem S8x8x256 .f32) (arg10 : Memref sig .tc .vmem S2x320x256 .f32) (k0_h2 : k0_cond2 i = 1#1) (X4 : BufTy.Contents (Elt Ideal) arg4.view.ty) (X5 : BufTy.Contents (Elt Ideal) arg5.view.ty) (X8 : BufTy.Contents (Elt Ideal) arg8.view.ty)
  (x1 : Vec Ideal S256x256 .bf16) (x2 : Vec Ideal S8448x256 .bf16) (x3 : Vec Ideal S320x8448 .bf16)

/-- Trip `k`'s logits. -/
theorem tripS_apply (h4 : arg4.view.read (Elt Ideal) X4 = x2)
    (h8 : ∀ (c : Fin 8) (q l : Fin 256), arg8.view.read (Elt Ideal) X8 (ix3 c q l) = if l.val / 32 = c.val then x1 (ix2 q l) else 0)
    (k : Fin k0_t1_loop.trips) (hk : k.val < 6) (c : Fin 8) (x : Fin 1408) (q : Fin 256) :
    tripS i arg4 arg8 k0_h2 X4 X8 k c.val (ix2 x q) = logit x1 x2 c.val q (1408 * k.val + x.val) := by
  rw [logit_of_lt _ _ _ _ _ (by omega), tripS, sW_apply]
  refine Finset.sum_congr rfl fun l _ => ?_
  rw [rdAt arg4.view X4 (size := S1408x256.size) (Facts₀.k0_off1_inb i k k0_h2) (ix2 x l) (ix2 (⟨1408 * k.val + x.val, by omega⟩ : Fin 8448) l) (by
      intro a
      match a with
      | ⟨0, _⟩ => exact congrArg (· + x.val) (congrFun (off1_eq k) (0 : Fin 2)).symm
      | ⟨1, _⟩ => exact (Nat.zero_add _).symm.trans (congrArg (· + l.val) (congrFun (off1_eq k) (1 : Fin 2)).symm)),
    rdAt arg8.view X8 (size := S1x256x256.size) (inbQ c.val) (ix3 (0 : Fin 1) q l) (ix3 c q l) (by
      intro a
      match a with
      | ⟨0, _⟩ => exact (Nat.mod_eq_of_lt c.isLt).symm
      | ⟨1, _⟩ => exact (Nat.zero_add _).symm
      | ⟨2, _⟩ => exact (Nat.zero_add _).symm), h4, h8]

/-- The old maxima of map `c`. -/
theorem oldM_apply (f9 : BufTy.Contents (Elt Ideal) arg9.view.ty) (c a : Fin 8) (q : Fin 256) :
    oldM arg9 f9 c.val (ix3 (0 : Fin 1) a q) = arg9.view.read (Elt Ideal) f9 (ix3 c a q) := by
  refine rdAt arg9.view f9 _ _ _ ?_
  intro b
  match b with
  | ⟨0, _⟩ => exact (Nat.mod_eq_of_lt c.isLt).symm
  | ⟨1, _⟩ => exact (Nat.zero_add _).symm
  | ⟨2, _⟩ => exact (Nat.zero_add _).symm

/-- The old sums of map `c`. -/
theorem oldA_apply (f10 : BufTy.Contents (Elt Ideal) arg10.view.ty) (c : Fin 8) (r : Fin 80) (q : Fin 256) :
    oldA arg10 f10 c.val (ix3 (0 : Fin 1) r q) = arg10.view.read (Elt Ideal) f10 (ixA c r q) := by
  refine rdAt arg10.view f10 _ _ _ ?_
  intro b
  match b with
  | ⟨0, _⟩ => rfl
  | ⟨1, _⟩ => rfl
  | ⟨2, _⟩ => exact (Nat.zero_add _).symm

/-- One trip keeps the meaning of the scratch. -/
theorem trip_inv (hx3 : ∀ j, ∃ z : ℝ, x3 j = (z : EReal)) (h4 : arg4.view.read (Elt Ideal) X4 = x2)
    (h5 : arg5.view.read (Elt Ideal) X5 = x3)
    (h8 : ∀ (c : Fin 8) (q l : Fin 256), arg8.view.read (Elt Ideal) X8 (ix3 c q l) = if l.val / 32 = c.val then x1 (ix2 q l) else 0)
    (k : Fin k0_t1_loop.trips) (hk : k.val < 6)
    (f9 : BufTy.Contents (Elt Ideal) arg9.view.ty) (f10 : BufTy.Contents (Elt Ideal) arg10.view.ty)
    (h : Inv x1 x2 x3 (arg9.view.read (Elt Ideal) f9) (arg10.view.read (Elt Ideal) f10) (1408 * k.val)) :
    Inv x1 x2 x3 (arg9.view.read (Elt Ideal) (arg9.view.writes (Elt Ideal) f9 (pcM (tripM i arg4 arg8 arg9 k0_h2 X4 X8 k f9) 8)))
      (arg10.view.read (Elt Ideal) (arg10.view.writes (Elt Ideal) f10
        (pcA (tripA i arg4 arg5 arg8 arg9 arg10 k0_h2 X4 X5 X8 k f9 f10) 8))) (1408 * k.val + 1408) := by
  have hr : ∀ (c : Fin 8) (q : Fin 256), rW (tripS i arg4 arg8 k0_h2 X4 X8 k c.val) (ix1 q)
      = Finset.univ.fold max ⊥ (fun x : Fin 1408 => logit x1 x2 c.val q (1408 * k.val + x.val)) := fun c q => by
    rw [rW_apply]
    exact congrArg (Finset.fold max ⊥ · Finset.univ) (funext fun x => tripS_apply i arg4 arg8 k0_h2 X4 X8 x1 x2 h4 h8 k hk c x q)
  have hM : ∀ (c : Fin 8) (q : Fin 256),
      arg9.view.read (Elt Ideal) (arg9.view.writes (Elt Ideal) f9 (pcM (tripM i arg4 arg8 arg9 k0_h2 X4 X8 k f9) 8)) (ix3 c (0 : Fin 8) q)
        = max (arg9.view.read (Elt Ideal) f9 (ix3 c (0 : Fin 8) q))
          (Finset.univ.fold max ⊥ (fun x : Fin 1408 => logit x1 x2 c.val q (1408 * k.val + x.val))) := fun c q => by
    have := read_pcM arg9.view f9 (tripM i arg4 arg8 arg9 k0_h2 X4 X8 k f9) [] 8 le_rfl c (0 : Fin 8) q
    rw [List.append_nil] at this
    rw [this, if_pos c.isLt, tripM, mSt_apply, oldM_apply, hr]
  refine Inv.step x1 x2 x3 hx3 _ _ _ h 1408 (by omega) _ _ hM fun c q r => ?_
  have := read_pcA arg10.view f10 (tripA i arg4 arg5 arg8 arg9 arg10 k0_h2 X4 X5 X8 k f9 f10) [] 8 le_rfl c r q
  rw [List.append_nil] at this
  rw [this, if_pos c.isLt, tripA, aUp_apply, oldA_apply, oldM_apply, hr, hM, pvW_apply, oldM_apply, hr]
  congr 1
  refine Finset.sum_congr rfl fun x _ => ?_
  rw [tripS_apply i arg4 arg8 k0_h2 X4 X8 x1 x2 h4 h8 k hk c x q]
  congr 1
  rw [rdAt arg5.view X5 (size := S80x1408.size) (vOff_inb i k k0_h2 (c.val / 2)) (ix2 r x) (ix2 (⟨80 * (c.val / 2) + r.val, by omega⟩ : Fin 320) (⟨1408 * k.val + x.val, by omega⟩ : Fin 8448)) (by
      have e := vOff_eq k ⟨c.val / 2, by omega⟩
      dsimp only at e
      intro a
      match a with
      | ⟨0, _⟩ => exact congrArg (· + r.val) (congrFun e (0 : Fin 2)).symm
      | ⟨1, _⟩ => exact congrArg (· + x.val) (congrFun e (1 : Fin 2)).symm), h5]

end

/-! ## The narrow tile -/

section

variable (arg3 : Memref sig .tc .vmem S256x256 .bf16) (harg3 : arg3.IsWhole) (arg4 : Memref sig .tc .vmem S8448x256 .bf16) (harg4 : arg4.IsWhole) (arg5 : Memref sig .tc .vmem S320x8448 .bf16) (harg5 : arg5.IsWhole) (arg8 : Memref sig .tc .vmem S8x256x256 .bf16) (arg9 : Memref sig .tc .vmem S8x8x256 .f32) (arg10 : Memref sig .tc .vmem S2x320x256 .f32)
  (x1 : Vec Ideal S256x256 .bf16) (x2 : Vec Ideal S8448x256 .bf16) (x3 : Vec Ideal S320x8448 .bf16)

/-- The masked queries in their scratch. -/
theorem qScr_apply (c : Fin 8) (q l : Fin 256) :
    arg8.view.read (Elt Ideal) (qScr arg3 (harg3.unread x1) arg8) (ix3 c q l) = if l.val / 32 = c.val then x1 (ix2 q l) else 0 := by
  rw [qScr, read_pcQ _ _ _ 8 le_rfl c c.isLt, qMask_apply _ _ c.isLt]
  rw [rdAt arg3.view (harg3.unread x1) (size := S256x256.size) inb_S256x256_S256x256_0_0 (ix2 q l) (ix2 q l) (by
    intro a
    match a with
    | ⟨0, _⟩ => exact (Nat.zero_add _).symm
    | ⟨1, _⟩ => exact (Nat.zero_add _).symm), harg3.read_unread]

/-- The maxima before any tile. -/
theorem initM_apply (j : S8x8x256.Idx) :
    arg9.view.read (Elt Ideal) (arg9.view.writes (Elt Ideal) arg9.view.junk initM) j = ((negR : ℝ) : EReal) := by
  refine (View.read_writes_cons_unit_of_mem (Val := Elt Ideal) arg9.view arg9.view.junk inb_S8x8x256_S8x8x256_0_0_0 (k0_pay111 (F := Ideal)) [] j j
    (off' := (![0, 0, 0] : Fin 3 → ℕ)) rfl (by
      intro b
      match b with
      | ⟨0, _⟩ => exact (Nat.zero_add _).symm
      | ⟨1, _⟩ => exact (Nat.zero_add _).symm
      | ⟨2, _⟩ => exact (Nat.zero_add _).symm)).trans ?_
  rw [← neg_eq]
  rfl

/-- The sums before any tile. -/
theorem initA_apply (j : S2x320x256.Idx) :
    arg10.view.read (Elt Ideal) (arg10.view.writes (Elt Ideal) arg10.view.junk initA) j = 0 := by
  refine (View.read_writes_cons_unit_of_mem (Val := Elt Ideal) arg10.view arg10.view.junk inb_S2x320x256_S2x320x256_0_0_0 (k0_pay112 (F := Ideal)) [] j j
    (off' := (![0, 0, 0] : Fin 3 → ℕ)) rfl (by
      intro b
      match b with
      | ⟨0, _⟩ => exact (Nat.zero_add _).symm
      | ⟨1, _⟩ => exact (Nat.zero_add _).symm
      | ⟨2, _⟩ => exact (Nat.zero_add _).symm)).trans ?_
  exact Ideal.ofBits_zero_f32

/-- Before any tile no key has been seen. -/
theorem init_inv : Inv x1 x2 x3 (arg9.view.read (Elt Ideal) (arg9.view.writes (Elt Ideal) arg9.view.junk initM))
    (arg10.view.read (Elt Ideal) (arg10.view.writes (Elt Ideal) arg10.view.junk initA)) 0 := by
  intro c q
  rw [initM_apply]
  refine ⟨seen_zero _ _, fun r => ?_⟩
  rw [initA_apply, wsum, Finset.range_zero, Finset.sum_empty, EReal.coe_zero]

/-- The narrow tile's logits. -/
theorem narS_apply (c : Fin 8) (x q : Fin 256) :
    narS arg3 harg3 arg4 harg4 arg8 x1 x2 c.val (ix2 x q) = logit x1 x2 c.val q (0 + x.val) := by
  rw [Nat.zero_add, logit_of_lt _ _ _ _ _ (by omega), narS, sN_apply]
  refine Finset.sum_congr rfl fun l _ => ?_
  rw [rdAt arg4.view _ (size := S256x256.size) inb_S8448x256_S256x256_0_0 (ix2 x l) (ix2 (⟨x.val, by omega⟩ : Fin 8448) l) (by
      intro a
      match a with
      | ⟨0, _⟩ => exact (Nat.zero_add _).symm
      | ⟨1, _⟩ => exact (Nat.zero_add _).symm),
    rdAt arg8.view _ (size := S1x256x256.size) (inbQ c.val) (ix3 (0 : Fin 1) q l) (ix3 c q l) (by
      intro a
      match a with
      | ⟨0, _⟩ => exact (Nat.mod_eq_of_lt c.isLt).symm
      | ⟨1, _⟩ => exact (Nat.zero_add _).symm
      | ⟨2, _⟩ => exact (Nat.zero_add _).symm), harg4.read_unread, qScr_apply]

/-- The first `n` maps of the narrow tile, as the maxima read afterwards. -/
theorem narM_read (S : ℕ → FVec Ideal S256x256 .f32) (n : ℕ) (hn : n ≤ 8) (c a : Fin 8) (q : Fin 256) :
    arg9.view.read (Elt Ideal) (arg9.view.writes (Elt Ideal) arg9.view.junk (narM arg9 S n)) (ix3 c a q)
      = if c.val < n then max ((negR : ℝ) : EReal) (rN (S c.val) (ix1 q)) else ((negR : ℝ) : EReal) := by
  induction n with
  | zero => rw [if_neg (Nat.not_lt_zero _), narM, initM_apply]
  | succ n ih =>
    rw [narM]
    rcases Nat.lt_trichotomy c.val n with h | h | h
    · rw [View.read_writes_cons_unit_of_not_mem arg9.view _ (inbM n) _ _ (ix3 c a q) rfl (0 : Fin 3)
        (Or.inl (show c.val < n % 8 by omega)), ih (by omega), if_pos h, if_pos (by omega)]
    · rw [View.read_writes_cons_unit_of_mem arg9.view _ (inbM n) _ _ (ix3 c a q) (ix3 (0 : Fin 1) a q) rfl (by
        intro b
        match b with
        | ⟨0, _⟩ => show c.val = n % 8 + 0; omega
        | ⟨1, _⟩ => show a.val = 0 + a.val; omega
        | ⟨2, _⟩ => show q.val = 0 + q.val; omega), if_pos (by omega), ← h, mSt_apply, oldM_apply, h, ih (by omega),
        if_neg (by omega)]
    · rw [View.read_writes_cons_unit_of_not_mem arg9.view _ (inbM n) _ _ (ix3 c a q) rfl (0 : Fin 3)
        (Or.inr (show n % 8 + 1 ≤ c.val by omega)), ih (by omega), if_neg (by omega), if_neg (by omega)]

/-- The first `n` maps of the narrow tile, as the sums read afterwards. -/
theorem narA_read (S : ℕ → FVec Ideal S256x256 .f32) (vt : ℕ → Vec Ideal S80x256 .bf16) (n : ℕ) (hn : n ≤ 8) (c : Fin 8) (r : Fin 80)
    (q : Fin 256) :
    arg10.view.read (Elt Ideal) (arg10.view.writes (Elt Ideal) arg10.view.junk (narA arg9 arg10 S vt n)) (ixA c r q)
      = if c.val < n then (0 : EReal) * Ideal.exp2 (((negR : ℝ) : EReal) - max ((negR : ℝ) : EReal) (rN (S c.val) (ix1 q)))
          + ∑ x : Fin 256, vt c.val (ix2 r x)
            * Ideal.exp2 (S c.val (ix2 x q) - max ((negR : ℝ) : EReal) (rN (S c.val) (ix1 q))) else 0 := by
  induction n with
  | zero => rw [if_neg (Nat.not_lt_zero _), narA, initA_apply]
  | succ n ih =>
    rw [narA]
    by_cases h : c.val = n
    · have hm : ∀ a : Fin 8, oldM arg9 (arg9.view.writes (Elt Ideal) arg9.view.junk (narM arg9 S c.val)) c.val (ix3 (0 : Fin 1) a q)
          = ((negR : ℝ) : EReal) := fun a => by
        rw [oldM_apply, narM_read _ _ _ (by omega), if_neg (by omega)]
      rw [View.read_writes_cons_unit_of_mem arg10.view _ (inbA n) _ _ (ixA c r q) (ix3 (0 : Fin 1) r q) rfl (by
        intro b
        match b with
        | ⟨0, _⟩ => show c.val % 2 = n % 2 + 0; omega
        | ⟨1, _⟩ => show 80 * (c.val / 2 % 4) + r.val = 80 * (n / 2 % 4) + r.val; omega
        | ⟨2, _⟩ => show q.val = 0 + q.val; omega), if_pos (by omega), ← h, aUp_apply, oldA_apply, pvN_apply, hm, h,
        ih (by omega), if_neg (by omega)]
    · have hstep : ∀ w, arg10.view.read (Elt Ideal) (arg10.view.writes (Elt Ideal) arg10.view.junk
            ((⟨rcA n, w⟩ : View.Piece (Elt Ideal) S2x320x256 .f32) :: narA arg9 arg10 S vt n)) (ixA c r q)
          = arg10.view.read (Elt Ideal) (arg10.view.writes (Elt Ideal) arg10.view.junk (narA arg9 arg10 S vt n)) (ixA c r q) := by
        intro w
        by_cases h0 : c.val % 2 = n % 2
        · exact View.read_writes_cons_unit_of_not_mem arg10.view _ (inbA n) w _ (ixA c r q) rfl (1 : Fin 3)
            (show 80 * (c.val / 2 % 4) + r.val < 80 * (n / 2 % 4) ∨ 80 * (n / 2 % 4) + 80 ≤ 80 * (c.val / 2 % 4) + r.val by omega)
        · exact View.read_writes_cons_unit_of_not_mem arg10.view _ (inbA n) w _ (ixA c r q) rfl (0 : Fin 3)
            (show c.val % 2 < n % 2 ∨ n % 2 + 1 ≤ c.val % 2 by omega)
      rw [hstep, ih (by omega)]
      by_cases h2 : c.val < n
      · rw [if_pos h2, if_pos (by omega)]
      · rw [if_neg h2, if_neg (by omega)]

/-- After the narrow tile the first 256 keys have been seen. -/
theorem nar_inv (hx3 : ∀ j, ∃ z : ℝ, x3 j = (z : EReal)) :
    Inv x1 x2 x3
      (arg9.view.read (Elt Ideal) (arg9.view.writes (Elt Ideal) arg9.view.junk (narM arg9 (narS arg3 harg3 arg4 harg4 arg8 x1 x2) 8)))
      (arg10.view.read (Elt Ideal) (arg10.view.writes (Elt Ideal) arg10.view.junk
        (narA arg9 arg10 (narS arg3 harg3 arg4 harg4 arg8 x1 x2) (narV arg5 harg5 x3) 8))) 256 := by
  have hr : ∀ (c : Fin 8) (q : Fin 256), rN (narS arg3 harg3 arg4 harg4 arg8 x1 x2 c.val) (ix1 q)
      = Finset.univ.fold max ⊥ (fun x : Fin 256 => logit x1 x2 c.val q (0 + x.val)) := fun c q => by
    rw [rN_apply]
    exact congrArg (Finset.fold max ⊥ · Finset.univ) (funext fun x => narS_apply arg3 harg3 arg4 harg4 arg8 x1 x2 c x q)
  refine Inv.step x1 x2 x3 hx3 _ _ 0 (init_inv arg9 arg10 x1 x2 x3) 256 (by omega) _ _ (fun c q => ?_) (fun c q r => ?_)
  · rw [narM_read _ _ _ le_rfl, if_pos c.isLt, initM_apply, hr]
  · rw [narA_read _ _ _ _ _ le_rfl, narM_read _ _ _ le_rfl, if_pos c.isLt, if_pos c.isLt, initM_apply, initA_apply]
    congr 1
    refine Finset.sum_congr rfl fun x _ => ?_
    rw [narS_apply]
    congr 1
    rw [narV, rdAt arg5.view _ (size := S80x256.size) (inbV (c.val / 2)) (ix2 r x) (ix2 (⟨80 * (c.val / 2) + r.val, by omega⟩ : Fin 320) (⟨0 + x.val, by omega⟩ : Fin 8448)) (by
      intro a
      match a with
      | ⟨0, _⟩ => show 80 * (c.val / 2) + r.val = 80 * (c.val / 2 % 4) + r.val; omega
      | ⟨1, _⟩ => rfl), harg5.read_unread]

end

end Cert.DA

end
-- ==== Proof.DA.Block.lean ====
/-
  The block of outputs that each case of the body writes, read at an index: per head, the two maps' sums over the keys seen,
  normalised and scaled.
-/
module

public import proofs.«01_k».proof.Proof.DA.State

@[expose] public section

set_option maxRecDepth 16384

noncomputable section

namespace Cert.DA

open Idealize.ShloMosaic Idealize.SL.Sem Cert.KernelIdeal Cert.KernelIdeal.Gen

/-- Map `c` of head `h`: the even maps are the first softmaxes, the odd ones the second. -/
def mapOf (h : Fin 4) (b : Fin 2) : Fin 8 := ⟨2 * h.val + b.val, by omega⟩

section

variable (x0 : Vec Ideal S1 .f32) (x1 : Vec Ideal S256x256 .bf16) (x2 : Vec Ideal S8448x256 .bf16) (x3 : Vec Ideal S320x8448 .bf16)
  (x4 : Vec Ideal S1x256 .f32)

/-- One output of a block whose queries have seen the first `n` keys against the maxima `M1`, `M2`. -/
def outVal (n : ℕ) (M1 M2 : EReal) (q : Fin 256) (h : Fin 4) (d : Fin 64) : EReal :=
  nrm ((64 : ℝ) : EReal) (Ideal.ofBits .f32 0x358637BD#32)
    (fun d => Ideal.div ((wsum (logit x1 x2 (mapOf h 0).val q) (vrow x3 (mapOf h 0) ⟨d.val, by omega⟩) n M1 : ℝ) : EReal)
        ((wsum (logit x1 x2 (mapOf h 0).val q) (vrow x3 (mapOf h 0) ⟨64, by omega⟩) n M1 : ℝ) : EReal)
      - x0 (ix1 (0 : Fin 1)) * Ideal.div ((wsum (logit x1 x2 (mapOf h 1).val q) (vrow x3 (mapOf h 1) ⟨d.val, by omega⟩) n M2 : ℝ) : EReal)
        ((wsum (logit x1 x2 (mapOf h 1).val q) (vrow x3 (mapOf h 1) ⟨64, by omega⟩) n M2 : ℝ) : EReal)) d
    * x4 (ix2 (0 : Fin 1) (⟨h.val * 64 + d.val, by omega⟩ : Fin 256)) * Ideal.ofBits .f32 0x3F4CCCCD#32

/-- `B` holds the outputs of queries that have seen the first `n` keys. -/
def IsOut (n : ℕ) (B : FVec Ideal S256x256 .f32) : Prop :=
  ∀ (q : Fin 256) (h : Fin 4) (d : Fin 64), ∃ M1 M2 : EReal,
    Seen negR (logit x1 x2 (mapOf h 0).val q) n M1 ∧ Seen negR (logit x1 x2 (mapOf h 1).val q) n M2
      ∧ B (ix2 q (⟨h.val * 64 + d.val, by omega⟩ : Fin 256)) = outVal x0 x1 x2 x3 x4 n M1 M2 q h d

end

section

variable (arg2 : Memref sig .tc .smem S1 .f32) (harg2 : arg2.IsWhole) (arg6 : Memref sig .tc .vmem S1x256 .f32) (harg6 : arg6.IsWhole)
  (arg10 : Memref sig .tc .vmem S2x320x256 .f32)
  (x0 : Vec Ideal S1 .f32) (x1 : Vec Ideal S256x256 .bf16) (x2 : Vec Ideal S8448x256 .bf16) (x3 : Vec Ideal S320x8448 .bf16)
  (x4 : Vec Ideal S1x256 .f32)

/-- A map's numerators are the first 64 of its eighty rows. -/
theorem numOf_apply (f10 : BufTy.Contents (Elt Ideal) arg10.view.ty) (c : Fin 8) (d : Fin 64) (q : Fin 256) :
    numOf arg10 f10 c.val (ix3 (0 : Fin 1) d q) = arg10.view.read (Elt Ideal) f10 (ixA c ⟨d.val, by omega⟩ q) := by
  refine rdAt arg10.view f10 (size := S1x64x256.size) (inbNum c.val) _ _ ?_
  intro b
  match b with
  | ⟨0, _⟩ => rfl
  | ⟨1, _⟩ => rfl
  | ⟨2, _⟩ => exact (Nat.zero_add _).symm

/-- And its denominator the row after them. -/
theorem denOf_apply (f10 : BufTy.Contents (Elt Ideal) arg10.view.ty) (c : Fin 8) (q : Fin 256) :
    denOf arg10 f10 c.val (ix3 (0 : Fin 1) (0 : Fin 1) q) = arg10.view.read (Elt Ideal) f10 (ixA c ⟨64, by omega⟩ q) := by
  refine rdAt arg10.view f10 (size := S1x1x256.size) (inbDen c.val) _ _ ?_
  intro b
  match b with
  | ⟨0, _⟩ => rfl
  | ⟨1, _⟩ => rfl
  | ⟨2, _⟩ => exact (Nat.zero_add _).symm

/-- The block from a scratch that means the first `n` keys. -/
theorem fin_isOut (n : ℕ) (M : S8x8x256.Idx → EReal) (L : List (View.Piece (Elt Ideal) S2x320x256 .f32))
    (hI : Inv x1 x2 x3 M (arg10.view.read (Elt Ideal) (arg10.view.writes (Elt Ideal) arg10.view.junk L)) n) :
    IsOut x0 x1 x2 x3 x4 n (fin10 arg2 harg2 arg6 harg6 arg10 x0 x4 L) := by
  intro q h d
  refine ⟨M (ix3 (mapOf h 0) (0 : Fin 8) q), M (ix3 (mapOf h 1) (0 : Fin 8) q), (hI _ q).1, (hI _ q).1, ?_⟩
  unfold fin10 blockAt outVal
  rw [show (headAt arg10 (arg10.view.writes (Elt Ideal) arg10.view.junk L) _ 0)
      = (fun h : Fin 4 => headAt arg10 (arg10.view.writes (Elt Ideal) arg10.view.junk L)
        (View.readAt (Elt Ideal) arg2.view (Rect.unit (s := S1) ![0] S1.size inb_S1_S1_0).toLoadRect (harg2.unread x0)
          (Shape.Idx.first (s := S1) (by decide))) h.val) 0 from rfl]
  refine (blockOut_apply (fun h : Fin 4 => headAt arg10 (arg10.view.writes (Elt Ideal) arg10.view.junk L)
        (View.readAt (Elt Ideal) arg2.view (Rect.unit (s := S1) ![0] S1.size inb_S1_S1_0).toLoadRect (harg2.unread x0)
          (Shape.Idx.first (s := S1) (by decide))) h.val) _ q h d).trans ?_
  have e0 : View.readAt (Elt Ideal) arg2.view (Rect.unit (s := S1) ![0] S1.size inb_S1_S1_0).toLoadRect (harg2.unread x0)
      (Shape.Idx.first (s := S1) (by decide)) = x0 (ix1 (0 : Fin 1)) := by
    rw [rdAt arg2.view (harg2.unread x0) (size := S1.size) inb_S1_S1_0 _ (ix1 (0 : Fin 1)) (by
      intro a
      match a with
      | ⟨0, _⟩ => rfl), harg2.read_unread]
  have e4 : View.readAt (Elt Ideal) arg6.view (Rect.unit (s := S1x256) ![0, 0] S1x256.size inb_S1x256_S1x256_0_0).toLoadRect
      (harg6.unread x4) (ix2 (0 : Fin 1) (⟨h.val * 64 + d.val, by omega⟩ : Fin 256))
        = x4 (ix2 (0 : Fin 1) (⟨h.val * 64 + d.val, by omega⟩ : Fin 256)) := by
    rw [rdAt arg6.view (harg6.unread x4) (size := S1x256.size) inb_S1x256_S1x256_0_0 _
      (ix2 (0 : Fin 1) (⟨h.val * 64 + d.val, by omega⟩ : Fin 256)) (by
      intro a
      match a with
      | ⟨0, _⟩ => rfl
      | ⟨1, _⟩ => exact (Nat.zero_add _).symm), harg6.read_unread]
  rw [e4]
  congr 2
  dsimp only
  rw [headAt, headOut_apply, e0]
  congr 1
  funext x
  have n0 := numOf_apply arg10 (arg10.view.writes (Elt Ideal) arg10.view.junk L) (mapOf h 0) x q
  have d0 := denOf_apply arg10 (arg10.view.writes (Elt Ideal) arg10.view.junk L) (mapOf h 0) q
  have n1 := numOf_apply arg10 (arg10.view.writes (Elt Ideal) arg10.view.junk L) (mapOf h 1) x q
  have d1 := denOf_apply arg10 (arg10.view.writes (Elt Ideal) arg10.view.junk L) (mapOf h 1) q
  rw [(hI _ q).2] at n0 d0 n1 d1
  exact congrArg₂ (· - ·) (congrArg₂ Ideal.div n0 d0) (congrArg (x0 (ix1 (0 : Fin 1)) * ·) (congrArg₂ Ideal.div n1 d1))

end

section

variable (c : Dev nD) (i : grid0.Coords) (arg2 : Memref sig .tc .smem S1 .f32) (harg2 : arg2.IsWhole) (arg3 : Memref sig .tc .vmem S256x256 .bf16) (harg3 : arg3.IsWhole) (arg4 : Memref sig .tc .vmem S8448x256 .bf16) (harg4 : arg4.IsWhole) (arg5 : Memref sig .tc .vmem S320x8448 .bf16) (harg5 : arg5.IsWhole) (arg6 : Memref sig .tc .vmem S1x256 .f32) (harg6 : arg6.IsWhole) (arg7 : Memref sig .tc .vmem S256x256 .f32) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S2x320x256 .f32) (harg10 : arg10.IsWhole)
  (x0 : Vec Ideal S1 .f32) (x1 : Vec Ideal S256x256 .bf16) (x2 : Vec Ideal S8448x256 .bf16) (x3 : Vec Ideal S320x8448 .bf16) (x4 : Vec Ideal S1x256 .f32)

/-- A context tile's block: its queries see the 256 context keys. -/
theorem isOut_A (hx3 : ∀ j, ∃ z : ℝ, x3 j = (z : EReal)) (hc0 : cond0_0 i) (hc1 : ¬cond0_1 i) :
    IsOut x0 x1 x2 x3 x4 256
      (out0_A_5 c i arg2 harg2 arg3 harg3 arg4 harg4 arg5 harg5 arg6 harg6 arg7 harg7 arg8 harg8 arg9 harg9 arg10 harg10 hc0 hc1 x0 x1 x2 x3 x4) := by
  rw [out_A]
  exact fin_isOut _ _ _ _ _ _ _ _ _ _ _ _ _ (nar_inv arg3 harg3 arg4 harg4 arg5 harg5 arg8 arg9 arg10 x1 x2 x3 hx3)

/-- Before trip `n` of the loop, the first `1408 * n` keys have been seen. -/
theorem loop_inv (hx3 : ∀ j, ∃ z : ℝ, x3 j = (z : EReal)) (hc1 : cond0_1 i) (arg1 : BitVec 32) (v1 : FVec Ideal S256x256 .bf16)
    (v26 : IVec S256x256 32) (v70 : IVec S256x256 1) (cst_25 : Ideal .bf16) (n : ℕ) (hn : n ≤ 6) :
    Inv x1 x2 x3
      (arg9.view.read (Elt Ideal) (arg9.view.writes (Elt Ideal) (arg9.view.writes (Elt Ideal) arg9.view.junk initM)
        (pb_k0_t1 Variants.none c none i arg2 harg2 arg3 harg3 arg4 harg4 arg5 harg5 arg6 harg6 arg7 harg7 arg8 harg8 arg9 harg9 arg10 harg10
          arg1 v1 v26 v70 cst_25 hc1 (harg4.unread x2) (harg5.unread x3) (qScr arg3 (harg3.unread x1) arg8)
          (arg9.view.writes (Elt Ideal) arg9.view.junk initM) (arg10.view.writes (Elt Ideal) arg10.view.junk initA) n).1))
      (arg10.view.read (Elt Ideal) (arg10.view.writes (Elt Ideal) (arg10.view.writes (Elt Ideal) arg10.view.junk initA)
        (pb_k0_t1 Variants.none c none i arg2 harg2 arg3 harg3 arg4 harg4 arg5 harg5 arg6 harg6 arg7 harg7 arg8 harg8 arg9 harg9 arg10 harg10
          arg1 v1 v26 v70 cst_25 hc1 (harg4.unread x2) (harg5.unread x3) (qScr arg3 (harg3.unread x1) arg8)
          (arg9.view.writes (Elt Ideal) arg9.view.junk initM) (arg10.view.writes (Elt Ideal) arg10.view.junk initA) n).2)) (1408 * n) := by
  induction n with
  | zero => exact init_inv arg9 arg10 x1 x2 x3
  | succ n ih =>
    have ht : n < k0_t1_loop.trips := lt_of_lt_of_eq (show n < 6 by omega) (by decide +kernel)
    have hs := pb_k0_t1_succ Variants.none c none i arg2 harg2 arg3 harg3 arg4 harg4 arg5 harg5 arg6 harg6 arg7 harg7 arg8 harg8 arg9 harg9 arg10 harg10
          arg1 v1 v26 v70 cst_25 hc1 (harg4.unread x2) (harg5.unread x3) (qScr arg3 (harg3.unread x1) arg8)
          (arg9.view.writes (Elt Ideal) arg9.view.junk initM) (arg10.view.writes (Elt Ideal) arg10.view.junk initA) ⟨n, ht⟩
    dsimp only at hs
    rw [hs]
    dsimp only [tripL_k0_t1]
    rw [trip_maxima, trip_sums, View.writes_append, View.writes_append]
    exact trip_inv i arg4 arg5 arg8 arg9 arg10 hc1 _ _ _ x1 x2 x3 hx3 (harg4.read_unread x2) (harg5.read_unread x3)
      (qScr_apply arg3 harg3 arg8 x1) ⟨n, ht⟩ (by show n < 6; omega) _ _ (ih (by omega))

/-- A latent tile's block: its queries see every key of the batch. -/
theorem isOut_B (hx3 : ∀ j, ∃ z : ℝ, x3 j = (z : EReal)) (hc0 : ¬cond0_0 i) (hc1 : cond0_1 i) :
    IsOut x0 x1 x2 x3 x4 8448
      (out0_B_5 c i arg2 harg2 arg3 harg3 arg4 harg4 arg5 harg5 arg6 harg6 arg7 harg7 arg8 harg8 arg9 harg9 arg10 harg10 hc0 hc1 x0 x1 x2 x3 x4) := by
  obtain ⟨v1, v26, v70, cst_25, e⟩ := out_B c i arg2 harg2 arg3 harg3 arg4 harg4 arg5 harg5 arg6 harg6 arg7 harg7 arg8 harg8 arg9 harg9 arg10 harg10
    x0 x1 x2 x3 x4 hc0 hc1
  rw [e]
  have hI := loop_inv c i arg2 harg2 arg3 harg3 arg4 harg4 arg5 harg5 arg6 harg6 arg7 harg7 arg8 harg8 arg9 harg9 arg10 harg10 x1 x2 x3 hx3
    hc1 (BitVec.ofNat 32 ↑(i 1)) v1 v26 v70 cst_25 6 le_rfl
  rw [show k0_t1_loop.trips = 6 from by decide +kernel]
  rw [← View.writes_append arg10.view] at hI
  exact fin_isOut _ _ _ _ _ _ _ _ _ _ 8448 _ _ hI

end

end Cert.DA

end
-- ==== Proof.DA.Prep.lean ====
/-
  The arrays the host prepares for the kernel, and the kernel's blocks of them, read at an index.
-/
module

public import proofs.«01_k».proof.Proof.DA.Block
public import proofs.«01_k».proof.Proof.DA.Data
public import proofs.«01_k».proof.Proof.Gen.KernelIdeal.Value
public import Idealize.ShloMosaic.Lib.StableHlo.ReadAt
public import Idealize.ShloMosaic.Lib.Pipeline.ValueKit.Geometry

@[expose] public section

set_option maxRecDepth 16384

noncomputable section

namespace Cert.DA

open Idealize.ShloMosaic Idealize.SL.Sem Cert.KernelIdeal Cert.KernelIdeal.Gen

variable (m : (ℓ : Loc nD τ sig) → Buf (Elt Ideal) ℓ) (c : Dev nD)

/-- The arguments' elements by their coordinates. -/
abbrev g0 (i : Fin 4) (j : Fin 32) : EReal := m (c, Proc.tc.devRef main_arg0) (ix2 i j)
@[inherit_doc g0] abbrev g1 (i : Fin 16896) (j : Fin 1024) : EReal := m (c, Proc.tc.devRef main_arg1) (ix2 i j)
@[inherit_doc g0] abbrev g2 (i : Fin 16896) (j : Fin 256) : EReal := m (c, Proc.tc.devRef main_arg2) (ix2 i j)
@[inherit_doc g0] abbrev g3 (i : Fin 64) : EReal := m (c, Proc.tc.devRef main_arg3) (ix1 i)

/-- The kernel's factor of the queries. -/
def ss : EReal := Ideal.div 1 (Ideal.sqrt (Ideal.ofBits .f32 1107296256#32) * Ideal.log (Ideal.ofBits .f32 1073741824#32))

/-! ## The host's arrays -/

theorem query_apply (i : Fin 16896) (l : Fin 256) :
    V m c main_v9 (ix2 i (⟨l.val, by omega⟩ : Fin 1024)) = g1 m c i ⟨l.val, by omega⟩ * ss := by
  unfold V
  after_reads_at
  after_reads_at
  rfl

theorem key_apply (i : Fin 16896) (l : Fin 256) :
    V m c main_v9 (ix2 i (⟨256 + l.val, by omega⟩ : Fin 1024)) = g1 m c i ⟨256 + l.val, by omega⟩ := by
  unfold V
  after_reads_at
  after_reads_at

theorem value_apply (b : Fin 2) (h : Fin 4) (d : Fin 64) (k : Fin 8448) :
    V m c main_v15 (ix2 (⟨b.val * 320 + (h.val * 80 + d.val), by omega⟩ : Fin 640) k) = g2 m c (row b k) (col h d) := by
  unfold V
  after_reads_at
  rw [dif_pos (show (b.val * 320 + (h.val * 80 + d.val)) % 80 < 64 by omega)]
  after_reads_at
  exact congrArg (m (c, Proc.tc.devRef main_arg2)) (ix2_congr
    (show (b.val * 320 + (h.val * 80 + d.val)) / 320 * 8448 + k.val = b.val * 8448 + k.val by omega)
    (show (b.val * 320 + (h.val * 80 + d.val)) / 80 % 4 * 64 + (b.val * 320 + (h.val * 80 + d.val)) % 80 = h.val * 64 + d.val by omega))

theorem ones_apply (b : Fin 2) (h : Fin 4) (d : Fin 16) (k : Fin 8448) :
    V m c main_v15 (ix2 (⟨b.val * 320 + (h.val * 80 + (64 + d.val)), by omega⟩ : Fin 640) k) = (1 : EReal) := by
  unfold V
  after_reads_at
  rw [dif_neg (show ¬ (b.val * 320 + (h.val * 80 + (64 + d.val))) % 80 < 64 by omega)]
  after_reads_at

theorem lam_apply : V m c main_v32 (ix1 (0 : Fin 1)) = lamOf (g0 m c) := by
  unfold V
  after_reads_at
  rfl

theorem gain_apply (j : Fin 256) : V m c main_v36 (ix2 (0 : Fin 1) j) = g3 m c ⟨j.val % 64, by omega⟩ := by
  unfold V
  after_reads_at

/-! ## The kernel's blocks -/

theorem idx0 : ∀ t : Fin cfg0.N, win0_0.index t = ![0] := (by decide +kernel : ∀ t : Fin grid0.N, win0_0.index t = ![0])
theorem idx1 : ∀ t : Fin cfg0.N, win0_1.index t = ![t.val, 0] := (by decide +kernel : ∀ t : Fin grid0.N, win0_1.index t = ![t.val, 0])
theorem idx2 : ∀ t : Fin cfg0.N, win0_2.index t = ![t.val / 33, 1] :=
  (by decide +kernel : ∀ t : Fin grid0.N, win0_2.index t = ![t.val / 33, 1])
theorem idx3 : ∀ t : Fin cfg0.N, win0_3.index t = ![t.val / 33, 0] :=
  (by decide +kernel : ∀ t : Fin grid0.N, win0_3.index t = ![t.val / 33, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem pt_lt (t : Fin cfg0.N) : t.val < 66 := t.isLt

/-- The sequence that point `t` works on, and the position of its first query. -/
def seqOf (t : Fin cfg0.N) : Fin 2 := ⟨t.val / 33, by have := pt_lt t; omega⟩
@[inherit_doc seqOf] def posOf (t : Fin cfg0.N) (q : Fin 256) : Fin 8448 := ⟨t.val % 33 * 256 + q.val, by omega⟩

theorem blk0_apply (t : Fin cfg0.N) : iblk m c 0 t (ix1 (0 : Fin 1)) = lamOf (g0 m c) := by
  refine Eq.trans ?_ (lam_apply m c)
  have hi := idx0 t
  unfold iblk
  generalize V m c = W
  blk_ext [hi]

theorem blk1_apply (t : Fin cfg0.N) (q l : Fin 256) :
    iblk m c 1 t (ix2 q l) = g1 m c (row (seqOf t) (posOf t q)) ⟨l.val, by omega⟩ * ss := by
  refine Eq.trans ?_ (query_apply m c _ l)
  have hi := idx1 t
  unfold iblk row seqOf posOf
  generalize V m c = W
  blk_ext [hi]

theorem blk2_apply (t : Fin cfg0.N) (k : Fin 8448) (l : Fin 256) :
    iblk m c 2 t (ix2 k l) = g1 m c (row (seqOf t) k) ⟨256 + l.val, by omega⟩ := by
  refine Eq.trans ?_ (key_apply m c _ l)
  have hi := idx2 t
  unfold iblk row seqOf
  generalize V m c = W
  blk_ext [hi]

theorem blk3_apply (t : Fin cfg0.N) (r : Fin 320) (k : Fin 8448) :
    iblk m c 3 t (ix2 r k) = V m c main_v15 (ix2 (⟨(seqOf t).val * 320 + r.val, by omega⟩ : Fin 640) k) := by
  have hi := idx3 t
  unfold iblk seqOf
  generalize V m c = W
  blk_ext [hi]

theorem blk4_apply (t : Fin cfg0.N) (j : Fin 256) : iblk m c 4 t (ix2 (0 : Fin 1) j) = g3 m c ⟨j.val % 64, by omega⟩ := by
  refine Eq.trans ?_ (gain_apply m c j)
  have hi := idx4 t
  unfold iblk
  generalize V m c = W
  blk_ext [hi]

end Cert.DA

end
-- ==== Proof.DA.Bridge.lean ====
/-
  The kernel's block outputs, from the sums over the keys seen to the reference's form.
-/
module

public import proofs.«01_k».proof.Proof.DA.Prep

@[expose] public section

set_option maxRecDepth 16384

noncomputable section

namespace Cert.DA

open Idealize.ShloMosaic Idealize.SL.Sem Cert.KernelIdeal Cert.KernelIdeal.Gen
open scoped BigOperators

/-! ## The two factors -/

/-- The factors of the products, as real numbers: the reference's and the kernel's. -/
def rReal : ℝ := 1 / Real.sqrt 32
@[inherit_doc rReal] def sReal : ℝ := 1 / (Real.sqrt 32 * Real.log 2)

theorem thirtyTwo_eq : Ideal.ofBits .f32 1107296256#32 = ((32 : ℝ) : EReal) := by
  simp [Ideal.ofBits, Ideal.ieee]
  rw [← EReal.coe_mul, EReal.coe_eq_coe_iff]
  norm_num

theorem two_eq : Ideal.ofBits .f32 1073741824#32 = ((2 : ℝ) : EReal) := by
  simp [Ideal.ofBits, Ideal.ieee]
  rw [← EReal.coe_mul, EReal.coe_eq_coe_iff]
  norm_num

theorem sqrt32_pos : 0 < Real.sqrt 32 := Real.sqrt_pos.mpr (by norm_num)
theorem log2_pos : 0 < Real.log 2 := Real.log_pos one_lt_two

theorem rr_eq : rr = ((rReal : ℝ) : EReal) := by
  unfold rr rReal
  rw [thirtyTwo_eq, Ideal.sqrt_coe, if_neg (by norm_num)]
  exact div_coe 1 (Real.sqrt 32) sqrt32_pos.ne'

theorem ss_eq : ss = ((sReal : ℝ) : EReal) := by
  unfold ss sReal
  rw [thirtyTwo_eq, two_eq, Ideal.sqrt_coe, if_neg (by norm_num), Ideal.log_coe, if_neg (by norm_num), ← EReal.coe_mul]
  exact div_coe 1 (Real.sqrt 32 * Real.log 2) (mul_pos sqrt32_pos log2_pos).ne'

theorem sReal_pos : 0 < sReal := one_div_pos.mpr (mul_pos sqrt32_pos log2_pos)

theorem rReal_eq : rReal = sReal * Real.log 2 := by
  unfold rReal sReal
  field_simp [sqrt32_pos.ne', log2_pos.ne']

/-! ## The products of a map's lanes -/

/-- A sum over the 256 lanes that keeps one map's lanes is a sum over that map's 32 lanes. -/
theorem sum_lanes (f : Fin 256 → EReal) (e : Fin 8) :
    (∑ l : Fin 256, if l.val / 32 = e.val then f l else 0) = ∑ l : Fin 32, f ⟨e.val * 32 + l.val, by omega⟩ := by
  rw [← Equiv.sum_comp (finProdFinEquiv : Fin 8 × Fin 32 ≃ Fin 256)]
  rw [Fintype.sum_prod_type]
  rw [Finset.sum_eq_single e]
  · refine Finset.sum_congr rfl fun l _ => ?_
    have h : ((finProdFinEquiv (e, l) : Fin 256) : ℕ) = l.val + 32 * e.val := rfl
    rw [if_pos (by rw [h]; omega)]
    exact congrArg f (Fin.ext (by rw [h]; show _ = e.val * 32 + l.val; omega))
  · intro a _ ha
    refine Finset.sum_eq_zero fun l _ => if_neg ?_
    have h : ((finProdFinEquiv (a, l) : Fin 256) : ℕ) = l.val + 32 * a.val := rfl
    rw [h]
    intro hc
    exact ha (Fin.ext (by omega))
  · exact fun h => absurd (Finset.mem_univ e) h

/-- A logit, from the query's and the key's lanes. -/
theorem logit_of (x1 : Vec Ideal S256x256 .bf16) (x2 : Vec Ideal S8448x256 .bf16) (u w : Fin 256 → EReal) (e : Fin 8) (q : Fin 256)
    (k : ℕ) (hk : k < 8448) (h1 : ∀ l, x1 (ix2 q l) = u l * ((sReal : ℝ) : EReal)) (h2 : ∀ l, x2 (ix2 (⟨k, hk⟩ : Fin 8448) l) = w l) :
    logit x1 x2 e.val q k = ((sReal : ℝ) : EReal) * ∑ l : Fin 32, u ⟨e.val * 32 + l.val, by omega⟩ * w ⟨e.val * 32 + l.val, by omega⟩ := by
  rw [logit_of_lt _ _ _ _ _ hk]
  have e1 : ∀ l : Fin 256, x2 (ix2 (⟨k, hk⟩ : Fin 8448) l) * (if l.val / 32 = e.val then x1 (ix2 q l) else 0)
      = if l.val / 32 = e.val then ((sReal : ℝ) : EReal) * (u l * w l) else 0 := by
    intro l
    by_cases hl : l.val / 32 = e.val
    · rw [if_pos hl, if_pos hl, h1, h2, mul_comm (w l), mul_assoc, mul_comm ((sReal : ℝ) : EReal) (w l), ← mul_assoc, mul_comm _ ((sReal : ℝ) : EReal)]
    · rw [if_neg hl, if_neg hl, mul_zero]
  rw [Finset.sum_congr rfl fun l _ => e1 l, sum_lanes (fun l => ((sReal : ℝ) : EReal) * (u l * w l)) e, coe_mul_sum _ _ _ sReal_pos.le]

variable (m : (ℓ : Loc nD τ sig) → Buf (Elt Ideal) ℓ) (c : Dev nD)

/-- A logit of the kernel is its factor times the product of query and key. -/
theorem logit_eq (t : Fin cfg0.N) (h : Fin 4) (e : Fin 2) (q : Fin 256) (k : ℕ) (hk : k < 8448) :
    logit (iblk m c 1 t) (iblk m c 2 t) (mapOf h e).val q k = ((sReal : ℝ) : EReal) * dotp (g1 m c) (seqOf t) h e (posOf t q) k := by
  refine (logit_of _ _ (fun l => g1 m c (row (seqOf t) (posOf t q)) ⟨l.val, by omega⟩)
    (fun l => g1 m c (row (seqOf t) ⟨k, hk⟩) ⟨256 + l.val, by omega⟩) (mapOf h e) q k hk
    (fun l => (blk1_apply m c t q l).trans (congrArg _ ss_eq)) (fun l => blk2_apply m c t ⟨k, hk⟩ l)).trans ?_
  unfold dotp
  rw [dif_pos hk]
  refine congrArg _ (Finset.sum_congr rfl fun l _ => ?_)
  have hl : (mapOf h e).val * 32 + l.val = (lane h e l).val := by
    show (2 * h.val + e.val) * 32 + l.val = h.val * 64 + e.val * 32 + l.val
    omega
  exact congrArg₂ (· * ·) (congrArg (g1 m c _) (Fin.ext hl)) (congrArg (g1 m c _) (Fin.ext (congrArg (256 + ·) hl)))

/-! ## The values and the ones -/

/-- The rows of the values' block. -/
theorem vals_apply (t : Fin cfg0.N) (h : Fin 4) (d : Fin 64) (k : Fin 8448) :
    iblk m c 3 t (ix2 (⟨h.val * 80 + d.val, by omega⟩ : Fin 320) k) = g2 m c (row (seqOf t) k) (col h d) := by
  rw [blk3_apply]
  exact value_apply m c (seqOf t) h d k

theorem unit_apply (t : Fin cfg0.N) (h : Fin 4) (d : Fin 16) (k : Fin 8448) :
    iblk m c 3 t (ix2 (⟨h.val * 80 + (64 + d.val), by omega⟩ : Fin 320) k) = (1 : EReal) := by
  rw [blk3_apply]
  exact ones_apply m c (seqOf t) h d k

/-- The values' block is real when the values are. -/
theorem vals_real (hv : ∀ i j, ∃ z : ℝ, g2 m c i j = (z : EReal)) (t : Fin cfg0.N) (j : S320x8448.Idx) :
    ∃ z : ℝ, iblk m c 3 t j = (z : EReal) := by
  obtain ⟨r, k, rfl⟩ : ∃ (r : Fin 320) (k : Fin 8448), j = ix2 r k := ⟨j 0, j 1, by funext a; match a with | ⟨0, _⟩ => rfl | ⟨1, _⟩ => rfl⟩
  by_cases hr : r.val % 80 < 64
  · have e : r = ⟨(⟨r.val / 80, by omega⟩ : Fin 4).val * 80 + (⟨r.val % 80, hr⟩ : Fin 64).val, by show r.val / 80 * 80 + r.val % 80 < 320; omega⟩ :=
      Fin.ext (by show r.val = r.val / 80 * 80 + r.val % 80; omega)
    rw [e, vals_apply]
    exact hv _ _
  · have e : r = ⟨(⟨r.val / 80, by omega⟩ : Fin 4).val * 80 + (64 + (⟨r.val % 80 - 64, by omega⟩ : Fin 16).val), by
        show r.val / 80 * 80 + (64 + (r.val % 80 - 64)) < 320; omega⟩ :=
      Fin.ext (by show r.val = r.val / 80 * 80 + (64 + (r.val % 80 - 64)); omega)
    rw [e, unit_apply]
    exact ⟨1, rfl⟩

theorem vrow_val (t : Fin cfg0.N) (h : Fin 4) (e : Fin 2) (d : Fin 64) (k : ℕ) (hk : k < 8448) :
    vrow (iblk m c 3 t) (mapOf h e) ⟨d.val, by omega⟩ k = (vvec (g2 m c) (seqOf t) h d k).toReal := by
  unfold vrow vvec
  rw [dif_pos hk, dif_pos hk, ← vals_apply m c t h d ⟨k, hk⟩]
  refine congrArg (fun r : Fin 320 => EReal.toReal (iblk m c 3 t (ix2 r (⟨k, hk⟩ : Fin 8448)))) (Fin.ext ?_)
  show 80 * ((2 * h.val + e.val) / 2) + d.val = h.val * 80 + d.val
  omega

theorem vrow_one (t : Fin cfg0.N) (h : Fin 4) (e : Fin 2) (k : ℕ) (hk : k < 8448) :
    vrow (iblk m c 3 t) (mapOf h e) ⟨64, by omega⟩ k = 1 := by
  unfold vrow
  rw [dif_pos hk]
  have e1 : (⟨80 * ((mapOf h e).val / 2) + 64, by have := (mapOf h e).isLt; omega⟩ : Fin 320) = ⟨h.val * 80 + (64 + (0 : Fin 16).val), by show h.val * 80 + (64 + 0) < 320; omega⟩ :=
    Fin.ext (by show 80 * ((2 * h.val + e.val) / 2) + 64 = h.val * 80 + (64 + 0); omega)
  have e2 := unit_apply m c t h 0 ⟨k, hk⟩
  rw [← e1] at e2
  exact (congrArg EReal.toReal e2).trans EReal.toReal_one

/-! ## A block's outputs -/

/-- A block whose queries have seen the first `K` keys holds the reference's results. -/
theorem block_eq (hv : ∀ i j, ∃ z : ℝ, g2 m c i j = (z : EReal)) (lam : ℝ) (hlam : lamOf (g0 m c) = (lam : EReal)) (t : Fin cfg0.N)
    (K : ℕ) (hK : K ≤ 8448) (B : FVec Ideal S256x256 .f32)
    (hB : IsOut (iblk m c 0 t) (iblk m c 1 t) (iblk m c 2 t) (iblk m c 3 t) (iblk m c 4 t) K B) (q : Fin 256) (h : Fin 4) (d : Fin 64) :
    B (ix2 q (col h d)) = refVal (g0 m c) (g1 m c) (g2 m c) (g3 m c) (seqOf t) (posOf t q) h K d := by
  obtain ⟨M1, M2, h1, h2, e⟩ := hB q h d
  refine e.trans ?_
  unfold outVal refVal attn
  rw [blk0_apply, hlam, blk4_apply, rr_eq, sixtyFour_eq]
  have hg : (⟨(⟨h.val * 64 + d.val, by omega⟩ : Fin 256).val % 64, by omega⟩ : Fin 64) = d :=
    Fin.ext (by show (h.val * 64 + d.val) % 64 = d.val; omega)
  rw [hg]
  refine congrArg (· * g3 m c d * Ideal.ofBits .f32 1061997773#32) ?_
  exact heads_eq 64 (by norm_num) _ eps_ne_bot lam sReal rReal negR sReal_pos rReal_eq
    (dotp (g1 m c) (seqOf t) h 0 (posOf t q)) (dotp (g1 m c) (seqOf t) h 1 (posOf t q)) _ _
    (fun d k => vrow (iblk m c 3 t) (mapOf h 0) ⟨d.val, by omega⟩ k) _ _ (fun d k => vvec (g2 m c) (seqOf t) h d k)
    (fun d k => vrow (iblk m c 3 t) (mapOf h 1) ⟨d.val, by omega⟩ k) K
    (fun k hk => logit_eq m c t h 0 q k (by omega)) (fun k hk => logit_eq m c t h 1 q k (by omega))
    (fun k hk => vrow_one m c t h 0 k (by omega)) (fun k hk => vrow_one m c t h 1 k (by omega))
    (fun d k hk => by
      rw [vrow_val m c t h 0 d k (by omega)]
      unfold vvec
      rw [dif_pos (show k < 8448 by omega)]
      obtain ⟨z, hz⟩ := hv (row (seqOf t) ⟨k, by omega⟩) (col h d)
      rw [hz, EReal.toReal_coe])
    (fun d k hk => (vrow_val m c t h 1 d k (by omega)).trans (vrow_val m c t h 0 d k (by omega)).symm)
    M1 M2 h1 h2 d

end Cert.DA

end
-- ==== Proof.DA.Array.lean ====
/-
  The kernel's result array after the run, at every index.
-/
module

public import proofs.«01_k».proof.Proof.DA.Bridge

@[expose] public section

set_option maxRecDepth 16384

noncomputable section

namespace Cert.DA

open Idealize.ShloMosaic Idealize.SL.Sem Cert.KernelIdeal Cert.KernelIdeal.Gen

variable (m : (ℓ : Loc nD τ sig) → Buf (Elt Ideal) ℓ) (c : Dev nD)

/-- Every pair of coordinates is the row of a position of a sequence and the column of a component of a head. -/
theorem exists_coords (i : S16896x256.Idx) : ∃ (b : Fin 2) (n : Fin 8448) (h : Fin 4) (d : Fin 64), i = ix2 (row b n) (col h d) := by
  have h0 : (i 0).val < 16896 := (i 0).isLt
  have h1 : (i 1).val < 256 := (i 1).isLt
  refine ⟨⟨(i 0).val / 8448, by omega⟩, ⟨(i 0).val % 8448, by omega⟩, ⟨(i 1).val / 64, by omega⟩, ⟨(i 1).val % 64, by omega⟩, ?_⟩
  funext a
  match a with
  | ⟨0, _⟩ => exact Fin.ext (by show (i 0).val = (i 0).val / 8448 * 8448 + (i 0).val % 8448; omega)
  | ⟨1, _⟩ => exact Fin.ext (by show (i 1).val = (i 1).val / 64 * 64 + (i 1).val % 64; omega)

/-- The reference's result as an array. -/
def resultOf (a0 : Fin 4 → Fin 32 → EReal) (a1 : Fin 16896 → Fin 1024 → EReal) (a2 : Fin 16896 → Fin 256 → EReal) (a3 : Fin 64 → EReal)
    (i : S16896x256.Idx) : EReal :=
  have h0 : (i 0).val < 16896 := (i 0).isLt
  have h1 : (i 1).val < 256 := (i 1).isLt
  refVal a0 a1 a2 a3 ⟨(i 0).val / 8448, by omega⟩ ⟨(i 0).val % 8448, by omega⟩ ⟨(i 1).val / 64, by omega⟩
    (keys ⟨(i 0).val % 8448, by omega⟩) ⟨(i 1).val % 64, by omega⟩

theorem resultOf_apply (a0 : Fin 4 → Fin 32 → EReal) (a1 : Fin 16896 → Fin 1024 → EReal) (a2 : Fin 16896 → Fin 256 → EReal) (a3 : Fin 64 → EReal)
    (b : Fin 2) (n : Fin 8448) (h : Fin 4) (d : Fin 64) (i : S16896x256.Idx) (e0 : (i 0).val = b.val * 8448 + n.val)
    (e1 : (i 1).val = h.val * 64 + d.val) : resultOf a0 a1 a2 a3 i = refVal a0 a1 a2 a3 b n h (keys n) d := by
  unfold resultOf
  have w0 : (i 0).val / 8448 = b.val := by rw [e0]; omega
  have w1 : (i 0).val % 8448 = n.val := by rw [e0]; omega
  have w2 : (i 1).val / 64 = h.val := by rw [e1]; omega
  have w3 : (i 1).val % 64 = d.val := by rw [e1]; omega
  simp only [w0, w1, w2, w3]

/-- The kernel's result array is the reference's, when the values and the second softmax's factor are real. -/
theorem array_eq (hv : ∀ i j, ∃ z : ℝ, g2 m c i j = (z : EReal)) (lam : ℝ) (hlam : lamOf (g0 m c) = (lam : EReal)) :
    (dats m 0 c).arrAt 5 cfg0.N = resultOf (g0 m c) (g1 m c) (g2 m c) (g3 m c) := by
  refine (dats m 0 c).arrAt_eq_of_covers 5 _ (by decide +kernel) fun t hf y => ?_
  change (dats m 0 c).flushed 5 t y = _
  have hi := idx5 t
  have ht := pt_lt t
  have f0 : ((((cfg0.win 5).blk t).view.emb y) 0).val = t.val * 256 + (y 0).val := by blk_simp [hi]
  have f1 : ((((cfg0.win 5).blk t).view.emb y) 1).val = (y 1).val := by blk_simp [hi]
  have y0 : (y 0).val < 256 := (y 0).isLt
  have y1 : (y 1).val < 256 := (y 1).isLt
  have key : ∀ (K : ℕ) (hK : K ≤ 8448) (hk : keys (posOf t ⟨(y 0).val, y0⟩) = K) (B : FVec Ideal S256x256 .f32),
      IsOut (iblk m c 0 t) (iblk m c 1 t) (iblk m c 2 t) (iblk m c 3 t) (iblk m c 4 t) K B →
      (cfg0.win 5).cut (grid0.coords t) B y = resultOf (g0 m c) (g1 m c) (g2 m c) (g3 m c) (((cfg0.win 5).blk t).view.emb y) := by
    intro K hK hk B hB
    have e := block_eq m c hv lam hlam t K hK B hB ⟨(y 0).val, y0⟩ ⟨(y 1).val / 64, by omega⟩ ⟨(y 1).val % 64, by omega⟩
    have e' := resultOf_apply (g0 m c) (g1 m c) (g2 m c) (g3 m c) (seqOf t) (posOf t ⟨(y 0).val, y0⟩) ⟨(y 1).val / 64, by omega⟩
      ⟨(y 1).val % 64, by omega⟩ (((cfg0.win 5).blk t).view.emb y)
      (by rw [f0]; show _ = t.val / 33 * 8448 + (t.val % 33 * 256 + (y 0).val); omega)
      (by rw [f1]; show _ = (y 1).val / 64 * 64 + (y 1).val % 64; omega)
    rw [e', hk, ← e]
    show B ((cfg0.win 5).xinj (grid0.coords t) y) = _
    refine congrArg B (funext fun a => ?_)
    match a with
    | ⟨0, _⟩ => rfl
    | ⟨1, _⟩ => exact Fin.ext (by show (y 1).val = (y 1).val / 64 * 64 + (y 1).val % 64; omega)
  by_cases h0 : t.val % 33 = 0
  · have h1 : ¬1 ≤ t.val % 33 := by omega
    rw [Value.flushed5_A m c t h0 h1]
    exact key 256 (by omega) (if_pos (by show t.val % 33 * 256 + (y 0).val < 256; omega)) _
      (isOut_A _ _ _ _ _ _ _ _ _ _ _ _ _ _ _ _ _ _ _ _ _ _ _ _ _ (vals_real m c hv t) _ _)
  · have h1 : 1 ≤ t.val % 33 := by omega
    rw [Value.flushed5_B m c t h0 h1]
    exact key 8448 le_rfl (if_neg (by show ¬ t.val % 33 * 256 + (y 0).val < 256; omega)) _
      (isOut_B _ _ _ _ _ _ _ _ _ _ _ _ _ _ _ _ _ _ _ _ _ _ _ _ _ (vals_real m c hv t) _ _)

end Cert.DA

end
-- ==== Proof.DA.Pre.lean ====
/-
  What the precondition gives: the values and the second softmax's factor are real.
-/
module

public import proofs.«01_k».proof.Proof.DA.Array
public import proofs.«01_k».proof.Pre_finite
public import Idealize.ShloMosaic.Lib.ReduceAll
public import Idealize.ShloMosaic.Lib.Affine

@[expose] public section

set_option maxRecDepth 16384

noncomputable section

namespace Cert.DA

open Idealize.ShloMosaic Idealize.SL.Sem

/-- An extended real whose absolute value is below infinity is real. -/
theorem real_of_abs (x : EReal) (h : max x (-x) < ⊤) : ∃ z : ℝ, x = (z : EReal) := by
  induction x with
  | bot => simp at h
  | top => simp at h
  | coe z => exact ⟨z, rfl⟩

theorem inf_eq : Ideal.ofBits .f32 0x7F800000#32 = ⊤ := by simp [Ideal.ofBits, Ideal.ieee]

/-- The same, from the comparison's word. -/
theorem real_of_word (x : EReal) (h : BitVec.ofBool (decide (max x (-x) < Ideal.ofBits .f32 0x7F800000#32)) = 1#1) :
    ∃ z : ℝ, x = (z : EReal) := by
  rw [inf_eq] at h
  refine real_of_abs x ?_
  by_contra hc
  rw [decide_eq_false hc] at h
  exact absurd h (by decide)

/-- The precondition, element by element. -/
theorem pre_real [Cert.Pre_finite.Facts] (A0 : FVec Ideal Cert.Pre_finite.S4x32 .f32) (A1 : FVec Ideal Cert.Pre_finite.S16896x1024 .f32)
    (A2 : FVec Ideal Cert.Pre_finite.S16896x256 .f32) (A3 : FVec Ideal Cert.Pre_finite.S64 .f32)
    (h : Cert.Pre_finite.fn (F := Ideal) A0 A1 A2 A3 = fun _ => 1#1) :
    (∀ i, ∃ z : ℝ, A0 i = (z : EReal)) ∧ ∀ i, ∃ z : ℝ, A2 i = (z : EReal) := by
  have e := congrFun h ix0
  dsimp only [Cert.Pre_finite.fn] at e
  obtain ⟨e0, e2⟩ := IntOp.andi_eq_one.mp e
  have one : Subsingleton Cert.Pre_finite.S_.Idx := ⟨fun a b => funext fun k => k.elim0⟩
  exact ⟨fun i => real_of_word _ (Host.reduce_andi_all _ _ _ _ _ e0 i), fun i => real_of_word _ (Host.reduce_andi_all _ _ _ _ _ e2 i)⟩

/-- The factor of the second softmax is real when its vectors are. -/
theorem lam_real (a0 : Fin 4 → Fin 32 → EReal) (h : ∀ i j, ∃ z : ℝ, a0 i j = (z : EReal)) : ∃ lam : ℝ, lamOf a0 = (lam : EReal) := by
  choose z hz using h
  have hs : ∀ i j, (∑ x, a0 i x * a0 j x) = ((∑ x, z i x * z j x : ℝ) : EReal) := by
    intro i j
    rw [coe_sum]
    exact Finset.sum_congr rfl fun x _ => by rw [hz, hz, EReal.coe_mul]
  have hc : ∃ w : ℝ, Ideal.ofBits .f32 1045220557#32 = (w : EReal) := by
    simp only [Ideal.ofBits, Ideal.ieee]
    norm_num
    exact ⟨_, rfl⟩
  obtain ⟨w, hw⟩ := hc
  unfold lamOf
  rw [hs, hs, Ideal.exp_coe, Ideal.exp_coe, hw]
  exact ⟨Real.exp _ - Real.exp _ + w, by push_cast; rfl⟩

end Cert.DA

end
-- ==== Proof.Proj.Data.lean ====
/-
  The projection's result at an index: the layer's input row, normalised and modulated, times a column of the weights.
-/
module

public import proofs.«01_k».proof.Proof.DA.Data

@[expose] public section

noncomputable section

namespace Cert.Proj

open Idealize.ShloMosaic

variable (x : Fin 16896 → Fin 1024 → EReal) (g : Fin 1024 → EReal) (shift scale : Fin 3 → Fin 1024 → EReal)
  (w : Fin 1024 → Fin 7168 → EReal)

/-- Column `l` of one row of 1024 numbers, normalised by their mean square, with the gain, the shift and the scale. -/
def modRow (x g shift scale : Fin 1024 → EReal) (l : Fin 1024) : EReal :=
  x l * Ideal.rsqrt (Ideal.div (∑ k, x k * x k) (Ideal.ofBits .f32 1149239296#32) + Ideal.ofBits .f32 897988541#32) * g l
    * (1 + scale l) + shift l

/-- Which shift and scale a row has: a sequence's first 256 rows the third, the others the sequence's own. -/
def kind (r : ℕ) : ℕ := if r % 8448 < 256 then 2 else r / 8448

theorem kind_lt (r : Fin 16896) : kind r.val < 3 := by
  have := r.isLt
  unfold kind
  split_ifs <;> omega

/-- The projection's result at row `r` and column `j`. -/
def projVal (r : Fin 16896) (j : Fin 7168) : EReal :=
  ∑ l, modRow (x r) g (shift ⟨kind r.val, kind_lt r⟩) (scale ⟨kind r.val, kind_lt r⟩) l * w l j

end Cert.Proj

end
-- ==== Proof.Proj.Ref.lean ====
/-
  The reference's projection at an index.
-/
module

public import proofs.«01_k».proof.Proof.Proj.Data
public import proofs.«01_k».proof.Proof.Gen.Reference2Ideal.Read

@[expose] public section

set_option maxRecDepth 16384

noncomputable section

namespace Cert.Proj

open Idealize.ShloMosaic Idealize.SL.Sem Cert.Reference2Ideal Cert.Reference2Ideal.Gen Cert.Reference2Ideal.Read

variable (A0 : (⟨S16896x1024, .f32⟩ : BufTy).Contents (Elt Ideal)) (A1 : (⟨S1024, .f32⟩ : BufTy).Contents (Elt Ideal))
  (A2 A3 : (⟨S3x1x1024, .f32⟩ : BufTy).Contents (Elt Ideal)) (A4 : (⟨S1024x7168, .f32⟩ : BufTy).Contents (Elt Ideal))

/-- The arrays' elements by their coordinates. -/
abbrev f0 (i : Fin 16896) (j : Fin 1024) : EReal := A0 (ix2 i j)
@[inherit_doc f0] abbrev f1 (i : Fin 1024) : EReal := A1 (ix1 i)
@[inherit_doc f0] abbrev f2 (i : Fin 3) (j : Fin 1024) : EReal := A2 (ix3 i (0 : Fin 1) j)
@[inherit_doc f0] abbrev f4 (i : Fin 1024) (j : Fin 7168) : EReal := A4 (ix2 i j)

/-- The context rows, normalised and modulated. -/
theorem x22 (b : Fin 2) (q : Fin 256) (l : Fin 1024) :
    val_main_v22 (F := Ideal) A0 A1 A2 A3 (ix3 b q l) = modRow (f0 A0 ⟨b.val * 8448 + q.val, by omega⟩) (f1 A1) (f2 A2 2) (f2 A3 2) l := by
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2]
  rfl

/-- The latent rows, normalised and modulated. -/
theorem x44 (b : Fin 2) (q : Fin 8192) (l : Fin 1024) :
    val_main_v44 (F := Ideal) A0 A1 A2 A3 (ix3 b q l)
      = modRow (f0 A0 ⟨b.val * 8448 + (256 + q.val), by omega⟩) (f1 A1) (f2 A2 ⟨b.val, by omega⟩) (f2 A3 ⟨b.val, by omega⟩) l := by
  pointwise [val_main_v44, val_main_v43, val_main_v42, val_main_v41, val_main_v40, val_main_v39, val_main_v38, val_main_v37,
    val_main_v36, val_main_v35, val_main_v34, val_main_v33, val_main_v32, val_main_v31, val_main_v30, val_main_v29, val_main_v28,
    val_main_v27, val_main_v26, val_main_v25, val_main_v24, val_main_v23, val_main_v0, val_main_cst_3, val_main_cst_4, val_main_cst_5, val_main_cst_6]
  rfl

/-- The reference's result. -/
theorem ref_apply (r : Fin 16896) (j : Fin 7168) :
    val_main_v47 (F := Ideal) A0 A1 A2 A3 A4 (ix2 r j) = projVal (f0 A0) (f1 A1) (f2 A2) (f2 A3) (f4 A4) r j := by
  pointwise [val_main_v47, val_main_v46, val_main_v45]
  refine Finset.sum_congr rfl fun l _ => congrArg (· * A4 (ix2 l j)) ?_
  by_cases h : r.val % 8448 < 256
  · have e : (⟨kind r.val, kind_lt r⟩ : Fin 3) = 2 := Fin.ext (if_pos h)
    rw [dif_pos h, x22, e]
    refine congrArg (fun z => modRow (f0 A0 z) _ _ _ l) (Fin.ext ?_)
    exact (by omega : r.val / 8448 * 8448 + r.val % 8448 = r.val)
  · have e : (⟨kind r.val, kind_lt r⟩ : Fin 3) = ⟨r.val / 8448, by omega⟩ := Fin.ext (if_neg h)
    rw [dif_neg h, x44, e]
    refine congrArg (fun z => modRow (f0 A0 z) _ _ _ l) (Fin.ext ?_)
    exact (by omega : r.val / 8448 * 8448 + (256 + (r.val % 8448 - 256)) = r.val)

end Cert.Proj

end
-- ==== Proof.Proj.Kern.lean ====
/-
  The kernel's projection: a block of its result at an index, and its result array.
-/
module

public import proofs.«01_k».proof.Proof.Proj.Data
public import proofs.«01_k».proof.Proof.Gen.Kernel2Ideal.Value
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.Proj

open Idealize.ShloMosaic Idealize.SL.Sem Cert.Kernel2Ideal Cert.Kernel2Ideal.Gen

/-- The normalised row, with its gain. -/
theorem pay2_apply (x0 : Vec Ideal S512x1024 .f32) (x1 : Vec Ideal S1x1024 .f32) (q : Fin 512) (l : Fin 1024) :
    k0_pay2 x0 x1 (ix2 q l) = x0 (ix2 q l) * Ideal.rsqrt (Ideal.div (∑ k : Fin 1024, x0 (ix2 q k) * x0 (ix2 q k))
      (Ideal.ofBits .f32 1149239296#32) + Ideal.ofBits .f32 897988541#32) * x1 (ix2 (0 : Fin 1) l) := by
  pointwise [k0_pay2]

variable (x0 : Vec Ideal S512x1024 .f32) (x1 : Vec Ideal S1x1024 .f32) (x2 x3 x4 x5 : Vec Ideal S1x1x1024 .f32)
  (x6 : Vec Ideal S1024x3584 .bf16)

/-- A block of the result: its first 256 rows have one shift and scale, the others another. -/
theorem out_apply (q : Fin 512) (j : Fin 3584) :
    out0_7 x0 x1 x2 x3 x4 x5 x6 (ix2 q j)
      = ∑ l : Fin 1024, modRow (fun k => x0 (ix2 q k)) (fun k => x1 (ix2 (0 : Fin 1) k))
          (fun k => if q.val < 256 then x2 (ix3 (0 : Fin 1) (0 : Fin 1) k) else x4 (ix3 (0 : Fin 1) (0 : Fin 1) k))
          (fun k => if q.val < 256 then x3 (ix3 (0 : Fin 1) (0 : Fin 1) k) else x5 (ix3 (0 : Fin 1) (0 : Fin 1) k)) l * x6 (ix2 l j) := by
  frame_out [out0_7]
  pointwise [k0_pay1, k0_pay3, k0_pay4, k0_pay5, pay2_apply]
  refine Finset.sum_congr rfl fun l _ => congrArg (· * x6 (ix2 l j)) ?_
  by_cases h : q.val < 256
  · simp only [dif_pos h, if_pos h]
    rfl
  · have e : (⟨256 + (q.val - 256), by omega⟩ : Fin 512) = q := Fin.ext (Nat.add_sub_cancel' (Nat.le_of_not_lt h))
    simp only [dif_neg h, if_neg h, e]
    rfl

variable (m : (ℓ : Loc nD τ sig) → Buf (Elt Ideal) ℓ) (c : Dev nD)

/-- The arguments' elements by their coordinates. -/
abbrev g0 (i : Fin 16896) (j : Fin 1024) : EReal := m (c, Proc.tc.devRef main_arg0) (ix2 i j)
@[inherit_doc g0] abbrev g1 (i : Fin 1024) : EReal := m (c, Proc.tc.devRef main_arg1) (ix1 i)
@[inherit_doc g0] abbrev g2 (i : Fin 3) (j : Fin 1024) : EReal := m (c, Proc.tc.devRef main_arg2) (ix3 i (0 : Fin 1) j)
@[inherit_doc g0] abbrev g3 (i : Fin 3) (j : Fin 1024) : EReal := m (c, Proc.tc.devRef main_arg3) (ix3 i (0 : Fin 1) j)
@[inherit_doc g0] abbrev g4 (i : Fin 1024) (j : Fin 7168) : EReal := m (c, Proc.tc.devRef main_arg4) (ix2 i j)

/-- Which shift and scale tile `a` of 256 rows has. -/
def tileKind (a : ℕ) : ℕ := if a % 33 = 0 then 2 else a / 33

theorem idx0 : ∀ t : Fin cfg0.N, win0_0.index t = ![t.val % 33, 0] := (by decide +kernel : ∀ t : Fin grid0.N, win0_0.index t = ![t.val % 33, 0])
theorem idx1 : ∀ t : Fin cfg0.N, win0_1.index t = ![0, 0] := (by decide +kernel : ∀ t : Fin grid0.N, win0_1.index t = ![0, 0])
theorem idx2 : ∀ t : Fin cfg0.N, win0_2.index t = ![tileKind (2 * (t.val % 33)), 0, 0] :=
  (by decide +kernel : ∀ t : Fin grid0.N, win0_2.index t = ![tileKind (2 * (t.val % 33)), 0, 0])
theorem idx3 : ∀ t : Fin cfg0.N, win0_3.index t = ![tileKind (2 * (t.val % 33)), 0, 0] :=
  (by decide +kernel : ∀ t : Fin grid0.N, win0_3.index t = ![tileKind (2 * (t.val % 33)), 0, 0])
theorem idx4 : ∀ t : Fin cfg0.N, win0_4.index t = ![tileKind (2 * (t.val % 33) + 1), 0, 0] :=
  (by decide +kernel : ∀ t : Fin grid0.N, win0_4.index t = ![tileKind (2 * (t.val % 33) + 1), 0, 0])
theorem idx5 : ∀ t : Fin cfg0.N, win0_5.index t = ![tileKind (2 * (t.val % 33) + 1), 0, 0] :=
  (by decide +kernel : ∀ t : Fin grid0.N, win0_5.index t = ![tileKind (2 * (t.val % 33) + 1), 0, 0])
theorem idx6 : ∀ t : Fin cfg0.N, win0_6.index t = ![0, t.val / 33] := (by decide +kernel : ∀ t : Fin grid0.N, win0_6.index t = ![0, t.val / 33])
theorem idx7 : ∀ t : Fin cfg0.N, win0_7.index t = ![t.val % 33, t.val / 33] :=
  (by decide +kernel : ∀ t : Fin grid0.N, win0_7.index t = ![t.val % 33, t.val / 33])
theorem pt_lt (t : Fin cfg0.N) : t.val < 66 := t.isLt

theorem tileKind_lt (t : Fin cfg0.N) (e : ℕ) (he : e < 2) : tileKind (2 * (t.val % 33) + e) < 3 := by
  unfold tileKind
  split_ifs <;> omega

/-- The row of the arrays that row `q` of point `t`'s block is, and the column. -/
def rowOf (t : Fin cfg0.N) (q : Fin 512) : Fin 16896 := ⟨t.val % 33 * 512 + q.val, by omega⟩
@[inherit_doc rowOf] def colOf (t : Fin cfg0.N) (j : Fin 3584) : Fin 7168 := ⟨t.val / 33 * 3584 + j.val, by have := pt_lt t; omega⟩

theorem blk0_apply (t : Fin cfg0.N) (q : Fin 512) (l : Fin 1024) : iblk m c 0 t (ix2 q l) = g0 m c (rowOf t q) l := by
  refine Eq.trans ?_ (congrFun (V_main_arg0 m c) _)
  have hi := idx0 t
  unfold iblk rowOf
  generalize V m c = W
  blk_ext [hi]

theorem blk1_apply (t : Fin cfg0.N) (l : Fin 1024) : iblk m c 1 t (ix2 (0 : Fin 1) l) = g1 m c l := by
  have e : V m c main_v1 (ix2 (0 : Fin 1) l) = g1 m c l := by
    unfold V
    after_reads_at
  refine Eq.trans ?_ e
  have hi := idx1 t
  unfold iblk
  generalize V m c = W
  blk_ext [hi]

theorem blk2_apply (t : Fin cfg0.N) (l : Fin 1024) : iblk m c 2 t (ix3 (0 : Fin 1) (0 : Fin 1) l) = g2 m c ⟨_, tileKind_lt t 0 (by omega)⟩ l := by
  refine Eq.trans ?_ (congrFun (V_main_arg2 m c) _)
  have hi := idx2 t
  unfold iblk
  generalize V m c = W
  blk_ext [hi]

theorem blk3_apply (t : Fin cfg0.N) (l : Fin 1024) : iblk m c 3 t (ix3 (0 : Fin 1) (0 : Fin 1) l) = g3 m c ⟨_, tileKind_lt t 0 (by omega)⟩ l := by
  refine Eq.trans ?_ (congrFun (V_main_arg3 m c) _)
  have hi := idx3 t
  unfold iblk
  generalize V m c = W
  blk_ext [hi]

theorem blk4_apply (t : Fin cfg0.N) (l : Fin 1024) : iblk m c 4 t (ix3 (0 : Fin 1) (0 : Fin 1) l) = g2 m c ⟨_, tileKind_lt t 1 (by omega)⟩ l := by
  refine Eq.trans ?_ (congrFun (V_main_arg2 m c) _)
  have hi := idx4 t
  unfold iblk
  generalize V m c = W
  blk_ext [hi]

theorem blk5_apply (t : Fin cfg0.N) (l : Fin 1024) : iblk m c 5 t (ix3 (0 : Fin 1) (0 : Fin 1) l) = g3 m c ⟨_, tileKind_lt t 1 (by omega)⟩ l := by
  refine Eq.trans ?_ (congrFun (V_main_arg3 m c) _)
  have hi := idx5 t
  unfold iblk
  generalize V m c = W
  blk_ext [hi]

theorem blk6_apply (t : Fin cfg0.N) (l : Fin 1024) (j : Fin 3584) : iblk m c 6 t (ix2 l j) = g4 m c l (colOf t j) := by
  have e : V m c main_v0 (ix2 l (colOf t j)) = g4 m c l (colOf t j) := by
    unfold V
    after_reads_at
  refine Eq.trans ?_ e
  have hi := idx6 t
  unfold iblk colOf
  generalize V m c = W
  blk_ext [hi]

/-- The kind of a row of a point's block: its tile's. -/
theorem kind_row (t : Fin cfg0.N) (q : Fin 512) :
    kind (rowOf t q).val = if q.val < 256 then tileKind (2 * (t.val % 33) + 0) else tileKind (2 * (t.val % 33) + 1) := by
  unfold kind tileKind rowOf
  dsimp only
  split_ifs <;> omega

/-- A block of the kernel's result holds the projection's values. -/
theorem block_eq (t : Fin cfg0.N) (q : Fin 512) (j : Fin 3584) :
    out0_7 (iblk m c 0 t) (iblk m c 1 t) (iblk m c 2 t) (iblk m c 3 t) (iblk m c 4 t) (iblk m c 5 t) (iblk m c 6 t) (ix2 q j)
      = projVal (g0 m c) (g1 m c) (g2 m c) (g3 m c) (g4 m c) (rowOf t q) (colOf t j) := by
  rw [out_apply]
  unfold projVal
  refine Finset.sum_congr rfl fun l _ => ?_
  rw [blk6_apply]
  refine congrArg (· * g4 m c l (colOf t j)) ?_
  simp only [blk0_apply, blk1_apply, blk2_apply, blk3_apply, blk4_apply, blk5_apply]
  have hk := kind_row t q
  by_cases h : q.val < 256
  · simp only [if_pos h] at hk ⊢
    rw [(Fin.ext hk : (⟨kind (rowOf t q).val, kind_lt _⟩ : Fin 3) = ⟨_, tileKind_lt t 0 (by omega)⟩)]
  · simp only [if_neg h] at hk ⊢
    rw [(Fin.ext hk : (⟨kind (rowOf t q).val, kind_lt _⟩ : Fin 3) = ⟨_, tileKind_lt t 1 (by omega)⟩)]

/-- The projection's values as an array. -/
def resultOf (x : Fin 16896 → Fin 1024 → EReal) (g : Fin 1024 → EReal) (shift scale : Fin 3 → Fin 1024 → EReal)
    (w : Fin 1024 → Fin 7168 → EReal) : FVec Ideal S16896x7168 .f32 :=
  fun i => projVal x g shift scale w ⟨(i 0).val, (i 0).isLt⟩ ⟨(i 1).val, (i 1).isLt⟩

/-- The kernel's result array holds the projection's values. -/
theorem array_eq : (dats m 0 c).arrAt 7 cfg0.N = resultOf (g0 m c) (g1 m c) (g2 m c) (g3 m c) (g4 m c) := by
  refine (dats m 0 c).arrAt_eq_of_covers 7 _ (by decide +kernel) fun t hf y => ?_
  change (dats m 0 c).flushed 7 t y = _
  have hi := idx7 t
  have f0 : ((((cfg0.win 7).blk t).view.emb y) 0).val = t.val % 33 * 512 + (y 0).val := by blk_simp [hi]
  have f1 : ((((cfg0.win 7).blk t).view.emb y) 1).val = t.val / 33 * 3584 + (y 1).val := by blk_simp [hi]
  rw [Value.flushed7]
  have e := block_eq m c t ⟨(y 0).val, (y 0).isLt⟩ ⟨(y 1).val, (y 1).isLt⟩
  refine Eq.trans ?_ (e.trans ?_)
  · refine congrArg (out0_7 _ _ _ _ _ _ _) (funext fun a => ?_)
    match a with
    | ⟨0, _⟩ => rfl
    | ⟨1, _⟩ => rfl
  · unfold resultOf
    exact congrArg₂ (projVal _ _ _ _ _) (Fin.ext f0.symm) (Fin.ext f1.symm)

end Cert.Proj

end
-- ==== Proof.Moe.Data.lean ====
/-
  The experts' result at an index: a gated unit per expert, weighted by its gate, and the shared unit's.
-/
module

public import proofs.«01_k».proof.Proof.DA.Data

@[expose] public section

noncomputable section

namespace Cert.Moe

open Idealize.ShloMosaic

/-- A number times its logistic. -/
def silu (z : EReal) : EReal := z * Ideal.logistic z

/-- Column `j` of a gated unit's result for one token: `gu` holds the gate's 256 columns and then the up projection's. -/
def ffn (x : Fin 1024 → EReal) (gu : Fin 1024 → Fin 512 → EReal) (d : Fin 256 → Fin 1024 → EReal) (j : Fin 1024) : EReal :=
  ∑ h : Fin 256, silu (∑ k, x k * gu k ⟨h.val, by omega⟩) * (∑ k, x k * gu k ⟨256 + h.val, by omega⟩) * d h j

/-- The experts' result for one token with its 64 gates. -/
def moeVal (x : Fin 1024 → EReal) (gate : Fin 64 → EReal) (gu : Fin 64 → Fin 1024 → Fin 512 → EReal)
    (d : Fin 64 → Fin 256 → Fin 1024 → EReal) (sgu : Fin 1024 → Fin 512 → EReal) (sd : Fin 256 → Fin 1024 → EReal)
    (j : Fin 1024) : EReal :=
  ffn x sgu sd j + ∑ e, ffn x (gu e) (d e) j * gate e

/-- The experts' result after the shared unit and the first `n` experts. -/
def moePart (x : Fin 1024 → EReal) (gate : Fin 64 → EReal) (gu : Fin 64 → Fin 1024 → Fin 512 → EReal)
    (d : Fin 64 → Fin 256 → Fin 1024 → EReal) (sgu : Fin 1024 → Fin 512 → EReal) (sd : Fin 256 → Fin 1024 → EReal)
    (n : ℕ) (j : Fin 1024) : EReal :=
  ffn x sgu sd j + ∑ e ∈ Finset.range n, if h : e < 64 then ffn x (gu ⟨e, h⟩) (d ⟨e, h⟩) j * gate ⟨e, h⟩ else 0

section

variable (x : Fin 1024 → EReal) (gate : Fin 64 → EReal) (gu : Fin 64 → Fin 1024 → Fin 512 → EReal)
  (d : Fin 64 → Fin 256 → Fin 1024 → EReal) (sgu : Fin 1024 → Fin 512 → EReal) (sd : Fin 256 → Fin 1024 → EReal) (j : Fin 1024)

/-- Before any expert there is the shared unit's result. -/
theorem moePart_zero : moePart x gate gu d sgu sd 0 j = ffn x sgu sd j := by
  unfold moePart
  rw [Finset.sum_range_zero, add_zero]

/-- One more expert adds its result times its gate. -/
theorem moePart_succ (n : ℕ) (h : n < 64) :
    moePart x gate gu d sgu sd (n + 1) j = moePart x gate gu d sgu sd n j + ffn x (gu ⟨n, h⟩) (d ⟨n, h⟩) j * gate ⟨n, h⟩ := by
  unfold moePart
  rw [Finset.sum_range_succ, dif_pos h, add_assoc]

/-- After all the experts there is the whole result. -/
theorem moePart_all : moePart x gate gu d sgu sd 64 j = moeVal x gate gu d sgu sd j := by
  unfold moePart moeVal
  rw [Finset.sum_range]
  exact congrArg (_ + ·) (Finset.sum_congr rfl fun e _ => dif_pos e.isLt)

end

end Cert.Moe

end
-- ==== Proof.Moe.Ref.lean ====
/-
  The reference's experts at an index.
-/
module

public import proofs.«01_k».proof.Proof.Moe.Data
public import proofs.«01_k».proof.Proof.Gen.Reference3Ideal.Read

@[expose] public section

set_option maxRecDepth 16384

noncomputable section

namespace Cert.Moe

open Idealize.ShloMosaic Idealize.SL.Sem Cert.Reference3Ideal Cert.Reference3Ideal.Gen Cert.Reference3Ideal.Read

variable (A0 : (⟨S16896x1024, .f32⟩ : BufTy).Contents (Elt Ideal)) (A1 : (⟨S16896x64, .f32⟩ : BufTy).Contents (Elt Ideal))
  (A2 : (⟨S2x64x1024x512, .f32⟩ : BufTy).Contents (Elt Ideal)) (A3 : (⟨S2x64x256x1024, .f32⟩ : BufTy).Contents (Elt Ideal))
  (A4 : (⟨S1024x512, .f32⟩ : BufTy).Contents (Elt Ideal)) (A5 : (⟨S256x1024, .f32⟩ : BufTy).Contents (Elt Ideal))

/-- The arrays' elements by their coordinates. -/
abbrev f0 (i : Fin 16896) (j : Fin 1024) : EReal := A0 (ix2 i j)
@[inherit_doc f0] abbrev f1 (i : Fin 16896) (e : Fin 64) : EReal := A1 (ix2 i e)
@[inherit_doc f0] abbrev f2 (e : Fin 64) (k : Fin 1024) (h : Fin 512) : EReal := A2 (ix4 (0 : Fin 2) e k h)
@[inherit_doc f0] abbrev f3 (e : Fin 64) (h : Fin 256) (j : Fin 1024) : EReal := A3 (ix4 (0 : Fin 2) e h j)
@[inherit_doc f0] abbrev f4 (k : Fin 1024) (h : Fin 512) : EReal := A4 (ix2 k h)
@[inherit_doc f0] abbrev f5 (h : Fin 256) (j : Fin 1024) : EReal := A5 (ix2 h j)

/-- One expert's result for a token. -/
theorem expert_apply (e : Fin 64) (r : Fin 16896) (j : Fin 1024) :
    val_main_v10 (F := Ideal) A0 A2 A3 (ix3 e r j) = ffn (f0 A0 r) (f2 A2 e) (f3 A3 e) j := by
  pointwise [val_main_v10, val_main_v9, val_main_v8, val_main_v7, val_main_v6, val_main_v5, val_main_v4, val_main_v3,
    val_main_v2, val_main_v1, val_main_v0, val_main_call0_v5, val_main_call0_v4, val_main_call0_v3, val_main_call0_v2, val_main_call0_v1, val_main_call0_v0,
    val_main_call0_cst, val_main_call0_cst_0]
  unfold ffn silu Ideal.logistic
  simp only [mul_comm (A2 _)]

/-- The reference's result. -/
theorem ref_apply (r : Fin 16896) (j : Fin 1024) :
    val_main_v18 (F := Ideal) A0 A1 A2 A3 A4 A5 (ix2 r j) = moeVal (f0 A0 r) (f1 A1 r) (f2 A2) (f3 A3) (f4 A4) (f5 A5) j := by
  pointwise [val_main_v18, val_main_v17, val_main_v16, val_main_v15, val_main_v14, val_main_v13, val_main_v12, val_main_v11,
    expert_apply, val_main_call1_v5, val_main_call1_v4, val_main_call1_v3, val_main_call1_v2, val_main_call1_v1, val_main_call1_v0,
    val_main_call1_cst, val_main_call1_cst_0]
  unfold moeVal
  rw [add_comm]
  exact congrArg₂ (· + ·) rfl (Finset.sum_congr rfl fun e _ => mul_comm _ _)

end Cert.Moe

end
-- ==== Proof.Moe.Kern.lean ====
/-
  The kernel's experts: what one point of the grid adds to a block of the result, at an index.
-/
module

public import proofs.«01_k».proof.Proof.Moe.Data
public import proofs.«01_k».proof.Proof.Gen.Kernel3Ideal.Value
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.Moe

open Idealize.ShloMosaic Idealize.SL.Sem Cert.Kernel3Ideal Cert.Kernel3Ideal.Gen

/-- The shared unit's result for a block of tokens. -/
theorem shared_apply (gu : Vec Ideal S1024x512 .bf16) (d : Vec Ideal S256x1024 .bf16) (x : Vec Ideal S2112x1024 .bf16)
    (q : Fin 2112) (j : Fin 1024) :
    k0_pay2 gu d x (ix2 q j) = ffn (fun k => x (ix2 q k)) (fun k h => gu (ix2 k h)) (fun h j => d (ix2 h j)) j := by
  pointwise [k0_pay2]
  rfl

/-- A row's sum over the lanes whose number is `e` is lane `e`. -/
theorem gate_sum (gate : Fin 64 → EReal) (w : BitVec 32) (e : ℕ) (he : e < 64) (hw : w = BitVec.ofNat 32 e) :
    ∑ x : Fin 64, Scalar.select (IntOp.cmpi CmpIPredicate.eq (BitVec.ofNat 32 x.val) w) (gate x) 0 = gate ⟨e, he⟩ := by
  subst hw
  rw [Finset.sum_eq_single (⟨e, he⟩ : Fin 64)]
  · rw [WordCmp.select_of_eq_one ((WordCmp.cmpi_eq_ofNat_eq_one_iff (by omega) (by omega)).mpr rfl)]
  · intro x _ hx
    exact WordCmp.select_of_eq_zero ((WordCmp.cmpi_eq_ofNat_eq_zero_iff (by have := x.isLt; omega) (by omega)).mpr
      fun h => hx (Fin.ext h)) _ _
  · exact fun h => absurd (Finset.mem_univ _) h

variable (x : Vec Ideal S2112x1024 .bf16) (gate : Vec Ideal S2112x64 .f32) (acc : Vec Ideal S2112x1024 .f32)
  (gu : Vec Ideal S1x1x1024x512 .f32) (d : Vec Ideal S1x1x256x1024 .f32)

/-- The first expert of a point is added with its gate. -/
theorem pay3_apply (i : grid0.Coords) (e : ℕ) (he : e < 32) (hi : (i 1).val = e) (q : Fin 2112) (j : Fin 1024) :
    k0_pay3 i gate acc gu d x (ix2 q j)
      = acc (ix2 q j) + ffn (fun k => x (ix2 q k)) (fun k h => gu (ix4 (0 : Fin 1) (0 : Fin 1) k h))
          (fun h j => d (ix4 (0 : Fin 1) (0 : Fin 1) h j)) j * gate (ix2 q (⟨2 * e, by omega⟩ : Fin 64)) := by
  have hg := gate_sum (fun l => gate (ix2 q l)) (Scalar.addi (Scalar.muli (BitVec.ofNat 32 (i 1).val) 2#32) 0#32) (2 * e) (by omega)
    (by rw [hi]; interval_cases e <;> rfl)
  rw [← hg]
  pointwise [k0_pay3]
  rfl

/-- The second expert of a point is added with its gate. -/
theorem pay1_apply (e : ℕ) (he : e < 32) (q : Fin 2112) (j : Fin 1024) :
    k0_pay1 (BitVec.ofNat 32 e) gate (iota Kind.tc S2112x64 32 [1] iota_S2112x64_d1_w32) acc gu d x (ix2 q j)
      = acc (ix2 q j) + ffn (fun k => x (ix2 q k)) (fun k h => gu (ix4 (0 : Fin 1) (0 : Fin 1) k h))
          (fun h j => d (ix4 (0 : Fin 1) (0 : Fin 1) h j)) j * gate (ix2 q (⟨2 * e + 1, by omega⟩ : Fin 64)) := by
  have hg := gate_sum (fun l => gate (ix2 q l)) (Scalar.addi (Scalar.muli (BitVec.ofNat 32 e) 2#32) 1#32) (2 * e + 1) (by omega)
    (by interval_cases e <;> rfl)
  rw [← hg]
  pointwise [k0_pay1]
  rfl

/-- Expert `u`'s part of a point's block of two experts' gate and up projections. -/
theorem part_gu (X : Vec Ideal S1x2x1024x512 .f32) (u : Fin 2) (inb) (k : Fin 1024) (h : Fin 512) :
    View.ld X (Rect.unit ![0, u.val, 0, 0] ![1, 1, 1024, 512] inb) (ix4 (0 : Fin 1) (0 : Fin 1) k h) = X (ix4 (0 : Fin 1) u k h) := by
  refine congrArg X (funext fun a => Fin.ext ?_)
  match a with
  | ⟨0, _⟩ => rfl
  | ⟨1, _⟩ => exact Nat.add_zero _
  | ⟨2, _⟩ => exact (Nat.zero_add _).trans (Nat.one_mul _)
  | ⟨3, _⟩ => exact (Nat.zero_add _).trans (Nat.one_mul _)

/-- Expert `u`'s part of a point's block of two experts' down projections. -/
theorem part_d (X : Vec Ideal S1x2x256x1024 .f32) (u : Fin 2) (inb) (h : Fin 256) (j : Fin 1024) :
    View.ld X (Rect.unit ![0, u.val, 0, 0] ![1, 1, 256, 1024] inb) (ix4 (0 : Fin 1) (0 : Fin 1) h j) = X (ix4 (0 : Fin 1) u h j) := by
  refine congrArg X (funext fun a => Fin.ext ?_)
  match a with
  | ⟨0, _⟩ => rfl
  | ⟨1, _⟩ => exact Nat.add_zero _
  | ⟨2, _⟩ => exact (Nat.zero_add _).trans (Nat.one_mul _)
  | ⟨3, _⟩ => exact (Nat.zero_add _).trans (Nat.one_mul _)

variable (m : (ℓ : Loc nD τ sig) → Buf (Elt Ideal) ℓ) (c : Dev nD)

/-- The arguments' elements by their coordinates. -/
abbrev g0 (i : Fin 16896) (j : Fin 1024) : EReal := m (c, Proc.tc.devRef main_arg0) (ix2 i j)
@[inherit_doc g0] abbrev g1 (i : Fin 16896) (e : Fin 64) : EReal := m (c, Proc.tc.devRef main_arg1) (ix2 i e)
@[inherit_doc g0] abbrev g2 (e : Fin 64) (k : Fin 1024) (h : Fin 512) : EReal := m (c, Proc.tc.devRef main_arg2) (ix4 (0 : Fin 2) e k h)
@[inherit_doc g0] abbrev g3 (e : Fin 64) (h : Fin 256) (j : Fin 1024) : EReal := m (c, Proc.tc.devRef main_arg3) (ix4 (0 : Fin 2) e h j)
@[inherit_doc g0] abbrev g4 (k : Fin 1024) (h : Fin 512) : EReal := m (c, Proc.tc.devRef main_arg4) (ix2 k h)
@[inherit_doc g0] abbrev g5 (h : Fin 256) (j : Fin 1024) : EReal := m (c, Proc.tc.devRef main_arg5) (ix2 h j)

theorem idx0 : ∀ t : Fin cfg0.N, win0_0.index t = ![t.val / 32, 0] := (by decide +kernel : ∀ t : Fin grid0.N, win0_0.index t = ![t.val / 32, 0])
theorem idx1 : ∀ t : Fin cfg0.N, win0_1.index t = ![t.val / 32, 0] := (by decide +kernel : ∀ t : Fin grid0.N, win0_1.index t = ![t.val / 32, 0])
theorem idx2 : ∀ t : Fin cfg0.N, win0_2.index t = ![0, t.val % 32, 0, 0] :=
  (by decide +kernel : ∀ t : Fin grid0.N, win0_2.index t = ![0, t.val % 32, 0, 0])
theorem idx3 : ∀ t : Fin cfg0.N, win0_3.index t = ![0, t.val % 32, 0, 0] :=
  (by decide +kernel : ∀ t : Fin grid0.N, win0_3.index t = ![0, t.val % 32, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val / 32, 0] := (by decide +kernel : ∀ t : Fin grid0.N, win0_6.index t = ![t.val / 32, 0])
theorem coord1 : ∀ t : Fin cfg0.N, (grid0.coords t 1).val = t.val % 32 :=
  (by decide +kernel : ∀ t : Fin grid0.N, (grid0.coords t 1).val = t.val % 32)
theorem pt_lt (t : Fin cfg0.N) : t.val < 256 := t.isLt

/-- The row of the arrays that row `q` of block `b` is. -/
def rowOf (b : ℕ) (hb : b < 8) (q : Fin 2112) : Fin 16896 := ⟨b * 2112 + q.val, by omega⟩

theorem div_lt (t : Fin cfg0.N) : t.val / 32 < 8 := by have := pt_lt t; omega

theorem blk0_apply (t : Fin cfg0.N) (q : Fin 2112) (k : Fin 1024) : iblk m c 0 t (ix2 q k) = g0 m c (rowOf (t.val / 32) (div_lt t) q) k := by
  have e : V m c main_v0 (ix2 (rowOf (t.val / 32) (div_lt t) q) k) = g0 m c (rowOf (t.val / 32) (div_lt t) q) k := by
    unfold V
    after_reads_at
  refine Eq.trans ?_ e
  have hi := idx0 t
  unfold iblk rowOf
  generalize V m c = W
  blk_ext [hi]

theorem blk1_apply (t : Fin cfg0.N) (q : Fin 2112) (l : Fin 64) : iblk m c 1 t (ix2 q l) = g1 m c (rowOf (t.val / 32) (div_lt t) q) l := by
  refine Eq.trans ?_ (congrFun (V_main_arg1 m c) _)
  have hi := idx1 t
  unfold iblk rowOf
  generalize V m c = W
  blk_ext [hi]

theorem blk2_apply (t : Fin cfg0.N) (u : Fin 2) (k : Fin 1024) (h : Fin 512) :
    iblk m c 2 t (ix4 (0 : Fin 1) u k h) = g2 m c ⟨2 * (t.val % 32) + u.val, by omega⟩ k h := by
  refine Eq.trans ?_ (congrFun (V_main_arg2 m c) _)
  have hi := idx2 t
  unfold iblk
  generalize V m c = W
  blk_ext [hi]

theorem blk3_apply (t : Fin cfg0.N) (u : Fin 2) (h : Fin 256) (j : Fin 1024) :
    iblk m c 3 t (ix4 (0 : Fin 1) u h j) = g3 m c ⟨2 * (t.val % 32) + u.val, by omega⟩ h j := by
  refine Eq.trans ?_ (congrFun (V_main_arg3 m c) _)
  have hi := idx3 t
  unfold iblk
  generalize V m c = W
  blk_ext [hi]

theorem blk4_apply (t : Fin cfg0.N) (k : Fin 1024) (h : Fin 512) : iblk m c 4 t (ix2 k h) = g4 m c k h := by
  have e : V m c main_v1 (ix2 k h) = g4 m c k h := by
    unfold V
    after_reads_at
  refine Eq.trans ?_ e
  have hi := idx4 t
  unfold iblk
  generalize V m c = W
  blk_ext [hi]

theorem blk5_apply (t : Fin cfg0.N) (h : Fin 256) (j : Fin 1024) : iblk m c 5 t (ix2 h j) = g5 m c h j := by
  have e : V m c main_v2 (ix2 h j) = g5 m c h j := by
    unfold V
    after_reads_at
  refine Eq.trans ?_ e
  have hi := idx5 t
  unfold iblk
  generalize V m c = W
  blk_ext [hi]

/-- The result of row `q` of block `b` after the shared unit and `n` experts. -/
abbrev part (b : ℕ) (hb : b < 8) (n : ℕ) (q : Fin 2112) (j : Fin 1024) : EReal :=
  moePart (g0 m c (rowOf b hb q)) (g1 m c (rowOf b hb q)) (g2 m c) (g3 m c) (g4 m c) (g5 m c) n j

/-- One of a point's two experts: its result times its gate, in the arguments' elements. -/
theorem expert_point (t : Fin cfg0.N) (u : Fin 2) (inb2 inb3) (q : Fin 2112) (j : Fin 1024) :
    ffn (fun k => iblk m c 0 t (ix2 q k))
        (fun k h => View.ld (iblk m c 2 t) (Rect.unit ![0, u.val, 0, 0] ![1, 1, 1024, 512] inb2) (ix4 (0 : Fin 1) (0 : Fin 1) k h))
        (fun h j => View.ld (iblk m c 3 t) (Rect.unit ![0, u.val, 0, 0] ![1, 1, 256, 1024] inb3) (ix4 (0 : Fin 1) (0 : Fin 1) h j)) j
        * iblk m c 1 t (ix2 q (⟨2 * (t.val % 32) + u.val, by omega⟩ : Fin 64))
      = ffn (g0 m c (rowOf (t.val / 32) (div_lt t) q)) (g2 m c ⟨2 * (t.val % 32) + u.val, by omega⟩)
          (g3 m c ⟨2 * (t.val % 32) + u.val, by omega⟩) j
        * g1 m c (rowOf (t.val / 32) (div_lt t) q) ⟨2 * (t.val % 32) + u.val, by omega⟩ := by
  have e0 : (fun k => iblk m c 0 t (ix2 q k)) = g0 m c (rowOf (t.val / 32) (div_lt t) q) := funext fun k => blk0_apply m c t q k
  have e2 : (fun k h => View.ld (iblk m c 2 t) (Rect.unit ![0, u.val, 0, 0] ![1, 1, 1024, 512] inb2) (ix4 (0 : Fin 1) (0 : Fin 1) k h))
      = g2 m c ⟨2 * (t.val % 32) + u.val, by omega⟩ :=
    funext fun k => funext fun h => (part_gu _ u inb2 k h).trans (blk2_apply m c t u k h)
  have e3 : (fun h j => View.ld (iblk m c 3 t) (Rect.unit ![0, u.val, 0, 0] ![1, 1, 256, 1024] inb3) (ix4 (0 : Fin 1) (0 : Fin 1) h j))
      = g3 m c ⟨2 * (t.val % 32) + u.val, by omega⟩ :=
    funext fun h => funext fun j => (part_d _ u inb3 h j).trans (blk3_apply m c t u h j)
  rw [blk1_apply]
  exact congrArg (· * g1 m c _ _) (congrFun (congr (congr (congrArg ffn e0) e2) e3) j)

/-- The contents a point leaves: over `acc`, its two experts' results times their gates. -/
theorem point_apply (t : Fin cfg0.N) (inb2 inb2' inb3 inb3') (q : Fin 2112) (j : Fin 1024)
    (ha : acc (ix2 q j) = part m c (t.val / 32) (div_lt t) (2 * (t.val % 32)) q j) :
    k0_pay1 (BitVec.ofNat 32 (grid0.coords t 1).val) (iblk m c 1 t) (iota Kind.tc S2112x64 32 [1] iota_S2112x64_d1_w32)
      (k0_pay3 (grid0.coords t) (iblk m c 1 t) acc
        (View.ld (iblk m c 2 t) (Rect.unit ![0, 0, 0, 0] ![1, 1, 1024, 512] inb2))
        (View.ld (iblk m c 3 t) (Rect.unit ![0, 0, 0, 0] ![1, 1, 256, 1024] inb3)) (iblk m c 0 t))
      (View.ld (iblk m c 2 t) (Rect.unit ![0, 1, 0, 0] ![1, 1, 1024, 512] inb2'))
      (View.ld (iblk m c 3 t) (Rect.unit ![0, 1, 0, 0] ![1, 1, 256, 1024] inb3')) (iblk m c 0 t) (ix2 q j)
      = part m c (t.val / 32) (div_lt t) (2 * (t.val % 32) + 2) q j := by
  have he : t.val % 32 < 32 := Nat.mod_lt _ (by omega)
  rw [coord1 t, pay1_apply _ _ _ _ _ (t.val % 32) he, pay3_apply _ _ _ _ _ _ (t.val % 32) he (coord1 t), ha]
  unfold part
  rw [moePart_succ _ _ _ _ _ _ _ (2 * (t.val % 32) + 1) (by omega), moePart_succ _ _ _ _ _ _ _ (2 * (t.val % 32)) (by omega)]
  exact congrArg₂ (· + ·) (congrArg (_ + ·) (expert_point m c t 0 inb2 inb3 q j)) (expert_point m c t 1 inb2' inb3' q j)

/-- The first point of a block leaves the shared unit's result and its two experts'. -/
theorem first_point (t : Fin cfg0.N) (h0 : t.val % 32 = 0) (q : Fin 2112) (j : Fin 1024) :
    outsAt0 m c t.val t.isLt (ix2 q j) = part m c (t.val / 32) (div_lt t) (2 * (t.val % 32) + 2) q j := by
  rw [outsAt0_A m c t h0]
  frame_out
  refine point_apply _ m c t _ _ _ _ q j ?_
  rw [shared_apply, h0]
  unfold part
  rw [moePart_zero]
  have e0 : (fun k => iblk m c 0 t (ix2 q k)) = g0 m c (rowOf (t.val / 32) (div_lt t) q) := funext fun k => blk0_apply m c t q k
  have e4 : (fun k h => iblk m c 4 t (ix2 k h)) = g4 m c := funext fun k => funext fun h => blk4_apply m c t k h
  have e5 : (fun h j => iblk m c 5 t (ix2 h j)) = g5 m c := funext fun h => funext fun j => blk5_apply m c t h j
  exact congrFun (congr (congr (congrArg ffn e0) e4) e5) j

/-- A later point adds its two experts' results to what the point before left. -/
theorem later_point (t : Fin cfg0.N) (h0 : ¬t.val % 32 = 0) (q : Fin 2112) (j : Fin 1024)
    (hb : outsAt0 m c (t.val - 1) (Nat.lt_of_le_of_lt (Nat.sub_le _ _) t.isLt) (ix2 q j)
      = part m c (t.val / 32) (div_lt t) (2 * (t.val % 32)) q j) :
    outsAt0 m c t.val t.isLt (ix2 q j) = part m c (t.val / 32) (div_lt t) (2 * (t.val % 32) + 2) q j := by
  rw [outsAt0_B m c t h0]
  frame_out
  exact point_apply _ m c t _ _ _ _ q j hb

/-- The result so far of two equal blocks and numbers of experts. -/
theorem part_congr {b b' : ℕ} (hb : b < 8) (hb' : b' < 8) {n n' : ℕ} (e : b = b') (f : n = n') (q : Fin 2112) (j : Fin 1024) :
    part m c b hb n q j = part m c b' hb' n' q j := by
  subst e f
  rfl

/-- After every point the block holds the shared unit's result and those of the experts so far. -/
theorem state_eq (n : ℕ) : ∀ (hn : n < cfg0.N) (q : Fin 2112) (j : Fin 1024),
    outsAt0 m c n hn (ix2 q j) = part m c (n / 32) (div_lt ⟨n, hn⟩) (2 * (n % 32) + 2) q j := by
  induction n with
  | zero => exact fun hn q j => first_point m c ⟨0, hn⟩ rfl q j
  | succ n ih =>
    intro hn q j
    by_cases h0 : (n + 1) % 32 = 0
    · exact first_point m c ⟨n + 1, hn⟩ h0 q j
    · refine later_point m c ⟨n + 1, hn⟩ h0 q j ((ih (Nat.lt_of_succ_lt hn) q j).trans ?_)
      refine part_congr m c _ _ ?_ ?_ q j
      · show n / 32 = (n + 1) / 32
        omega
      · show 2 * (n % 32) + 2 = 2 * ((n + 1) % 32)
        omega

/-- The experts' values as an array. -/
def resultOf (x : Fin 16896 → Fin 1024 → EReal) (gate : Fin 16896 → Fin 64 → EReal) (gu : Fin 64 → Fin 1024 → Fin 512 → EReal)
    (d : Fin 64 → Fin 256 → Fin 1024 → EReal) (sgu : Fin 1024 → Fin 512 → EReal) (sd : Fin 256 → Fin 1024 → EReal) :
    FVec Ideal S16896x1024 .f32 :=
  fun i => moeVal (x ⟨(i 0).val, (i 0).isLt⟩) (gate ⟨(i 0).val, (i 0).isLt⟩) gu d sgu sd ⟨(i 1).val, (i 1).isLt⟩

/-- The kernel's result array holds the experts' values. -/
theorem array_eq :
    (dats m 0 c).arrAt 6 cfg0.N = resultOf (g0 m c) (g1 m c) (g2 m c) (g3 m c) (g4 m c) (g5 m c) := by
  refine (dats m 0 c).arrAt_eq_of_covers 6 _ (by decide +kernel) fun t hf y => ?_
  change (dats m 0 c).flushed 6 t y = _
  have hl : t.val % 32 = 31 := (flush0_6 t).mp hf
  have hi := idx6 t
  have f0 : ((((cfg0.win 6).blk t).view.emb y) 0).val = t.val / 32 * 2112 + (y 0).val := by blk_simp [hi]
  have f1 : ((((cfg0.win 6).blk t).view.emb y) 1).val = (y 1).val := by blk_simp [hi]
  rw [Value.flushed6]
  have e := state_eq m c t.val t.isLt ⟨(y 0).val, (y 0).isLt⟩ ⟨(y 1).val, (y 1).isLt⟩
  refine Eq.trans ?_ ((e.trans (part_congr m c (div_lt t) (div_lt t) rfl (by omega : _ = 64) _ _)).trans ?_)
  · refine congrArg (outsAt0 m c t.val t.isLt) (funext fun a => ?_)
    match a with
    | ⟨0, _⟩ => rfl
    | ⟨1, _⟩ => rfl
  · unfold part resultOf
    rw [moePart_all]
    exact congrArg₂ (fun r j => moeVal (g0 m c r) (g1 m c r) _ _ _ _ j) (Fin.ext f0.symm) (Fin.ext f1.symm)

end Cert.Moe

end
-- ==== Proof.Merge.Data.lean ====
/-
  The merge's results at an index: the readout of the recurrence, the gated sum of the branches, the stream and the tokens.
-/
module

public import proofs.«01_k».proof.Proof.Proj.Data
public import proofs.«01_k».proof.Proof.DA.Ops

@[expose] public section

noncomputable section

namespace Cert.Merge

open Idealize.ShloMosaic Cert.Proj

/-! ## The readout -/

/-- Number `d` of head `h`, as one of a row's 256. -/
def lane (h : Fin 4) (d : Fin 64) : Fin 256 := ⟨h.val * 64 + d.val, by omega⟩

/-- The head of one of a row's 256 numbers, and its place in the head. -/
def headOf (k : Fin 256) : Fin 4 := ⟨k.val / 64, by omega⟩
@[inherit_doc headOf] def placeOf (k : Fin 256) : Fin 64 := ⟨k.val % 64, by omega⟩

theorem lane_head (k : Fin 256) : lane (headOf k) (placeOf k) = k :=
  Fin.ext (by simp only [lane, headOf, placeOf]; omega)

theorem head_lane (h : Fin 4) (d : Fin 64) : headOf (lane h d) = h :=
  Fin.ext (by simp only [lane, headOf]; omega)

theorem place_lane (h : Fin 4) (d : Fin 64) : placeOf (lane h d) = d :=
  Fin.ext (by simp only [lane, placeOf]; omega)

/-- A row's mean over head `h`. -/
def headMean (y : Fin 256 → EReal) (h : Fin 4) : EReal := Ideal.div (∑ d : Fin 64, y (lane h d)) (Ideal.ofBits .f32 0x42800000#32)

/-- A row less its heads' means. -/
def cent (y : Fin 256 → EReal) (k : Fin 256) : EReal := y k - headMean y (headOf k)

/-- A row normalised head by head. -/
def headNorm (y : Fin 256 → EReal) (k : Fin 256) : EReal :=
  cent y k * Ideal.rsqrt (headMean (fun l => cent y l * cent y l) (headOf k) + Ideal.ofBits .f32 0x3A27C5AC#32)

/-- The recurrence's branch: the normalised row with its gain, its bias and the two bonuses, times the low-rank gate. -/
def branchD (yf yb b0 b1 : Fin 256 → EReal) (gup : Fin 128 → Fin 256 → EReal) (gn : Fin 2 → Fin 256 → EReal)
    (u : Fin 7168 → EReal) (k : Fin 256) : EReal :=
  (headNorm (fun l => yf l + yb l) k * gn 0 k + gn 1 k + (b0 k + b1 k))
    * ∑ r : Fin 128, Ideal.logistic (u ⟨7040 + r.val, by omega⟩) * gup r k

/-! ## The branches' sum and the stream -/

/-- One branch's output, times its gate. -/
def branch (b : Fin 4) (o : Fin 256 → EReal) (u : Fin 7168 → EReal) (wb : Fin 4 → Fin 256 → Fin 1024 → EReal) (j : Fin 1024) : EReal :=
  Ideal.logistic (u ⟨b.val * 1024 + j.val, by omega⟩) * ∑ l, o l * wb b l j

/-- The branches' sum. -/
def merged (oa ob oc od : Fin 256 → EReal) (u : Fin 7168 → EReal) (wb : Fin 4 → Fin 256 → Fin 1024 → EReal) (j : Fin 1024) : EReal :=
  branch 0 oa u wb j + branch 1 ob u wb j + branch 2 oc u wb j + branch 3 od u wb j

/-- A row of 1024 numbers normalised by its mean square, with the gain. -/
def normRow (x g : Fin 1024 → EReal) (l : Fin 1024) : EReal :=
  x l * Ideal.rsqrt (Ideal.div (∑ k, x k * x k) (Ideal.ofBits .f32 1149239296#32) + Ideal.ofBits .f32 897988541#32) * g l

/-- A row of the stream: the input's row plus the modulated, normalised output projection of `s`. -/
def streamRow (s : Fin 1024 → EReal) (wo : Fin 1024 → Fin 1024 → EReal) (x g md : Fin 1024 → EReal) (l : Fin 1024) : EReal :=
  x l + md l * normRow (fun j => ∑ k, s k * wo k j) g l

section
variable (oa ob oc yf yb : Fin 16896 → Fin 256 → EReal) (bo : Fin 2 → Fin 16896 → Fin 256 → EReal)
  (gup : Fin 128 → Fin 256 → EReal) (gn : Fin 2 → Fin 256 → EReal) (u : Fin 16896 → Fin 7168 → EReal)
  (wb : Fin 4 → Fin 256 → Fin 1024 → EReal) (wo : Fin 1024 → Fin 1024 → EReal) (x : Fin 16896 → Fin 1024 → EReal)
  (g : Fin 1024 → EReal) (md : Fin 3 → Fin 1024 → EReal) (g2 : Fin 1024 → EReal) (shift scale : Fin 3 → Fin 1024 → EReal)

/-- The branches' sum at row `r`. -/
def mergedVal (r : Fin 16896) : Fin 1024 → EReal :=
  merged (oa r) (ob r) (oc r) (branchD (yf r) (yb r) (bo 0 r) (bo 1 r) gup gn (u r)) (u r) wb

/-- The stream at row `r`. -/
def streamVal (r : Fin 16896) : Fin 1024 → EReal :=
  streamRow (mergedVal oa ob oc yf yb bo gup gn u wb r) wo (x r) g (md ⟨kind r.val, kind_lt r⟩)

/-- The tokens at row `r`: the stream's row normalised and modulated. -/
def tokVal (r : Fin 16896) : Fin 1024 → EReal :=
  modRow (streamVal oa ob oc yf yb bo gup gn u wb wo x g md r) g2 (shift ⟨kind r.val, kind_lt r⟩) (scale ⟨kind r.val, kind_lt r⟩)

end

/-! ## The kernel's means, by three products with the matrix of the heads -/

/-- Sums of a row's numbers weighted by the columns of `e`, the row in three parts: itself and two differences. -/
def selMean (y : Fin 256 → EReal) (e : Fin 256 → Fin 256 → EReal) (k : Fin 256) : EReal :=
  (∑ l, y l * e l k + (∑ l, (y l - y l) * e l k + ∑ l, (y l - y l - (y l - y l)) * e l k)) * Ideal.ofBits .f32 0x3C800000#32

/-- The matrix of the heads: one where row and column are of one head. -/
def sameHead (l k : Fin 256) : EReal := if l.val / 64 = k.val / 64 then 1 else 0

theorem sum_heads (f : Fin 256 → EReal) : ∑ l, f l = ∑ h : Fin 4, ∑ d : Fin 64, f (lane h d) := by
  rw [← Fintype.sum_prod_type' (f := fun h d => f (lane h d))]
  refine Fintype.sum_bijective (fun l => (headOf l, placeOf l)) ?_ _ _ fun l => (congrArg f (lane_head l)).symm
  refine Function.bijective_iff_has_inverse.mpr ⟨fun p => lane p.1 p.2, lane_head, fun p => Prod.ext (head_lane _ _) (place_lane _ _)⟩

theorem sum_same (y : Fin 256 → EReal) (k : Fin 256) : ∑ l, y l * sameHead l k = ∑ d : Fin 64, y (lane (headOf k) d) := by
  rw [sum_heads, Finset.sum_eq_single (headOf k)]
  · refine Finset.sum_congr rfl fun d _ => ?_
    rw [sameHead, if_pos (show (lane (headOf k) d).val / 64 = k.val / 64 from congrArg Fin.val (head_lane (headOf k) d)), mul_one]
  · intro h _ hh
    refine Finset.sum_eq_zero fun d _ => ?_
    rw [sameHead, if_neg, mul_zero]
    exact fun e => hh (Fin.ext ((congrArg Fin.val (head_lane h d)).symm.trans e))
  · exact fun h => absurd (Finset.mem_univ _) h

theorem inv64_eq : Ideal.ofBits .f32 0x3C800000#32 = ((64⁻¹ : ℝ) : EReal) := by
  simp [Ideal.ofBits, Ideal.ieee]
  rw [← EReal.coe_mul, EReal.coe_eq_coe_iff]
  norm_num

theorem div64 (x : EReal) : x * Ideal.ofBits .f32 0x3C800000#32 = Ideal.div x (Ideal.ofBits .f32 0x42800000#32) := by
  rw [inv64_eq, DA.sixtyFour_eq, Ideal.div, if_neg (by norm_num), EReal.coe_inv]

/-- Of a real row, the three products are the heads' means. -/
theorem selMean_eq (y : Fin 256 → EReal) (hy : ∀ l, ∃ z : ℝ, y l = (z : EReal)) (k : Fin 256) :
    selMean y sameHead k = headMean y (headOf k) := by
  have h0 : ∀ l, y l - y l = 0 := fun l => by
    obtain ⟨z, hz⟩ := hy l
    rw [hz, ← EReal.coe_sub, sub_self, EReal.coe_zero]
  unfold selMean headMean
  simp only [h0, sub_zero, zero_mul, Finset.sum_const_zero, add_zero]
  rw [div64, sum_same]

theorem headMean_real (y : Fin 256 → EReal) (hy : ∀ l, ∃ z : ℝ, y l = (z : EReal)) (h : Fin 4) : ∃ z : ℝ, headMean y h = (z : EReal) := by
  choose z hz using hy
  refine ⟨(∑ d : Fin 64, z (lane h d)) * 64⁻¹, ?_⟩
  unfold headMean
  rw [← div64, inv64_eq]
  simp only [hz]
  rw [EReal.coe_mul, DA.coe_sum]

theorem cent_real (y : Fin 256 → EReal) (hy : ∀ l, ∃ z : ℝ, y l = (z : EReal)) (k : Fin 256) : ∃ z : ℝ, cent y k = (z : EReal) := by
  obtain ⟨a, ha⟩ := hy k
  obtain ⟨b, hb⟩ := headMean_real y hy (headOf k)
  exact ⟨a - b, by rw [cent, ha, hb, EReal.coe_sub]⟩

/-- A row normalised by the kernel's means. -/
def selNorm (y : Fin 256 → EReal) (e : Fin 256 → Fin 256 → EReal) (k : Fin 256) : EReal :=
  (y k - selMean y e k) * Ideal.rsqrt (selMean (fun l => (y l - selMean y e l) * (y l - selMean y e l)) e k
    + Ideal.ofBits .f32 0x3A27C5AC#32)

theorem selNorm_eq (y : Fin 256 → EReal) (hy : ∀ l, ∃ z : ℝ, y l = (z : EReal)) (k : Fin 256) : selNorm y sameHead k = headNorm y k := by
  have hc : ∀ l, y l - selMean y sameHead l = cent y l := fun l => by rw [selMean_eq y hy]; rfl
  unfold selNorm headNorm
  simp only [hc]
  rw [selMean_eq]
  intro l
  obtain ⟨z, hz⟩ := cent_real y hy l
  exact ⟨z * z, by rw [hz, EReal.coe_mul]⟩

end Cert.Merge

end
-- ==== Proof.Merge.Blk.lean ====
/-
  The merge kernel's blocks: what each input's block holds at a point, by the arguments' elements.
-/
module

public import proofs.«01_k».proof.Proof.Merge.Data
public import proofs.«01_k».proof.Proof.Proj.Kern
public import proofs.«01_k».proof.Proof.Gen.Kernel4Ideal.Frame.Runs
public import Idealize.ShloMosaic.Lib.StableHlo.ReadAt
public import Idealize.ShloMosaic.Lib.Pipeline.ValueKit.Geometry

@[expose] public section

set_option maxRecDepth 16384

noncomputable section

namespace Cert.Merge

open Idealize.ShloMosaic Idealize.SL.Sem Cert.Kernel4Ideal Cert.Kernel4Ideal.Gen
open Cert.Proj (tileKind)

variable (m : (ℓ : Loc nD τ sig) → Buf (Elt Ideal) ℓ) (c : Dev nD)

/-- The arguments' elements by their coordinates. -/
abbrev h0 (r : Fin 16896) (l : Fin 256) : EReal := m (c, Proc.tc.devRef main_arg0) (ix2 r l)
@[inherit_doc h0] abbrev h1 (r : Fin 16896) (l : Fin 256) : EReal := m (c, Proc.tc.devRef main_arg1) (ix2 r l)
@[inherit_doc h0] abbrev h2 (r : Fin 16896) (l : Fin 256) : EReal := m (c, Proc.tc.devRef main_arg2) (ix2 r l)
@[inherit_doc h0] abbrev h3 (r : Fin 16896) (l : Fin 256) : EReal := m (c, Proc.tc.devRef main_arg3) (ix2 r l)
@[inherit_doc h0] abbrev h4 (r : Fin 16896) (l : Fin 256) : EReal := m (c, Proc.tc.devRef main_arg4) (ix2 r l)
@[inherit_doc h0] abbrev h5 (e : Fin 2) (r : Fin 16896) (l : Fin 256) : EReal := m (c, Proc.tc.devRef main_arg5) (ix3 e r l)
@[inherit_doc h0] abbrev h6 (a : Fin 128) (l : Fin 256) : EReal := m (c, Proc.tc.devRef main_arg6) (ix2 a l)
@[inherit_doc h0] abbrev h7 (e : Fin 2) (l : Fin 256) : EReal := m (c, Proc.tc.devRef main_arg7) (ix2 e l)
@[inherit_doc h0] abbrev h8 (r : Fin 16896) (j : Fin 7168) : EReal := m (c, Proc.tc.devRef main_arg8) (ix2 r j)
@[inherit_doc h0] abbrev h9 (b : Fin 4) (l : Fin 256) (j : Fin 1024) : EReal := m (c, Proc.tc.devRef main_arg9) (ix3 b l j)
@[inherit_doc h0] abbrev h10 (k j : Fin 1024) : EReal := m (c, Proc.tc.devRef main_arg10) (ix2 k j)
@[inherit_doc h0] abbrev h11 (r : Fin 16896) (l : Fin 1024) : EReal := m (c, Proc.tc.devRef main_arg11) (ix2 r l)
@[inherit_doc h0] abbrev h12 (l : Fin 1024) : EReal := m (c, Proc.tc.devRef main_arg12) (ix1 l)
@[inherit_doc h0] abbrev h13 (s : Fin 3) (l : Fin 1024) : EReal := m (c, Proc.tc.devRef main_arg13) (ix3 s (0 : Fin 1) l)
@[inherit_doc h0] abbrev h14 (l : Fin 1024) : EReal := m (c, Proc.tc.devRef main_arg14) (ix1 l)
@[inherit_doc h0] abbrev h15 (s : Fin 3) (l : Fin 1024) : EReal := m (c, Proc.tc.devRef main_arg15) (ix3 s (0 : Fin 1) l)
@[inherit_doc h0] abbrev h16 (s : Fin 3) (l : Fin 1024) : EReal := m (c, Proc.tc.devRef main_arg16) (ix3 s (0 : Fin 1) l)

theorem at_lt (t : Fin cfg0.N) : t.val < 33 := t.isLt

theorem tile_lt (t : Fin cfg0.N) (e : ℕ) (he : e < 2) : tileKind (2 * t.val + e) < 3 := by
  have := at_lt t
  unfold tileKind
  split_ifs <;> omega

/-- The row of the arrays that row `q` of point `t`'s block is. -/
def rowAt (t : Fin cfg0.N) (q : Fin 512) : Fin 16896 := ⟨t.val * 512 + q.val, by have := at_lt t; omega⟩

theorem at0 : ∀ t : Fin cfg0.N, win0_0.index t = ![t.val, 0] := (by decide +kernel : ∀ t : Fin grid0.N, win0_0.index t = ![t.val, 0])
theorem at1 : ∀ t : Fin cfg0.N, win0_1.index t = ![t.val, 0] := (by decide +kernel : ∀ t : Fin grid0.N, win0_1.index t = ![t.val, 0])
theorem at2 : ∀ t : Fin cfg0.N, win0_2.index t = ![t.val, 0] := (by decide +kernel : ∀ t : Fin grid0.N, win0_2.index t = ![t.val, 0])
theorem at3 : ∀ t : Fin cfg0.N, win0_3.index t = ![t.val, 0] := (by decide +kernel : ∀ t : Fin grid0.N, win0_3.index t = ![t.val, 0])
theorem at4 : ∀ t : Fin cfg0.N, win0_4.index t = ![t.val, 0] := (by decide +kernel : ∀ t : Fin grid0.N, win0_4.index t = ![t.val, 0])
theorem at5 : ∀ t : Fin cfg0.N, win0_5.index t = ![0, t.val, 0] := (by decide +kernel : ∀ t : Fin grid0.N, win0_5.index t = ![0, t.val, 0])
theorem at6 : ∀ t : Fin cfg0.N, win0_6.index t = ![t.val, 55] := (by decide +kernel : ∀ t : Fin grid0.N, win0_6.index t = ![t.val, 55])
theorem at7 : ∀ t : Fin cfg0.N, win0_7.index t = ![0, 0] := (by decide +kernel : ∀ t : Fin grid0.N, win0_7.index t = ![0, 0])
theorem at8 : ∀ t : Fin cfg0.N, win0_8.index t = ![0, 0] := (by decide +kernel : ∀ t : Fin grid0.N, win0_8.index t = ![0, 0])
theorem at9 : ∀ t : Fin cfg0.N, win0_9.index t = ![0, 0] := (by decide +kernel : ∀ t : Fin grid0.N, win0_9.index t = ![0, 0])
theorem at10 : ∀ t : Fin cfg0.N, win0_10.index t = ![t.val, 0] := (by decide +kernel : ∀ t : Fin grid0.N, win0_10.index t = ![t.val, 0])
theorem at11 : ∀ t : Fin cfg0.N, win0_11.index t = ![0, 0, 0] := (by decide +kernel : ∀ t : Fin grid0.N, win0_11.index t = ![0, 0, 0])
theorem at12 : ∀ t : Fin cfg0.N, win0_12.index t = ![0, 0] := (by decide +kernel : ∀ t : Fin grid0.N, win0_12.index t = ![0, 0])
theorem at13 : ∀ t : Fin cfg0.N, win0_13.index t = ![t.val, 0] := (by decide +kernel : ∀ t : Fin grid0.N, win0_13.index t = ![t.val, 0])
theorem at14 : ∀ t : Fin cfg0.N, win0_14.index t = ![0, 0] := (by decide +kernel : ∀ t : Fin grid0.N, win0_14.index t = ![0, 0])
theorem at15 : ∀ t : Fin cfg0.N, win0_15.index t = ![0, 0] := (by decide +kernel : ∀ t : Fin grid0.N, win0_15.index t = ![0, 0])
theorem at18 : ∀ t : Fin cfg0.N, win0_18.index t = ![tileKind (2 * t.val + 0), 0, 0] :=
  (by decide +kernel : ∀ t : Fin grid0.N, win0_18.index t = ![tileKind (2 * t.val + 0), 0, 0])
theorem at19 : ∀ t : Fin cfg0.N, win0_19.index t = ![tileKind (2 * t.val + 0), 0, 0] :=
  (by decide +kernel : ∀ t : Fin grid0.N, win0_19.index t = ![tileKind (2 * t.val + 0), 0, 0])
theorem at20 : ∀ t : Fin cfg0.N, win0_20.index t = ![tileKind (2 * t.val + 0), 0, 0] :=
  (by decide +kernel : ∀ t : Fin grid0.N, win0_20.index t = ![tileKind (2 * t.val + 0), 0, 0])
theorem at21 : ∀ t : Fin cfg0.N, win0_21.index t = ![tileKind (2 * t.val + 1), 0, 0] :=
  (by decide +kernel : ∀ t : Fin grid0.N, win0_21.index t = ![tileKind (2 * t.val + 1), 0, 0])
theorem at22 : ∀ t : Fin cfg0.N, win0_22.index t = ![tileKind (2 * t.val + 1), 0, 0] :=
  (by decide +kernel : ∀ t : Fin grid0.N, win0_22.index t = ![tileKind (2 * t.val + 1), 0, 0])
theorem at23 : ∀ t : Fin cfg0.N, win0_23.index t = ![tileKind (2 * t.val + 1), 0, 0] :=
  (by decide +kernel : ∀ t : Fin grid0.N, win0_23.index t = ![tileKind (2 * t.val + 1), 0, 0])
theorem at24 : ∀ t : Fin cfg0.N, win0_24.index t = ![t.val, 0] := (by decide +kernel : ∀ t : Fin grid0.N, win0_24.index t = ![t.val, 0])
theorem at25 : ∀ t : Fin cfg0.N, win0_25.index t = ![t.val, 0] := (by decide +kernel : ∀ t : Fin grid0.N, win0_25.index t = ![t.val, 0])

/-- The kind of a row of a point's block: its tile's. -/
theorem kind_at (t : Fin cfg0.N) (q : Fin 512) :
    Cert.Proj.kind (rowAt t q).val = if q.val < 256 then tileKind (2 * t.val + 0) else tileKind (2 * t.val + 1) := by
  unfold Cert.Proj.kind tileKind rowAt
  dsimp only
  split_ifs <;> omega

variable (t : Fin cfg0.N)

theorem in0 (q : Fin 512) (l : Fin 256) : iblk m c 0 t (ix2 q l) = h0 m c (rowAt t q) l := by
  refine Eq.trans ?_ (congrFun (V_main_arg0 m c) _)
  have hi := at0 t
  unfold iblk rowAt
  generalize V m c = W
  blk_ext [hi]

theorem in1 (q : Fin 512) (l : Fin 256) : iblk m c 1 t (ix2 q l) = h1 m c (rowAt t q) l := by
  refine Eq.trans ?_ (congrFun (V_main_arg1 m c) _)
  have hi := at1 t
  unfold iblk rowAt
  generalize V m c = W
  blk_ext [hi]

theorem in2 (q : Fin 512) (l : Fin 256) : iblk m c 2 t (ix2 q l) = h2 m c (rowAt t q) l := by
  refine Eq.trans ?_ (congrFun (V_main_arg2 m c) _)
  have hi := at2 t
  unfold iblk rowAt
  generalize V m c = W
  blk_ext [hi]

theorem in3 (q : Fin 512) (l : Fin 256) : iblk m c 3 t (ix2 q l) = h3 m c (rowAt t q) l := by
  refine Eq.trans ?_ (congrFun (V_main_arg3 m c) _)
  have hi := at3 t
  unfold iblk rowAt
  generalize V m c = W
  blk_ext [hi]

theorem in4 (q : Fin 512) (l : Fin 256) : iblk m c 4 t (ix2 q l) = h4 m c (rowAt t q) l := by
  refine Eq.trans ?_ (congrFun (V_main_arg4 m c) _)
  have hi := at4 t
  unfold iblk rowAt
  generalize V m c = W
  blk_ext [hi]

theorem in5 (e : Fin 2) (q : Fin 512) (l : Fin 256) : iblk m c 5 t (ix3 e q l) = h5 m c e (rowAt t q) l := by
  refine Eq.trans ?_ (congrFun (V_main_arg5 m c) _)
  have hi := at5 t
  unfold iblk rowAt
  generalize V m c = W
  blk_ext [hi]

theorem in6 (q : Fin 512) (a : Fin 128) : iblk m c 6 t (ix2 q a) = h8 m c (rowAt t q) ⟨7040 + a.val, by omega⟩ := by
  refine Eq.trans ?_ (congrFun (V_main_arg8 m c) _)
  have hi := at6 t
  unfold iblk rowAt
  generalize V m c = W
  blk_ext [hi]

theorem in7 (a : Fin 128) (l : Fin 256) : iblk m c 7 t (ix2 a l) = h6 m c a l := by
  have e : V m c main_v8 (ix2 a l) = h6 m c a l := by
    unfold V
    after_reads_at
  refine Eq.trans ?_ e
  have hi := at7 t
  unfold iblk
  generalize V m c = W
  blk_ext [hi]

theorem in8 (e : Fin 2) (l : Fin 256) : iblk m c 8 t (ix2 e l) = h7 m c e l := by
  refine Eq.trans ?_ (congrFun (V_main_arg7 m c) _)
  have hi := at8 t
  unfold iblk
  generalize V m c = W
  blk_ext [hi]

theorem in11 (b : Fin 4) (l : Fin 256) (j : Fin 1024) : iblk m c 11 t (ix3 b l j) = h9 m c b l j := by
  have e : V m c main_v9 (ix3 b l j) = h9 m c b l j := by
    unfold V
    after_reads_at
  refine Eq.trans ?_ e
  have hi := at11 t
  unfold iblk
  generalize V m c = W
  blk_ext [hi]

theorem in12 (k j : Fin 1024) : iblk m c 12 t (ix2 k j) = h10 m c k j := by
  have e : V m c main_v10 (ix2 k j) = h10 m c k j := by
    unfold V
    after_reads_at
  refine Eq.trans ?_ e
  have hi := at12 t
  unfold iblk
  generalize V m c = W
  blk_ext [hi]

theorem in13 (q : Fin 512) (l : Fin 1024) : iblk m c 13 t (ix2 q l) = h11 m c (rowAt t q) l := by
  refine Eq.trans ?_ (congrFun (V_main_arg11 m c) _)
  have hi := at13 t
  unfold iblk rowAt
  generalize V m c = W
  blk_ext [hi]

theorem in14 (l : Fin 1024) : iblk m c 14 t (ix2 (0 : Fin 1) l) = h12 m c l := by
  have e : V m c main_v12 (ix2 (0 : Fin 1) l) = h12 m c l := by
    unfold V
    after_reads_at
  refine Eq.trans ?_ e
  have hi := at14 t
  unfold iblk
  generalize V m c = W
  blk_ext [hi]

theorem in15 (l : Fin 1024) : iblk m c 15 t (ix2 (0 : Fin 1) l) = h14 m c l := by
  have e : V m c main_v13 (ix2 (0 : Fin 1) l) = h14 m c l := by
    unfold V
    after_reads_at
  refine Eq.trans ?_ e
  have hi := at15 t
  unfold iblk
  generalize V m c = W
  blk_ext [hi]

theorem in18 (l : Fin 1024) : iblk m c 18 t (ix3 (0 : Fin 1) (0 : Fin 1) l) = h13 m c ⟨_, tile_lt t 0 (by omega)⟩ l := by
  refine Eq.trans ?_ (congrFun (V_main_arg13 m c) _)
  have hi := at18 t
  unfold iblk
  generalize V m c = W
  blk_ext [hi]

theorem in19 (l : Fin 1024) : iblk m c 19 t (ix3 (0 : Fin 1) (0 : Fin 1) l) = h15 m c ⟨_, tile_lt t 0 (by omega)⟩ l := by
  refine Eq.trans ?_ (congrFun (V_main_arg15 m c) _)
  have hi := at19 t
  unfold iblk
  generalize V m c = W
  blk_ext [hi]

theorem in20 (l : Fin 1024) : iblk m c 20 t (ix3 (0 : Fin 1) (0 : Fin 1) l) = h16 m c ⟨_, tile_lt t 0 (by omega)⟩ l := by
  refine Eq.trans ?_ (congrFun (V_main_arg16 m c) _)
  have hi := at20 t
  unfold iblk
  generalize V m c = W
  blk_ext [hi]

theorem in21 (l : Fin 1024) : iblk m c 21 t (ix3 (0 : Fin 1) (0 : Fin 1) l) = h13 m c ⟨_, tile_lt t 1 (by omega)⟩ l := by
  refine Eq.trans ?_ (congrFun (V_main_arg13 m c) _)
  have hi := at21 t
  unfold iblk
  generalize V m c = W
  blk_ext [hi]

theorem in22 (l : Fin 1024) : iblk m c 22 t (ix3 (0 : Fin 1) (0 : Fin 1) l) = h15 m c ⟨_, tile_lt t 1 (by omega)⟩ l := by
  refine Eq.trans ?_ (congrFun (V_main_arg15 m c) _)
  have hi := at22 t
  unfold iblk
  generalize V m c = W
  blk_ext [hi]

theorem in23 (l : Fin 1024) : iblk m c 23 t (ix3 (0 : Fin 1) (0 : Fin 1) l) = h16 m c ⟨_, tile_lt t 1 (by omega)⟩ l := by
  refine Eq.trans ?_ (congrFun (V_main_arg16 m c) _)
  have hi := at23 t
  unfold iblk
  generalize V m c = W
  blk_ext [hi]

/-- The gates' logits' block: the first 4096 columns. -/
theorem in10 (q : Fin 512) (j : Fin 4096) : X0_10 m c t (ix2 q j) = h8 m c (rowAt t q) ⟨j.val, by omega⟩ := by
  refine Eq.trans ?_ (congrFun (V_main_arg8 m c) _)
  unfold X0_10 Pipeline.Window.fill
  rw [dif_pos (moved0_10 t _)]
  have hi := at10 t
  unfold iblk rowAt
  generalize V m c = W
  blk_ext [hi]

/-- A word's quotient by 64 rounded down, as the host computes it: rounded to zero, and one less where the signs differ
    and it is not exact. -/
def floorWord (w : BitVec 32) : BitVec 32 :=
  Scalar.select
    (IntOp.andi (IntOp.cmpi .ne (if w = 0 then 0 else if w.msb = true then -1 else 1 : BitVec 32)
        (if (64#32) = 0 then 0 else if BitVec.msb (64#32) = true then -1 else 1 : BitVec 32))
      (IntOp.cmpi .ne (IntOp.remsi ArithUnit.host w 64#32) 0#32))
    (IntOp.subi (IntOp.divsi ArithUnit.host w 64#32) 1#32) (IntOp.divsi ArithUnit.host w 64#32)

/-- It is the quotient, of every number the host takes it of. -/
theorem floorWord_eq : ∀ l : Fin 256, floorWord (BitVec.ofNat 32 l.val) = BitVec.ofNat 32 (l.val / 64) := by decide +kernel

/-- The comparison of two quotients, as a number, is the matrix of the heads. -/
theorem head_word (l k : Fin 256) :
    FloatOps.uitofp (F := Ideal) FTy.bf16 (IntOp.cmpi .eq (floorWord (BitVec.ofNat 32 l.val)) (floorWord (BitVec.ofNat 32 k.val))) = sameHead l k := by
  rw [floorWord_eq, floorWord_eq]
  have e : IntOp.cmpi .eq (BitVec.ofNat 32 (l.val / 64)) (BitVec.ofNat 32 (k.val / 64)) = if l.val / 64 = k.val / 64 then 1#1 else 0#1 := by
    revert l k
    decide +kernel
  rw [e]
  unfold sameHead
  split_ifs
  · exact (congrArg (Nat.cast (R := EReal)) (show (1#1 : BitVec 1).toNat = 1 from rfl)).trans Nat.cast_one
  · exact (congrArg (Nat.cast (R := EReal)) (show (0#1 : BitVec 1).toNat = 0 from rfl)).trans Nat.cast_zero

/-- The matrix the kernel's means are taken by is the matrix of the heads. -/
theorem in9 (l k : Fin 256) : iblk m c 9 t (ix2 l k) = sameHead l k := by
  have e : V m c main_v7 (ix2 l k) = sameHead l k := by
    unfold V
    after_reads_at
    exact head_word l k
  refine Eq.trans ?_ e
  have hi := at9 t
  unfold iblk
  generalize V m c = W
  blk_ext [hi]

end Cert.Merge

end
-- ==== Proof.Merge.Pay.lean ====
/-
  The merge kernel's steps on a block of 512 rows, at an index.
-/
module

public import proofs.«01_k».proof.Proof.Merge.Data
public import proofs.«01_k».proof.Proof.Gen.Kernel4Ideal.Skeleton

@[expose] public section

set_option maxRecDepth 16384

noncomputable section

namespace Cert.Merge

open Idealize.ShloMosaic Idealize.SL.Sem Cert.Kernel4Ideal Cert.Kernel4Ideal.Gen Cert.Proj

/-! ## The readout -/

/-- The weighted sums of a block's rows, as the kernel takes them. -/
def selVec (v1 : FVec Ideal S256x256 .bf16) (z : FVec Ideal S512x256 .f32) : FVec Ideal S512x256 .f32 :=
  let hi : FVec Ideal S512x256 .bf16 := truncf .bf16 z bitsLt_bf16_f32
  let r1 : FVec Ideal S512x256 .f32 := subf z (extf .f32 hi bitsLt_bf16_f32)
  let mi : FVec Ideal S512x256 .bf16 := truncf .bf16 r1 bitsLt_bf16_f32
  let lo : FVec Ideal S512x256 .bf16 := truncf .bf16 (subf r1 (extf .f32 mi bitsLt_bf16_f32)) bitsLt_bf16_f32
  let dot := fun (w : FVec Ideal S512x256 .bf16) =>
    (matmul dot_S512x256_S256x256_S512x256_1_0_0_1_n_n none w v1 (constant S512x256 .f32 0x00000000#32) : FVec Ideal S512x256 .f32)
  mulf (addf (dot hi) (addf (dot mi) (dot lo))) (broadcast S512x256 (Scalar.ofBits .f32 0x3C800000#32 : Ideal .f32))

theorem selVec_apply (v1 : FVec Ideal S256x256 .bf16) (z : FVec Ideal S512x256 .f32) (q : Fin 512) (k : Fin 256) :
    selVec v1 z (ix2 q k) = selMean (fun l => z (ix2 q l)) (fun l j => v1 (ix2 l j)) k := by
  unfold selMean
  pointwise [selVec]

theorem pay2_apply (x0 : Vec Ideal S256x256 .bf16) (x2 x3 : Vec Ideal S512x256 .f32) (g : Vec Ideal S1x256 .f32) (q : Fin 512) (k : Fin 256) :
    k0_pay2 x0 x2 x3 g (ix2 q k)
      = selNorm (fun l => x2 (ix2 q l) + x3 (ix2 q l)) (fun l j => x0 (ix2 l j)) k * g (ix2 (0 : Fin 1) k) := by
  have e : k0_pay2 x0 x2 x3 g
      = let v1 : FVec Ideal S256x256 .bf16 := shapeCast S256x256 x0 shapeCasts_S256x256_S256x256
        let v4 : FVec Ideal S512x256 .f32 := addf x2 x3
        let xc : FVec Ideal S512x256 .f32 := subf v4 (selVec v1 v4)
        let sq : FVec Ideal S512x256 .f32 := selVec v1 (mulf xc xc)
        mulf (mulf xc (rsqrt (addf sq (broadcast S512x256 (Scalar.ofBits .f32 0x3A27C5AC#32 : Ideal .f32)))))
          (broadcastTo S512x256 g broadcasts_S1x256_S512x256) := rfl
  rw [e]
  unfold selNorm
  pointwise [selVec_apply]

theorem pay3_apply (v41 : FVec Ideal S512x256 .f32) (b : Vec Ideal S1x256 .f32) (b0 b1 : Vec Ideal S1x512x256 .f32) (gd : Vec Ideal S512x128 .f32)
    (gup : Vec Ideal S128x256 .bf16) (q : Fin 512) (k : Fin 256) :
    k0_pay3 v41 b b0 b1 gd gup (ix2 q k)
      = (v41 (ix2 q k) + b (ix2 (0 : Fin 1) k) + (b0 (ix3 (0 : Fin 1) q k) + b1 (ix3 (0 : Fin 1) q k)))
          * ∑ r : Fin 128, Ideal.logistic (gd (ix2 q r)) * gup (ix2 r k) := by
  pointwise [k0_pay3]

/-! ## The branches' sum -/

/-- One branch's term. -/
def branchVec (o : Vec Ideal S512x256 .f32) (u : Vec Ideal S512x1024 .f32) (w : Vec Ideal S1x256x1024 .bf16) : FVec Ideal S512x1024 .f32 :=
  mulf (logistic u) (matmul dot_S512x256_S256x1024_S512x1024_1_0_0_1_n_n none (truncf .bf16 o bitsLt_bf16_f32)
    (shapeCast S256x1024 w shapeCasts_S1x256x1024_S256x1024 : FVec Ideal S256x1024 .bf16) (constant S512x1024 .f32 0x00000000#32))

theorem branchVec_apply (o : Vec Ideal S512x256 .f32) (u : Vec Ideal S512x1024 .f32) (w : Vec Ideal S1x256x1024 .bf16) (q : Fin 512) (j : Fin 1024) :
    branchVec o u w (ix2 q j) = Ideal.logistic (u (ix2 q j)) * ∑ l, o (ix2 q l) * w (ix3 (0 : Fin 1) l j) := by
  pointwise [branchVec]

/-- The output projection of a block's rows. -/
def projVec (s : FVec Ideal S512x1024 .f32) (wo : Vec Ideal S1024x1024 .bf16) : FVec Ideal S512x1024 .f32 :=
  matmul dot_S512x1024_S1024x1024_S512x1024_1_0_0_1_n_n none (truncf .bf16 s bitsLt_bf16_f32)
    (shapeCast S1024x1024 wo shapeCasts_S1024x1024_S1024x1024 : FVec Ideal S1024x1024 .bf16) (constant S512x1024 .f32 0x00000000#32)

theorem projVec_apply (s : FVec Ideal S512x1024 .f32) (wo : Vec Ideal S1024x1024 .bf16) (q : Fin 512) (j : Fin 1024) :
    projVec s wo (ix2 q j) = ∑ k, s (ix2 q k) * wo (ix2 k j) := by
  pointwise [projVec]

/-- A block's rows normalised, with the gain. -/
def normVec (x : FVec Ideal S512x1024 .f32) (g : Vec Ideal S1x1024 .f32) : FVec Ideal S512x1024 .f32 :=
  let ss : FVec Ideal S512 .f32 := multiReduction .add [1] S512 (mulf x x) 0x00000000#32 reduces_S512x1024_S512 (.inl rfl) rfl
  let ms : FVec Ideal S512x1 .f32 := divf (shapeCast S512x1 ss shapeCasts_S512_S512x1) (broadcast S512x1 (Scalar.ofBits .f32 0x44800000#32 : Ideal .f32))
  let rs : FVec Ideal S512x1 .f32 := rsqrt (addf ms (broadcast S512x1 (Scalar.ofBits .f32 0x358637BD#32 : Ideal .f32)))
  mulf (mulf x (broadcastTo S512x1024 rs broadcasts_S512x1_S512x1024))
    (broadcastTo S512x1024 (shapeCast S1x1024 g shapeCasts_S1x1024_S1x1024 : FVec Ideal S1x1024 .f32) broadcasts_S1x1024_S512x1024)

theorem normVec_apply (x : FVec Ideal S512x1024 .f32) (g : Vec Ideal S1x1024 .f32) (q : Fin 512) (l : Fin 1024) :
    normVec x g (ix2 q l) = normRow (fun k => x (ix2 q k)) (fun k => g (ix2 (0 : Fin 1) k)) l := by
  unfold normRow
  pointwise [normVec]

variable (od oa ob oc : Vec Ideal S512x256 .f32) (u0 u1 u2 u3 : Vec Ideal S512x1024 .f32) (w0 w1 w2 w3 : Vec Ideal S1x256x1024 .bf16)
  (wo : Vec Ideal S1024x1024 .bf16) (g : Vec Ideal S1x1024 .f32)

/-- A block of the branches' sum. -/
def mergeVec : FVec Ideal S512x1024 .f32 := addf (addf (addf (branchVec oa u0 w0) (branchVec ob u1 w1)) (branchVec oc u2 w2)) (branchVec od u3 w3)

theorem pay7_apply (q : Fin 512) (l : Fin 1024) :
    k0_pay7 od ob oc (k0_pay4 oa u0 w0) (k0_pay5 u1) (k0_pay6 w1) u2 w2 u3 w3 wo g (ix2 q l)
      = normRow (fun j => ∑ k, mergeVec od oa ob oc u0 u1 u2 u3 w0 w1 w2 w3 (ix2 q k) * wo (ix2 k j)) (fun k => g (ix2 (0 : Fin 1) k)) l := by
  have e : k0_pay7 od ob oc (k0_pay4 oa u0 w0) (k0_pay5 u1) (k0_pay6 w1) u2 w2 u3 w3 wo g
      = normVec (projVec (mergeVec od oa ob oc u0 u1 u2 u3 w0 w1 w2 w3) wo) g := rfl
  rw [e, normVec_apply]
  simp only [projVec_apply]

theorem mergeVec_apply (q : Fin 512) (j : Fin 1024) :
    mergeVec od oa ob oc u0 u1 u2 u3 w0 w1 w2 w3 (ix2 q j)
      = Ideal.logistic (u0 (ix2 q j)) * (∑ l, oa (ix2 q l) * w0 (ix3 (0 : Fin 1) l j))
        + Ideal.logistic (u1 (ix2 q j)) * (∑ l, ob (ix2 q l) * w1 (ix3 (0 : Fin 1) l j))
        + Ideal.logistic (u2 (ix2 q j)) * (∑ l, oc (ix2 q l) * w2 (ix3 (0 : Fin 1) l j))
        + Ideal.logistic (u3 (ix2 q j)) * (∑ l, od (ix2 q l) * w3 (ix3 (0 : Fin 1) l j)) := by
  rw [← branchVec_apply, ← branchVec_apply, ← branchVec_apply, ← branchVec_apply]
  rfl

/-! ## The stream and the tokens -/

variable (v109 : FVec Ideal S512x1024 .f32) (md sh sc : Vec Ideal S1x1x1024 .f32) (x : Vec Ideal S256x1024 .f32) (g2 : Vec Ideal S1x1024 .f32)

/-- The first 256 rows of the stream's block, and the others. -/
theorem pay8_apply (q : Fin 256) (l : Fin 1024) :
    k0_pay8 v109 md x (ix2 q l) = x (ix2 q l) + md (ix3 (0 : Fin 1) (0 : Fin 1) l) * v109 (ix2 (⟨q.val, by omega⟩ : Fin 512) l) := by
  pointwise [k0_pay8]
@[inherit_doc pay8_apply] theorem pay11_apply (q : Fin 256) (l : Fin 1024) :
    k0_pay11 v109 md x (ix2 q l) = x (ix2 q l) + md (ix3 (0 : Fin 1) (0 : Fin 1) l) * v109 (ix2 (⟨256 + q.val, by omega⟩ : Fin 512) l) := by
  pointwise [k0_pay11]

/-- The first 256 rows of the tokens' block, and the others. -/
theorem pay10_apply (q : Fin 256) (l : Fin 1024) :
    k0_pay10 v109 md sh sc x g2 (ix2 q l)
      = modRow (fun k => k0_pay8 v109 md x (ix2 q k)) (fun k => g2 (ix2 (0 : Fin 1) k)) (fun k => sh (ix3 (0 : Fin 1) (0 : Fin 1) k))
          (fun k => sc (ix3 (0 : Fin 1) (0 : Fin 1) k)) l := by
  unfold modRow
  pointwise [k0_pay10, k0_pay9]
@[inherit_doc pay10_apply] theorem pay13_apply (q : Fin 256) (l : Fin 1024) :
    k0_pay13 v109 md sh sc x g2 (ix2 q l)
      = modRow (fun k => k0_pay11 v109 md x (ix2 q k)) (fun k => g2 (ix2 (0 : Fin 1) k)) (fun k => sh (ix3 (0 : Fin 1) (0 : Fin 1) k))
          (fun k => sc (ix3 (0 : Fin 1) (0 : Fin 1) k)) l := by
  unfold modRow
  pointwise [k0_pay13, k0_pay12]

end Cert.Merge

end
-- ==== Proof.Merge.Run.lean ====
/- The body of the merge of the branches, run once from its inputs' buffers to its outputs' buffers. -/
module

public import proofs.«01_k».proof.Proof.Gen.Kernel4Ideal.Frame.Runs

@[expose] public section

set_option maxRecDepth 16384

noncomputable section

namespace Cert.Kernel4Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]
variable (m : (ℓ : Loc nD τ sig) → Buf (Elt F) ℓ) (ρ : Dev nD → PrngReg)
/- The point, the call's 27 buffers with the fact that each is the whole of its array, and what the inputs hold. -/
variable (c : Dev nD) (i : grid0.Coords) (arg1 : Memref sig .tc .vmem S512x256 .f32) (harg1 : arg1.IsWhole) (arg2 :
    Memref sig .tc .vmem S512x256 .f32) (harg2 : arg2.IsWhole) (arg3 : Memref sig .tc .vmem S512x256 .f32) (harg3 :
    arg3.IsWhole) (arg4 : Memref sig .tc .vmem S512x256 .f32) (harg4 : arg4.IsWhole) (arg5 : Memref sig .tc .vmem
    S512x256 .f32) (harg5 : arg5.IsWhole) (arg6 : Memref sig .tc .vmem S2x512x256 .f32) (harg6 : arg6.IsWhole) (arg7 :
    Memref sig .tc .vmem S512x128 .f32) (harg7 : arg7.IsWhole) (arg8 : Memref sig .tc .vmem S128x256 .bf16) (harg8 :
    arg8.IsWhole) (arg9 : Memref sig .tc .vmem S2x256 .f32) (harg9 : arg9.IsWhole) (arg10 : Memref sig .tc .vmem
    S256x256 .bf16) (harg10 : arg10.IsWhole) (arg11 : Memref sig .tc .vmem S512x4096 .f32) (harg11 : arg11.IsWhole)
    (arg12 : Memref sig .tc .vmem S4x256x1024 .bf16) (harg12 : arg12.IsWhole) (arg13 : Memref sig .tc .vmem S1024x1024
    .bf16) (harg13 : arg13.IsWhole) (arg14 : Memref sig .tc .vmem S512x1024 .f32) (harg14 : arg14.IsWhole) (arg15 :
    Memref sig .tc .vmem S1x1024 .f32) (harg15 : arg15.IsWhole) (arg16 : Memref sig .tc .vmem S1x1024 .f32) (harg16 :
    arg16.IsWhole) (arg17 : Memref sig .tc .vmem S64x1024 .f32) (harg17 : arg17.IsWhole) (arg18 : Memref sig .tc .vmem
    S64x1 .f32) (harg18 : arg18.IsWhole) (arg19 : Memref sig .tc .vmem S1x1x1024 .f32) (harg19 : arg19.IsWhole) (arg20
    : Memref sig .tc .vmem S1x1x1024 .f32) (harg20 : arg20.IsWhole) (arg21 : Memref sig .tc .vmem S1x1x1024 .f32)
    (harg21 : arg21.IsWhole) (arg22 : Memref sig .tc .vmem S1x1x1024 .f32) (harg22 : arg22.IsWhole) (arg23 : Memref
    sig .tc .vmem S1x1x1024 .f32) (harg23 : arg23.IsWhole) (arg24 : Memref sig .tc .vmem S1x1x1024 .f32) (harg24 :
    arg24.IsWhole) (arg25 : Memref sig .tc .vmem S512x1024 .f32) (harg25 : arg25.IsWhole) (arg26 : Memref sig .tc
    .vmem S512x1024 .bf16) (harg26 : arg26.IsWhole) (arg27 : Memref sig .tc .vmem S64x512 .f32) (harg27 :
    arg27.IsWhole)     (x0 : Vec F S512x256 .f32) (x1 : Vec F S512x256 .f32) (x2 : Vec F S512x256 .f32) (x3 : Vec F
    S512x256 .f32) (x4 : Vec F S512x256 .f32) (x5 : Vec F S2x512x256 .f32) (x6 : Vec F S512x128 .f32) (x7 : Vec F
    S128x256 .bf16) (x8 : Vec F S2x256 .f32) (x9 : Vec F S256x256 .bf16) (x10 : Vec F S512x4096 .f32) (x11 : Vec F
    S4x256x1024 .bf16) (x12 : Vec F S1024x1024 .bf16) (x13 : Vec F S512x1024 .f32) (x14 : Vec F S1x1024 .f32) (x15 :
    Vec F S1x1024 .f32) (x16 : Vec F S64x1024 .f32) (x17 : Vec F S64x1 .f32) (x18 : Vec F S1x1x1024 .f32) (x19 : Vec F
    S1x1x1024 .f32) (x20 : Vec F S1x1x1024 .f32) (x21 : Vec F S1x1x1024 .f32) (x22 : Vec F S1x1x1024 .f32) (x23 : Vec
    F S1x1x1024 .f32)

-- the term the run leaves is long; closing the definition walks all of it
set_option maxHeartbeats 20000000 in
/-- The stores the body makes into each of its three outputs, the last first, together with the proof that it runs:
    from whole buffers, the inputs' holding `x0` to `x23` and the outputs' holding anything, the body comes to its end
    with the inputs' buffers as they were and each output's holding what those stores write. -/
noncomputable def kernelRun0_A :
    Σ' (L24 : List (View.Piece (Elt F) S512x1024 .f32)), Σ' (L25 : List (View.Piece (Elt F) S512x1024 .bf16)), { L26 :
        List (View.Piece (Elt F) S64x512 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread
            nD τ) arg3 fullShare x2 ∗ owns (c : Thread nD τ) arg4 fullShare x3 ∗ owns (c : Thread nD τ) arg5 fullShare
            x4 ∗ owns (c : Thread nD τ) arg6 fullShare x5 ∗ owns (c : Thread nD τ) arg7 fullShare x6 ∗ owns (c :
            Thread nD τ) arg8 fullShare x7 ∗ owns (c : Thread nD τ) arg9 fullShare x8 ∗ owns (c : Thread nD τ) arg10
            fullShare x9 ∗ owns (c : Thread nD τ) arg11 fullShare x10 ∗ owns (c : Thread nD τ) arg12 fullShare x11 ∗
            owns (c : Thread nD τ) arg13 fullShare x12 ∗ owns (c : Thread nD τ) arg14 fullShare x13 ∗ owns (c : Thread
            nD τ) arg15 fullShare x14 ∗ owns (c : Thread nD τ) arg16 fullShare x15 ∗ owns (c : Thread nD τ) arg17
            fullShare x16 ∗ owns (c : Thread nD τ) arg18 fullShare x17 ∗ owns (c : Thread nD τ) arg19 fullShare x18 ∗
            owns (c : Thread nD τ) arg20 fullShare x19 ∗ owns (c : Thread nD τ) arg21 fullShare x20 ∗ owns (c : Thread
            nD τ) arg22 fullShare x21 ∗ owns (c : Thread nD τ) arg23 fullShare x22 ∗ owns (c : Thread nD τ) arg24
            fullShare x23 ∗ (∃ d, owns (c : Thread nD τ) arg25 fullShare d) ∗ (∃ d, owns (c : Thread nD τ) arg26
            fullShare d) ∗ (∃ d, owns (c : Thread nD τ) arg27 fullShare d)
            ∗ (iprop(owns (c : Thread nD τ) arg1 fullShare x0 ∗ owns (c : Thread nD τ) arg2 fullShare x1 ∗ owns (c :
                Thread nD τ) arg3 fullShare x2 ∗ owns (c : Thread nD τ) arg4 fullShare x3 ∗ owns (c : Thread nD τ)
                arg5 fullShare x4 ∗ owns (c : Thread nD τ) arg6 fullShare x5 ∗ owns (c : Thread nD τ) arg7 fullShare
                x6 ∗ owns (c : Thread nD τ) arg8 fullShare x7 ∗ owns (c : Thread nD τ) arg9 fullShare x8 ∗ owns (c :
                Thread nD τ) arg10 fullShare x9 ∗ owns (c : Thread nD τ) arg11 fullShare x10 ∗ owns (c : Thread nD τ)
                arg12 fullShare x11 ∗ owns (c : Thread nD τ) arg13 fullShare x12 ∗ owns (c : Thread nD τ) arg14
                fullShare x13 ∗ owns (c : Thread nD τ) arg15 fullShare x14 ∗ owns (c : Thread nD τ) arg16 fullShare
                x15 ∗ owns (c : Thread nD τ) arg17 fullShare x16 ∗ owns (c : Thread nD τ) arg18 fullShare x17 ∗ owns
                (c : Thread nD τ) arg19 fullShare x18 ∗ owns (c : Thread nD τ) arg20 fullShare x19 ∗ owns (c : Thread
                nD τ) arg21 fullShare x20 ∗ owns (c : Thread nD τ) arg22 fullShare x21 ∗ owns (c : Thread nD τ) arg23
                fullShare x22 ∗ owns (c : Thread nD τ) arg24 fullShare x23 ∗ (∃ f, arg25.view.loc (c : Thread nD τ)
                ↦[arg25.view.set]{fullShare} arg25.view.writes (Elt F) f L24) ∗ (∃ f, arg26.view.loc (c : Thread nD τ)
                ↦[arg26.view.set]{fullShare} arg26.view.writes (Elt F) f L25) ∗ (∃ f, arg27.view.loc (c : Thread nD τ)
                ↦[arg27.view.set]{fullShare} arg27.view.writes (Elt F) f L26)) -∗ K ⟨⟩))
          ⊢ wp frame (wpE (defs₀ (F := F)) Variants.none c none) E (cc0_merge i arg1 harg1 arg2 harg2 arg3 harg3 arg4
              harg4 arg5 harg5 arg6 harg6 arg7 harg7 arg8 harg8 arg9 harg9 arg10 harg10 arg11 harg11 arg12 harg12
              arg13 harg13 arg14 harg14 arg15 harg15 arg16 harg16 arg17 harg17 arg18 harg18 arg19 harg19 arg20 harg20
              arg21 harg21 arg22 harg22 arg23 harg23 arg24 harg24 arg25 harg25 arg26 harg26 arg27 harg27) K } := by
  refine ⟨?_, ?_, ?_, fun E K => ?run⟩
  case run =>
    simp only [cc0_merge_eq_skeleton]; unfold cc0_merge_skel
    simp only [k0_part10_eq_skeleton, k0_part1_eq_skeleton, k0_part2_eq_skeleton, k0_part3_eq_skeleton,
        k0_part4_eq_skeleton, k0_part5_eq_skeleton, k0_part6_eq_skeleton, k0_part7_eq_skeleton, k0_part8_eq_skeleton,
        k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
        ⟨%f6, %hf6, H6⟩, ⟨%f7, %hf7, H7⟩, ⟨%f8, %hf8, H8⟩, ⟨%f9, %hf9, H9⟩, ⟨%f10, %hf10, H10⟩, ⟨%f11, %hf11, H11⟩,
        ⟨%f12, %hf12, H12⟩, ⟨%f13, %hf13, H13⟩, ⟨%f14, %hf14, H14⟩, ⟨%f15, %hf15, H15⟩, ⟨%f16, %hf16, H16⟩, ⟨%f17,
        %hf17, H17⟩, ⟨%f18, %hf18, H18⟩, ⟨%f19, %hf19, H19⟩, ⟨%f20, %hf20, H20⟩, ⟨%f21, %hf21, H21⟩, ⟨%f22, %hf22,
        H22⟩, ⟨%f23, %hf23, H23⟩, ⟨%d24, %f24, -, H24⟩, ⟨%d25, %f25, -, H25⟩, ⟨%d26, %f26, -, H26⟩, Hk⟩
    obtain rfl := harg1.eq_unread hf0; obtain rfl := harg2.eq_unread hf1; obtain rfl := harg3.eq_unread hf2; obtain
        rfl := harg4.eq_unread hf3; obtain rfl := harg5.eq_unread hf4; obtain rfl := harg6.eq_unread hf5; obtain rfl
        := harg7.eq_unread hf6; obtain rfl := harg8.eq_unread hf7; obtain rfl := harg9.eq_unread hf8; obtain rfl :=
        harg10.eq_unread hf9; obtain rfl := harg11.eq_unread hf10; obtain rfl := harg12.eq_unread hf11; obtain rfl :=
        harg13.eq_unread hf12; obtain rfl := harg14.eq_unread hf13; obtain rfl := harg15.eq_unread hf14; obtain rfl :=
        harg16.eq_unread hf15; obtain rfl := harg17.eq_unread hf16; obtain rfl := harg18.eq_unread hf17; obtain rfl :=
        harg19.eq_unread hf18; obtain rfl := harg20.eq_unread hf19; obtain rfl := harg21.eq_unread hf20; obtain rfl :=
        harg22.eq_unread hf21; obtain rfl := harg23.eq_unread hf22; obtain rfl := harg24.eq_unread hf23
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]; · iexists _; iexact H24
    isplitl [H25]; · iexists _; iexact H25
    iexists _; iexact H26

end Cert.Kernel4Ideal.Run

end
-- ==== Proof.Merge.Frame.lean ====
/- The merge of the branches as a whole: what its outputs hold point by point, and that every execution of it ends with
   its arguments as they were. -/
module

public import proofs.«01_k».proof.Proof.Merge.Run
public import Idealize.ShloMosaic.Lib.Claim

@[expose] public section

set_option maxRecDepth 16384

noncomputable section

namespace Cert.Kernel4Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]
variable (m : (ℓ : Loc nD τ sig) → Buf (Elt F) ℓ) (ρ : Dev nD → PrngReg)

section Body

/- The point, the call's 27 buffers with the fact that each is the whole of its array, and what the inputs hold. -/
variable (c : Dev nD) (i : grid0.Coords) (arg1 : Memref sig .tc .vmem S512x256 .f32) (harg1 : arg1.IsWhole) (arg2 :
    Memref sig .tc .vmem S512x256 .f32) (harg2 : arg2.IsWhole) (arg3 : Memref sig .tc .vmem S512x256 .f32) (harg3 :
    arg3.IsWhole) (arg4 : Memref sig .tc .vmem S512x256 .f32) (harg4 : arg4.IsWhole) (arg5 : Memref sig .tc .vmem
    S512x256 .f32) (harg5 : arg5.IsWhole) (arg6 : Memref sig .tc .vmem S2x512x256 .f32) (harg6 : arg6.IsWhole) (arg7 :
    Memref sig .tc .vmem S512x128 .f32) (harg7 : arg7.IsWhole) (arg8 : Memref sig .tc .vmem S128x256 .bf16) (harg8 :
    arg8.IsWhole) (arg9 : Memref sig .tc .vmem S2x256 .f32) (harg9 : arg9.IsWhole) (arg10 : Memref sig .tc .vmem
    S256x256 .bf16) (harg10 : arg10.IsWhole) (arg11 : Memref sig .tc .vmem S512x4096 .f32) (harg11 : arg11.IsWhole)
    (arg12 : Memref sig .tc .vmem S4x256x1024 .bf16) (harg12 : arg12.IsWhole) (arg13 : Memref sig .tc .vmem S1024x1024
    .bf16) (harg13 : arg13.IsWhole) (arg14 : Memref sig .tc .vmem S512x1024 .f32) (harg14 : arg14.IsWhole) (arg15 :
    Memref sig .tc .vmem S1x1024 .f32) (harg15 : arg15.IsWhole) (arg16 : Memref sig .tc .vmem S1x1024 .f32) (harg16 :
    arg16.IsWhole) (arg17 : Memref sig .tc .vmem S64x1024 .f32) (harg17 : arg17.IsWhole) (arg18 : Memref sig .tc .vmem
    S64x1 .f32) (harg18 : arg18.IsWhole) (arg19 : Memref sig .tc .vmem S1x1x1024 .f32) (harg19 : arg19.IsWhole) (arg20
    : Memref sig .tc .vmem S1x1x1024 .f32) (harg20 : arg20.IsWhole) (arg21 : Memref sig .tc .vmem S1x1x1024 .f32)
    (harg21 : arg21.IsWhole) (arg22 : Memref sig .tc .vmem S1x1x1024 .f32) (harg22 : arg22.IsWhole) (arg23 : Memref
    sig .tc .vmem S1x1x1024 .f32) (harg23 : arg23.IsWhole) (arg24 : Memref sig .tc .vmem S1x1x1024 .f32) (harg24 :
    arg24.IsWhole) (arg25 : Memref sig .tc .vmem S512x1024 .f32) (harg25 : arg25.IsWhole) (arg26 : Memref sig .tc
    .vmem S512x1024 .bf16) (harg26 : arg26.IsWhole) (arg27 : Memref sig .tc .vmem S64x512 .f32) (harg27 :
    arg27.IsWhole)     (x0 : Vec F S512x256 .f32) (x1 : Vec F S512x256 .f32) (x2 : Vec F S512x256 .f32) (x3 : Vec F
    S512x256 .f32) (x4 : Vec F S512x256 .f32) (x5 : Vec F S2x512x256 .f32) (x6 : Vec F S512x128 .f32) (x7 : Vec F
    S128x256 .bf16) (x8 : Vec F S2x256 .f32) (x9 : Vec F S256x256 .bf16) (x10 : Vec F S512x4096 .f32) (x11 : Vec F
    S4x256x1024 .bf16) (x12 : Vec F S1024x1024 .bf16) (x13 : Vec F S512x1024 .f32) (x14 : Vec F S1x1024 .f32) (x15 :
    Vec F S1x1024 .f32) (x16 : Vec F S64x1024 .f32) (x17 : Vec F S64x1 .f32) (x18 : Vec F S1x1x1024 .f32) (x19 : Vec F
    S1x1x1024 .f32) (x20 : Vec F S1x1x1024 .f32) (x21 : Vec F S1x1x1024 .f32) (x22 : Vec F S1x1x1024 .f32) (x23 : Vec
    F S1x1x1024 .f32)

/-- Every element of the stream's block is written by one of the body's two stores into it. -/
theorem cover0_A_24 (y : S512x1024.Idx) :
    ∃ pc ∈ (kernelRun0_A c i arg1 harg1 arg2 harg2 arg3 harg3 arg4 harg4 arg5 harg5 arg6 harg6 arg7 harg7 arg8 harg8
        arg9 harg9 arg10 harg10 arg11 harg11 arg12 harg12 arg13 harg13 arg14 harg14 arg15 harg15 arg16 harg16 arg17
        harg17 arg18 harg18 arg19 harg19 arg20 harg20 arg21 harg21 arg22 harg22 arg23 harg23 arg24 harg24 arg25 harg25
        arg26 harg26 arg27 harg27 x0 x1 x2 x3 x4 x5 x6 x7 x8 x9 x10 x11 x12 x13 x14 x15 x16 x17 x18 x19 x20 x21 x22
        x23).1, y ∈ pc.1.set :=
  View.cover_of_tiledL (kernelRun0_A c i arg1 harg1 arg2 harg2 arg3 harg3 arg4 harg4 arg5 harg5 arg6 harg6 arg7 harg7
      arg8 harg8 arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24 arg25
      harg25 arg26 harg26 arg27 harg27 x0 x1 x2 x3 x4 x5 x6 x7 x8 x9 x10 x11 x12 x13 x14 x15 x16 x17 x18 x19 x20 x21
      x22 x23).1 S256x1024.size (by sl_kernel_rfl) y

/-- The stream's block after the body. -/
def out0_A_24 : Vec F S512x1024 .f32 :=
  VO0_24.read (Elt F) (VO0_24.writes (Elt F) VO0_24.junk (kernelRun0_A c i arg1 harg1 arg2 harg2 arg3 harg3 arg4 harg4
      arg5 harg5 arg6 harg6 arg7 harg7 arg8 harg8 arg9 harg9 arg10 harg10 arg11 harg11 arg12 harg12 arg13 harg13 arg14
      harg14 arg15 harg15 arg16 harg16 arg17 harg17 arg18 harg18 arg19 harg19 arg20 harg20 arg21 harg21 arg22 harg22
      arg23 harg23 arg24 harg24 arg25 harg25 arg26 harg26 arg27 harg27 x0 x1 x2 x3 x4 x5 x6 x7 x8 x9 x10 x11 x12 x13
      x14 x15 x16 x17 x18 x19 x20 x21 x22 x23).1)

/-- Every element of the tokens' block is written by one of the body's two stores into it. -/
theorem cover0_A_25 (y : S512x1024.Idx) :
    ∃ pc ∈ (kernelRun0_A c i arg1 harg1 arg2 harg2 arg3 harg3 arg4 harg4 arg5 harg5 arg6 harg6 arg7 harg7 arg8 harg8
        arg9 harg9 arg10 harg10 arg11 harg11 arg12 harg12 arg13 harg13 arg14 harg14 arg15 harg15 arg16 harg16 arg17
        harg17 arg18 harg18 arg19 harg19 arg20 harg20 arg21 harg21 arg22 harg22 arg23 harg23 arg24 harg24 arg25 harg25
        arg26 harg26 arg27 harg27 x0 x1 x2 x3 x4 x5 x6 x7 x8 x9 x10 x11 x12 x13 x14 x15 x16 x17 x18 x19 x20 x21 x22
        x23).2.1, y ∈ pc.1.set :=
  View.cover_of_tiledL (kernelRun0_A c i arg1 harg1 arg2 harg2 arg3 harg3 arg4 harg4 arg5 harg5 arg6 harg6 arg7 harg7
      arg8 harg8 arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24 arg25
      harg25 arg26 harg26 arg27 harg27 x0 x1 x2 x3 x4 x5 x6 x7 x8 x9 x10 x11 x12 x13 x14 x15 x16 x17 x18 x19 x20 x21
      x22 x23).2.1 S256x1024.size (by sl_kernel_rfl) y

/-- The tokens' block after the body. -/
def out0_A_25 : Vec F S512x1024 .bf16 :=
  VO0_25.read (Elt F) (VO0_25.writes (Elt F) VO0_25.junk (kernelRun0_A c i arg1 harg1 arg2 harg2 arg3 harg3 arg4 harg4
      arg5 harg5 arg6 harg6 arg7 harg7 arg8 harg8 arg9 harg9 arg10 harg10 arg11 harg11 arg12 harg12 arg13 harg13 arg14
      harg14 arg15 harg15 arg16 harg16 arg17 harg17 arg18 harg18 arg19 harg19 arg20 harg20 arg21 harg21 arg22 harg22
      arg23 harg23 arg24 harg24 arg25 harg25 arg26 harg26 arg27 harg27 x0 x1 x2 x3 x4 x5 x6 x7 x8 x9 x10 x11 x12 x13
      x14 x15 x16 x17 x18 x19 x20 x21 x22 x23).2.1)

/-- Every element of the gates' block is written by the body's store into it. -/
theorem cover0_A_26 (y : S64x512.Idx) :
    ∃ pc ∈ (kernelRun0_A c i arg1 harg1 arg2 harg2 arg3 harg3 arg4 harg4 arg5 harg5 arg6 harg6 arg7 harg7 arg8 harg8
        arg9 harg9 arg10 harg10 arg11 harg11 arg12 harg12 arg13 harg13 arg14 harg14 arg15 harg15 arg16 harg16 arg17
        harg17 arg18 harg18 arg19 harg19 arg20 harg20 arg21 harg21 arg22 harg22 arg23 harg23 arg24 harg24 arg25 harg25
        arg26 harg26 arg27 harg27 x0 x1 x2 x3 x4 x5 x6 x7 x8 x9 x10 x11 x12 x13 x14 x15 x16 x17 x18 x19 x20 x21 x22
        x23).2.2.1, y ∈ pc.1.set :=
  View.cover_of_tiledL (kernelRun0_A c i arg1 harg1 arg2 harg2 arg3 harg3 arg4 harg4 arg5 harg5 arg6 harg6 arg7 harg7
      arg8 harg8 arg9 harg9 arg10 harg10 arg11 harg11 arg12 harg12 arg13 harg13 arg14 harg14 arg15 harg15 arg16 harg16
      arg17 harg17 arg18 harg18 arg19 harg19 arg20 harg20 arg21 harg21 arg22 harg22 arg23 harg23 arg24 harg24 arg25
      harg25 arg26 harg26 arg27 harg27 x0 x1 x2 x3 x4 x5 x6 x7 x8 x9 x10 x11 x12 x13 x14 x15 x16 x17 x18 x19 x20 x21
      x22 x23).2.2.1 S64x512.size (by sl_kernel_rfl) y

/-- The gates' block after the body. -/
def out0_A_26 : Vec F S64x512 .f32 :=
  VO0_26.read (Elt F) (VO0_26.writes (Elt F) VO0_26.junk (kernelRun0_A c i arg1 harg1 arg2 harg2 arg3 harg3 arg4 harg4
      arg5 harg5 arg6 harg6 arg7 harg7 arg8 harg8 arg9 harg9 arg10 harg10 arg11 harg11 arg12 harg12 arg13 harg13 arg14
      harg14 arg15 harg15 arg16 harg16 arg17 harg17 arg18 harg18 arg19 harg19 arg20 harg20 arg21 harg21 arg22 harg22
      arg23 harg23 arg24 harg24 arg25 harg25 arg26 harg26 arg27 harg27 x0 x1 x2 x3 x4 x5 x6 x7 x8 x9 x10 x11 x12 x13
      x14 x15 x16 x17 x18 x19 x20 x21 x22 x23).2.2.1)

end Body

/-- The three outputs' blocks after the body at point `t`, on the blocks its inputs hold there. -/
def outsAt0 (c : Dev nD) (t : Fin cfg0.N) : Vec F S512x1024 .f32 × Vec F S512x1024 .bf16 × Vec F S64x512 .f32 :=
  (out0_A_24 c (grid0.coords t) (ms0_0 t) (hs0_0 t) (ms0_1 t) (hs0_1 t) (ms0_2 t) (hs0_2 t) (ms0_3 t) (hs0_3 t) (ms0_4
      t) (hs0_4 t) (ms0_5 t) (hs0_5 t) (ms0_6 t) (hs0_6 t) (ms0_7 t) (hs0_7 t) (ms0_8 t) (hs0_8 t) (ms0_9 t) (hs0_9 t)
      (ms0_10 t) (hs0_10 t) (ms0_11 t) (hs0_11 t) (ms0_12 t) (hs0_12 t) (ms0_13 t) (hs0_13 t) (ms0_14 t) (hs0_14 t)
      (ms0_15 t) (hs0_15 t) (ms0_16 t) (hs0_16 t) (ms0_17 t) (hs0_17 t) (ms0_18 t) (hs0_18 t) (ms0_19 t) (hs0_19 t)
      (ms0_20 t) (hs0_20 t) (ms0_21 t) (hs0_21 t) (ms0_22 t) (hs0_22 t) (ms0_23 t) (hs0_23 t) (ms0_24 t) (hs0_24 t)
      (ms0_25 t) (hs0_25 t) (ms0_26 t) (hs0_26 t) (iblk m c 0 t) (iblk m c 1 t) (iblk m c 2 t) (iblk m c 3 t) (iblk m
      c 4 t) (iblk m c 5 t) (iblk m c 6 t) (iblk m c 7 t) (iblk m c 8 t) (iblk m c 9 t) (X0_10 m c t) (iblk m c 11 t)
      (iblk m c 12 t) (iblk m c 13 t) (iblk m c 14 t) (iblk m c 15 t) (iblk m c 16 t) (iblk m c 17 t) (iblk m c 18 t)
      (iblk m c 19 t) (iblk m c 20 t) (iblk m c 21 t) (iblk m c 22 t) (iblk m c 23 t), out0_A_25 c (grid0.coords t)
      (ms0_0 t) (hs0_0 t) (ms0_1 t) (hs0_1 t) (ms0_2 t) (hs0_2 t) (ms0_3 t) (hs0_3 t) (ms0_4 t) (hs0_4 t) (ms0_5 t)
      (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) (ms0_13 t) (hs0_13 t) (ms0_14 t) (hs0_14 t) (ms0_15 t) (hs0_15 t)
      (ms0_16 t) (hs0_16 t) (ms0_17 t) (hs0_17 t) (ms0_18 t) (hs0_18 t) (ms0_19 t) (hs0_19 t) (ms0_20 t) (hs0_20 t)
      (ms0_21 t) (hs0_21 t) (ms0_22 t) (hs0_22 t) (ms0_23 t) (hs0_23 t) (ms0_24 t) (hs0_24 t) (ms0_25 t) (hs0_25 t)
      (ms0_26 t) (hs0_26 t) (iblk m c 0 t) (iblk m c 1 t) (iblk m c 2 t) (iblk m c 3 t) (iblk m c 4 t) (iblk m c 5 t)
      (iblk m c 6 t) (iblk m c 7 t) (iblk m c 8 t) (iblk m c 9 t) (X0_10 m c t) (iblk m c 11 t) (iblk m c 12 t) (iblk
      m c 13 t) (iblk m c 14 t) (iblk m c 15 t) (iblk m c 16 t) (iblk m c 17 t) (iblk m c 18 t) (iblk m c 19 t) (iblk
      m c 20 t) (iblk m c 21 t) (iblk m c 22 t) (iblk m c 23 t), out0_A_26 c (grid0.coords t) (ms0_0 t) (hs0_0 t)
      (ms0_1 t) (hs0_1 t) (ms0_2 t) (hs0_2 t) (ms0_3 t) (hs0_3 t) (ms0_4 t) (hs0_4 t) (ms0_5 t) (hs0_5 t) (ms0_6 t)
      (hs0_6 t) (ms0_7 t) (hs0_7 t) (ms0_8 t) (hs0_8 t) (ms0_9 t) (hs0_9 t) (ms0_10 t) (hs0_10 t) (ms0_11 t) (hs0_11
      t) (ms0_12 t) (hs0_12 t) (ms0_13 t) (hs0_13 t) (ms0_14 t) (hs0_14 t) (ms0_15 t) (hs0_15 t) (ms0_16 t) (hs0_16 t)
      (ms0_17 t) (hs0_17 t) (ms0_18 t) (hs0_18 t) (ms0_19 t) (hs0_19 t) (ms0_20 t) (hs0_20 t) (ms0_21 t) (hs0_21 t)
      (ms0_22 t) (hs0_22 t) (ms0_23 t) (hs0_23 t) (ms0_24 t) (hs0_24 t) (ms0_25 t) (hs0_25 t) (ms0_26 t) (hs0_26 t)
      (iblk m c 0 t) (iblk m c 1 t) (iblk m c 2 t) (iblk m c 3 t) (iblk m c 4 t) (iblk m c 5 t) (iblk m c 6 t) (iblk m
      c 7 t) (iblk m c 8 t) (iblk m c 9 t) (X0_10 m c t) (iblk m c 11 t) (iblk m c 12 t) (iblk m c 13 t) (iblk m c 14
      t) (iblk m c 15 t) (iblk m c 16 t) (iblk m c 17 t) (iblk m c 18 t) (iblk m c 19 t) (iblk m c 20 t) (iblk m c 21
      t) (iblk m c 22 t) (iblk m c 23 t))

/-- What the run is proved with: the arrays as the host left them; after the body, each input's block where it was
    and each output's as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => X0_10 m c t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => (outsAt0 m c t).1
    | ⟨25, _⟩ => (outsAt0 m c t).2.1
    | ⟨26, _⟩ => (outsAt0 m c t).2.2
    | ⟨_ + 27, h⟩ => absurd h (Nat.not_lt.2 (Nat.le_add_left _ _))
  Φ _ := Pipeline.ΦA spec0 c
  q w := Pipeline.shareOf spec0 w
  owed _ := 0

/-- The arrays are the ones the host left. -/
theorem A_eq (c : Dev nD) (w : Fin cfg0.W) : (dats m 0 c).A w = V m c (Pipeline.arrRef spec0 w) := by
  dsimp only [dats]

/-! After the body: each input's block where it was, each output's as the body leaves it. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = (outsAt0 m c t).1 := by dsimp only [dats]
theorem after0_25 (c : Dev nD) (t : Fin cfg0.N) : (dats m 0 c).after 25 t = (outsAt0 m c t).2.1 := by dsimp only
    [dats]
theorem after0_26 (c : Dev nD) (t : Fin cfg0.N) : (dats m 0 c).after 26 t = (outsAt0 m c t).2.2 := by dsimp only
    [dats]

/-! Before the body: each input's buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d

/-- What the body is handed at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- What the body hands back at point `t`. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2400000 in
/-- The body, run at any point, takes the one to the other. -/
theorem sound_body (c : Dev nD) (t : Fin cfg0.N) :
    bodyPre m c t ⊢ wp frame (wpE (defs₀ (F := F)) Variants.none c none) Set.univ (bodyAt0 t) (fun _ => bodyPost m c
        t) := by
  unfold bodyPre bodyPost bodyAt0
  simp only [before0_0, before0_1, before0_2, before0_3, before0_4, before0_5, before0_6, before0_7, before0_8,
      before0_9, before0_10, before0_11, before0_12, before0_13, before0_14, before0_15, before0_16, before0_17,
      before0_18, before0_19, before0_20, before0_21, before0_22, before0_23]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10,
        after0_11, after0_12, after0_13, after0_14, after0_15, after0_16, after0_17, after0_18, after0_19, after0_20,
        after0_21, after0_22, after0_23, after0_24, after0_25, after0_26]
  unfold outsAt0
  unfold out0_A_24 out0_A_25 out0_A_26; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
      ⟨%d9, H9⟩, ⟨%d10, H10⟩, ⟨%d11, H11⟩, ⟨%d12, H12⟩, ⟨%d13, H13⟩, ⟨%d14, H14⟩, ⟨%d15, H15⟩, ⟨%d16, H16⟩, ⟨%d17,
      H17⟩, ⟨%d18, H18⟩, ⟨%d19, H19⟩, ⟨%d20, H20⟩, ⟨%d21, H21⟩, ⟨%d22, H22⟩, ⟨%d23, H23⟩, ⟨%d24, H24⟩, ⟨%d25, H25⟩,
      ⟨%d26, H26⟩⟩
  iapply ((kernelRun0_A c (grid0.coords t) _ _ _ _ _ _ _ _ _ _ _ _ _ _ _ _ _ _ _ _ _ _ _ _ _ _ _ _ _ _ _ _ _ _ _ _ _ _
      _ _ _ _ _ _ _ _ _ _ _ _ _ _ _ _ (iblk m c 0 t) (iblk m c 1 t) (iblk m c 2 t) (iblk m c 3 t) (iblk m c 4 t) (iblk
      m c 5 t) (iblk m c 6 t) (iblk m c 7 t) (iblk m c 8 t) (iblk m c 9 t) (X0_10 m c t) (iblk m c 11 t) (iblk m c 12
      t) (iblk m c 13 t) (iblk m c 14 t) (iblk m c 15 t) (iblk m c 16 t) (iblk m c 17 t) (iblk m c 18 t) (iblk m c 19
      t) (iblk m c 20 t) (iblk m c 21 t) (iblk m c 22 t) (iblk m c 23 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22,
      H23, ⟨%e24, H24⟩, ⟨%e25, H25⟩, ⟨%e26, H26⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _
        _ _ _ _ _ _ _ _ _ _ _ _ _ _ _ _ _ _ _ _ _ _ _ _ _ _ _ _ _ _ _ _ _ _ _ _ _ _ _ _ _ _ _ _ _ _ _ _ _ _ _ _ _ _ _
        _)
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _
        _ _ _ _ _ _ _ _ _ _ _ _ _ _ _ _ _ _ _ _ _ _ _ _ _ _ _ _ _ _ _ _ _ _ _ _ _ _ _ _ _ _ _ _ _ _ _ _ _ _ _ _ _ _ _
        _)
  unfold owns; iexists _; isplitr
  swap; · iexact H26
  ipureintro; exact View.read_writes_of_cover _ _ _ _ _ (cover0_A_26 c _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ _ _ _ _ _ _ _ _ _ _ _ _ _ _ _ _ _)

/-- The body the pipeline calls at point `t`. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body does what the pipeline asks of it, at every point. -/
theorem body_obligation (c : Dev nD) : BodyObligation (dats (F := F) m 0 c) (defs₀ (F := F)) Variants.none () Set.univ
    := fun t => by
  rw [bigSep_W0, bigSep_W0, defs₀_row]
  exact triple_restated (sound_body m c t) rfl .rfl fun _ => .rfl

set_option backward.isDefEq.respectTransparency.types false in
/-- Every execution ends with the call's arrays as computed block by block, and with every semaphore at zero. -/
theorem run_main_quiescent : θ_run defs (onTc (τ := τ) (main (F := F))) (s₀ m ρ) (fun r => (Pipeline.FramePost cfgs
    (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every execution ends with the call's arrays as computed block by block. -/
theorem run_main : θ_run defs (onTc (τ := τ) (main (F := F))) (s₀ m ρ) (Pipeline.FramePost cfgs (dats m) 0 (V m)) :=
  (θ_run defs _ _).mono (fun _ h => h.1) (run_main_quiescent m ρ)

/-- Every execution leaves the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- Every execution leaves the arguments as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.Kernel4Ideal.Run

end
-- ==== Proof.Merge.Kern.lean ====
/-
  The merge kernel's blocks and arrays: the stream and the tokens.
-/
module

public import proofs.«01_k».proof.Proof.Merge.Blk
public import proofs.«01_k».proof.Proof.Merge.Pay
public import proofs.«01_k».proof.Proof.Merge.Frame
public import Idealize.ShloMosaic.Lib.Pipeline.ValueKit.Acc

@[expose] public section

set_option maxRecDepth 16384

noncomputable section

namespace Cert.Merge

open Idealize.ShloMosaic Idealize.SL.Sem Cert.Kernel4Ideal Cert.Kernel4Ideal.Gen Cert.Kernel4Ideal.Run
open Cert.Proj (tileKind modRow)

/-! ## The parts of a block the body loads -/

section Parts

variable (z : Vec Ideal S512x4096 .f32) (w : Vec Ideal S4x256x1024 .bf16) (v : Vec Ideal S2x256 .f32) (b : Vec Ideal S2x512x256 .f32)
  (x : Vec Ideal S512x1024 .f32)

theorem cols0 (q : Fin 512) (j : Fin 1024) : View.ld z (Rect.unit ![0, 0] ![512, 1024] inb_S512x4096_S512x1024_0_0) (ix2 q j) = z (ix2 q ⟨j.val, by omega⟩) := by
  pointwise []
theorem cols1 (q : Fin 512) (j : Fin 1024) : View.ld z (Rect.unit ![0, 1024] ![512, 1024] inb_S512x4096_S512x1024_0_1024) (ix2 q j) = z (ix2 q ⟨1024 + j.val, by omega⟩) := by
  pointwise []
theorem cols2 (q : Fin 512) (j : Fin 1024) : View.ld z (Rect.unit ![0, 2048] ![512, 1024] inb_S512x4096_S512x1024_0_2048) (ix2 q j) = z (ix2 q ⟨2048 + j.val, by omega⟩) := by
  pointwise []
theorem cols3 (q : Fin 512) (j : Fin 1024) : View.ld z (Rect.unit ![0, 3072] ![512, 1024] inb_S512x4096_S512x1024_0_3072) (ix2 q j) = z (ix2 q ⟨3072 + j.val, by omega⟩) := by
  pointwise []

theorem mat0 (l : Fin 256) (j : Fin 1024) : View.ld w (Rect.unit ![0, 0, 0] ![1, 256, 1024] inb_S4x256x1024_S1x256x1024_0_0_0) (ix3 (0 : Fin 1) l j) = w (ix3 (0 : Fin 4) l j) := by
  pointwise []
theorem mat1 (l : Fin 256) (j : Fin 1024) : View.ld w (Rect.unit ![1, 0, 0] ![1, 256, 1024] inb_S4x256x1024_S1x256x1024_1_0_0) (ix3 (0 : Fin 1) l j) = w (ix3 (1 : Fin 4) l j) := by
  pointwise []
theorem mat2 (l : Fin 256) (j : Fin 1024) : View.ld w (Rect.unit ![2, 0, 0] ![1, 256, 1024] inb_S4x256x1024_S1x256x1024_2_0_0) (ix3 (0 : Fin 1) l j) = w (ix3 (2 : Fin 4) l j) := by
  pointwise []
theorem mat3 (l : Fin 256) (j : Fin 1024) : View.ld w (Rect.unit ![3, 0, 0] ![1, 256, 1024] inb_S4x256x1024_S1x256x1024_3_0_0) (ix3 (0 : Fin 1) l j) = w (ix3 (3 : Fin 4) l j) := by
  pointwise []

theorem row0 (l : Fin 256) : View.ld v (Rect.unit ![0, 0] ![1, 256] inb_S2x256_S1x256_0_0) (ix2 (0 : Fin 1) l) = v (ix2 (0 : Fin 2) l) := by
  pointwise []
theorem row1 (l : Fin 256) : View.ld v (Rect.unit ![1, 0] ![1, 256] inb_S2x256_S1x256_1_0) (ix2 (0 : Fin 1) l) = v (ix2 (1 : Fin 2) l) := by
  pointwise []

theorem slab0 (q : Fin 512) (l : Fin 256) : View.ld b (Rect.unit ![0, 0, 0] ![1, 512, 256] inb_S2x512x256_S1x512x256_0_0_0) (ix3 (0 : Fin 1) q l) = b (ix3 (0 : Fin 2) q l) := by
  pointwise []
theorem slab1 (q : Fin 512) (l : Fin 256) : View.ld b (Rect.unit ![1, 0, 0] ![1, 512, 256] inb_S2x512x256_S1x512x256_1_0_0) (ix3 (0 : Fin 1) q l) = b (ix3 (1 : Fin 2) q l) := by
  pointwise []

theorem half0 (q : Fin 256) (l : Fin 1024) : View.ld x (Rect.unit ![0, 0] ![256, 1024] inb_S512x1024_S256x1024_0_0) (ix2 q l) = x (ix2 (⟨q.val, by omega⟩ : Fin 512) l) := by
  pointwise []
theorem half1 (q : Fin 256) (l : Fin 1024) : View.ld x (Rect.unit ![256, 0] ![256, 1024] inb_S512x1024_S256x1024_256_0) (ix2 q l) = x (ix2 (⟨256 + q.val, by omega⟩ : Fin 512) l) := by
  pointwise []

/-- The two halves of a block's rows. -/
abbrev half0R : Rect S512x1024 := Rect.unit ![0, 0] ![256, 1024] inb_S512x1024_S256x1024_0_0
@[inherit_doc half0R] abbrev half1R : Rect S512x1024 := Rect.unit ![256, 0] ![256, 1024] inb_S512x1024_S256x1024_256_0

/-- A block written by halves holds each half's rows. -/
theorem halves {e : EltTy} (p0 p1 : Vec Ideal S256x1024 e) (G : Fin 512 → Fin 1024 → Elt Ideal e)
    (h0 : ∀ (q : Fin 256) (l : Fin 1024), p0 (ix2 q l) = G ⟨q.val, by omega⟩ l)
    (h1 : ∀ (q : Fin 256) (l : Fin 1024), p1 (ix2 q l) = G ⟨256 + q.val, by omega⟩ l) (q : Fin 512) (l : Fin 1024) :
    View.canon (Val := Elt Ideal) (s := S512x1024) (e := e) [⟨half1R, p1⟩, ⟨half0R, p0⟩] (ix2 q l) = G q l := by
  by_cases h : q.val < 256
  · have hn : (ix2 q l : S512x1024.Idx) ∉ half1R.set := fun hm => absurd h (Nat.not_lt.mpr (Rect.mem_set_unit.mp hm 0).1)
    have he : (ix2 q l : S512x1024.Idx) = half0R.emb (ix2 (⟨q.val, h⟩ : Fin 256) l) := by
      blk_ext []
    refine (View.canon_cons_of_not_mem (⟨half1R, p1⟩ : View.Piece (Elt Ideal) S512x1024 e) [⟨half0R, p0⟩] hn).trans ?_
    refine (congrArg (View.canon (Val := Elt Ideal) [⟨half0R, p0⟩]) he).trans ?_
    exact (View.canon_cons_emb half0R p0 [] _).trans (h0 ⟨q.val, h⟩ l)
  · have he : (ix2 q l : S512x1024.Idx) = half1R.emb (ix2 (⟨q.val - 256, by omega⟩ : Fin 256) l) := by
      blk_ext []
    refine (congrArg (View.canon (Val := Elt Ideal) [⟨half1R, p1⟩, ⟨half0R, p0⟩]) he).trans ?_
    refine (View.canon_cons_emb half1R p1 [⟨half0R, p0⟩] _).trans ?_
    refine (h1 ⟨q.val - 256, by omega⟩ l).trans (congrArg (G · l) (Fin.ext ?_))
    dsimp only
    omega

end Parts

variable (m : (ℓ : Loc nD τ sig) → Buf (Elt Ideal) ℓ) (c : Dev nD) (t : Fin cfg0.N)

/-- The recurrence's branch at point `t`. -/
def gatedBlk : FVec Ideal S512x256 .f32 :=
  k0_pay3
    (k0_pay2 (iblk m c 9 t) (iblk m c 3 t) (iblk m c 4 t) (View.ld (iblk m c 8 t) (Rect.unit ![0, 0] ![1, 256] inb_S2x256_S1x256_0_0)))
    (View.ld (iblk m c 8 t) (Rect.unit ![1, 0] ![1, 256] inb_S2x256_S1x256_1_0))
    (View.ld (iblk m c 5 t) (Rect.unit ![0, 0, 0] ![1, 512, 256] inb_S2x512x256_S1x512x256_0_0_0))
    (View.ld (iblk m c 5 t) (Rect.unit ![1, 0, 0] ![1, 512, 256] inb_S2x512x256_S1x512x256_1_0_0))
    (iblk m c 6 t) (iblk m c 7 t)

/-- The branches' sum, projected and normalised, at point `t`. -/
def mergedBlk : FVec Ideal S512x1024 .f32 :=
  k0_pay7 (gatedBlk m c t) (iblk m c 1 t) (iblk m c 2 t)
    (k0_pay4 (iblk m c 0 t) (View.ld (X0_10 m c t) (Rect.unit ![0, 0] ![512, 1024] inb_S512x4096_S512x1024_0_0))
      (View.ld (iblk m c 11 t) (Rect.unit ![0, 0, 0] ![1, 256, 1024] inb_S4x256x1024_S1x256x1024_0_0_0)))
    (k0_pay5 (View.ld (X0_10 m c t) (Rect.unit ![0, 1024] ![512, 1024] inb_S512x4096_S512x1024_0_1024)))
    (k0_pay6 (View.ld (iblk m c 11 t) (Rect.unit ![1, 0, 0] ![1, 256, 1024] inb_S4x256x1024_S1x256x1024_1_0_0)))
    (View.ld (X0_10 m c t) (Rect.unit ![0, 2048] ![512, 1024] inb_S512x4096_S512x1024_0_2048))
    (View.ld (iblk m c 11 t) (Rect.unit ![2, 0, 0] ![1, 256, 1024] inb_S4x256x1024_S1x256x1024_2_0_0))
    (View.ld (X0_10 m c t) (Rect.unit ![0, 3072] ![512, 1024] inb_S512x4096_S512x1024_0_3072))
    (View.ld (iblk m c 11 t) (Rect.unit ![3, 0, 0] ![1, 256, 1024] inb_S4x256x1024_S1x256x1024_3_0_0))
    (iblk m c 12 t) (iblk m c 14 t)

/-- The two rows whose sum the readout normalises are real. -/
def RealRows : Prop := (∀ r l, ∃ z : ℝ, h3 m c r l = (z : EReal)) ∧ ∀ r l, ∃ z : ℝ, h4 m c r l = (z : EReal)

variable (hr : RealRows m c)

include hr in
theorem gatedBlk_apply (q : Fin 512) (k : Fin 256) :
    gatedBlk m c t (ix2 q k)
      = branchD (h3 m c (rowAt t q)) (h4 m c (rowAt t q)) (h5 m c 0 (rowAt t q)) (h5 m c 1 (rowAt t q)) (h6 m c) (h7 m c) (h8 m c (rowAt t q)) k := by
  unfold gatedBlk branchD
  rw [pay3_apply, pay2_apply, row0, row1, slab0, slab1, in5, in5, in8, in8]
  simp only [in3, in4, in9, in6, in7]
  rw [← selNorm_eq (fun l => h3 m c (rowAt t q) l + h4 m c (rowAt t q) l)]
  intro l
  obtain ⟨a, ha⟩ := hr.1 (rowAt t q) l
  obtain ⟨b, hb⟩ := hr.2 (rowAt t q) l
  exact ⟨a + b, by rw [ha, hb, EReal.coe_add]⟩

/-- The branches' sum at point `t`. -/
def sumBlk : FVec Ideal S512x1024 .f32 :=
  mergeVec (gatedBlk m c t) (iblk m c 0 t) (iblk m c 1 t) (iblk m c 2 t)
    (View.ld (X0_10 m c t) (Rect.unit ![0, 0] ![512, 1024] inb_S512x4096_S512x1024_0_0))
    (View.ld (X0_10 m c t) (Rect.unit ![0, 1024] ![512, 1024] inb_S512x4096_S512x1024_0_1024))
    (View.ld (X0_10 m c t) (Rect.unit ![0, 2048] ![512, 1024] inb_S512x4096_S512x1024_0_2048))
    (View.ld (X0_10 m c t) (Rect.unit ![0, 3072] ![512, 1024] inb_S512x4096_S512x1024_0_3072))
    (View.ld (iblk m c 11 t) (Rect.unit ![0, 0, 0] ![1, 256, 1024] inb_S4x256x1024_S1x256x1024_0_0_0))
    (View.ld (iblk m c 11 t) (Rect.unit ![1, 0, 0] ![1, 256, 1024] inb_S4x256x1024_S1x256x1024_1_0_0))
    (View.ld (iblk m c 11 t) (Rect.unit ![2, 0, 0] ![1, 256, 1024] inb_S4x256x1024_S1x256x1024_2_0_0))
    (View.ld (iblk m c 11 t) (Rect.unit ![3, 0, 0] ![1, 256, 1024] inb_S4x256x1024_S1x256x1024_3_0_0))

/-- The column of the gates' logits that is branch `b`'s, written as the kernel has it. -/
theorem col_eq (r : Fin 16896) (b : Fin 4) (j : Fin 1024) (n : ℕ) (hn : n < 7168) (e : n = b.val * 1024 + j.val) :
    h8 m c r ⟨n, hn⟩ = h8 m c r ⟨b.val * 1024 + j.val, by omega⟩ := by
  subst e
  rfl

include hr in
theorem sumBlk_apply (q : Fin 512) (j : Fin 1024) :
    sumBlk m c t (ix2 q j)
      = mergedVal (h0 m c) (h1 m c) (h2 m c) (h3 m c) (h4 m c) (h5 m c) (h6 m c) (h7 m c) (h8 m c) (h9 m c) (rowAt t q) j := by
  unfold sumBlk mergedVal merged branch
  rw [mergeVec_apply]
  refine congrArg₂ (· + ·) (congrArg₂ (· + ·) (congrArg₂ (· + ·) (congrArg₂ (· * ·) (congrArg Ideal.logistic ?_)
    (Finset.sum_congr rfl fun l _ => ?_)) (congrArg₂ (· * ·) (congrArg Ideal.logistic ?_) (Finset.sum_congr rfl fun l _ => ?_)))
    (congrArg₂ (· * ·) (congrArg Ideal.logistic ?_) (Finset.sum_congr rfl fun l _ => ?_)))
    (congrArg₂ (· * ·) (congrArg Ideal.logistic ?_) (Finset.sum_congr rfl fun l _ => ?_))
  · rw [cols0, in10]
    exact col_eq m c _ 0 j _ _ (by simp)
  · rw [in0, mat0, in11]
  · rw [cols1, in10]
    exact col_eq m c _ 1 j _ _ (by simp)
  · rw [in1, mat1, in11]
  · rw [cols2, in10]
    exact col_eq m c _ 2 j _ _ (by simp)
  · rw [in2, mat2, in11]
  · rw [cols3, in10]
    exact col_eq m c _ 3 j _ _ (by simp)
  · rw [gatedBlk_apply m c t hr, mat3, in11]

include hr in
theorem mergedBlk_apply (q : Fin 512) (l : Fin 1024) :
    mergedBlk m c t (ix2 q l)
      = normRow (fun j => ∑ k, mergedVal (h0 m c) (h1 m c) (h2 m c) (h3 m c) (h4 m c) (h5 m c) (h6 m c) (h7 m c) (h8 m c) (h9 m c) (rowAt t q) k
          * h10 m c k j) (h12 m c) l := by
  unfold mergedBlk
  rw [pay7_apply]
  have e : ∀ k, mergeVec (gatedBlk m c t) _ _ _ _ _ _ _ _ _ _ _ (ix2 q k) = _ := sumBlk_apply m c t hr q
  simp only [e, in12, in14]

/-- The rows of the stream and of the tokens, as the arguments give them. -/
abbrev streamAt (r : Fin 16896) : Fin 1024 → EReal :=
  streamVal (h0 m c) (h1 m c) (h2 m c) (h3 m c) (h4 m c) (h5 m c) (h6 m c) (h7 m c) (h8 m c) (h9 m c) (h10 m c) (h11 m c) (h12 m c) (h13 m c) r
@[inherit_doc streamAt] abbrev tokAt (r : Fin 16896) : Fin 1024 → EReal :=
  tokVal (h0 m c) (h1 m c) (h2 m c) (h3 m c) (h4 m c) (h5 m c) (h6 m c) (h7 m c) (h8 m c) (h9 m c) (h10 m c) (h11 m c) (h12 m c) (h13 m c)
    (h14 m c) (h15 m c) (h16 m c) r

/-- The set of modulation rows of a row in the first half of a block, and in the second. -/
theorem kind0 (q : Fin 256) : (⟨Cert.Proj.kind (rowAt t ⟨q.val, by omega⟩).val, Cert.Proj.kind_lt _⟩ : Fin 3) = ⟨_, tile_lt t 0 (by omega)⟩ :=
  Fin.ext ((kind_at t ⟨q.val, by omega⟩).trans (if_pos q.isLt))
@[inherit_doc kind0] theorem kind1 (q : Fin 256) :
    (⟨Cert.Proj.kind (rowAt t ⟨256 + q.val, by omega⟩).val, Cert.Proj.kind_lt _⟩ : Fin 3) = ⟨_, tile_lt t 1 (by omega)⟩ :=
  Fin.ext ((kind_at t ⟨256 + q.val, by omega⟩).trans (if_neg (by simp)))

include hr in
/-- The stream's rows in a block: the first half, and the second. -/
theorem stream0 (q : Fin 256) (l : Fin 1024) :
    k0_pay8 (mergedBlk m c t) (iblk m c 18 t) (View.ld (iblk m c 13 t) (Rect.unit ![0, 0] ![256, 1024] inb_S512x1024_S256x1024_0_0)) (ix2 q l)
      = streamAt m c (rowAt t ⟨q.val, by omega⟩) l := by
  rw [pay8_apply, mergedBlk_apply m c t hr, half0, in13, in18, ← kind0 t q]
  rfl
include hr in
@[inherit_doc stream0] theorem stream1 (q : Fin 256) (l : Fin 1024) :
    k0_pay11 (mergedBlk m c t) (iblk m c 21 t) (View.ld (iblk m c 13 t) (Rect.unit ![256, 0] ![256, 1024] inb_S512x1024_S256x1024_256_0)) (ix2 q l)
      = streamAt m c (rowAt t ⟨256 + q.val, by omega⟩) l := by
  rw [pay11_apply, mergedBlk_apply m c t hr, half1, in13, in21, ← kind1 t q]
  rfl

include hr in
/-- The tokens' rows in a block: the first half, and the second. -/
theorem tok0 (q : Fin 256) (l : Fin 1024) :
    k0_pay10 (mergedBlk m c t) (iblk m c 18 t) (iblk m c 19 t) (iblk m c 20 t)
        (View.ld (iblk m c 13 t) (Rect.unit ![0, 0] ![256, 1024] inb_S512x1024_S256x1024_0_0)) (iblk m c 15 t) (ix2 q l)
      = tokAt m c (rowAt t ⟨q.val, by omega⟩) l := by
  rw [pay10_apply]
  simp only [stream0 m c t hr, in19, in20, in15]
  rw [← kind0 t q]
  rfl
include hr in
@[inherit_doc tok0] theorem tok1 (q : Fin 256) (l : Fin 1024) :
    k0_pay13 (mergedBlk m c t) (iblk m c 21 t) (iblk m c 22 t) (iblk m c 23 t)
        (View.ld (iblk m c 13 t) (Rect.unit ![256, 0] ![256, 1024] inb_S512x1024_S256x1024_256_0)) (iblk m c 15 t) (ix2 q l)
      = tokAt m c (rowAt t ⟨256 + q.val, by omega⟩) l := by
  rw [pay13_apply]
  simp only [stream1 m c t hr, in22, in23, in15]
  rw [← kind1 t q]
  rfl

include hr in
/-- The stream's block after the body. -/
theorem out_stream (q : Fin 512) (l : Fin 1024) : (outsAt0 m c t).1 (ix2 q l) = streamAt m c (rowAt t q) l := by
  unfold outsAt0
  dsimp only
  frame_out [out0_A_24]
  exact halves (e := .f32) _ _ (fun q l => streamAt m c (rowAt t q) l) (stream0 m c t hr) (stream1 m c t hr) q l

include hr in
/-- The tokens' block after the body. -/
theorem out_tok (q : Fin 512) (l : Fin 1024) : (outsAt0 m c t).2.1 (ix2 q l) = tokAt m c (rowAt t q) l := by
  unfold outsAt0
  dsimp only
  frame_out [out0_A_25]
  exact halves (e := .bf16) _ _ (fun q l => tokAt m c (rowAt t q) l) (tok0 m c t hr) (tok1 m c t hr) q l

/-- Rows of 1024 numbers as an array. -/
def rowsOf {φ : FTy} (f : Fin 16896 → Fin 1024 → EReal) : FVec Ideal S16896x1024 φ := fun i => f ⟨(i 0).val, (i 0).isLt⟩ ⟨(i 1).val, (i 1).isLt⟩

include hr in
/-- The kernel's stream. -/
theorem stream_array : (dats m 0 c).arrAt 24 cfg0.N = rowsOf (φ := .f32) (streamAt m c) := by
  refine (dats m 0 c).arrAt_eq_of_covers 24 _ (by decide +kernel) fun t hf y => ?_
  change (dats m 0 c).flushed 24 t y = _
  have hi := at24 t
  have f0 : ((((cfg0.win 24).blk t).view.emb y) 0).val = t.val * 512 + (y 0).val := by blk_simp [hi]
  have f1 : ((((cfg0.win 24).blk t).view.emb y) 1).val = (y 1).val := by blk_simp [hi]
  show (cfg0.win 24).cut (cfg0.grid.coords t) ((dats m 0 c).after 24 t) y = _
  rw [after0_24]
  refine Eq.trans ?_ ((out_stream m c t hr ⟨(y 0).val, (y 0).isLt⟩ ⟨(y 1).val, (y 1).isLt⟩).trans ?_)
  · refine congrArg (outsAt0 m c t).1 (funext fun a => ?_)
    match a with
    | ⟨0, _⟩ => rfl
    | ⟨1, _⟩ => rfl
  · unfold rowsOf
    exact congrArg₂ (streamAt m c) (Fin.ext f0.symm) (Fin.ext f1.symm)

include hr in
/-- The kernel's tokens. -/
theorem tok_array : (dats m 0 c).arrAt 25 cfg0.N = rowsOf (φ := .bf16) (tokAt m c) := by
  refine (dats m 0 c).arrAt_eq_of_covers 25 _ (by decide +kernel) fun t hf y => ?_
  change (dats m 0 c).flushed 25 t y = _
  have hi := at25 t
  have f0 : ((((cfg0.win 25).blk t).view.emb y) 0).val = t.val * 512 + (y 0).val := by blk_simp [hi]
  have f1 : ((((cfg0.win 25).blk t).view.emb y) 1).val = (y 1).val := by blk_simp [hi]
  show (cfg0.win 25).cut (cfg0.grid.coords t) ((dats m 0 c).after 25 t) y = _
  rw [after0_25]
  refine Eq.trans ?_ ((out_tok m c t hr ⟨(y 0).val, (y 0).isLt⟩ ⟨(y 1).val, (y 1).isLt⟩).trans ?_)
  · refine congrArg (outsAt0 m c t).2.1 (funext fun a => ?_)
    match a with
    | ⟨0, _⟩ => rfl
    | ⟨1, _⟩ => rfl
  · unfold rowsOf
    exact congrArg₂ (tokAt m c) (Fin.ext f0.symm) (Fin.ext f1.symm)

end Cert.Merge

end
-- ==== Proof.Merge.Ref.lean ====
/-
  The reference's merge at an index.
-/
module

public import proofs.«01_k».proof.Proof.Merge.Data
public import proofs.«01_k».proof.Proof.Gen.Reference4Ideal.Read

@[expose] public section

set_option maxRecDepth 16384

noncomputable section

namespace Cert.Merge

open Idealize.ShloMosaic Idealize.SL.Sem Cert.Reference4Ideal Cert.Reference4Ideal.Gen Cert.Reference4Ideal.Read Cert.Proj

variable (A0 A1 A2 A3 A4 : (⟨S16896x256, .f32⟩ : BufTy).Contents (Elt Ideal)) (A5 : (⟨S2x16896x256, .f32⟩ : BufTy).Contents (Elt Ideal))
  (A6 : (⟨S128x256, .f32⟩ : BufTy).Contents (Elt Ideal)) (A7 : (⟨S2x256, .f32⟩ : BufTy).Contents (Elt Ideal))
  (A8 : (⟨S16896x7168, .f32⟩ : BufTy).Contents (Elt Ideal)) (A9 : (⟨S4x256x1024, .f32⟩ : BufTy).Contents (Elt Ideal))
  (A10 : (⟨S1024x1024, .f32⟩ : BufTy).Contents (Elt Ideal)) (A11 : (⟨S16896x1024, .f32⟩ : BufTy).Contents (Elt Ideal))
  (A12 : (⟨S1024, .f32⟩ : BufTy).Contents (Elt Ideal)) (A13 : (⟨S3x1x1024, .f32⟩ : BufTy).Contents (Elt Ideal))
  (A14 : (⟨S1024, .f32⟩ : BufTy).Contents (Elt Ideal)) (A15 A16 : (⟨S3x1x1024, .f32⟩ : BufTy).Contents (Elt Ideal))

/-- An array's elements by their coordinates. -/
abbrev rBW (A : (⟨S16896x256, .f32⟩ : BufTy).Contents (Elt Ideal)) (i : Fin 16896) (j : Fin 256) : EReal := A (ix2 i j)
@[inherit_doc rBW] abbrev rBo (A : (⟨S2x16896x256, .f32⟩ : BufTy).Contents (Elt Ideal)) (a : Fin 2) (i : Fin 16896) (j : Fin 256) : EReal :=
  A (ix3 a i j)
@[inherit_doc rBW] abbrev rGup (A : (⟨S128x256, .f32⟩ : BufTy).Contents (Elt Ideal)) (i : Fin 128) (j : Fin 256) : EReal := A (ix2 i j)
@[inherit_doc rBW] abbrev rGn (A : (⟨S2x256, .f32⟩ : BufTy).Contents (Elt Ideal)) (i : Fin 2) (j : Fin 256) : EReal := A (ix2 i j)
@[inherit_doc rBW] abbrev rU (A : (⟨S16896x7168, .f32⟩ : BufTy).Contents (Elt Ideal)) (i : Fin 16896) (j : Fin 7168) : EReal := A (ix2 i j)
@[inherit_doc rBW] abbrev rWb (A : (⟨S4x256x1024, .f32⟩ : BufTy).Contents (Elt Ideal)) (b : Fin 4) (i : Fin 256) (j : Fin 1024) : EReal :=
  A (ix3 b i j)
@[inherit_doc rBW] abbrev rWo (A : (⟨S1024x1024, .f32⟩ : BufTy).Contents (Elt Ideal)) (i : Fin 1024) (j : Fin 1024) : EReal := A (ix2 i j)
@[inherit_doc rBW] abbrev rX (A : (⟨S16896x1024, .f32⟩ : BufTy).Contents (Elt Ideal)) (i : Fin 16896) (j : Fin 1024) : EReal := A (ix2 i j)
@[inherit_doc rBW] abbrev rG (A : (⟨S1024, .f32⟩ : BufTy).Contents (Elt Ideal)) (i : Fin 1024) : EReal := A (ix1 i)
@[inherit_doc rBW] abbrev rMod (A : (⟨S3x1x1024, .f32⟩ : BufTy).Contents (Elt Ideal)) (i : Fin 3) (j : Fin 1024) : EReal :=
  A (ix3 i (0 : Fin 1) j)

/-! ## The readout -/

/-- The recurrence's two directions' sum at row `r`. -/
abbrev ySum (r : Fin 16896) (k : Fin 256) : EReal := rBW A3 r k + rBW A4 r k

theorem x11 (r : Fin 16896) (h : Fin 4) :
    val_main_v11 (F := Ideal) A3 A4 (ix3 r h (0 : Fin 1)) = headMean (ySum A3 A4 r) h := by
  unfold headMean
  pointwise [val_main_v11, val_main_v10, val_main_v9, val_main_v8, val_main_v1, val_main_v0, val_main_cst, val_main_cst_0]
  rfl

theorem x13 (r : Fin 16896) (h : Fin 4) (d : Fin 64) :
    val_main_v13 (F := Ideal) A3 A4 (ix3 r h d) = cent (ySum A3 A4 r) (lane h d) := by
  unfold cent
  rw [head_lane]
  pointwise [val_main_v13, val_main_v12, x11, val_main_v1, val_main_v0]
  rfl

theorem x23 (r : Fin 16896) (h : Fin 4) (d : Fin 64) :
    val_main_v23 (F := Ideal) A3 A4 (ix3 r h d) = headNorm (ySum A3 A4 r) (lane h d) := by
  unfold headNorm
  rw [head_lane]
  unfold headMean
  pointwise [val_main_v23, val_main_v22, val_main_v21, val_main_v20, val_main_v19, val_main_v18, val_main_v17, val_main_v16, val_main_v15,
    val_main_v14, x13, val_main_cst_1, val_main_cst_2, val_main_cst_3]

/-- The normalised readout with its gain, its bias and the bonuses. -/
theorem x36 (r : Fin 16896) (h : Fin 4) (d : Fin 64) :
    val_main_v36 (F := Ideal) A3 A4 A5 A7 (ix3 r h d)
      = headNorm (ySum A3 A4 r) (lane h d) * rGn A7 0 (lane h d) + rGn A7 1 (lane h d) + (rBo A5 0 r (lane h d) + rBo A5 1 r (lane h d)) := by
  pointwise [val_main_v36, val_main_v35, val_main_v34, val_main_v33, val_main_v32, val_main_v31, val_main_v30, val_main_v29, val_main_v28,
    val_main_v27, val_main_v26, val_main_v25, val_main_v24, x23, val_main_v7, val_main_v6, val_main_v5, val_main_v4, val_main_v3, val_main_v2]
  rfl

/-- The recurrence's branch. -/
theorem x46 (r : Fin 16896) (k : Fin 256) :
    val_main_v46 (F := Ideal) A3 A4 A5 A6 A7 A8 (ix2 r k)
      = branchD (rBW A3 r) (rBW A4 r) (rBo A5 0 r) (rBo A5 1 r) (rGup A6) (rGn A7) (rU A8 r) k := by
  have e : val_main_v37 (F := Ideal) A3 A4 A5 A7 (ix2 r k) = headNorm (ySum A3 A4 r) k * rGn A7 0 k + rGn A7 1 k + (rBo A5 0 r k + rBo A5 1 r k) := by
    refine Eq.trans ?_ ((x36 A3 A4 A5 A7 r (headOf k) (placeOf k)).trans (by rw [lane_head]))
    pointwise [val_main_v37]
    rfl
  unfold branchD
  refine Eq.trans (?_ : _ = val_main_v37 (F := Ideal) A3 A4 A5 A7 (ix2 r k) * _) (congrArg (· * _) e)
  pointwise [val_main_v46, val_main_v45, val_main_v44, val_main_v43, val_main_v42, val_main_v41, val_main_v40, val_main_v39, val_main_v38,
    val_main_cst_4, val_main_cst_5]
  rfl

/-! ## The branches' sum -/

theorem x76 (r : Fin 16896) (j : Fin 1024) :
    val_main_v76 (F := Ideal) A0 A1 A2 A3 A4 A5 A6 A7 A8 A9 (ix2 r j)
      = mergedVal (rBW A0) (rBW A1) (rBW A2) (rBW A3) (rBW A4) (rBo A5) (rGup A6) (rGn A7) (rU A8) (rWb A9) r j := by
  unfold mergedVal merged branch
  pointwise [val_main_v76, val_main_v75, val_main_v74, x46, val_main_v73, val_main_v72, val_main_v71, val_main_v70, val_main_v69, val_main_v68,
    val_main_v67, val_main_v66, val_main_v65, val_main_v64, val_main_v63, val_main_v62, val_main_v61, val_main_v60, val_main_v59,
    val_main_v58, val_main_v57, val_main_v56, val_main_v55, val_main_v54, val_main_v53, val_main_v52, val_main_v51, val_main_v50,
    val_main_v49, val_main_v48, val_main_v47, val_main_cst_6, val_main_cst_7]
  rfl

/-! ## The rows of modulation -/

/-- The third row of modulation for a sequence's first 256 rows, the sequence's own for the others. -/
theorem row_kind (A : (⟨S3x1x1024, .f32⟩ : BufTy).Contents (Elt Ideal)) (r : Fin 16896) (l : Fin 1024) :
    rMod A ⟨kind r.val, kind_lt r⟩ l
      = if r.val % 8448 < 256 then A (ix3 (2 : Fin 3) (0 : Fin 1) l) else A (ix3 (⟨r.val / 8448, by omega⟩ : Fin 3) (0 : Fin 1) l) := by
  by_cases h : r.val % 8448 < 256
  · rw [if_pos h]
    exact congrArg (fun z => A (ix3 z (0 : Fin 1) l)) (Fin.ext (if_pos h))
  · rw [if_neg h]
    exact congrArg (fun z => A (ix3 z (0 : Fin 1) l)) (Fin.ext (if_neg h))

theorem x82 (r : Fin 16896) (l : Fin 1024) : val_main_v82 (F := Ideal) A13 (ix2 r l) = rMod A13 ⟨kind r.val, kind_lt r⟩ l := by
  rw [row_kind]
  pointwise [val_main_v82, val_main_v81, val_main_v80, val_main_v79, val_main_v78, val_main_v77]
  rfl

theorem x117 (r : Fin 16896) (l : Fin 1024) : val_main_v117 (F := Ideal) A16 (ix2 r l) = rMod A16 ⟨kind r.val, kind_lt r⟩ l := by
  rw [row_kind]
  pointwise [val_main_v117, val_main_v116, val_main_v115, val_main_v114, val_main_v113, val_main_v112]
  rfl

theorem x126 (r : Fin 16896) (l : Fin 1024) : val_main_v126 (F := Ideal) A15 (ix2 r l) = rMod A15 ⟨kind r.val, kind_lt r⟩ l := by
  rw [row_kind]
  pointwise [val_main_v126, val_main_v125, val_main_v124, val_main_v123, val_main_v122, val_main_v121]
  rfl

/-! ## The results -/

theorem x83 (r : Fin 16896) (l : Fin 1024) :
    val_main_v83 (F := Ideal) A0 A1 A2 A3 A4 A5 A6 A7 A8 A9 A10 (ix2 r l)
      = ∑ k, mergedVal (rBW A0) (rBW A1) (rBW A2) (rBW A3) (rBW A4) (rBo A5) (rGup A6) (rGn A7) (rU A8) (rWb A9) r k * rWo A10 k l := by
  pointwise [val_main_v83, x76]

/-- The reference's stream. -/
theorem ref_stream (r : Fin 16896) (l : Fin 1024) :
    val_main_v98 (F := Ideal) A0 A1 A2 A3 A4 A5 A6 A7 A8 A9 A10 A11 A12 A13 (ix2 r l)
      = streamVal (rBW A0) (rBW A1) (rBW A2) (rBW A3) (rBW A4) (rBo A5) (rGup A6) (rGn A7) (rU A8) (rWb A9) (rWo A10) (rX A11) (rG A12)
          (rMod A13) r l := by
  unfold streamVal streamRow normRow
  pointwise [val_main_v98, val_main_v97, x82, val_main_v96, val_main_v95, val_main_v94, val_main_v93, val_main_v92, val_main_v91, val_main_v90,
    val_main_v89, val_main_v88, val_main_v87, val_main_v86, val_main_v85, val_main_v84, x83, val_main_cst_8, val_main_cst_9, val_main_cst_10]

/-- The reference's tokens. -/
theorem ref_tok (r : Fin 16896) (l : Fin 1024) :
    val_main_v128 (F := Ideal) A0 A1 A2 A3 A4 A5 A6 A7 A8 A9 A10 A11 A12 A13 A14 A15 A16 (ix2 r l)
      = tokVal (rBW A0) (rBW A1) (rBW A2) (rBW A3) (rBW A4) (rBo A5) (rGup A6) (rGn A7) (rU A8) (rWb A9) (rWo A10) (rX A11) (rG A12)
          (rMod A13) (rG A14) (rMod A15) (rMod A16) r l := by
  unfold tokVal modRow
  pointwise [val_main_v128, val_main_v127, x126, val_main_v120, val_main_v119, val_main_v118, x117, val_main_v111, val_main_v110, val_main_v109,
    val_main_v108, val_main_v107, val_main_v106, val_main_v105, val_main_v104, val_main_v103, val_main_v102, val_main_v101, val_main_v100,
    val_main_v99, ref_stream, val_main_cst_11, val_main_cst_12, val_main_cst_13, val_main_cst_14]

end Cert.Merge

end
-- ==== Proof.Merge.Eq.lean ====
/-
  The merge's two programs' results side by side: the reference's arrays, and what the precondition gives.
-/
module

public import proofs.«01_k».proof.Proof.Merge.Kern
public import proofs.«01_k».proof.Proof.Merge.Ref
public import proofs.«01_k».proof.Proof.DA.Pre
public import proofs.«01_k».proof.Pre_summable

@[expose] public section

set_option maxRecDepth 16384

noncomputable section

namespace Cert.Merge

open Idealize.ShloMosaic Idealize.SL.Sem

/-- The precondition, element by element: the recurrence's two directions are real. -/
theorem pre_rows [Cert.Pre_summable.Facts] (A0 A1 A2 A3 A4 : FVec Ideal Cert.Pre_summable.S16896x256 .f32)
    (A5 : FVec Ideal Cert.Pre_summable.S2x16896x256 .f32) (A6 : FVec Ideal Cert.Pre_summable.S128x256 .f32)
    (A7 : FVec Ideal Cert.Pre_summable.S2x256 .f32) (A8 : FVec Ideal Cert.Pre_summable.S16896x7168 .f32)
    (A9 : FVec Ideal Cert.Pre_summable.S4x256x1024 .f32) (A10 : FVec Ideal Cert.Pre_summable.S1024x1024 .f32)
    (A11 : FVec Ideal Cert.Pre_summable.S16896x1024 .f32) (A12 : FVec Ideal Cert.Pre_summable.S1024 .f32)
    (A13 : FVec Ideal Cert.Pre_summable.S3x1x1024 .f32) (A14 : FVec Ideal Cert.Pre_summable.S1024 .f32)
    (A15 A16 : FVec Ideal Cert.Pre_summable.S3x1x1024 .f32) (A17 : FVec Ideal Cert.Pre_summable.S1024x64 .f32)
    (A18 : FVec Ideal Cert.Pre_summable.S64 .f32)
    (h : Cert.Pre_summable.fn (F := Ideal) A0 A1 A2 A3 A4 A5 A6 A7 A8 A9 A10 A11 A12 A13 A14 A15 A16 A17 A18 = fun _ => 1#1) :
    (∀ i, ∃ z : ℝ, A3 i = (z : EReal)) ∧ ∀ i, ∃ z : ℝ, A4 i = (z : EReal) := by
  have e := congrFun h ix0
  dsimp only [Cert.Pre_summable.fn] at e
  obtain ⟨e0, e1⟩ := IntOp.andi_eq_one.mp e
  have one : Subsingleton Cert.Pre_summable.S_.Idx := ⟨fun a b => funext fun k => k.elim0⟩
  exact ⟨fun i => DA.real_of_word _ (Host.reduce_andi_all _ _ _ _ _ e0 i), fun i => DA.real_of_word _ (Host.reduce_andi_all _ _ _ _ _ e1 i)⟩

section Kernel

open Cert.Kernel4Ideal Cert.Kernel4Ideal.Gen

variable (m : (ℓ : Loc nD τ sig) → Buf (Elt Ideal) ℓ) (ρ : Dev nD → PrngReg)

/-- Every execution of the kernel ends with the arrays computed block by block and with its arguments as they were. -/
theorem run_results : θ_run (defs (F := Ideal)) (onTc (τ := τ) (main (F := Ideal))) ⟨m, fun _ => 0, ρ⟩ (fun r =>
    (∀ c : Dev nD, r.2.mem ((c.tc : Thread nD τ).loc main_v15_0) = (Cert.Kernel4Ideal.Run.dats m 0 c).arrAt 24 cfg0.N
      ∧ r.2.mem ((c.tc : Thread nD τ).loc main_v15_1) = (Cert.Kernel4Ideal.Run.dats m 0 c).arrAt 25 cfg0.N)) :=
  (θ_run _ _ _).mono (fun _ h c => ⟨(h c).1 24, (h c).1 25⟩) (Cert.Kernel4Ideal.Run.run_main m ρ)

end Kernel

section Reference

open Cert.Reference4Ideal Cert.Reference4Ideal.Read

variable (A0 A1 A2 A3 A4 : (⟨S16896x256, .f32⟩ : BufTy).Contents (Elt Ideal)) (A5 : (⟨S2x16896x256, .f32⟩ : BufTy).Contents (Elt Ideal))
  (A6 : (⟨S128x256, .f32⟩ : BufTy).Contents (Elt Ideal)) (A7 : (⟨S2x256, .f32⟩ : BufTy).Contents (Elt Ideal))
  (A8 : (⟨S16896x7168, .f32⟩ : BufTy).Contents (Elt Ideal)) (A9 : (⟨S4x256x1024, .f32⟩ : BufTy).Contents (Elt Ideal))
  (A10 : (⟨S1024x1024, .f32⟩ : BufTy).Contents (Elt Ideal)) (A11 : (⟨S16896x1024, .f32⟩ : BufTy).Contents (Elt Ideal))
  (A12 : (⟨S1024, .f32⟩ : BufTy).Contents (Elt Ideal)) (A13 : (⟨S3x1x1024, .f32⟩ : BufTy).Contents (Elt Ideal))
  (A14 : (⟨S1024, .f32⟩ : BufTy).Contents (Elt Ideal)) (A15 A16 : (⟨S3x1x1024, .f32⟩ : BufTy).Contents (Elt Ideal))

/-- An index of an array of rows, by its coordinates. -/
theorem row_index (i : S16896x1024.Idx) : i = ix2 (⟨(i 0).val, (i 0).isLt⟩ : Fin 16896) (⟨(i 1).val, (i 1).isLt⟩ : Fin 1024) := by
  funext a
  match a with
  | ⟨0, _⟩ => rfl
  | ⟨1, _⟩ => rfl

/-- The reference's stream, as an array. -/
theorem ref_stream_array : val_main_v98 (F := Ideal) A0 A1 A2 A3 A4 A5 A6 A7 A8 A9 A10 A11 A12 A13
    = rowsOf (φ := .f32) (streamVal (rBW A0) (rBW A1) (rBW A2) (rBW A3) (rBW A4) (rBo A5) (rGup A6) (rGn A7) (rU A8) (rWb A9) (rWo A10)
        (rX A11) (rG A12) (rMod A13)) :=
  funext fun i => (congrArg (val_main_v98 (F := Ideal) A0 A1 A2 A3 A4 A5 A6 A7 A8 A9 A10 A11 A12 A13) (row_index i)).trans
    (ref_stream A0 A1 A2 A3 A4 A5 A6 A7 A8 A9 A10 A11 A12 A13 _ _)

/-- The reference's tokens, as an array. -/
theorem ref_tok_array : val_main_v128 (F := Ideal) A0 A1 A2 A3 A4 A5 A6 A7 A8 A9 A10 A11 A12 A13 A14 A15 A16
    = rowsOf (φ := .bf16) (tokVal (rBW A0) (rBW A1) (rBW A2) (rBW A3) (rBW A4) (rBo A5) (rGup A6) (rGn A7) (rU A8) (rWb A9) (rWo A10)
        (rX A11) (rG A12) (rMod A13) (rG A14) (rMod A15) (rMod A16)) :=
  funext fun i => (congrArg (val_main_v128 (F := Ideal) A0 A1 A2 A3 A4 A5 A6 A7 A8 A9 A10 A11 A12 A13 A14 A15 A16) (row_index i)).trans
    (ref_tok A0 A1 A2 A3 A4 A5 A6 A7 A8 A9 A10 A11 A12 A13 A14 A15 A16 _ _)

end Reference

end Cert.Merge

end
-- ==== Proof.Resid.Data.lean ====
/-
  The residual sum after the experts, at an index.
-/
module

public import proofs.«01_k».proof.Proof.Proj.Data

@[expose] public section

noncomputable section

namespace Cert.Resid

open Idealize.ShloMosaic

/-- Column `l` of a row of the stream `x` plus the experts' row `f`, normalised by its mean square and with its gain `g`,
    times the modulation `md`. -/
def residRow (x f g md : Fin 1024 → EReal) (l : Fin 1024) : EReal :=
  x l + md l * (f l * Ideal.rsqrt (Ideal.div (∑ k, f k * f k) (Ideal.ofBits .f32 1149239296#32) + Ideal.ofBits .f32 897988541#32) * g l)

/-- The first layer's result at row `r`: the context rows have the third modulation, the others their batch's. -/
def residVal (x f : Fin 16896 → Fin 1024 → EReal) (g : Fin 1024 → EReal) (md : Fin 3 → Fin 1024 → EReal) (r : Fin 16896)
    (l : Fin 1024) : EReal :=
  residRow (x r) (f r) g (md ⟨Cert.Proj.kind r.val, Cert.Proj.kind_lt r⟩) l

/-- The row of the stream that row `r` of the last layer's result is: each batch's first 256 rows are left out. -/
def latentRow (r : Fin 16384) : Fin 16896 := ⟨r.val / 8192 * 8448 + (256 + r.val % 8192), by omega⟩

/-- The last layer's result at row `r`. -/
def lastVal (x f : Fin 16896 → Fin 1024 → EReal) (g : Fin 1024 → EReal) (md : Fin 3 → Fin 1024 → EReal) (r : Fin 16384)
    (l : Fin 1024) : EReal :=
  residRow (x (latentRow r)) (f (latentRow r)) g (md ⟨r.val / 8192, by omega⟩) l

end Cert.Resid

end
-- ==== Proof.Resid.First.lean ====
/-
  The kernel's residual sum in the first layer.
-/
module

public import proofs.«01_k».proof.Proof.Resid.Data
public import proofs.«01_k».proof.Proof.Gen.Kernel5Ideal.Value
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.Resid.First

open Idealize.ShloMosaic Idealize.SL.Sem Cert.Kernel5Ideal Cert.Kernel5Ideal.Gen

/-- A block of the result, from the blocks of the stream and of the experts' result, the gain and the modulation. -/
theorem out_apply (x0 x1 : Vec Ideal S256x1024 .f32) (x2 : Vec Ideal S1x1024 .f32) (x3 : Vec Ideal S1x1x1024 .f32)
    (q : Fin 256) (l : Fin 1024) :
    out0_4 x0 x1 x2 x3 (ix2 q l)
      = residRow (fun k => x0 (ix2 q k)) (fun k => x1 (ix2 q k)) (fun k => x2 (ix2 (0 : Fin 1) k))
          (fun k => x3 (ix3 (0 : Fin 1) (0 : Fin 1) k)) l := by
  frame_out [out0_4]
  pointwise [k0_pay1]
  rfl

variable (m : (ℓ : Loc nD τ sig) → Buf (Elt Ideal) ℓ) (c : Dev nD)

/-- The arguments' elements by their coordinates. -/
abbrev g0 (i : Fin 16896) (j : Fin 1024) : EReal := m (c, Proc.tc.devRef main_arg0) (ix2 i j)
@[inherit_doc g0] abbrev g1 (i : Fin 16896) (j : Fin 1024) : EReal := m (c, Proc.tc.devRef main_arg1) (ix2 i j)
@[inherit_doc g0] abbrev g2 (j : Fin 1024) : EReal := m (c, Proc.tc.devRef main_arg2) (ix1 j)
@[inherit_doc g0] abbrev g3 (i : Fin 3) (j : Fin 1024) : EReal := m (c, Proc.tc.devRef main_arg3) (ix3 i (0 : Fin 1) j)

/-- Which modulation tile `a` of 256 rows has. -/
def tileKind (a : ℕ) : ℕ := if a % 33 = 0 then 2 else a / 33

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![tileKind t.val, 0, 0] := (by decide +kernel : ∀ t : Fin grid0.N, win0_3.index t = ![tileKind t.val, 0, 0])
theorem idx4 : ∀ t : Fin cfg0.N, win0_4.index t = ![t.val, 0] := (by decide +kernel : ∀ t : Fin grid0.N, win0_4.index t = ![t.val, 0])
theorem pt_lt (t : Fin cfg0.N) : t.val < 66 := t.isLt

theorem md_lt (t : Fin cfg0.N) : tileKind t.val < 3 := by
  have := pt_lt t
  unfold tileKind
  split_ifs <;> omega

/-- The row of the result that row `q` of point `t`'s block is. -/
def rowOf (t : Fin cfg0.N) (q : Fin 256) : Fin 16896 := ⟨t.val * 256 + q.val, by have := pt_lt t; omega⟩

theorem blk0_apply (t : Fin cfg0.N) (q : Fin 256) (l : Fin 1024) : iblk m c 0 t (ix2 q l) = g0 m c (rowOf t q) l := by
  refine Eq.trans ?_ (congrFun (V_main_arg0 m c) _)
  have hi := idx0 t
  unfold iblk rowOf
  generalize V m c = W
  blk_ext [hi]

theorem blk1_apply (t : Fin cfg0.N) (q : Fin 256) (l : Fin 1024) : iblk m c 1 t (ix2 q l) = g1 m c (rowOf t q) l := by
  refine Eq.trans ?_ (congrFun (V_main_arg1 m c) _)
  have hi := idx1 t
  unfold iblk rowOf
  generalize V m c = W
  blk_ext [hi]

theorem blk2_apply (t : Fin cfg0.N) (l : Fin 1024) : iblk m c 2 t (ix2 (0 : Fin 1) l) = g2 m c l := by
  have e : V m c main_v0 (ix2 (0 : Fin 1) l) = g2 m c l := by
    unfold V
    after_reads_at
  refine Eq.trans ?_ e
  have hi := idx2 t
  unfold iblk
  generalize V m c = W
  blk_ext [hi]

theorem blk3_apply (t : Fin cfg0.N) (l : Fin 1024) : iblk m c 3 t (ix3 (0 : Fin 1) (0 : Fin 1) l) = g3 m c ⟨_, md_lt t⟩ l := by
  refine Eq.trans ?_ (congrFun (V_main_arg3 m c) _)
  have hi := idx3 t
  unfold iblk
  generalize V m c = W
  blk_ext [hi]

/-- A block of the kernel's result holds the residual sum's values. -/
theorem block_eq (t : Fin cfg0.N) (q : Fin 256) (l : Fin 1024) :
    out0_4 (iblk m c 0 t) (iblk m c 1 t) (iblk m c 2 t) (iblk m c 3 t) (ix2 q l)
      = residVal (g0 m c) (g1 m c) (g2 m c) (g3 m c) (rowOf t q) l := by
  rw [out_apply]
  unfold residVal
  simp only [blk0_apply, blk1_apply, blk2_apply, blk3_apply]
  refine congrArg (fun z => residRow _ _ _ (g3 m c z) l) (Fin.ext ?_)
  unfold tileKind Cert.Proj.kind rowOf
  dsimp only
  split_ifs <;> omega

/-- The residual sum's values as an array. -/
def resultOf (x f : Fin 16896 → Fin 1024 → EReal) (g : Fin 1024 → EReal) (md : Fin 3 → Fin 1024 → EReal) :
    FVec Ideal S16896x1024 .f32 :=
  fun i => residVal x f g md ⟨(i 0).val, (i 0).isLt⟩ ⟨(i 1).val, (i 1).isLt⟩

/-- The kernel's result array holds the residual sum's values. -/
theorem array_eq : (dats m 0 c).arrAt 4 cfg0.N = resultOf (g0 m c) (g1 m c) (g2 m c) (g3 m c) := by
  refine (dats m 0 c).arrAt_eq_of_covers 4 _ (by decide +kernel) fun t hf y => ?_
  change (dats m 0 c).flushed 4 t y = _
  have hi := idx4 t
  have f0 : ((((cfg0.win 4).blk t).view.emb y) 0).val = t.val * 256 + (y 0).val := by blk_simp [hi]
  have f1 : ((((cfg0.win 4).blk t).view.emb y) 1).val = (y 1).val := by blk_simp [hi]
  rw [Value.flushed4]
  have e := block_eq m c t ⟨(y 0).val, (y 0).isLt⟩ ⟨(y 1).val, (y 1).isLt⟩
  refine Eq.trans ?_ (e.trans ?_)
  · refine congrArg (out0_4 _ _ _ _) (funext fun a => ?_)
    match a with
    | ⟨0, _⟩ => rfl
    | ⟨1, _⟩ => rfl
  · unfold resultOf
    exact congrArg₂ (residVal _ _ _ _) (Fin.ext f0.symm) (Fin.ext f1.symm)

end Cert.Resid.First

end
-- ==== Proof.Resid.RefFirst.lean ====
/-
  The reference's residual sum in the first layer, at an index.
-/
module

public import proofs.«01_k».proof.Proof.Resid.Data
public import proofs.«01_k».proof.Proof.Gen.Reference5Ideal.Read

@[expose] public section

set_option maxRecDepth 16384

noncomputable section

namespace Cert.Resid.First

open Idealize.ShloMosaic Idealize.SL.Sem Cert.Reference5Ideal Cert.Reference5Ideal.Gen Cert.Reference5Ideal.Read

variable (A0 A1 : (⟨S16896x1024, .f32⟩ : BufTy).Contents (Elt Ideal)) (A2 : (⟨S1024, .f32⟩ : BufTy).Contents (Elt Ideal))
  (A3 : (⟨S3x1x1024, .f32⟩ : BufTy).Contents (Elt Ideal))

/-- The arrays' elements by their coordinates. -/
abbrev f0 (i : Fin 16896) (j : Fin 1024) : EReal := A0 (ix2 i j)
@[inherit_doc f0] abbrev f2 (i : Fin 1024) : EReal := A2 (ix1 i)
@[inherit_doc f0] abbrev f3 (i : Fin 3) (j : Fin 1024) : EReal := A3 (ix3 i (0 : Fin 1) j)

/-- The context rows. -/
theorem ctx_apply (b : Fin 2) (q : Fin 256) (l : Fin 1024) :
    val_main_v20 (F := Ideal) A0 A1 A2 A3 (ix3 b q l)
      = residRow (f0 A0 ⟨b.val * 8448 + q.val, by omega⟩) (f0 A1 ⟨b.val * 8448 + q.val, by omega⟩) (f2 A2) (f3 A3 2) l := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The latent rows. -/
theorem lat_apply (b : Fin 2) (q : Fin 8192) (l : Fin 1024) :
    val_main_v39 (F := Ideal) A0 A1 A2 A3 (ix3 b q l)
      = residRow (f0 A0 ⟨b.val * 8448 + (256 + q.val), by omega⟩) (f0 A1 ⟨b.val * 8448 + (256 + q.val), by omega⟩) (f2 A2)
          (f3 A3 ⟨b.val, by omega⟩) l := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v1, val_main_v0, val_main_cst_2, val_main_cst_3, val_main_cst_4]
  rfl

/-- The reference's result. -/
theorem ref_apply (r : Fin 16896) (l : Fin 1024) :
    val_main_v41 (F := Ideal) A0 A1 A2 A3 (ix2 r l) = residVal (f0 A0) (f0 A1) (f2 A2) (f3 A3) r l := by
  pointwise [val_main_v41, val_main_v40]
  unfold residVal
  by_cases h : r.val % 8448 < 256
  · have e : (⟨Cert.Proj.kind r.val, Cert.Proj.kind_lt r⟩ : Fin 3) = 2 := Fin.ext (if_pos h)
    rw [dif_pos h, ctx_apply, e]
    refine congrArg (fun z => residRow (f0 A0 z) (f0 A1 z) _ _ l) (Fin.ext ?_)
    exact (by omega : r.val / 8448 * 8448 + r.val % 8448 = r.val)
  · have e : (⟨Cert.Proj.kind r.val, Cert.Proj.kind_lt r⟩ : Fin 3) = ⟨r.val / 8448, by omega⟩ := Fin.ext (if_neg h)
    rw [dif_neg h, lat_apply, e]
    refine congrArg (fun z => residRow (f0 A0 z) (f0 A1 z) _ _ l) (Fin.ext ?_)
    exact (by omega : r.val / 8448 * 8448 + (256 + (r.val % 8448 - 256)) = r.val)

end Cert.Resid.First

end
-- ==== Proof.Resid.Last.lean ====
/-
  The kernel's residual sum in the last layer, whose result is the model's.
-/
module

public import proofs.«01_k».proof.Proof.Resid.Data
public import proofs.«01_k».proof.Proof.Gen.Kernel6Ideal.Value
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.Resid.Last

open Idealize.ShloMosaic Idealize.SL.Sem Cert.Kernel6Ideal Cert.Kernel6Ideal.Gen

/-- A block of the result, from the blocks of the stream and of the experts' result, the gain and the modulation. -/
theorem out_apply (x0 x1 : Vec Ideal S256x1024 .f32) (x2 : Vec Ideal S1x1024 .f32) (x3 : Vec Ideal S1x1x1024 .f32)
    (q : Fin 256) (l : Fin 1024) :
    out0_4 x0 x1 x2 x3 (ix2 q l)
      = residRow (fun k => x0 (ix2 q k)) (fun k => x1 (ix2 q k)) (fun k => x2 (ix2 (0 : Fin 1) k))
          (fun k => x3 (ix3 (0 : Fin 1) (0 : Fin 1) k)) l := by
  frame_out [out0_4]
  pointwise [k0_pay1]
  rfl

variable (m : (ℓ : Loc nD τ sig) → Buf (Elt Ideal) ℓ) (c : Dev nD)

/-- The arguments' elements by their coordinates. -/
abbrev g0 (i : Fin 16896) (j : Fin 1024) : EReal := m (c, Proc.tc.devRef main_arg0) (ix2 i j)
@[inherit_doc g0] abbrev g1 (i : Fin 16896) (j : Fin 1024) : EReal := m (c, Proc.tc.devRef main_arg1) (ix2 i j)
@[inherit_doc g0] abbrev g2 (j : Fin 1024) : EReal := m (c, Proc.tc.devRef main_arg2) (ix1 j)
@[inherit_doc g0] abbrev g3 (i : Fin 3) (j : Fin 1024) : EReal := m (c, Proc.tc.devRef main_arg3) (ix3 i (0 : Fin 1) j)

theorem idx0 : ∀ t : Fin cfg0.N, win0_0.index t = ![t.val / 32 * 33 + 1 + t.val % 32, 0] := (by decide +kernel : ∀ t : Fin grid0.N, win0_0.index t = ![t.val / 32 * 33 + 1 + t.val % 32, 0])
theorem idx1 : ∀ t : Fin cfg0.N, win0_1.index t = ![t.val / 32 * 33 + 1 + t.val % 32, 0] := (by decide +kernel : ∀ t : Fin grid0.N, win0_1.index t = ![t.val / 32 * 33 + 1 + t.val % 32, 0])
theorem idx2 : ∀ t : Fin cfg0.N, win0_2.index t = ![0, 0] := (by decide +kernel : ∀ t : Fin grid0.N, win0_2.index t = ![0, 0])
theorem idx3 : ∀ t : Fin cfg0.N, win0_3.index t = ![t.val / 32, 0, 0] := (by decide +kernel : ∀ t : Fin grid0.N, win0_3.index t = ![t.val / 32, 0, 0])
theorem idx4 : ∀ t : Fin cfg0.N, win0_4.index t = ![t.val, 0] := (by decide +kernel : ∀ t : Fin grid0.N, win0_4.index t = ![t.val, 0])
theorem pt_lt (t : Fin cfg0.N) : t.val < 64 := t.isLt

theorem md_lt (t : Fin cfg0.N) : t.val / 32 < 3 := by
  have := pt_lt t
  omega

/-- The row of the result that row `q` of point `t`'s block is. -/
def rowOf (t : Fin cfg0.N) (q : Fin 256) : Fin 16384 := ⟨t.val * 256 + q.val, by have := pt_lt t; omega⟩

theorem latent_rowOf (t : Fin cfg0.N) (q : Fin 256) :
    (latentRow (rowOf t q)).val = (t.val / 32 * 33 + 1 + t.val % 32) * 256 + q.val := by
  have := pt_lt t
  unfold latentRow rowOf
  dsimp only
  omega

theorem blk0_apply (t : Fin cfg0.N) (q : Fin 256) (l : Fin 1024) : iblk m c 0 t (ix2 q l) = g0 m c (latentRow (rowOf t q)) l := by
  have hr := latent_rowOf t q
  generalize latentRow (rowOf t q) = r at hr ⊢
  obtain ⟨r, h⟩ := r
  dsimp only at hr
  subst hr
  refine Eq.trans ?_ (congrFun (V_main_arg0 m c) _)
  have hi := idx0 t
  unfold iblk
  generalize V m c = W
  blk_ext [hi]

theorem blk1_apply (t : Fin cfg0.N) (q : Fin 256) (l : Fin 1024) : iblk m c 1 t (ix2 q l) = g1 m c (latentRow (rowOf t q)) l := by
  have hr := latent_rowOf t q
  generalize latentRow (rowOf t q) = r at hr ⊢
  obtain ⟨r, h⟩ := r
  dsimp only at hr
  subst hr
  refine Eq.trans ?_ (congrFun (V_main_arg1 m c) _)
  have hi := idx1 t
  unfold iblk
  generalize V m c = W
  blk_ext [hi]

theorem blk2_apply (t : Fin cfg0.N) (l : Fin 1024) : iblk m c 2 t (ix2 (0 : Fin 1) l) = g2 m c l := by
  have e : V m c main_v0 (ix2 (0 : Fin 1) l) = g2 m c l := by
    unfold V
    after_reads_at
  refine Eq.trans ?_ e
  have hi := idx2 t
  unfold iblk
  generalize V m c = W
  blk_ext [hi]

theorem blk3_apply (t : Fin cfg0.N) (l : Fin 1024) : iblk m c 3 t (ix3 (0 : Fin 1) (0 : Fin 1) l) = g3 m c ⟨_, md_lt t⟩ l := by
  refine Eq.trans ?_ (congrFun (V_main_arg3 m c) _)
  have hi := idx3 t
  unfold iblk
  generalize V m c = W
  blk_ext [hi]

/-- A block of the kernel's result holds the residual sum's values. -/
theorem block_eq (t : Fin cfg0.N) (q : Fin 256) (l : Fin 1024) :
    out0_4 (iblk m c 0 t) (iblk m c 1 t) (iblk m c 2 t) (iblk m c 3 t) (ix2 q l)
      = lastVal (g0 m c) (g1 m c) (g2 m c) (g3 m c) (rowOf t q) l := by
  rw [out_apply]
  unfold lastVal
  simp only [blk0_apply, blk1_apply, blk2_apply, blk3_apply]
  refine congrArg (fun z => residRow _ _ _ (g3 m c z) l) (Fin.ext ?_)
  unfold rowOf
  dsimp only
  omega

/-- The residual sum's values as an array. -/
def resultOf (x f : Fin 16896 → Fin 1024 → EReal) (g : Fin 1024 → EReal) (md : Fin 3 → Fin 1024 → EReal) :
    FVec Ideal S16384x1024 .f32 :=
  fun i => lastVal x f g md ⟨(i 0).val, (i 0).isLt⟩ ⟨(i 1).val, (i 1).isLt⟩

/-- The kernel's result array holds the residual sum's values. -/
theorem array_eq : (dats m 0 c).arrAt 4 cfg0.N = resultOf (g0 m c) (g1 m c) (g2 m c) (g3 m c) := by
  refine (dats m 0 c).arrAt_eq_of_covers 4 _ (by decide +kernel) fun t hf y => ?_
  change (dats m 0 c).flushed 4 t y = _
  have hi := idx4 t
  have f0 : ((((cfg0.win 4).blk t).view.emb y) 0).val = t.val * 256 + (y 0).val := by blk_simp [hi]
  have f1 : ((((cfg0.win 4).blk t).view.emb y) 1).val = (y 1).val := by blk_simp [hi]
  rw [Value.flushed4]
  have e := block_eq m c t ⟨(y 0).val, (y 0).isLt⟩ ⟨(y 1).val, (y 1).isLt⟩
  refine Eq.trans ?_ (e.trans ?_)
  · refine congrArg (out0_4 _ _ _ _) (funext fun a => ?_)
    match a with
    | ⟨0, _⟩ => rfl
    | ⟨1, _⟩ => rfl
  · unfold resultOf
    exact congrArg₂ (lastVal _ _ _ _) (Fin.ext f0.symm) (Fin.ext f1.symm)

end Cert.Resid.Last

end
-- ==== Proof.Resid.RefLast.lean ====
/-
  The reference's residual sum in the last layer, at an index.
-/
module

public import proofs.«01_k».proof.Proof.Resid.Data
public import proofs.«01_k».proof.Proof.Gen.Reference6Ideal.Read

@[expose] public section

set_option maxRecDepth 16384

noncomputable section

namespace Cert.Resid.Last

open Idealize.ShloMosaic Idealize.SL.Sem Cert.Reference6Ideal Cert.Reference6Ideal.Gen Cert.Reference6Ideal.Read

variable (A0 A1 : (⟨S16896x1024, .f32⟩ : BufTy).Contents (Elt Ideal)) (A2 : (⟨S1024, .f32⟩ : BufTy).Contents (Elt Ideal))
  (A3 : (⟨S3x1x1024, .f32⟩ : BufTy).Contents (Elt Ideal))

/-- The arrays' elements by their coordinates. -/
abbrev f0 (i : Fin 16896) (j : Fin 1024) : EReal := A0 (ix2 i j)
@[inherit_doc f0] abbrev f2 (i : Fin 1024) : EReal := A2 (ix1 i)
@[inherit_doc f0] abbrev f3 (i : Fin 3) (j : Fin 1024) : EReal := A3 (ix3 i (0 : Fin 1) j)

/-- The reference's result. -/
theorem ref_apply (r : Fin 16384) (l : Fin 1024) :
    val_main_v21 (F := Ideal) A0 A1 A2 A3 (ix2 r l) = lastVal (f0 A0) (f0 A1) (f2 A2) (f3 A3) r l := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.Resid.Last

end
-- ==== Proof.Ada.Data.lean ====
/-
  The modulation at an index.
-/
module

public import proofs.«01_k».proof.Proof.Moe.Data

@[expose] public section

noncomputable section

namespace Cert.Ada

open Idealize.ShloMosaic

/-- Column `j` of layer `a`'s modulation for condition `r`. -/
def adaVal (s : Fin 8 → Fin 1024 → EReal) (w : Fin 2 → Fin 1024 → Fin 6144 → EReal) (b : Fin 2 → Fin 6144 → EReal)
    (a : Fin 2) (r : Fin 8) (j : Fin 6144) : EReal :=
  ∑ k, Cert.Moe.silu (s r k) * w a k j + b a j

end Cert.Ada

end
-- ==== Proof.Ada.Kern.lean ====
/-
  The kernel's modulation: a block of its result at an index, and its result array.
-/
module

public import proofs.«01_k».proof.Proof.Ada.Data
public import proofs.«01_k».proof.Proof.Gen.Kernel7Ideal.Value
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.Ada

open Idealize.ShloMosaic Idealize.SL.Sem Cert.Kernel7Ideal Cert.Kernel7Ideal.Gen

/-- A block of the result. -/
theorem out_apply (x0 : Vec Ideal S8x1024 .f32) (x1 : Vec Ideal S1x1024x1536 .f32) (x2 : Vec Ideal S1x1x1536 .f32)
    (r : Fin 8) (j : Fin 1536) :
    out0_3 x0 x1 x2 (ix3 (0 : Fin 1) r j)
      = ∑ k : Fin 1024, Cert.Moe.silu (x0 (ix2 r k)) * x1 (ix3 (0 : Fin 1) k j) + x2 (ix3 (0 : Fin 1) (0 : Fin 1) j) := by
  frame_out [out0_3]
  pointwise [k0_pay1]
  rfl

variable (m : (ℓ : Loc nD τ sig) → Buf (Elt Ideal) ℓ) (c : Dev nD)

/-- The arguments' elements by their coordinates. -/
abbrev g0 (i : Fin 8) (k : Fin 1024) : EReal := m (c, Proc.tc.devRef main_arg0) (ix2 i k)
@[inherit_doc g0] abbrev g1 (a : Fin 2) (k : Fin 1024) (j : Fin 6144) : EReal := m (c, Proc.tc.devRef main_arg1) (ix3 a k j)
@[inherit_doc g0] abbrev g2 (a : Fin 2) (j : Fin 6144) : EReal := m (c, Proc.tc.devRef main_arg2) (ix2 a j)

theorem idx0 : ∀ t : Fin cfg0.N, win0_0.index t = ![0, 0] := (by decide +kernel : ∀ t : Fin grid0.N, win0_0.index t = ![0, 0])
theorem idx1 : ∀ t : Fin cfg0.N, win0_1.index t = ![t.val / 4, 0, t.val % 4] :=
  (by decide +kernel : ∀ t : Fin grid0.N, win0_1.index t = ![t.val / 4, 0, t.val % 4])
theorem idx2 : ∀ t : Fin cfg0.N, win0_2.index t = ![t.val / 4, 0, t.val % 4] :=
  (by decide +kernel : ∀ t : Fin grid0.N, win0_2.index t = ![t.val / 4, 0, t.val % 4])
theorem idx3 : ∀ t : Fin cfg0.N, win0_3.index t = ![t.val / 4, 0, t.val % 4] :=
  (by decide +kernel : ∀ t : Fin grid0.N, win0_3.index t = ![t.val / 4, 0, t.val % 4])
theorem pt_lt (t : Fin cfg0.N) : t.val < 8 := t.isLt

/-- The layer and the column that a point's block and its column `j` are. -/
def layerOf (t : Fin cfg0.N) : Fin 2 := ⟨t.val / 4, by have := pt_lt t; omega⟩
@[inherit_doc layerOf] def colOf (t : Fin cfg0.N) (j : Fin 1536) : Fin 6144 := ⟨t.val % 4 * 1536 + j.val, by omega⟩

theorem blk0_apply (t : Fin cfg0.N) (r : Fin 8) (k : Fin 1024) : iblk m c 0 t (ix2 r k) = g0 m c r k := by
  refine Eq.trans ?_ (congrFun (V_main_arg0 m c) _)
  have hi := idx0 t
  unfold iblk
  generalize V m c = W
  blk_ext [hi]

theorem blk1_apply (t : Fin cfg0.N) (k : Fin 1024) (j : Fin 1536) :
    iblk m c 1 t (ix3 (0 : Fin 1) k j) = g1 m c (layerOf t) k (colOf t j) := by
  refine Eq.trans ?_ (congrFun (V_main_arg1 m c) _)
  have hi := idx1 t
  unfold iblk layerOf colOf
  generalize V m c = W
  blk_ext [hi]

theorem blk2_apply (t : Fin cfg0.N) (j : Fin 1536) :
    iblk m c 2 t (ix3 (0 : Fin 1) (0 : Fin 1) j) = g2 m c (layerOf t) (colOf t j) := by
  have e : V m c main_v0 (ix3 (layerOf t) (0 : Fin 1) (colOf t j)) = g2 m c (layerOf t) (colOf t j) := by
    unfold V
    after_reads_at
  refine Eq.trans ?_ e
  have hi := idx2 t
  unfold iblk layerOf colOf
  generalize V m c = W
  blk_ext [hi]

/-- A block of the kernel's result holds the modulation's values. -/
theorem block_eq (t : Fin cfg0.N) (r : Fin 8) (j : Fin 1536) :
    out0_3 (iblk m c 0 t) (iblk m c 1 t) (iblk m c 2 t) (ix3 (0 : Fin 1) r j)
      = adaVal (g0 m c) (g1 m c) (g2 m c) (layerOf t) r (colOf t j) := by
  rw [out_apply]
  unfold adaVal
  simp only [blk0_apply, blk1_apply, blk2_apply]

/-- The modulation's values as an array. -/
def resultOf (s : Fin 8 → Fin 1024 → EReal) (w : Fin 2 → Fin 1024 → Fin 6144 → EReal) (b : Fin 2 → Fin 6144 → EReal) :
    FVec Ideal S2x8x6144 .f32 :=
  fun i => adaVal s w b ⟨(i 0).val, (i 0).isLt⟩ ⟨(i 1).val, (i 1).isLt⟩ ⟨(i 2).val, (i 2).isLt⟩

/-- The kernel's result array holds the modulation's values. -/
theorem array_eq : (dats m 0 c).arrAt 3 cfg0.N = resultOf (g0 m c) (g1 m c) (g2 m c) := by
  refine (dats m 0 c).arrAt_eq_of_covers 3 _ (by decide +kernel) fun t hf y => ?_
  change (dats m 0 c).flushed 3 t y = _
  have hi := idx3 t
  have y0 : (y 0).val = 0 := Nat.lt_one_iff.mp (y 0).isLt
  have f0 : ((((cfg0.win 3).blk t).view.emb y) 0).val = t.val / 4 + (y 0).val := by blk_simp [hi]
  have f1 : ((((cfg0.win 3).blk t).view.emb y) 1).val = (y 1).val := by blk_simp [hi]
  have f2 : ((((cfg0.win 3).blk t).view.emb y) 2).val = t.val % 4 * 1536 + (y 2).val := by blk_simp [hi]
  rw [Value.flushed3]
  have e := block_eq m c t ⟨(y 1).val, (y 1).isLt⟩ ⟨(y 2).val, (y 2).isLt⟩
  refine Eq.trans ?_ (e.trans ?_)
  · refine congrArg (out0_3 _ _ _) (funext fun a => ?_)
    match a with
    | ⟨0, _⟩ => exact Fin.ext y0
    | ⟨1, _⟩ => rfl
    | ⟨2, _⟩ => rfl
  · unfold resultOf
    rw [y0, Nat.add_zero] at f0
    rw [(Fin.ext f0 : (⟨_, ((((cfg0.win 3).blk t).view.emb y) 0).isLt⟩ : Fin 2) = layerOf t)]
    exact congrArg₂ (adaVal _ _ _ _) (Fin.ext f1.symm) (Fin.ext f2.symm)

end Cert.Ada

end
-- ==== Proof.Ada.Ref.lean ====
/-
  The reference's modulation at an index.
-/
module

public import proofs.«01_k».proof.Proof.Ada.Data
public import proofs.«01_k».proof.Proof.Gen.Reference7Ideal.Read

@[expose] public section

set_option maxRecDepth 16384

noncomputable section

namespace Cert.Ada

open Idealize.ShloMosaic Idealize.SL.Sem Cert.Reference7Ideal Cert.Reference7Ideal.Gen Cert.Reference7Ideal.Read

variable (A0 : (⟨S8x1024, .f32⟩ : BufTy).Contents (Elt Ideal)) (A1 : (⟨S2x1024x6144, .f32⟩ : BufTy).Contents (Elt Ideal))
  (A2 : (⟨S2x6144, .f32⟩ : BufTy).Contents (Elt Ideal))

/-- The arrays' elements by their coordinates. -/
abbrev f0 (i : Fin 8) (k : Fin 1024) : EReal := A0 (ix2 i k)
@[inherit_doc f0] abbrev f1 (a : Fin 2) (k : Fin 1024) (j : Fin 6144) : EReal := A1 (ix3 a k j)
@[inherit_doc f0] abbrev f2 (a : Fin 2) (j : Fin 6144) : EReal := A2 (ix2 a j)

/-- The first layer's modulation. -/
theorem first_apply (r : Fin 8) (j : Fin 6144) :
    val_main_v8 (F := Ideal) A0 A1 A2 (ix2 r j) = adaVal (f0 A0) (f1 A1) (f2 A2) 0 r j := by
  pointwise [val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0]
  rfl

/-- The second layer's modulation. -/
theorem second_apply (r : Fin 8) (j : Fin 6144) :
    val_main_v16 (F := Ideal) A0 A1 A2 (ix2 r j) = adaVal (f0 A0) (f1 A1) (f2 A2) 1 r j := by
  pointwise [val_main_v16, val_main_v15, val_main_v14, val_main_v13, val_main_v12, val_main_v11, val_main_v10, val_main_v9, val_main_v0, val_main_call0_v5, val_main_call0_v4, val_main_call0_v3, val_main_call0_v2, val_main_call0_v1, val_main_call0_v0, val_main_call0_cst, val_main_call0_cst_0]
  rfl

/-- The reference's result. -/
theorem ref_apply (a : Fin 2) (r : Fin 8) (j : Fin 6144) :
    val_main_v19 (F := Ideal) A0 A1 A2 (ix3 a r j) = adaVal (f0 A0) (f1 A1) (f2 A2) a r j := by
  fin_cases a
  · pointwise [val_main_v19, val_main_v18, val_main_v17]
    exact first_apply A0 A1 A2 r j
  · pointwise [val_main_v19, val_main_v18, val_main_v17]
    exact second_apply A0 A1 A2 r j

end Cert.Ada

end
-- ==== Proof.DA.Second.Data.lean ====
/-
  The second layer. The attention's result at an index, twice: from the sums over the keys seen that the kernel keeps, and from the two softmaxes
  of the reference. The two are equal when the values and the factor lambda are real.
-/
module

public import proofs.«01_k».proof.Proof.DA.Math

@[expose] public section

noncomputable section

namespace Cert.DA.Second

open Idealize.ShloMosaic

/-- Pairs with equal coordinates are equal. -/
theorem ix2_congr {n k : ℕ} {a a' : Fin n} {b b' : Fin k} (h : a.val = a'.val) (h' : b.val = b'.val) : ix2 a b = ix2 a' b' := by
  rw [Fin.ext h, Fin.ext h']

/-- The row of position `n` of sequence `b`. -/
def row (b : Fin 2) (n : Fin 8448) : Fin 16896 := ⟨b.val * 8448 + n.val, by omega⟩

/-- The column of component `l` of map `e` of head `h`. -/
def lane (h : Fin 4) (e : Fin 2) (l : Fin 32) : Fin 256 := ⟨h.val * 64 + e.val * 32 + l.val, by omega⟩

/-- The column of component `d` of head `h`. -/
def col (h : Fin 4) (d : Fin 64) : Fin 256 := ⟨h.val * 64 + d.val, by omega⟩

/-- How many keys query `n` sees. -/
def keys (n : Fin 8448) : ℕ := if n.val < 256 then 256 else 8448

section

variable (a0 : Fin 4 → Fin 32 → EReal) (a1 : Fin 16896 → Fin 1024 → EReal) (a2 : Fin 16896 → Fin 256 → EReal) (a3 : Fin 64 → EReal)

/-- The product of query `n` and key `k` in map `e` of head `h`. -/
def dotp (b : Fin 2) (h : Fin 4) (e : Fin 2) (n : Fin 8448) (k : ℕ) : EReal :=
  if hk : k < 8448 then
    ∑ l : Fin 32, a1 (row b n) ⟨(lane h e l).val, by have := (lane h e l).isLt; omega⟩
      * a1 (row b ⟨k, hk⟩) ⟨256 + (lane h e l).val, by have := (lane h e l).isLt; omega⟩
  else 0

/-- Component `d` of value `k` of head `h`. -/
def vvec (b : Fin 2) (h : Fin 4) (d : Fin 64) (k : ℕ) : EReal :=
  if hk : k < 8448 then a2 (row b ⟨k, hk⟩) (col h d) else 0

/-- The factor of the second softmax. -/
def lamOf : EReal :=
  Ideal.exp (∑ x, a0 0 x * a0 1 x) - Ideal.exp (∑ x, a0 2 x * a0 3 x) + Ideal.ofBits .f32 1052116297#32

/-- The reference's factor of the products. -/
def rr : EReal := Ideal.div 1 (Ideal.sqrt (Ideal.ofBits .f32 1107296256#32))

/-- The greatest of the first `K` logits. -/
def mx (x : ℕ → EReal) (K : ℕ) : EReal :=
  max (Ideal.ofBits .f32 4286578688#32)
    (Finset.fold max (Ideal.ofBits .f32 4286578688#32) (fun j : Fin K => x j.val) Finset.univ)

/-- The softmax of the first `K` logits. -/
def sm (x : ℕ → EReal) (K : ℕ) (k : ℕ) : EReal :=
  Ideal.div (Ideal.exp (x k - mx x K)) (∑ j : Fin K, Ideal.exp (x j.val - mx x K))

/-- The difference of the two softmaxes, applied to the values. -/
def attn (b : Fin 2) (n : Fin 8448) (h : Fin 4) (K : ℕ) (d : Fin 64) : EReal :=
  ∑ k : Fin K, vvec a2 b h d k.val
    * (sm (fun k => dotp a1 b h 0 n k * rr) K k.val - lamOf a0 * sm (fun k => dotp a1 b h 1 n k * rr) K k.val)

/-- The reference's result at an index, for a query that sees the first `K` keys. -/
def refVal (b : Fin 2) (n : Fin 8448) (h : Fin 4) (K : ℕ) (d : Fin 64) : EReal :=
  nrm (Ideal.ofBits .f32 1115684864#32) (Ideal.ofBits .f32 897988541#32) (attn a0 a1 a2 b n h K) d * a3 d
    * Ideal.ofBits .f32 1059388764#32

end

theorem negInf : Ideal.ofBits .f32 4286578688#32 = ⊥ := by simp [Ideal.ofBits, Ideal.ieee]

theorem le_mx (x : ℕ → EReal) (K k : ℕ) (hk : k < K) : x k ≤ mx x K := by
  unfold mx
  rw [negInf]
  exact le_max_of_le_right (le_fold_max Finset.univ (fun j : Fin K => x j.val) ⟨k, hk⟩ (Finset.mem_univ _))

theorem mx_mem (x : ℕ → EReal) (K : ℕ) : mx x K = ⊥ ∨ ∃ k < K, mx x K = x k := by
  unfold mx
  rw [negInf]
  rw [max_eq_right bot_le]
  rcases fold_max_mem Finset.univ (fun j : Fin K => x j.val) with h | ⟨k, _, h⟩
  · exact Or.inl h
  · exact Or.inr ⟨k.val, k.isLt, h⟩

/-- A softmax's weight, from the real weights. -/
theorem sm_eq (x : ℕ → EReal) (K k : ℕ) (hk : k < K) :
    sm x K k = Ideal.div ((we (x k) (mx x K) : ℝ) : EReal) ((∑ j : Fin K, we (x j.val) (mx x K) : ℝ) : EReal) := by
  unfold sm
  rw [exp_sub_eq _ _ (le_mx x K k hk), coe_sum]
  refine congrArg _ (Finset.sum_congr rfl fun j _ => ?_)
  exact exp_sub_eq _ _ (le_mx x K j.val j.isLt)

/-- The kernel's normalised difference of quotients is the reference's normalised weighted sum. -/
theorem heads_eq (C : ℝ) (hC : 0 < C) (E : EReal) (hE : E ≠ ⊥) (lam : ℝ) (s r b1 : ℝ) (hs : 0 < s) (hr : r = s * Real.log 2)
    (t1 t2 y1 y2 : ℕ → EReal) (vs : Fin 64 → ℕ → ℝ) (one1 one2 : ℕ → ℝ) (va : Fin 64 → ℕ → EReal) (vs' : Fin 64 → ℕ → ℝ) (K : ℕ)
    (hy1 : ∀ k < K, y1 k = ↑s * t1 k) (hy2 : ∀ k < K, y2 k = ↑s * t2 k)
    (ho1 : ∀ k < K, one1 k = 1) (ho2 : ∀ k < K, one2 k = 1)
    (hv : ∀ d, ∀ k < K, va d k = ((vs d k : ℝ) : EReal)) (hv' : ∀ d, ∀ k < K, vs' d k = vs d k)
    (M1 M2 : EReal) (h1 : Seen b1 y1 K M1) (h2 : Seen b1 y2 K M2) (d : Fin 64) :
    nrm ((C : ℝ) : EReal) E (fun d => Ideal.div ((wsum y1 (vs d) K M1 : ℝ) : EReal) ((wsum y1 one1 K M1 : ℝ) : EReal)
        - ((lam : ℝ) : EReal) * Ideal.div ((wsum y2 (vs' d) K M2 : ℝ) : EReal) ((wsum y2 one2 K M2 : ℝ) : EReal)) d
      = nrm ((C : ℝ) : EReal) E (fun d => ∑ k : Fin K, va d k.val
          * (sm (fun k => t1 k * ↑r) K k.val - ((lam : ℝ) : EReal) * sm (fun k => t2 k * ↑r) K k.val)) d := by
  have seen : ∀ (t y : ℕ → EReal) (M : EReal), (∀ k < K, y k = ↑s * t k) → Seen b1 y K M → Seen b1 (fun k => ↑s * t k) K M := by
    intro t y M hy h
    refine ⟨h.1, fun k hk => (hy k hk).symm.le.trans (h.2.1 k hk), ?_⟩
    rcases h.2.2 with h | ⟨k, hk, h⟩
    · exact Or.inl h
    · exact Or.inr ⟨k, hk, h.trans (hy k hk)⟩
  obtain ⟨c1, hc1, e1⟩ := wt_prop t1 K s r hs hr M1 (mx (fun k => t1 k * ↑r) K) (seen t1 y1 M1 hy1 h1)
    (fun k hk => le_mx (fun k => t1 k * ↑r) K k hk) (mx_mem (fun k => t1 k * ↑r) K)
  obtain ⟨c2, hc2, e2⟩ := wt_prop t2 K s r hs hr M2 (mx (fun k => t2 k * ↑r) K) (seen t2 y2 M2 hy2 h2)
    (fun k hk => le_mx (fun k => t2 k * ↑r) K k hk) (mx_mem (fun k => t2 k * ↑r) K)
  have num : ∀ (y t : ℕ → EReal) (M : EReal) (f g : ℕ → ℝ), (∀ k < K, y k = ↑s * t k) → (∀ k < K, f k = g k) →
      wsum y f K M = ∑ k : Fin K, wt (↑s * t k.val) M * g k.val := by
    intro y t M f g hy hf
    unfold wsum
    rw [← Fin.sum_univ_eq_sum_range (fun k => wt (y k) M * f k) K]
    exact Finset.sum_congr rfl fun k _ => by rw [hy k.val k.isLt, hf k.val k.isLt]
  have key := diff_nrm C hC E hE lam (fun k : Fin K => we (t1 k.val * ↑r) (mx (fun k => t1 k * ↑r) K))
    (fun k : Fin K => we (t2 k.val * ↑r) (mx (fun k => t2 k * ↑r) K))
    (fun k : Fin K => wt (↑s * t1 k.val) M1) (fun k : Fin K => wt (↑s * t2 k.val) M2) c1 c2 hc1 hc2
    (fun k => e1 k.val k.isLt) (fun k => e2 k.val k.isLt) (fun k => we_nonneg _ _) (fun k => we_nonneg _ _)
    (fun k d => vs d k.val) d
  have lhs : (fun d : Fin 64 => Ideal.div ((wsum y1 (vs d) K M1 : ℝ) : EReal) ((wsum y1 one1 K M1 : ℝ) : EReal)
        - ((lam : ℝ) : EReal) * Ideal.div ((wsum y2 (vs' d) K M2 : ℝ) : EReal) ((wsum y2 one2 K M2 : ℝ) : EReal))
      = fun d => Ideal.div ((∑ k : Fin K, wt (↑s * t1 k.val) M1 * vs d k.val : ℝ) : EReal) ((∑ k : Fin K, wt (↑s * t1 k.val) M1 : ℝ) : EReal)
        - ((lam : ℝ) : EReal) * Ideal.div ((∑ k : Fin K, wt (↑s * t2 k.val) M2 * vs d k.val : ℝ) : EReal) ((∑ k : Fin K, wt (↑s * t2 k.val) M2 : ℝ) : EReal) := by
    funext d
    rw [num y1 t1 M1 (vs d) (vs d) hy1 (fun _ _ => rfl), num y1 t1 M1 one1 (fun _ => 1) hy1 ho1,
      num y2 t2 M2 (vs' d) (vs d) hy2 (hv' d), num y2 t2 M2 one2 (fun _ => 1) hy2 ho2]
    simp only [mul_one]
  rw [lhs, key]
  refine congrArg (fun f => nrm ((C : ℝ) : EReal) E f d) (funext fun d => Finset.sum_congr rfl fun k _ => ?_)
  rw [hv d k.val k.isLt, sm_eq _ K k.val k.isLt, sm_eq _ K k.val k.isLt, mul_comm]

end Cert.DA.Second

end
-- ==== Proof.DA.Second.Ref.lean ====
/-
  The second layer. The reference's result read at an index.
-/
module

public import proofs.«01_k».proof.Proof.Gen.Reference8Ideal.Read
public import proofs.«01_k».proof.Proof.DA.Second.Data

@[expose] public section

set_option maxRecDepth 16384

noncomputable section

namespace Cert.DA.Second

open Idealize.ShloMosaic Idealize.SL.Sem Cert.Reference8Ideal Cert.Reference8Ideal.Gen Cert.Reference8Ideal.Read

variable (A0 : (⟨S4x32, .f32⟩ : BufTy).Contents (Elt Ideal)) (A1 : (⟨S16896x1024, .f32⟩ : BufTy).Contents (Elt Ideal))
  (A2 : (⟨S16896x256, .f32⟩ : BufTy).Contents (Elt Ideal)) (A3 : (⟨S64, .f32⟩ : BufTy).Contents (Elt Ideal))

/-- The arrays' elements by their coordinates. -/
abbrev f0 (i : Fin 4) (j : Fin 32) : EReal := A0 (ix2 i j)
@[inherit_doc f0] abbrev f1 (i : Fin 16896) (j : Fin 1024) : EReal := A1 (ix2 i j)
@[inherit_doc f0] abbrev f2 (i : Fin 16896) (j : Fin 256) : EReal := A2 (ix2 i j)
@[inherit_doc f0] abbrev f3 (i : Fin 64) : EReal := A3 (ix1 i)

/-- The logits of the first 256 queries, first map. -/
theorem x32 (b : Fin 2) (h : Fin 4) (q k : Fin 256) :
    val_main_v32 (F := Ideal) A1 (ix4 b h q k) = dotp (f1 A1) b h 0 ⟨q.val, by omega⟩ k.val * rr := by
  pointwise [val_main_v32, val_main_v31, val_main_v30, val_main_v29, val_main_v28, val_main_v27, val_main_v26, val_main_v25,
    val_main_v24, val_main_v22, val_main_v21, val_main_v3, val_main_v2, val_main_v1, val_main_v0, val_main_cst_2, val_main_cst_3]
  unfold dotp rr
  rw [dif_pos (show k.val < 8448 by omega)]
  refine congrArg (· * _) (Finset.sum_congr rfl fun l _ => congrArg₂ (· * ·) (congrArg A1 (ix2_congr rfl ?_)) (congrArg A1 (ix2_congr rfl ?_)))
  · exact (by omega : h.val * 64 + l.val = h.val * 64 + 0 * 32 + l.val)
  · exact congrArg (256 + ·) (by omega : h.val * 64 + l.val = h.val * 64 + 0 * 32 + l.val)

/-- The logits of the first 256 queries, second map. -/
theorem x39 (b : Fin 2) (h : Fin 4) (q k : Fin 256) :
    val_main_v39 (F := Ideal) A1 (ix4 b h q k) = dotp (f1 A1) b h 1 ⟨q.val, by omega⟩ k.val * rr := by
  pointwise [val_main_v39, val_main_v38, val_main_v37, val_main_v36, val_main_v35, val_main_v34, val_main_v33, val_main_v25,
    val_main_v24, val_main_v22, val_main_v21, val_main_v3, val_main_v2, val_main_v1, val_main_v0, val_main_cst_2, val_main_cst_3]
  unfold dotp rr
  rw [dif_pos (show k.val < 8448 by omega)]
  refine congrArg (· * _) (Finset.sum_congr rfl fun l _ => congrArg₂ (· * ·) (congrArg A1 (ix2_congr rfl ?_)) (congrArg A1 (ix2_congr rfl ?_)))
  · exact (by omega : h.val * 64 + 32 + l.val = h.val * 64 + 1 * 32 + l.val)
  · exact congrArg (256 + ·) (by omega : h.val * 64 + 32 + l.val = h.val * 64 + 1 * 32 + l.val)

/-- The logits of the later queries, first map. -/
theorem x76 (b : Fin 2) (h : Fin 4) (q : Fin 8192) (k : Fin 8448) :
    val_main_v76 (F := Ideal) A1 (ix4 b h q k) = dotp (f1 A1) b h 0 ⟨256 + q.val, by omega⟩ k.val * rr := by
  pointwise [val_main_v76, val_main_v75, val_main_v74, val_main_v73, val_main_v72, val_main_v71, val_main_v70, val_main_v69,
    val_main_v68, val_main_v67, val_main_v3, val_main_v2, val_main_v1, val_main_v0, val_main_cst_10, val_main_cst_11]
  unfold dotp rr
  rw [dif_pos (show k.val < 8448 by omega)]
  refine congrArg (· * _) (Finset.sum_congr rfl fun l _ => congrArg₂ (· * ·) (congrArg A1 (ix2_congr rfl ?_)) (congrArg A1 (ix2_congr rfl ?_)))
  · exact (by omega : h.val * 64 + l.val = h.val * 64 + 0 * 32 + l.val)
  · exact congrArg (256 + ·) (by omega : h.val * 64 + l.val = h.val * 64 + 0 * 32 + l.val)

/-- The logits of the later queries, second map. -/
theorem x83 (b : Fin 2) (h : Fin 4) (q : Fin 8192) (k : Fin 8448) :
    val_main_v83 (F := Ideal) A1 (ix4 b h q k) = dotp (f1 A1) b h 1 ⟨256 + q.val, by omega⟩ k.val * rr := by
  pointwise [val_main_v83, val_main_v82, val_main_v81, val_main_v80, val_main_v79, val_main_v78, val_main_v77, val_main_v69,
    val_main_v68, val_main_v67, val_main_v3, val_main_v2, val_main_v1, val_main_v0, val_main_cst_10, val_main_cst_11]
  unfold dotp rr
  rw [dif_pos (show k.val < 8448 by omega)]
  refine congrArg (· * _) (Finset.sum_congr rfl fun l _ => congrArg₂ (· * ·) (congrArg A1 (ix2_congr rfl ?_)) (congrArg A1 (ix2_congr rfl ?_)))
  · exact (by omega : h.val * 64 + 32 + l.val = h.val * 64 + 1 * 32 + l.val)
  · exact congrArg (256 + ·) (by omega : h.val * 64 + 32 + l.val = h.val * 64 + 1 * 32 + l.val)

/-- A fold of the maximum over the logits, written with a named starting value. -/
theorem mx_of (K : ℕ) (w : EReal) (hw : w = Ideal.ofBits .f32 4286578688#32) (x : ℕ → EReal) (f : Fin K → EReal)
    (hf : f = fun k : Fin K => x k.val) : max w (Finset.univ.fold max w f) = mx x K := by
  rw [hw, hf]
  rfl

/-- The greatest logit of each of the first 256 queries. -/
def topA (y : FVec Ideal S2x4x256x256 .f32) : FVec Ideal S2x4x256 .f32 :=
  maximumf (broadcastInDim S2x4x256 ![] bcast_S_S2x4x256 (constant S_ .f32 0xFF800000#32))
    (Host.reduce FloatOps.maximumf y (constant S_ .f32 0xFF800000#32) reducesTo_S2x4x256x256_S2x4x256_d3 h_S_)

/-- The exponentials of the logits of the first 256 queries, less the greatest. -/
def exA (y : FVec Ideal S2x4x256x256 .f32) : FVec Ideal S2x4x256x256 .f32 :=
  Host.exp (subf y (broadcastInDim S2x4x256x256 ![0, 1, 2, 3] bcast_S2x4x256x1_S2x4x256x256_0_1_2_3
    (broadcastInDim S2x4x256x1 ![0, 1, 2] bcast_S2x4x256_S2x4x256x1_0_1_2 (topA y))))

/-- The softmax of the first 256 queries. -/
def softA (y : FVec Ideal S2x4x256x256 .f32) : FVec Ideal S2x4x256x256 .f32 :=
  Host.divf (exA y) (broadcastInDim S2x4x256x256 ![0, 1, 2, 3] bcast_S2x4x256x1_S2x4x256x256_0_1_2_3
    (broadcastInDim S2x4x256x1 ![0, 1, 2] bcast_S2x4x256_S2x4x256x1_0_1_2
      (Host.reduceAdd (exA y) (constant S_ .f32 0x00000000#32) reducesTo_S2x4x256x256_S2x4x256_d3 h_S_)))

theorem foldA_apply (y : FVec Ideal S2x4x256x256 .f32) (z : FVec Ideal S_ .f32) (b : Fin 2) (h : Fin 4) (q : Fin 256) :
    Host.reduce FloatOps.maximumf y z reducesTo_S2x4x256x256_S2x4x256_d3 h_S_ (ix3 b h q)
      = Finset.univ.fold max (z (Shape.Idx.first h_S_)) fun k : Fin 256 => y (ix4 b h q k) := by
  simp only [pointwise]

theorem lowA_apply (z : FVec Ideal S2x4x256 .f32) (b : Fin 2) (h : Fin 4) (q : Fin 256) :
    maximumf (broadcastInDim S2x4x256 ![] bcast_S_S2x4x256 (constant S_ .f32 0xFF800000#32)) z (ix3 b h q)
      = max (Ideal.ofBits .f32 4286578688#32) (z (ix3 b h q)) := by pointwise []

theorem maxA_apply (y : FVec Ideal S2x4x256x256 .f32) (b : Fin 2) (h : Fin 4) (q : Fin 256) (x : ℕ → EReal) (u : EReal)
    (hu : u = Ideal.ofBits .f32 4286578688#32) (hx : ∀ k : Fin 256, y (ix4 b h q k) = x k.val) :
    max u ((Host.reduce FloatOps.maximumf y (constant S_ .f32 0xFF800000#32 : FVec Ideal S_ .f32)
      reducesTo_S2x4x256x256_S2x4x256_d3 h_S_ : FVec Ideal S2x4x256 .f32) (ix3 b h q)) = mx x 256 := by
  have hc : (constant S_ .f32 0xFF800000#32 : FVec Ideal S_ .f32) (Shape.Idx.first h_S_) = Ideal.ofBits .f32 4286578688#32 := rfl
  rw [foldA_apply y (constant S_ .f32 0xFF800000#32) b h q, hc, ← hu]
  exact mx_of _ _ hu x _ (funext hx)

theorem topA_apply (y : FVec Ideal S2x4x256x256 .f32) (b : Fin 2) (h : Fin 4) (q : Fin 256) (x : ℕ → EReal)
    (hx : ∀ k : Fin 256, y (ix4 b h q k) = x k.val) : topA y (ix3 b h q) = mx x 256 := by
  unfold topA
  exact (lowA_apply _ b h q).trans (maxA_apply y b h q x _ rfl hx)

theorem exA_apply (y : FVec Ideal S2x4x256x256 .f32) (b : Fin 2) (h : Fin 4) (q : Fin 256) (x : ℕ → EReal)
    (hx : ∀ k : Fin 256, y (ix4 b h q k) = x k.val) (k : Fin 256) : exA y (ix4 b h q k) = Ideal.exp (x k.val - mx x 256) := by
  have e := topA_apply y b h q x hx
  unfold exA
  generalize topA y = z at e ⊢
  pointwise []
  rw [e, hx]

/-- The softmax of the first 256 queries, at an index. -/
theorem softA_apply (y : FVec Ideal S2x4x256x256 .f32) (b : Fin 2) (h : Fin 4) (q : Fin 256) (x : ℕ → EReal)
    (hx : ∀ k : Fin 256, y (ix4 b h q k) = x k.val) (k : Fin 256) : softA y (ix4 b h q k) = sm x 256 k.val := by
  have e := exA_apply y b h q x hx
  unfold softA sm
  generalize exA y = z at e ⊢
  pointwise []
  simp only [e]

/-- The greatest logit of each of the later queries. -/
def topB (y : FVec Ideal S2x4x8192x8448 .f32) : FVec Ideal S2x4x8192 .f32 :=
  maximumf (broadcastInDim S2x4x8192 ![] bcast_S_S2x4x8192 (constant S_ .f32 0xFF800000#32))
    (Host.reduce FloatOps.maximumf y (constant S_ .f32 0xFF800000#32) reducesTo_S2x4x8192x8448_S2x4x8192_d3 h_S_)

/-- The exponentials of the logits of the later queries, less the greatest. -/
def exB (y : FVec Ideal S2x4x8192x8448 .f32) : FVec Ideal S2x4x8192x8448 .f32 :=
  Host.exp (subf y (broadcastInDim S2x4x8192x8448 ![0, 1, 2, 3] bcast_S2x4x8192x1_S2x4x8192x8448_0_1_2_3
    (broadcastInDim S2x4x8192x1 ![0, 1, 2] bcast_S2x4x8192_S2x4x8192x1_0_1_2 (topB y))))

/-- The softmax of the later queries. -/
def softB (y : FVec Ideal S2x4x8192x8448 .f32) : FVec Ideal S2x4x8192x8448 .f32 :=
  Host.divf (exB y) (broadcastInDim S2x4x8192x8448 ![0, 1, 2, 3] bcast_S2x4x8192x1_S2x4x8192x8448_0_1_2_3
    (broadcastInDim S2x4x8192x1 ![0, 1, 2] bcast_S2x4x8192_S2x4x8192x1_0_1_2
      (Host.reduceAdd (exB y) (constant S_ .f32 0x00000000#32) reducesTo_S2x4x8192x8448_S2x4x8192_d3 h_S_)))

theorem foldB_apply (y : FVec Ideal S2x4x8192x8448 .f32) (z : FVec Ideal S_ .f32) (b : Fin 2) (h : Fin 4) (q : Fin 8192) :
    Host.reduce FloatOps.maximumf y z reducesTo_S2x4x8192x8448_S2x4x8192_d3 h_S_ (ix3 b h q)
      = Finset.univ.fold max (z (Shape.Idx.first h_S_)) fun k : Fin 8448 => y (ix4 b h q k) := by
  simp only [pointwise]

theorem lowB_apply (z : FVec Ideal S2x4x8192 .f32) (b : Fin 2) (h : Fin 4) (q : Fin 8192) :
    maximumf (broadcastInDim S2x4x8192 ![] bcast_S_S2x4x8192 (constant S_ .f32 0xFF800000#32)) z (ix3 b h q)
      = max (Ideal.ofBits .f32 4286578688#32) (z (ix3 b h q)) := by pointwise []

theorem maxB_apply (y : FVec Ideal S2x4x8192x8448 .f32) (b : Fin 2) (h : Fin 4) (q : Fin 8192) (x : ℕ → EReal) (u : EReal)
    (hu : u = Ideal.ofBits .f32 4286578688#32) (hx : ∀ k : Fin 8448, y (ix4 b h q k) = x k.val) :
    max u ((Host.reduce FloatOps.maximumf y (constant S_ .f32 0xFF800000#32 : FVec Ideal S_ .f32)
      reducesTo_S2x4x8192x8448_S2x4x8192_d3 h_S_ : FVec Ideal S2x4x8192 .f32) (ix3 b h q)) = mx x 8448 := by
  have hc : (constant S_ .f32 0xFF800000#32 : FVec Ideal S_ .f32) (Shape.Idx.first h_S_) = Ideal.ofBits .f32 4286578688#32 := rfl
  rw [foldB_apply y (constant S_ .f32 0xFF800000#32) b h q, hc, ← hu]
  exact mx_of _ _ hu x _ (funext hx)

theorem topB_apply (y : FVec Ideal S2x4x8192x8448 .f32) (b : Fin 2) (h : Fin 4) (q : Fin 8192) (x : ℕ → EReal)
    (hx : ∀ k : Fin 8448, y (ix4 b h q k) = x k.val) : topB y (ix3 b h q) = mx x 8448 := by
  unfold topB
  exact (lowB_apply _ b h q).trans (maxB_apply y b h q x _ rfl hx)

theorem exB_apply (y : FVec Ideal S2x4x8192x8448 .f32) (b : Fin 2) (h : Fin 4) (q : Fin 8192) (x : ℕ → EReal)
    (hx : ∀ k : Fin 8448, y (ix4 b h q k) = x k.val) (k : Fin 8448) : exB y (ix4 b h q k) = Ideal.exp (x k.val - mx x 8448) := by
  have e := topB_apply y b h q x hx
  unfold exB
  generalize topB y = z at e ⊢
  pointwise []
  rw [e, hx]

/-- The softmax of the later queries, at an index. -/
theorem softB_apply (y : FVec Ideal S2x4x8192x8448 .f32) (b : Fin 2) (h : Fin 4) (q : Fin 8192) (x : ℕ → EReal)
    (hx : ∀ k : Fin 8448, y (ix4 b h q k) = x k.val) (k : Fin 8448) : softB y (ix4 b h q k) = sm x 8448 k.val := by
  have e := exB_apply y b h q x hx
  unfold softB sm
  generalize exB y = z at e ⊢
  pointwise []
  simp only [e]

/-- The softmax of the first 256 queries, first map. -/
theorem x50 (b : Fin 2) (h : Fin 4) (q : Fin 256) (k : Fin 256) :
    val_main_v50 (F := Ideal) A1 (ix4 b h q k) = sm (fun k => dotp (f1 A1) b h 0 ⟨q.val, by omega⟩ k * rr) 256 k.val := by
  have e : val_main_v50 (F := Ideal) A1 = softA (val_main_v32 (F := Ideal) A1) := by
    unfold val_main_v50 val_main_v49 val_main_v48 val_main_v47 val_main_v46 val_main_v45 val_main_v44 val_main_v43 val_main_v42 val_main_v41 val_main_v40 val_main_cst_4 val_main_cst_5 val_main_cst_6 softA exA topA
    rfl
  rw [e]
  exact softA_apply _ b h q _ (x32 A1 b h q) k

/-- The softmax of the first 256 queries, second map. -/
theorem x61 (b : Fin 2) (h : Fin 4) (q : Fin 256) (k : Fin 256) :
    val_main_v61 (F := Ideal) A1 (ix4 b h q k) = sm (fun k => dotp (f1 A1) b h 1 ⟨q.val, by omega⟩ k * rr) 256 k.val := by
  have e : val_main_v61 (F := Ideal) A1 = softA (val_main_v39 (F := Ideal) A1) := by
    unfold val_main_v61 val_main_v60 val_main_v59 val_main_v58 val_main_v57 val_main_v56 val_main_v55 val_main_v54 val_main_v53 val_main_v52 val_main_v51 val_main_cst_7 val_main_cst_8 val_main_cst_9 softA exA topA
    rfl
  rw [e]
  exact softA_apply _ b h q _ (x39 A1 b h q) k

/-- The softmax of the later queries, first map. -/
theorem x94 (b : Fin 2) (h : Fin 4) (q : Fin 8192) (k : Fin 8448) :
    val_main_v94 (F := Ideal) A1 (ix4 b h q k) = sm (fun k => dotp (f1 A1) b h 0 ⟨256 + q.val, by omega⟩ k * rr) 8448 k.val := by
  have e : val_main_v94 (F := Ideal) A1 = softB (val_main_v76 (F := Ideal) A1) := by
    unfold val_main_v94 val_main_v93 val_main_v92 val_main_v91 val_main_v90 val_main_v89 val_main_v88 val_main_v87 val_main_v86 val_main_v85 val_main_v84 val_main_cst_12 val_main_cst_13 val_main_cst_14 softB exB topB
    rfl
  rw [e]
  exact softB_apply _ b h q _ (x76 A1 b h q) k

/-- The softmax of the later queries, second map. -/
theorem x105 (b : Fin 2) (h : Fin 4) (q : Fin 8192) (k : Fin 8448) :
    val_main_v105 (F := Ideal) A1 (ix4 b h q k) = sm (fun k => dotp (f1 A1) b h 1 ⟨256 + q.val, by omega⟩ k * rr) 8448 k.val := by
  have e : val_main_v105 (F := Ideal) A1 = softB (val_main_v83 (F := Ideal) A1) := by
    unfold val_main_v105 val_main_v104 val_main_v103 val_main_v102 val_main_v101 val_main_v100 val_main_v99 val_main_v98 val_main_v97 val_main_v96 val_main_v95 val_main_cst_15 val_main_cst_16 val_main_cst_17 softB exB topB
    rfl
  rw [e]
  exact softB_apply _ b h q _ (x83 A1 b h q) k

/-- The factor of the second softmax. -/
theorem x20 (i : S_.Idx) : val_main_v20 (F := Ideal) A0 i = lamOf (f0 A0) := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_cst,
    val_main_cst_0, val_main_cst_1]
  rfl

/-- The weighted sums of the first 256 queries. -/
theorem x65 (b : Fin 2) (n : Fin 256) (h : Fin 4) (d : Fin 64) :
    val_main_v65 (F := Ideal) A0 A1 A2 (ix4 b h d n) = attn (f0 A0) (f1 A1) (f2 A2) b ⟨n.val, by omega⟩ h 256 d := by
  have e1 := fun k => x50 A1 b h n k
  have e2 := fun k => x61 A1 b h n k
  have e3 := x20 A0
  unfold val_main_v65 val_main_v64 val_main_v63 val_main_v62 val_main_v23 val_main_v4
  generalize val_main_v20 (F := Ideal) A0 = y0 at e3 ⊢
  generalize val_main_v50 (F := Ideal) A1 = y1 at e1 ⊢
  generalize val_main_v61 (F := Ideal) A1 = y2 at e2 ⊢
  pointwise []
  unfold attn vvec
  refine Finset.sum_congr rfl fun k _ => ?_
  rw [e1, e2, e3, dif_pos (show k.val < 8448 by omega)]
  rfl

/-- The weighted sums of the later queries. -/
theorem x109 (b : Fin 2) (n : Fin 8192) (h : Fin 4) (d : Fin 64) :
    val_main_v109 (F := Ideal) A0 A1 A2 (ix4 b h d n) = attn (f0 A0) (f1 A1) (f2 A2) b ⟨256 + n.val, by omega⟩ h 8448 d := by
  have e1 := fun k => x94 A1 b h n k
  have e2 := fun k => x105 A1 b h n k
  have e3 := x20 A0
  unfold val_main_v109 val_main_v108 val_main_v107 val_main_v106 val_main_v4
  generalize val_main_v20 (F := Ideal) A0 = y0 at e3 ⊢
  generalize val_main_v94 (F := Ideal) A1 = y1 at e1 ⊢
  generalize val_main_v105 (F := Ideal) A1 = y2 at e2 ⊢
  pointwise []
  unfold attn vvec
  refine Finset.sum_congr rfl fun k _ => ?_
  rw [e1, e2, e3, dif_pos (show k.val < 8448 by omega)]
  rfl

/-- All the weighted sums. -/
theorem x111 (b : Fin 2) (n : Fin 8448) (h : Fin 4) (d : Fin 64) :
    val_main_v111 (F := Ideal) A0 A1 A2 (ix4 b n h d) = attn (f0 A0) (f1 A1) (f2 A2) b n h (keys n) d := by
  have e1 := fun n => x65 A0 A1 A2 b n h d
  have e2 := fun n => x109 A0 A1 A2 b n h d
  unfold val_main_v111 val_main_v66 val_main_v110
  generalize val_main_v65 (F := Ideal) A0 A1 A2 = y1 at e1 ⊢
  generalize val_main_v109 (F := Ideal) A0 A1 A2 = y2 at e2 ⊢
  pointwise []
  unfold keys
  by_cases hn : n.val < 256
  · rw [dif_pos hn, if_pos hn, e1]
  · rw [dif_neg hn, if_neg hn, e2]
    congr 1
    exact Fin.ext (by show 256 + (n.val - 256) = n.val; omega)

/-- The reference's result at an index. -/
theorem ref_apply (b : Fin 2) (n : Fin 8448) (h : Fin 4) (d : Fin 64) :
    val_main_v127 (F := Ideal) A0 A1 A2 A3 (ix2 (row b n) (col h d))
      = refVal (f0 A0) (f1 A1) (f2 A2) (f3 A3) b n h (keys n) d := by
  have e := fun d => x111 A0 A1 A2 b n h d
  unfold row col
  unfold val_main_v127 val_main_v126 val_main_v125 val_main_v124 val_main_v123 val_main_v122 val_main_v121 val_main_v120
    val_main_v119 val_main_v118 val_main_v117 val_main_v116 val_main_v115 val_main_v114 val_main_v113 val_main_v112
  generalize val_main_v111 (F := Ideal) A0 A1 A2 = y at e ⊢
  pointwise [val_main_cst_18, val_main_cst_19, val_main_cst_20, val_main_cst_21]
  unfold refVal nrm
  simp only [e, f3]

end Cert.DA.Second

end
-- ==== Proof.DA.Second.Pieces.lean ====
/-
  The second layer. What one tile of keys does to the scratch, written once for every map and both tile widths. A tile updates, for each of the
  eight maps, eight rows of running maxima (`arg9`) and eighty rows of running sums (`arg10`); the generated runs list these
  stores one by one, and the theorems here put the lists into one uniform shape.
-/
module

public import proofs.«01_k».proof.Proof.Gen.Kernel8Ideal.Value
public import Idealize.ShloMosaic.Lib.Pointwise
public import Idealize.ShloMosaic.Lib.WritesUnit

@[expose] public section

set_option maxRecDepth 16384

noncomputable section

namespace Cert.DA.Second

open Idealize.ShloMosaic Idealize.SL.Sem Cert.Kernel8Ideal Cert.Kernel8Ideal.Gen

variable {F : FTy → Type} [FloatOps F]

/-! ## One map's update of its maxima and sums -/

/-- The new maxima: the old ones against the tile's column maxima `r`. -/
def mUp (r : FVec F S256 .f32) (mold : Vec F S1x8x256 .f32) : FVec F S8x256 .f32 :=
  maximumf (shapeCast S8x256 mold) (broadcastTo S8x256 (shapeCast S1x256 r) broadcasts_S1x256_S8x256)

/-- The new maxima as they are stored. -/
def mSt (r : FVec F S256 .f32) (mold : Vec F S1x8x256 .f32) : FVec F S1x8x256 .f32 := shapeCast S1x8x256 (mUp r mold)

/-- The new sums: the old ones scaled to the new maxima, plus the tile's own. -/
def aUp (r : FVec F S256 .f32) (mold : Vec F S1x8x256 .f32) (pv : FVec F S80x256 .f32) (aold : Vec F S1x80x256 .f32) :
    FVec F S1x80x256 .f32 :=
  shapeCast S1x80x256 (addf (mulf (shapeCast S80x256 aold)
    (broadcastTo S80x256 (extractStridedSlice S1x256 ![0, 0] (exp2 (subf (shapeCast S8x256 mold) (mUp r mold)))
      slices_S8x256_o0_0_S1x256) broadcasts_S1x256_S80x256)) pv)

/-- The maximum that a tile's exponentials are taken against: the first row of the new maxima. -/
def mRow (r : FVec F S256 .f32) (mold : Vec F S1x8x256 .f32) : FVec F S1x256 .f32 :=
  extractStridedSlice S1x256 ![0, 0] (mUp r mold) slices_S8x256_o0_0_S1x256

/-- A narrow tile's logits, keys by queries. -/
def sN (kt : Vec F S256x256 .bf16) (qs : Vec F S1x256x256 .bf16) : FVec F S256x256 .f32 :=
  matmul dot_S256x256_S256x256_S256x256_1_1_0_0_n_n none (shapeCast S256x256 kt) (shapeCast S256x256 qs)
    (constant S256x256 .f32 0x00000000#32)

/-- A narrow tile's column maxima. -/
def rN (s : FVec F S256x256 .f32) : FVec F S256 .f32 :=
  multiReduction .maximumf [0] S256 s 0xFF800000#32 reduces_S256x256_S256 (.inl rfl) rfl

/-- A narrow tile's values times its exponentials. -/
def pvN (s : FVec F S256x256 .f32) (mold : Vec F S1x8x256 .f32) (vt : Vec F S80x256 .bf16) : FVec F S80x256 .f32 :=
  matmul dot_S80x256_S256x256_S80x256_1_0_0_1_n_n none (shapeCast S80x256 vt)
    (truncf .bf16 (exp2 (subf s (broadcastTo S256x256 (mRow (rN s) mold) broadcasts_S1x256_S256x256))) bitsLt_bf16_f32)
    (constant S80x256 .f32 0x00000000#32)

/-- A wide tile's logits, keys by queries. -/
def sW (kt : Vec F S1408x256 .bf16) (qs : Vec F S1x256x256 .bf16) : FVec F S1408x256 .f32 :=
  matmul dot_S1408x256_S256x256_S1408x256_1_1_0_0_n_n none (shapeCast S1408x256 kt) (shapeCast S256x256 qs)
    (constant S1408x256 .f32 0x00000000#32)

/-- A wide tile's column maxima. -/
def rW (s : FVec F S1408x256 .f32) : FVec F S256 .f32 :=
  multiReduction .maximumf [0] S256 s 0xFF800000#32 reduces_S1408x256_S256 (.inl rfl) rfl

/-- A wide tile's values times its exponentials. -/
def pvW (s : FVec F S1408x256 .f32) (mold : Vec F S1x8x256 .f32) (vt : Vec F S80x1408 .bf16) : FVec F S80x256 .f32 :=
  matmul dot_S80x1408_S1408x256_S80x256_1_0_0_1_n_n none (shapeCast S80x1408 vt)
    (truncf .bf16 (exp2 (subf s (broadcastTo S1408x256 (mRow (rW s) mold) broadcasts_S1x256_S1408x256))) bitsLt_bf16_f32)
    (constant S80x256 .f32 0x00000000#32)

/-! ## Lists of stores, one per map -/

/-- Map `c`'s rows of the maxima lie in the buffer. -/
theorem inbM (c : ℕ) : ∀ a, (![c % 8, 0, 0] : Fin 3 → ℕ) a + S1x8x256.size a ≤ S8x8x256.size a := by
  intro a
  match a with
  | ⟨0, _⟩ => show c % 8 + 1 ≤ 8; omega
  | ⟨1, _⟩ => show 0 + 8 ≤ 8; omega
  | ⟨2, _⟩ => show 0 + 256 ≤ 256; omega

/-- Map `c`'s rows of the sums lie in the buffer. -/
theorem inbA (c : ℕ) : ∀ a, (![c % 2, 80 * (c / 2 % 4), 0] : Fin 3 → ℕ) a + S1x80x256.size a ≤ S2x320x256.size a := by
  intro a
  match a with
  | ⟨0, _⟩ => show c % 2 + 1 ≤ 2; omega
  | ⟨1, _⟩ => show 80 * (c / 2 % 4) + 80 ≤ 320; omega
  | ⟨2, _⟩ => show 0 + 256 ≤ 256; omega

/-- Map `c`'s slice of the masked queries lies in the buffer. -/
theorem inbQ (c : ℕ) : ∀ a, (![c % 8, 0, 0] : Fin 3 → ℕ) a + S1x256x256.size a ≤ S8x256x256.size a := by
  intro a
  match a with
  | ⟨0, _⟩ => show c % 8 + 1 ≤ 8; omega
  | ⟨1, _⟩ => show 0 + 256 ≤ 256; omega
  | ⟨2, _⟩ => show 0 + 256 ≤ 256; omega

/-- The rectangle of map `c`'s maxima. -/
abbrev rcM (c : ℕ) : Rect S8x8x256 := Rect.unit (s := S8x8x256) ![c % 8, 0, 0] S1x8x256.size (inbM c)
/-- The rectangle of map `c`'s sums. -/
abbrev rcA (c : ℕ) : Rect S2x320x256 := Rect.unit (s := S2x320x256) ![c % 2, 80 * (c / 2 % 4), 0] S1x80x256.size (inbA c)
/-- The rectangle of map `c`'s masked queries. -/
abbrev rcQ (c : ℕ) : Rect S8x256x256 := Rect.unit (s := S8x256x256) ![c % 8, 0, 0] S1x256x256.size (inbQ c)

/-- The stores of maps `0 … n-1` to the maxima, the last first. -/
def pcM (w : ℕ → Vec F S1x8x256 .f32) : ℕ → List (View.Piece (Elt F) S8x8x256 .f32)
  | 0 => []
  | n + 1 => ⟨rcM n, w n⟩ :: pcM w n

/-- The stores of maps `0 … n-1` to the sums, the last first. -/
def pcA (w : ℕ → Vec F S1x80x256 .f32) : ℕ → List (View.Piece (Elt F) S2x320x256 .f32)
  | 0 => []
  | n + 1 => ⟨rcA n, w n⟩ :: pcA w n

/-- The stores of maps `0 … n-1` to the masked queries, the last first. -/
def pcQ (w : ℕ → Vec F S1x256x256 .bf16) : ℕ → List (View.Piece (Elt F) S8x256x256 .bf16)
  | 0 => []
  | n + 1 => ⟨rcQ n, w n⟩ :: pcQ w n

section read

theorem read_pcM (v : View sig .tc .vmem S8x8x256 .f32) (f : v.ty.Contents (Elt F)) (w : ℕ → Vec F S1x8x256 .f32)
    (L : List (View.Piece (Elt F) S8x8x256 .f32)) (n : ℕ) (hn : n ≤ 8) (c : Fin 8) (a : Fin 8) (q : Fin 256) :
    v.read (Elt F) (v.writes (Elt F) f (pcM w n ++ L)) (ix3 c a q)
      = if c.val < n then w c.val (ix3 (0 : Fin 1) a q) else v.read (Elt F) (v.writes (Elt F) f L) (ix3 c a q) := by
  induction n with
  | zero => rw [if_neg (Nat.not_lt_zero _)]; rfl
  | succ n ih =>
    rw [pcM, List.cons_append]
    rcases Nat.lt_trichotomy c.val n with h | h | h
    · rw [View.read_writes_cons_unit_of_not_mem v f (inbM n) (w n) (pcM w n ++ L) (ix3 c a q) rfl (0 : Fin 3)
        (Or.inl (show c.val < n % 8 by omega)), ih (by omega), if_pos h, if_pos (by omega)]
    · rw [View.read_writes_cons_unit_of_mem v f (inbM n) (w n) (pcM w n ++ L) (ix3 c a q) (ix3 (0 : Fin 1) a q) rfl (by
        intro b
        match b with
        | ⟨0, _⟩ => show c.val = n % 8 + 0; omega
        | ⟨1, _⟩ => show a.val = 0 + a.val; omega
        | ⟨2, _⟩ => show q.val = 0 + q.val; omega), if_pos (by omega), h]
    · rw [View.read_writes_cons_unit_of_not_mem v f (inbM n) (w n) (pcM w n ++ L) (ix3 c a q) rfl (0 : Fin 3)
        (Or.inr (show n % 8 + 1 ≤ c.val by omega)), ih (by omega), if_neg (by omega), if_neg (by omega)]

theorem read_pcQ (v : View sig .tc .vmem S8x256x256 .bf16) (f : v.ty.Contents (Elt F)) (w : ℕ → Vec F S1x256x256 .bf16)
    (n : ℕ) (hn : n ≤ 8) (c : Fin 8) (hc : c.val < n) (a : Fin 256) (q : Fin 256) :
    v.read (Elt F) (v.writes (Elt F) f (pcQ w n)) (ix3 c a q) = w c.val (ix3 (0 : Fin 1) a q) := by
  induction n with
  | zero => omega
  | succ n ih =>
    rw [pcQ]
    rcases Nat.lt_or_eq_of_le (Nat.le_of_lt_succ hc) with h | h
    · rw [View.read_writes_cons_unit_of_not_mem v f (inbQ n) (w n) (pcQ w n) (ix3 c a q) rfl (0 : Fin 3)
        (Or.inl (show c.val < n % 8 by omega)), ih (by omega) h]
    · rw [View.read_writes_cons_unit_of_mem v f (inbQ n) (w n) (pcQ w n) (ix3 c a q) (ix3 (0 : Fin 1) a q) rfl (by
        intro b
        match b with
        | ⟨0, _⟩ => show c.val = n % 8 + 0; omega
        | ⟨1, _⟩ => show a.val = 0 + a.val; omega
        | ⟨2, _⟩ => show q.val = 0 + q.val; omega), h]

/-- Row `r` of map `c`'s eighty rows in the sums. -/
def ixA (c : Fin 8) (r : Fin 80) (q : Fin 256) : S2x320x256.Idx :=
  ix3 (⟨c.val % 2, by omega⟩ : Fin 2) (⟨80 * (c.val / 2 % 4) + r.val, by omega⟩ : Fin 320) q

theorem read_pcA (v : View sig .tc .vmem S2x320x256 .f32) (f : v.ty.Contents (Elt F)) (w : ℕ → Vec F S1x80x256 .f32)
    (L : List (View.Piece (Elt F) S2x320x256 .f32)) (n : ℕ) (hn : n ≤ 8) (c : Fin 8) (r : Fin 80) (q : Fin 256) :
    v.read (Elt F) (v.writes (Elt F) f (pcA w n ++ L)) (ixA c r q)
      = if c.val < n then w c.val (ix3 (0 : Fin 1) r q) else v.read (Elt F) (v.writes (Elt F) f L) (ixA c r q) := by
  induction n with
  | zero => rw [if_neg (Nat.not_lt_zero _)]; rfl
  | succ n ih =>
    rw [pcA, List.cons_append]
    by_cases h : c.val = n
    · rw [View.read_writes_cons_unit_of_mem v f (inbA n) (w n) (pcA w n ++ L) (ixA c r q) (ix3 (0 : Fin 1) r q) rfl (by
        intro b
        match b with
        | ⟨0, _⟩ => show c.val % 2 = n % 2 + 0; omega
        | ⟨1, _⟩ => show 80 * (c.val / 2 % 4) + r.val = 80 * (n / 2 % 4) + r.val; omega
        | ⟨2, _⟩ => show q.val = 0 + q.val; omega), if_pos (by omega), h]
    · have hstep : v.read (Elt F) (v.writes (Elt F) f ((⟨rcA n, w n⟩ : View.Piece (Elt F) S2x320x256 .f32) :: (pcA w n ++ L))) (ixA c r q)
          = v.read (Elt F) (v.writes (Elt F) f (pcA w n ++ L)) (ixA c r q) := by
        by_cases h0 : c.val % 2 = n % 2
        · exact View.read_writes_cons_unit_of_not_mem v f (inbA n) (w n) (pcA w n ++ L) (ixA c r q) rfl (1 : Fin 3)
            (show 80 * (c.val / 2 % 4) + r.val < 80 * (n / 2 % 4) ∨ 80 * (n / 2 % 4) + 80 ≤ 80 * (c.val / 2 % 4) + r.val by omega)
        · exact View.read_writes_cons_unit_of_not_mem v f (inbA n) (w n) (pcA w n ++ L) (ixA c r q) rfl (0 : Fin 3)
            (show c.val % 2 < n % 2 ∨ n % 2 + 1 ≤ c.val % 2 by omega)
      rw [hstep, ih (by omega)]
      by_cases h2 : c.val < n
      · rw [if_pos h2, if_pos (by omega)]
      · rw [if_neg h2, if_neg (by omega)]

end read

end Cert.DA.Second

end
-- ==== Proof.DA.Second.Trip.lean ====
/-
  The second layer. One trip of the kernel's loop over wide tiles: its stores to the two scratch buffers are the uniform lists of Pieces.lean.
-/
module

public import proofs.«01_k».proof.Proof.DA.Second.Pieces

@[expose] public section

set_option maxRecDepth 16384

noncomputable section

namespace Cert.DA.Second

open Idealize.ShloMosaic Idealize.SL.Sem Cert.Kernel8Ideal Cert.Kernel8Ideal.Gen

variable {F : FTy → Type} [FloatOps F]

/-- The offsets of head `h`'s eighty rows of the transposed values at trip `k`. -/
def vOff (k : Fin k0_t1_loop.trips) : ℕ → Fin 2 → ℕ
  | 0 => k0_off2 k
  | 1 => k0_off3 k
  | 2 => k0_off4 k
  | _ => k0_off5 k

/-- They lie in the array. -/
theorem vOff_inb (i : grid0.Coords) (k : Fin k0_t1_loop.trips) (h : k0_cond2 i = 1#1) (n : ℕ) :
    ∀ a, vOff k n a + S80x1408.size a ≤ S320x8448.size a :=
  match n with
  | 0 => Facts₀.k0_off2_inb i k h
  | 1 => Facts₀.k0_off3_inb i k h
  | 2 => Facts₀.k0_off4_inb i k h
  | _ + 3 => Facts₀.k0_off5_inb i k h

section

variable (c : Dev nD) (i : grid0.Coords) (arg2 : Memref sig .tc .smem S1 .f32) (harg2 : arg2.IsWhole) (arg3 : Memref sig .tc .vmem S256x256 .bf16) (harg3 : arg3.IsWhole) (arg4 : Memref sig .tc .vmem S8448x256 .bf16) (harg4 : arg4.IsWhole) (arg5 : Memref sig .tc .vmem S320x8448 .bf16) (harg5 : arg5.IsWhole) (arg6 : Memref sig .tc .vmem S1x256 .f32) (harg6 : arg6.IsWhole) (arg7 : Memref sig .tc .vmem S256x256 .f32) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S2x320x256 .f32) (harg10 : arg10.IsWhole) (arg1 : BitVec 32) (v1 : FVec F S256x256 .bf16) (v26 : IVec S256x256 32) (v70 : IVec S256x256 1) (cst_25 : F .bf16) (k0_h2 : k0_cond2 i = 1#1) (X4 : BufTy.Contents (Elt F) arg4.view.ty) (X5 : BufTy.Contents (Elt F) arg5.view.ty) (X8 : BufTy.Contents (Elt F) arg8.view.ty) (k : Fin k0_t1_loop.trips)
  (f9 : BufTy.Contents (Elt F) arg9.view.ty) (f10 : BufTy.Contents (Elt F) arg10.view.ty)

/-- Trip `k`'s logits of map `n`. -/
def tripS (n : ℕ) : FVec F S1408x256 .f32 :=
  sW (View.readAt (Elt F) arg4.view (Rect.unit (s := S8448x256) (k0_off1 k) S1408x256.size (Facts₀.k0_off1_inb i k k0_h2)).toLoadRect X4)
    (View.readAt (Elt F) arg8.view (rcQ n).toLoadRect X8)

/-- Map `n`'s maxima as trip `k` finds them. -/
def oldM (n : ℕ) : Vec F S1x8x256 .f32 := View.readAt (Elt F) arg9.view (rcM n).toLoadRect f9

/-- Map `n`'s sums as trip `k` finds them. -/
def oldA (n : ℕ) : Vec F S1x80x256 .f32 := View.readAt (Elt F) arg10.view (rcA n).toLoadRect f10

/-- What trip `k` stores to map `n`'s maxima. -/
def tripM (n : ℕ) : Vec F S1x8x256 .f32 :=
  mSt (rW (tripS i arg4 arg8 k0_h2 X4 X8 k n)) (oldM arg9 f9 n)

/-- What trip `k` stores to map `n`'s sums. -/
def tripA (n : ℕ) : Vec F S1x80x256 .f32 :=
  aUp (rW (tripS i arg4 arg8 k0_h2 X4 X8 k n)) (oldM arg9 f9 n)
    (pvW (tripS i arg4 arg8 k0_h2 X4 X8 k n) (oldM arg9 f9 n)
      (View.readAt (Elt F) arg5.view (Rect.unit (s := S320x8448) (vOff k (n / 2)) S80x1408.size
        (vOff_inb i k k0_h2 (n / 2))).toLoadRect X5))
    (oldA arg10 f10 n)

set_option maxHeartbeats 4000000 in
/-- Trip `k`'s stores to the maxima. -/
theorem trip_maxima :
    (trip_k0_t1 Variants.none c none i arg2 harg2 arg3 harg3 arg4 harg4 arg5 harg5 arg6 harg6 arg7 harg7 arg8 harg8 arg9 harg9 arg10 harg10 arg1 v1 v26 v70 cst_25 k0_h2 X4 X5 X8 k).1 f9 f10
      = pcM (tripM i arg4 arg8 arg9 k0_h2 X4 X8 k f9) 8 := by
  unfold trip_k0_t1
  rfl

set_option maxHeartbeats 4000000 in
/-- Trip `k`'s stores to the sums. -/
theorem trip_sums :
    (trip_k0_t1 Variants.none c none i arg2 harg2 arg3 harg3 arg4 harg4 arg5 harg5 arg6 harg6 arg7 harg7 arg8 harg8 arg9 harg9 arg10 harg10 arg1 v1 v26 v70 cst_25 k0_h2 X4 X5 X8 k).2.1 f9 f10
      = pcA (tripA i arg4 arg5 arg8 arg9 arg10 k0_h2 X4 X5 X8 k f9 f10) 8 := by
  unfold trip_k0_t1
  rfl

end

end Cert.DA.Second

end
-- ==== Proof.DA.Second.Runs.lean ====
/-
  The second layer. The two cases of the kernel's body as uniform terms: the scratch each case ends with, and the block it writes.
-/
module

public import proofs.«01_k».proof.Proof.DA.Second.Trip

@[expose] public section

set_option maxRecDepth 16384

noncomputable section

namespace Cert.DA.Second

open Idealize.ShloMosaic Idealize.SL.Sem Cert.Kernel8Ideal Cert.Kernel8Ideal.Gen

variable {F : FTy → Type} [FloatOps F]

/-! ## The block from the sums -/

/-- One head's output from its two maps' sums, normalised over its 64 rows. -/
def headOut (lam : Elt F .f32) (n1 : Vec F S1x64x256 .f32) (d1 : Vec F S1x1x256 .f32) (n2 : Vec F S1x64x256 .f32)
    (d2 : Vec F S1x1x256 .f32) : FVec F S64x256 .f32 :=
  let o : FVec F S64x256 .f32 :=
    subf (divf (shapeCast S64x256 n1) (broadcastTo S64x256 (shapeCast S1x256 d1) broadcasts_S1x256_S64x256))
      (mulf (broadcast S64x256 lam)
        (divf (shapeCast S64x256 n2) (broadcastTo S64x256 (shapeCast S1x256 d2) broadcasts_S1x256_S64x256)))
  mulf o (broadcastTo S64x256 (rsqrt (addf (divf (shapeCast S1x256
    (multiReduction .add [0] S256 (mulf o o) 0x00000000#32 reduces_S64x256_S256 (.inl rfl) rfl))
      (broadcast S1x256 (Scalar.ofBits .f32 0x42800000#32))) (broadcast S1x256 (Scalar.ofBits .f32 0x358637BD#32))))
    broadcasts_S1x256_S64x256)

/-- The block of outputs from the four heads. -/
def blockOut (h0 h1 h2 h3 : FVec F S64x256 .f32) (g : Vec F S1x256 .f32) : FVec F S256x256 .f32 :=
  mulf (mulf (transpose S256x256 [1, 0] (concatenate S256x256 0
      [⟨S64x256, h0⟩, ⟨S64x256, h1⟩, ⟨S64x256, h2⟩, ⟨S64x256, h3⟩]
      concatenates_S64x256_S64x256_S64x256_S64x256_S256x256_d0) transposes_S256x256_p1_0_S256x256)
    (broadcastTo S256x256 (shapeCast S1x256 g) broadcasts_S1x256_S256x256))
    (broadcast S256x256 (Scalar.ofBits .f32 0x3F24FD5C#32))

/-- Map `c`'s numerators lie in the sums. -/
theorem inbNum (c : ℕ) : ∀ a, (![c % 2, 80 * (c / 2 % 4), 0] : Fin 3 → ℕ) a + S1x64x256.size a ≤ S2x320x256.size a := by
  intro a
  match a with
  | ⟨0, _⟩ => show c % 2 + 1 ≤ 2; omega
  | ⟨1, _⟩ => show 80 * (c / 2 % 4) + 64 ≤ 320; omega
  | ⟨2, _⟩ => show 0 + 256 ≤ 256; omega

/-- Map `c`'s denominators lie in the sums. -/
theorem inbDen (c : ℕ) : ∀ a, (![c % 2, 80 * (c / 2 % 4) + 64, 0] : Fin 3 → ℕ) a + S1x1x256.size a ≤ S2x320x256.size a := by
  intro a
  match a with
  | ⟨0, _⟩ => show c % 2 + 1 ≤ 2; omega
  | ⟨1, _⟩ => show 80 * (c / 2 % 4) + 64 + 1 ≤ 320; omega
  | ⟨2, _⟩ => show 0 + 256 ≤ 256; omega

section

variable (arg10 : Memref sig .tc .vmem S2x320x256 .f32) (f10 : BufTy.Contents (Elt F) arg10.view.ty)

/-- Map `c`'s numerators. -/
def numOf (c : ℕ) : Vec F S1x64x256 .f32 :=
  View.readAt (Elt F) arg10.view (Rect.unit (s := S2x320x256) ![c % 2, 80 * (c / 2 % 4), 0] S1x64x256.size (inbNum c)).toLoadRect f10

/-- Map `c`'s denominators. -/
def denOf (c : ℕ) : Vec F S1x1x256 .f32 :=
  View.readAt (Elt F) arg10.view (Rect.unit (s := S2x320x256) ![c % 2, 80 * (c / 2 % 4) + 64, 0] S1x1x256.size (inbDen c)).toLoadRect f10

/-- Head `h`'s output from the sums. -/
def headAt (lam : Elt F .f32) (h : ℕ) : FVec F S64x256 .f32 :=
  headOut lam (numOf arg10 f10 (2 * h)) (denOf arg10 f10 (2 * h)) (numOf arg10 f10 (2 * h + 1)) (denOf arg10 f10 (2 * h + 1))

/-- The block from the sums. -/
def blockAt (lam : Elt F .f32) (g : Vec F S1x256 .f32) : FVec F S256x256 .f32 :=
  blockOut (headAt arg10 f10 lam 0) (headAt arg10 f10 lam 1) (headAt arg10 f10 lam 2) (headAt arg10 f10 lam 3) g

end

/-! ## The masked queries -/

/-- Map `n`'s queries: the lanes of its own half head, zero elsewhere. -/
def qMask (q : Vec F S256x256 .bf16) (n : ℕ) : Vec F S1x256x256 .bf16 :=
  shapeCast S1x256x256 (select (cmpi .eq k0_pay100 (broadcast S256x256 (BitVec.ofNat 32 n))) (shapeCast S256x256 q)
    (broadcast S256x256 (Scalar.ofBits .bf16 0x0000#16)))

/-- The scratch of masked queries. -/
def qScr (arg3 : Memref sig .tc .vmem S256x256 .bf16) (X3 : BufTy.Contents (Elt F) arg3.view.ty)
    (arg8 : Memref sig .tc .vmem S8x256x256 .bf16) : BufTy.Contents (Elt F) arg8.view.ty :=
  arg8.view.writes (Elt F) arg8.view.junk (pcQ (qMask (View.readAt (Elt F) arg3.view
    (Rect.unit (s := S256x256) ![0, 0] S256x256.size inb_S256x256_S256x256_0_0).toLoadRect X3)) 8)

/-! ## The initial scratch -/

/-- The maxima start at the lowest value. -/
def initM : List (View.Piece (Elt F) S8x8x256 .f32) :=
  [⟨Rect.unit (s := S8x8x256) ![0, 0, 0] S8x8x256.size inb_S8x8x256_S8x8x256_0_0_0, k0_pay111⟩]

/-- The sums start at zero. -/
def initA : List (View.Piece (Elt F) S2x320x256 .f32) :=
  [⟨Rect.unit (s := S2x320x256) ![0, 0, 0] S2x320x256.size inb_S2x320x256_S2x320x256_0_0_0, k0_pay112⟩]

section narrow

variable (arg9 : Memref sig .tc .vmem S8x8x256 .f32) (arg10 : Memref sig .tc .vmem S2x320x256 .f32)
  (S : ℕ → FVec F S256x256 .f32) (vt : ℕ → Vec F S80x256 .bf16)

/-- The stores to the maxima by the first `n` maps of the one narrow tile. -/
def narM : ℕ → List (View.Piece (Elt F) S8x8x256 .f32)
  | 0 => initM
  | n + 1 => ⟨rcM n, mSt (rN (S n)) (oldM arg9 (arg9.view.writes (Elt F) arg9.view.junk (narM n)) n)⟩ :: narM n

/-- The stores to the sums by the first `n` maps of the one narrow tile. -/
def narA : ℕ → List (View.Piece (Elt F) S2x320x256 .f32)
  | 0 => initA
  | n + 1 => ⟨rcA n, aUp (rN (S n)) (oldM arg9 (arg9.view.writes (Elt F) arg9.view.junk (narM arg9 S n)) n)
      (pvN (S n) (oldM arg9 (arg9.view.writes (Elt F) arg9.view.junk (narM arg9 S n)) n) (vt n))
      (oldA arg10 (arg10.view.writes (Elt F) arg10.view.junk (narA n)) n)⟩ :: narA n

end narrow

/-- The narrow tile's rows of head `h`'s values lie in the array. -/
theorem inbV (h : ℕ) : ∀ a, (![80 * (h % 4), 0] : Fin 2 → ℕ) a + S80x256.size a ≤ S320x8448.size a := by
  intro a
  match a with
  | ⟨0, _⟩ => show 80 * (h % 4) + 80 ≤ 320; omega
  | ⟨1, _⟩ => show 0 + 256 ≤ 8448; omega

section

variable (c : Dev nD) (i : grid0.Coords) (arg2 : Memref sig .tc .smem S1 .f32) (harg2 : arg2.IsWhole) (arg3 : Memref sig .tc .vmem S256x256 .bf16) (harg3 : arg3.IsWhole) (arg4 : Memref sig .tc .vmem S8448x256 .bf16) (harg4 : arg4.IsWhole) (arg5 : Memref sig .tc .vmem S320x8448 .bf16) (harg5 : arg5.IsWhole) (arg6 : Memref sig .tc .vmem S1x256 .f32) (harg6 : arg6.IsWhole) (arg7 : Memref sig .tc .vmem S256x256 .f32) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S2x320x256 .f32) (harg10 : arg10.IsWhole)
  (x0 : Vec F S1 .f32) (x1 : Vec F S256x256 .bf16) (x2 : Vec F S8448x256 .bf16) (x3 : Vec F S320x8448 .bf16) (x4 : Vec F S1x256 .f32)

/-- The narrow tile's logits of map `n`. -/
def narS (n : ℕ) : FVec F S256x256 .f32 :=
  sN (View.readAt (Elt F) arg4.view (Rect.unit (s := S8448x256) ![0, 0] S256x256.size inb_S8448x256_S256x256_0_0).toLoadRect (harg4.unread x2))
    (View.readAt (Elt F) arg8.view (rcQ n).toLoadRect (qScr arg3 (harg3.unread x1) arg8))

/-- The narrow tile's values for map `n`. -/
def narV (n : ℕ) : Vec F S80x256 .bf16 :=
  View.readAt (Elt F) arg5.view (Rect.unit (s := S320x8448) ![80 * (n / 2 % 4), 0] S80x256.size (inbV (n / 2))).toLoadRect (harg5.unread x3)

/-- The block from a finished scratch of sums. -/
def fin10 (L : List (View.Piece (Elt F) S2x320x256 .f32)) : FVec F S256x256 .f32 :=
  blockAt arg10 (arg10.view.writes (Elt F) arg10.view.junk L)
    (View.readAt (Elt F) arg2.view (Rect.unit (s := S1) ![0] S1.size inb_S1_S1_0).toLoadRect (harg2.unread x0)
      (Shape.Idx.first (s := S1) (by decide)))
    (View.readAt (Elt F) arg6.view (Rect.unit (s := S1x256) ![0, 0] S1x256.size inb_S1x256_S1x256_0_0).toLoadRect (harg6.unread x4))

/-- Reading back one store of the whole block gives what was stored. -/
theorem read_block (v : View sig .tc .vmem S256x256 .f32) (f : v.ty.Contents (Elt F)) (w : FVec F S256x256 .f32) :
    v.read (Elt F) (v.writes (Elt F) f [⟨Rect.unit (s := S256x256) ![0, 0] S256x256.size inb_S256x256_S256x256_0_0, w⟩]) = w := by
  funext y
  refine View.read_writes_cons_unit_of_mem v f inb_S256x256_S256x256_0_0 w [] y y
    (off' := (![0, 0] : Fin 2 → ℕ)) rfl ?_
  intro b
  match b with
  | ⟨0, h⟩ => exact (Nat.zero_add (y ⟨0, h⟩).val).symm
  | ⟨1, h⟩ => exact (Nat.zero_add (y ⟨1, h⟩).val).symm

set_option maxHeartbeats 4000000 in
/-- The block of a context tile. -/
theorem out_A (hc0 : cond0_0 i) (hc1 : ¬cond0_1 i) :
    out0_A_5 c i arg2 harg2 arg3 harg3 arg4 harg4 arg5 harg5 arg6 harg6 arg7 harg7 arg8 harg8 arg9 harg9 arg10 harg10 hc0 hc1 x0 x1 x2 x3 x4
      = fin10 arg2 harg2 arg6 harg6 arg10 x0 x4
          (narA arg9 arg10 (narS arg3 harg3 arg4 harg4 arg8 x1 x2) (narV arg5 harg5 x3) 8) := by
  refine Eq.trans ?_ (read_block VO0_5 VO0_5.junk _)
  unfold out0_A_5 kernelRun0_A
  rfl

set_option maxHeartbeats 4000000 in
/-- The block of a latent tile. -/
theorem out_B (hc0 : ¬cond0_0 i) (hc1 : cond0_1 i) :
    ∃ (v1 : FVec F S256x256 .bf16) (v26 : IVec S256x256 32) (v70 : IVec S256x256 1) (cst_25 : F .bf16),
    out0_B_5 c i arg2 harg2 arg3 harg3 arg4 harg4 arg5 harg5 arg6 harg6 arg7 harg7 arg8 harg8 arg9 harg9 arg10 harg10 hc0 hc1 x0 x1 x2 x3 x4
      = fin10 arg2 harg2 arg6 harg6 arg10 x0 x4
          ((pb_k0_t1 Variants.none c none i arg2 harg2 arg3 harg3 arg4 harg4 arg5 harg5 arg6 harg6 arg7 harg7 arg8 harg8 arg9 harg9 arg10 harg10
            (BitVec.ofNat 32 ↑(i 1)) v1 v26 v70 cst_25 hc1 (harg4.unread x2) (harg5.unread x3) (qScr arg3 (harg3.unread x1) arg8)
            (arg9.view.writes (Elt F) arg9.view.junk initM) (arg10.view.writes (Elt F) arg10.view.junk initA) k0_t1_loop.trips).2 ++ initA) := by
  refine ⟨kernelRun0_B.sl.r c arg3 harg3 x1, k0_pay100, k0_pay108 k0_pay100, kernelRun0_B.sl.cst_25, ?_⟩
  refine Eq.trans ?_ (read_block VO0_5 VO0_5.junk _)
  unfold out0_B_5 kernelRun0_B
  rfl

end

end Cert.DA.Second

end
-- ==== Proof.DA.Second.Ops.lean ====
/-
  The second layer. The tile's operations read at an index, on extended reals.
-/
module

public import proofs.«01_k».proof.Proof.DA.Second.Runs
public import proofs.«01_k».proof.Proof.DA.Math

@[expose] public section

set_option maxRecDepth 16384

noncomputable section

namespace Cert.DA.Second

open Idealize.ShloMosaic Idealize.SL.Sem Cert.Kernel8Ideal Cert.Kernel8Ideal.Gen

/-! ## Constants -/

/-- The reductions' starting value is `⊥`. -/
theorem negInf_eq : Ideal.ofBits .f32 0xFF800000#32 = ⊥ := by simp [Ideal.ofBits, Ideal.ieee]

/-- The lowest value the maxima start at. -/
def negR : ℝ := (-1 : ℝ) * ((2 ^ 23 + 4846282 : ℕ) : ℝ) * (2 : ℝ) ^ (76 : ℤ)

theorem neg_eq : Ideal.ofBits .f32 0xF149F2CA#32 = ((negR : ℝ) : EReal) := by
  simp [Ideal.ofBits, Ideal.ieee, negR]

theorem sixtyFour_eq : Ideal.ofBits .f32 0x42800000#32 = ((64 : ℝ) : EReal) := by
  simp [Ideal.ofBits, Ideal.ieee]
  rw [← EReal.coe_mul, EReal.coe_eq_coe_iff]
  norm_num

theorem eps_ne_bot : Ideal.ofBits .f32 0x358637BD#32 ≠ ⊥ := by
  simp [Ideal.ofBits, Ideal.ieee]
  exact EReal.coe_ne_bot _

/-! ## One tile -/

theorem mSt_apply (r : FVec Ideal S256 .f32) (mold : Vec Ideal S1x8x256 .f32) (a : Fin 8) (q : Fin 256) :
    mSt r mold (ix3 (0 : Fin 1) a q) = max (mold (ix3 (0 : Fin 1) a q)) (r (ix1 q)) := by
  pointwise [mSt, mUp]

theorem aUp_apply (r : FVec Ideal S256 .f32) (mold : Vec Ideal S1x8x256 .f32) (pv : FVec Ideal S80x256 .f32)
    (aold : Vec Ideal S1x80x256 .f32) (a : Fin 80) (q : Fin 256) :
    aUp r mold pv aold (ix3 (0 : Fin 1) a q)
      = aold (ix3 (0 : Fin 1) a q)
          * Ideal.exp2 (mold (ix3 (0 : Fin 1) (0 : Fin 8) q) - max (mold (ix3 (0 : Fin 1) (0 : Fin 8) q)) (r (ix1 q)))
        + pv (ix2 a q) := by
  pointwise [aUp, mUp]
  rfl

theorem rN_apply (s : FVec Ideal S256x256 .f32) (q : Fin 256) :
    rN s (ix1 q) = Finset.univ.fold max ⊥ (fun x : Fin 256 => s (ix2 x q)) := by
  pointwise [rN]
  rw [← negInf_eq]

theorem rW_apply (s : FVec Ideal S1408x256 .f32) (q : Fin 256) :
    rW s (ix1 q) = Finset.univ.fold max ⊥ (fun x : Fin 1408 => s (ix2 x q)) := by
  pointwise [rW]
  rw [← negInf_eq]

theorem pvN_apply (s : FVec Ideal S256x256 .f32) (mold : Vec Ideal S1x8x256 .f32) (vt : Vec Ideal S80x256 .bf16) (a : Fin 80)
    (q : Fin 256) :
    pvN s mold vt (ix2 a q) = ∑ x : Fin 256, vt (ix2 a x)
      * Ideal.exp2 (s (ix2 x q) - max (mold (ix3 (0 : Fin 1) (0 : Fin 8) q)) (rN s (ix1 q))) := by
  pointwise [pvN, mRow, mUp]
  rfl

theorem pvW_apply (s : FVec Ideal S1408x256 .f32) (mold : Vec Ideal S1x8x256 .f32) (vt : Vec Ideal S80x1408 .bf16) (a : Fin 80)
    (q : Fin 256) :
    pvW s mold vt (ix2 a q) = ∑ x : Fin 1408, vt (ix2 a x)
      * Ideal.exp2 (s (ix2 x q) - max (mold (ix3 (0 : Fin 1) (0 : Fin 8) q)) (rW s (ix1 q))) := by
  pointwise [pvW, mRow, mUp]
  rfl

theorem sN_apply (kt : Vec Ideal S256x256 .bf16) (qs : Vec Ideal S1x256x256 .bf16) (a : Fin 256) (q : Fin 256) :
    sN kt qs (ix2 a q) = ∑ x : Fin 256, kt (ix2 a x) * qs (ix3 (0 : Fin 1) q x) := by
  pointwise [sN]

theorem sW_apply (kt : Vec Ideal S1408x256 .bf16) (qs : Vec Ideal S1x256x256 .bf16) (a : Fin 1408) (q : Fin 256) :
    sW kt qs (ix2 a q) = ∑ x : Fin 256, kt (ix2 a x) * qs (ix3 (0 : Fin 1) q x) := by
  pointwise [sW]

/-- Lane `l` belongs to half head `l / 32`. -/
theorem pay100_apply (a l : Fin 256) : k0_pay100 (ix2 a l) = BitVec.ofNat 32 (l.val / 32) := by
  pointwise [k0_pay100]
  revert l
  decide +kernel

theorem qMask_apply (x : Vec Ideal S256x256 .bf16) (n : ℕ) (hn : n < 8) (q l : Fin 256) :
    qMask x n (ix3 (0 : Fin 1) q l) = if l.val / 32 = n then x (ix2 q l) else 0 := by
  have e : qMask x n (ix3 (0 : Fin 1) q l)
      = Scalar.select (IntOp.cmpi .eq (k0_pay100 (ix2 q l)) (BitVec.ofNat 32 n)) (x (ix2 q l)) (0 : EReal) := by
    pointwise [qMask]
  rw [e, pay100_apply]
  by_cases h : l.val / 32 = n
  · rw [if_pos h, h]
    simp [IntOp.cmpi, Scalar.select]
  · have hne : BitVec.ofNat 32 (l.val / 32) ≠ BitVec.ofNat 32 n := fun e => h (by
      have := congrArg BitVec.toNat e
      simp only [BitVec.toNat_ofNat] at this
      omega)
    rw [if_neg h]
    simp [IntOp.cmpi, Scalar.select, beq_eq_false_iff_ne.mpr hne]

/-! ## The block from the sums -/

theorem headOut_apply (lam : Elt Ideal .f32) (n1 : Vec Ideal S1x64x256 .f32) (d1 : Vec Ideal S1x1x256 .f32)
    (n2 : Vec Ideal S1x64x256 .f32) (d2 : Vec Ideal S1x1x256 .f32) (d : Fin 64) (q : Fin 256) :
    headOut lam n1 d1 n2 d2 (ix2 d q)
      = nrm ((64 : ℝ) : EReal) (Ideal.ofBits .f32 0x358637BD#32)
          (fun x => Ideal.div (n1 (ix3 (0 : Fin 1) x q)) (d1 (ix3 (0 : Fin 1) (0 : Fin 1) q))
            - lam * Ideal.div (n2 (ix3 (0 : Fin 1) x q)) (d2 (ix3 (0 : Fin 1) (0 : Fin 1) q))) d := by
  rw [← sixtyFour_eq]
  unfold nrm
  pointwise [headOut]

theorem blockOut_apply (hs : Fin 4 → FVec Ideal S64x256 .f32) (g : Vec Ideal S1x256 .f32) (q : Fin 256) (h : Fin 4) (d : Fin 64) :
    blockOut (hs 0) (hs 1) (hs 2) (hs 3) g (ix2 q (⟨h.val * 64 + d.val, by omega⟩ : Fin 256))
      = hs h (ix2 d q) * g (ix2 (0 : Fin 1) (⟨h.val * 64 + d.val, by omega⟩ : Fin 256)) * Ideal.ofBits .f32 0x3F24FD5C#32 := by
  pointwise [blockOut]
  congr 2
  match h with
  | 0 => rw [dif_pos (show (0 : Fin 4).val * 64 + d.val < 64 by simp)]; congr 2; exact Fin.ext (by simp)
  | 1 =>
    rw [dif_neg (show ¬(1 : Fin 4).val * 64 + d.val < 64 by simp), dif_pos (show (1 : Fin 4).val * 64 + d.val - 64 < 64 by simp)]
    congr 2
    exact Fin.ext (by simp)
  | 2 =>
    rw [dif_neg (show ¬(2 : Fin 4).val * 64 + d.val < 64 by simp; omega),
      dif_neg (show ¬(2 : Fin 4).val * 64 + d.val - 64 < 64 by simp; omega),
      dif_pos (show (2 : Fin 4).val * 64 + d.val - 64 - 64 < 64 by simp; omega)]
    congr 2
    exact Fin.ext (by simp; omega)
  | 3 =>
    rw [dif_neg (show ¬(3 : Fin 4).val * 64 + d.val < 64 by simp; omega),
      dif_neg (show ¬(3 : Fin 4).val * 64 + d.val - 64 < 64 by simp; omega),
      dif_neg (show ¬(3 : Fin 4).val * 64 + d.val - 64 - 64 < 64 by simp; omega)]
    congr 2
    exact Fin.ext (by simp; omega)

end Cert.DA.Second

end
-- ==== Proof.DA.Second.State.lean ====
/-
  The second layer. What the scratch means on extended reals: after the first `n` keys of the batch, each map's maximum is the maximum of its
  logits so far and its sums are the weighted sums of the values so far; one tile more keeps this so.
-/
module

public import proofs.«01_k».proof.Proof.DA.Second.Ops

@[expose] public section

set_option maxRecDepth 16384

noncomputable section

namespace Cert.DA.Second

open Idealize.ShloMosaic Idealize.SL.Sem Cert.Kernel8Ideal Cert.Kernel8Ideal.Gen

/-- A load through a rectangle reads the view at the offset index. -/
theorem rdAt {κ : Kind} {sp : Space} {s : Shape} {e : EltTy} (v : View sig κ sp s e) (f : v.ty.Contents (Elt Ideal))
    {off size : Fin s.rank → ℕ} (inb : ∀ a, off a + size a ≤ s.size a) (j : (Rect.unit (s := s) off size inb).shape.Idx) (i : s.Idx)
    (h : ∀ a, (i a).val = off a + (j a).val) :
    v.readAt (Elt Ideal) (Rect.unit (s := s) off size inb).toLoadRect f j = v.read (Elt Ideal) f i := by
  rw [View.readAt_apply]
  congr 1
  funext a
  refine Fin.ext ?_
  show off a + 1 * (j a).val = (i a).val
  rw [h a, one_mul]

/-! ## Logits and values of a block of queries -/

section

variable (x1 : Vec Ideal S256x256 .bf16) (x2 : Vec Ideal S8448x256 .bf16) (x3 : Vec Ideal S320x8448 .bf16)

/-- Map `c`'s logit of query `q` and key `k`: over all lanes, with the query zero outside the map's own half head. -/
def logit (c : ℕ) (q : Fin 256) (k : ℕ) : EReal :=
  if h : k < 8448 then ∑ l : Fin 256, x2 (ix2 (⟨k, h⟩ : Fin 8448) l) * (if l.val / 32 = c then x1 (ix2 q l) else 0) else 0

/-- Row `r` of head `c / 2`'s values and ones, at key `k`. -/
def vrow (c : Fin 8) (r : Fin 80) (k : ℕ) : ℝ :=
  if h : k < 8448 then (x3 (ix2 (⟨80 * (c.val / 2) + r.val, by omega⟩ : Fin 320) (⟨k, h⟩ : Fin 8448)) : EReal).toReal else 0

theorem logit_of_lt (c : ℕ) (q : Fin 256) (k : ℕ) (h : k < 8448) :
    logit x1 x2 c q k = ∑ l : Fin 256, x2 (ix2 (⟨k, h⟩ : Fin 8448) l) * (if l.val / 32 = c then x1 (ix2 q l) else 0) := dif_pos h

theorem vrow_of_lt (hx3 : ∀ j, ∃ z : ℝ, x3 j = (z : EReal)) (c : Fin 8) (r : Fin 80) (k : ℕ) (h : k < 8448) :
    x3 (ix2 (⟨80 * (c.val / 2) + r.val, by omega⟩ : Fin 320) (⟨k, h⟩ : Fin 8448)) = ((vrow x3 c r k : ℝ) : EReal) := by
  unfold vrow
  rw [dif_pos h]
  obtain ⟨z, hz⟩ := hx3 (ix2 (⟨80 * (c.val / 2) + r.val, by omega⟩ : Fin 320) (⟨k, h⟩ : Fin 8448))
  rw [hz, EReal.toReal_coe]

/-- The scratch after the first `n` keys. -/
def Inv (M : S8x8x256.Idx → EReal) (A : S2x320x256.Idx → EReal) (n : ℕ) : Prop :=
  ∀ (c : Fin 8) (q : Fin 256), Seen negR (logit x1 x2 c.val q) n (M (ix3 c (0 : Fin 8) q))
    ∧ ∀ r : Fin 80, A (ixA c r q) = ((wsum (logit x1 x2 c.val q) (vrow x3 c r) n (M (ix3 c (0 : Fin 8) q)) : ℝ) : EReal)

/-- One tile of `K` keys keeps the meaning of the scratch. -/
theorem Inv.step (hx3 : ∀ j, ∃ z : ℝ, x3 j = (z : EReal)) (M : S8x8x256.Idx → EReal) (A : S2x320x256.Idx → EReal) (n : ℕ)
    (h : Inv x1 x2 x3 M A n) (K : ℕ) (hK : n + K ≤ 8448) (M' : S8x8x256.Idx → EReal) (A' : S2x320x256.Idx → EReal)
    (hM : ∀ (c : Fin 8) (q : Fin 256), M' (ix3 c (0 : Fin 8) q)
      = max (M (ix3 c (0 : Fin 8) q)) (Finset.univ.fold max ⊥ (fun x : Fin K => logit x1 x2 c.val q (n + x.val))))
    (hA : ∀ (c : Fin 8) (q : Fin 256) (r : Fin 80), A' (ixA c r q)
      = A (ixA c r q) * Ideal.exp2 (M (ix3 c (0 : Fin 8) q) - M' (ix3 c (0 : Fin 8) q))
        + ∑ x : Fin K, x3 (ix2 (⟨80 * (c.val / 2) + r.val, by omega⟩ : Fin 320) (⟨n + x.val, by omega⟩ : Fin 8448))
            * Ideal.exp2 (logit x1 x2 c.val q (n + x.val) - M' (ix3 c (0 : Fin 8) q))) :
    Inv x1 x2 x3 M' A' (n + K) := by
  intro c q
  obtain ⟨hs, ha⟩ := h c q
  have hs' : Seen negR (logit x1 x2 c.val q) (n + K) (M' (ix3 c (0 : Fin 8) q)) := by rw [hM]; exact hs.step K
  refine ⟨hs', fun r => ?_⟩
  rw [hA, ha, ← wsum_step hs (vrow x3 c r) K _ hs' (by rw [hM]; exact le_max_left _ _)]
  congr 1
  refine Finset.sum_congr rfl fun x _ => ?_
  rw [vrow_of_lt x3 hx3 c r (n + x.val) (by omega)]

end

/-! ## One wide tile -/

/-- Trip `k`'s tile of keys starts at key `1408 * k`. -/
theorem off1_eq (k : Fin k0_t1_loop.trips) : k0_off1 k = ![1408 * k.val, 0] := by
  revert k; decide +kernel

/-- And its tile of head `h`'s values at row `80 * h`. -/
theorem vOff_eq (k : Fin k0_t1_loop.trips) (h : Fin 4) : vOff k h.val = ![80 * h.val, 1408 * k.val] := by
  revert k h; decide +kernel

section

variable (i : grid0.Coords) (arg4 : Memref sig .tc .vmem S8448x256 .bf16) (arg5 : Memref sig .tc .vmem S320x8448 .bf16) (arg8 : Memref sig .tc .vmem S8x256x256 .bf16) (arg9 : Memref sig .tc .vmem S8x8x256 .f32) (arg10 : Memref sig .tc .vmem S2x320x256 .f32) (k0_h2 : k0_cond2 i = 1#1) (X4 : BufTy.Contents (Elt Ideal) arg4.view.ty) (X5 : BufTy.Contents (Elt Ideal) arg5.view.ty) (X8 : BufTy.Contents (Elt Ideal) arg8.view.ty)
  (x1 : Vec Ideal S256x256 .bf16) (x2 : Vec Ideal S8448x256 .bf16) (x3 : Vec Ideal S320x8448 .bf16)

/-- Trip `k`'s logits. -/
theorem tripS_apply (h4 : arg4.view.read (Elt Ideal) X4 = x2)
    (h8 : ∀ (c : Fin 8) (q l : Fin 256), arg8.view.read (Elt Ideal) X8 (ix3 c q l) = if l.val / 32 = c.val then x1 (ix2 q l) else 0)
    (k : Fin k0_t1_loop.trips) (hk : k.val < 6) (c : Fin 8) (x : Fin 1408) (q : Fin 256) :
    tripS i arg4 arg8 k0_h2 X4 X8 k c.val (ix2 x q) = logit x1 x2 c.val q (1408 * k.val + x.val) := by
  rw [logit_of_lt _ _ _ _ _ (by omega), tripS, sW_apply]
  refine Finset.sum_congr rfl fun l _ => ?_
  rw [rdAt arg4.view X4 (size := S1408x256.size) (Facts₀.k0_off1_inb i k k0_h2) (ix2 x l) (ix2 (⟨1408 * k.val + x.val, by omega⟩ : Fin 8448) l) (by
      intro a
      match a with
      | ⟨0, _⟩ => exact congrArg (· + x.val) (congrFun (off1_eq k) (0 : Fin 2)).symm
      | ⟨1, _⟩ => exact (Nat.zero_add _).symm.trans (congrArg (· + l.val) (congrFun (off1_eq k) (1 : Fin 2)).symm)),
    rdAt arg8.view X8 (size := S1x256x256.size) (inbQ c.val) (ix3 (0 : Fin 1) q l) (ix3 c q l) (by
      intro a
      match a with
      | ⟨0, _⟩ => exact (Nat.mod_eq_of_lt c.isLt).symm
      | ⟨1, _⟩ => exact (Nat.zero_add _).symm
      | ⟨2, _⟩ => exact (Nat.zero_add _).symm), h4, h8]

/-- The old maxima of map `c`. -/
theorem oldM_apply (f9 : BufTy.Contents (Elt Ideal) arg9.view.ty) (c a : Fin 8) (q : Fin 256) :
    oldM arg9 f9 c.val (ix3 (0 : Fin 1) a q) = arg9.view.read (Elt Ideal) f9 (ix3 c a q) := by
  refine rdAt arg9.view f9 _ _ _ ?_
  intro b
  match b with
  | ⟨0, _⟩ => exact (Nat.mod_eq_of_lt c.isLt).symm
  | ⟨1, _⟩ => exact (Nat.zero_add _).symm
  | ⟨2, _⟩ => exact (Nat.zero_add _).symm

/-- The old sums of map `c`. -/
theorem oldA_apply (f10 : BufTy.Contents (Elt Ideal) arg10.view.ty) (c : Fin 8) (r : Fin 80) (q : Fin 256) :
    oldA arg10 f10 c.val (ix3 (0 : Fin 1) r q) = arg10.view.read (Elt Ideal) f10 (ixA c r q) := by
  refine rdAt arg10.view f10 _ _ _ ?_
  intro b
  match b with
  | ⟨0, _⟩ => rfl
  | ⟨1, _⟩ => rfl
  | ⟨2, _⟩ => exact (Nat.zero_add _).symm

/-- One trip keeps the meaning of the scratch. -/
theorem trip_inv (hx3 : ∀ j, ∃ z : ℝ, x3 j = (z : EReal)) (h4 : arg4.view.read (Elt Ideal) X4 = x2)
    (h5 : arg5.view.read (Elt Ideal) X5 = x3)
    (h8 : ∀ (c : Fin 8) (q l : Fin 256), arg8.view.read (Elt Ideal) X8 (ix3 c q l) = if l.val / 32 = c.val then x1 (ix2 q l) else 0)
    (k : Fin k0_t1_loop.trips) (hk : k.val < 6)
    (f9 : BufTy.Contents (Elt Ideal) arg9.view.ty) (f10 : BufTy.Contents (Elt Ideal) arg10.view.ty)
    (h : Inv x1 x2 x3 (arg9.view.read (Elt Ideal) f9) (arg10.view.read (Elt Ideal) f10) (1408 * k.val)) :
    Inv x1 x2 x3 (arg9.view.read (Elt Ideal) (arg9.view.writes (Elt Ideal) f9 (pcM (tripM i arg4 arg8 arg9 k0_h2 X4 X8 k f9) 8)))
      (arg10.view.read (Elt Ideal) (arg10.view.writes (Elt Ideal) f10
        (pcA (tripA i arg4 arg5 arg8 arg9 arg10 k0_h2 X4 X5 X8 k f9 f10) 8))) (1408 * k.val + 1408) := by
  have hr : ∀ (c : Fin 8) (q : Fin 256), rW (tripS i arg4 arg8 k0_h2 X4 X8 k c.val) (ix1 q)
      = Finset.univ.fold max ⊥ (fun x : Fin 1408 => logit x1 x2 c.val q (1408 * k.val + x.val)) := fun c q => by
    rw [rW_apply]
    exact congrArg (Finset.fold max ⊥ · Finset.univ) (funext fun x => tripS_apply i arg4 arg8 k0_h2 X4 X8 x1 x2 h4 h8 k hk c x q)
  have hM : ∀ (c : Fin 8) (q : Fin 256),
      arg9.view.read (Elt Ideal) (arg9.view.writes (Elt Ideal) f9 (pcM (tripM i arg4 arg8 arg9 k0_h2 X4 X8 k f9) 8)) (ix3 c (0 : Fin 8) q)
        = max (arg9.view.read (Elt Ideal) f9 (ix3 c (0 : Fin 8) q))
          (Finset.univ.fold max ⊥ (fun x : Fin 1408 => logit x1 x2 c.val q (1408 * k.val + x.val))) := fun c q => by
    have := read_pcM arg9.view f9 (tripM i arg4 arg8 arg9 k0_h2 X4 X8 k f9) [] 8 le_rfl c (0 : Fin 8) q
    rw [List.append_nil] at this
    rw [this, if_pos c.isLt, tripM, mSt_apply, oldM_apply, hr]
  refine Inv.step x1 x2 x3 hx3 _ _ _ h 1408 (by omega) _ _ hM fun c q r => ?_
  have := read_pcA arg10.view f10 (tripA i arg4 arg5 arg8 arg9 arg10 k0_h2 X4 X5 X8 k f9 f10) [] 8 le_rfl c r q
  rw [List.append_nil] at this
  rw [this, if_pos c.isLt, tripA, aUp_apply, oldA_apply, oldM_apply, hr, hM, pvW_apply, oldM_apply, hr]
  congr 1
  refine Finset.sum_congr rfl fun x _ => ?_
  rw [tripS_apply i arg4 arg8 k0_h2 X4 X8 x1 x2 h4 h8 k hk c x q]
  congr 1
  rw [rdAt arg5.view X5 (size := S80x1408.size) (vOff_inb i k k0_h2 (c.val / 2)) (ix2 r x) (ix2 (⟨80 * (c.val / 2) + r.val, by omega⟩ : Fin 320) (⟨1408 * k.val + x.val, by omega⟩ : Fin 8448)) (by
      have e := vOff_eq k ⟨c.val / 2, by omega⟩
      dsimp only at e
      intro a
      match a with
      | ⟨0, _⟩ => exact congrArg (· + r.val) (congrFun e (0 : Fin 2)).symm
      | ⟨1, _⟩ => exact congrArg (· + x.val) (congrFun e (1 : Fin 2)).symm), h5]

end

/-! ## The narrow tile -/

section

variable (arg3 : Memref sig .tc .vmem S256x256 .bf16) (harg3 : arg3.IsWhole) (arg4 : Memref sig .tc .vmem S8448x256 .bf16) (harg4 : arg4.IsWhole) (arg5 : Memref sig .tc .vmem S320x8448 .bf16) (harg5 : arg5.IsWhole) (arg8 : Memref sig .tc .vmem S8x256x256 .bf16) (arg9 : Memref sig .tc .vmem S8x8x256 .f32) (arg10 : Memref sig .tc .vmem S2x320x256 .f32)
  (x1 : Vec Ideal S256x256 .bf16) (x2 : Vec Ideal S8448x256 .bf16) (x3 : Vec Ideal S320x8448 .bf16)

/-- The masked queries in their scratch. -/
theorem qScr_apply (c : Fin 8) (q l : Fin 256) :
    arg8.view.read (Elt Ideal) (qScr arg3 (harg3.unread x1) arg8) (ix3 c q l) = if l.val / 32 = c.val then x1 (ix2 q l) else 0 := by
  rw [qScr, read_pcQ _ _ _ 8 le_rfl c c.isLt, qMask_apply _ _ c.isLt]
  rw [rdAt arg3.view (harg3.unread x1) (size := S256x256.size) inb_S256x256_S256x256_0_0 (ix2 q l) (ix2 q l) (by
    intro a
    match a with
    | ⟨0, _⟩ => exact (Nat.zero_add _).symm
    | ⟨1, _⟩ => exact (Nat.zero_add _).symm), harg3.read_unread]

/-- The maxima before any tile. -/
theorem initM_apply (j : S8x8x256.Idx) :
    arg9.view.read (Elt Ideal) (arg9.view.writes (Elt Ideal) arg9.view.junk initM) j = ((negR : ℝ) : EReal) := by
  refine (View.read_writes_cons_unit_of_mem (Val := Elt Ideal) arg9.view arg9.view.junk inb_S8x8x256_S8x8x256_0_0_0 (k0_pay111 (F := Ideal)) [] j j
    (off' := (![0, 0, 0] : Fin 3 → ℕ)) rfl (by
      intro b
      match b with
      | ⟨0, _⟩ => exact (Nat.zero_add _).symm
      | ⟨1, _⟩ => exact (Nat.zero_add _).symm
      | ⟨2, _⟩ => exact (Nat.zero_add _).symm)).trans ?_
  rw [← neg_eq]
  rfl

/-- The sums before any tile. -/
theorem initA_apply (j : S2x320x256.Idx) :
    arg10.view.read (Elt Ideal) (arg10.view.writes (Elt Ideal) arg10.view.junk initA) j = 0 := by
  refine (View.read_writes_cons_unit_of_mem (Val := Elt Ideal) arg10.view arg10.view.junk inb_S2x320x256_S2x320x256_0_0_0 (k0_pay112 (F := Ideal)) [] j j
    (off' := (![0, 0, 0] : Fin 3 → ℕ)) rfl (by
      intro b
      match b with
      | ⟨0, _⟩ => exact (Nat.zero_add _).symm
      | ⟨1, _⟩ => exact (Nat.zero_add _).symm
      | ⟨2, _⟩ => exact (Nat.zero_add _).symm)).trans ?_
  exact Ideal.ofBits_zero_f32

/-- Before any tile no key has been seen. -/
theorem init_inv : Inv x1 x2 x3 (arg9.view.read (Elt Ideal) (arg9.view.writes (Elt Ideal) arg9.view.junk initM))
    (arg10.view.read (Elt Ideal) (arg10.view.writes (Elt Ideal) arg10.view.junk initA)) 0 := by
  intro c q
  rw [initM_apply]
  refine ⟨seen_zero _ _, fun r => ?_⟩
  rw [initA_apply, wsum, Finset.range_zero, Finset.sum_empty, EReal.coe_zero]

/-- The narrow tile's logits. -/
theorem narS_apply (c : Fin 8) (x q : Fin 256) :
    narS arg3 harg3 arg4 harg4 arg8 x1 x2 c.val (ix2 x q) = logit x1 x2 c.val q (0 + x.val) := by
  rw [Nat.zero_add, logit_of_lt _ _ _ _ _ (by omega), narS, sN_apply]
  refine Finset.sum_congr rfl fun l _ => ?_
  rw [rdAt arg4.view _ (size := S256x256.size) inb_S8448x256_S256x256_0_0 (ix2 x l) (ix2 (⟨x.val, by omega⟩ : Fin 8448) l) (by
      intro a
      match a with
      | ⟨0, _⟩ => exact (Nat.zero_add _).symm
      | ⟨1, _⟩ => exact (Nat.zero_add _).symm),
    rdAt arg8.view _ (size := S1x256x256.size) (inbQ c.val) (ix3 (0 : Fin 1) q l) (ix3 c q l) (by
      intro a
      match a with
      | ⟨0, _⟩ => exact (Nat.mod_eq_of_lt c.isLt).symm
      | ⟨1, _⟩ => exact (Nat.zero_add _).symm
      | ⟨2, _⟩ => exact (Nat.zero_add _).symm), harg4.read_unread, qScr_apply]

/-- The first `n` maps of the narrow tile, as the maxima read afterwards. -/
theorem narM_read (S : ℕ → FVec Ideal S256x256 .f32) (n : ℕ) (hn : n ≤ 8) (c a : Fin 8) (q : Fin 256) :
    arg9.view.read (Elt Ideal) (arg9.view.writes (Elt Ideal) arg9.view.junk (narM arg9 S n)) (ix3 c a q)
      = if c.val < n then max ((negR : ℝ) : EReal) (rN (S c.val) (ix1 q)) else ((negR : ℝ) : EReal) := by
  induction n with
  | zero => rw [if_neg (Nat.not_lt_zero _), narM, initM_apply]
  | succ n ih =>
    rw [narM]
    rcases Nat.lt_trichotomy c.val n with h | h | h
    · rw [View.read_writes_cons_unit_of_not_mem arg9.view _ (inbM n) _ _ (ix3 c a q) rfl (0 : Fin 3)
        (Or.inl (show c.val < n % 8 by omega)), ih (by omega), if_pos h, if_pos (by omega)]
    · rw [View.read_writes_cons_unit_of_mem arg9.view _ (inbM n) _ _ (ix3 c a q) (ix3 (0 : Fin 1) a q) rfl (by
        intro b
        match b with
        | ⟨0, _⟩ => show c.val = n % 8 + 0; omega
        | ⟨1, _⟩ => show a.val = 0 + a.val; omega
        | ⟨2, _⟩ => show q.val = 0 + q.val; omega), if_pos (by omega), ← h, mSt_apply, oldM_apply, h, ih (by omega),
        if_neg (by omega)]
    · rw [View.read_writes_cons_unit_of_not_mem arg9.view _ (inbM n) _ _ (ix3 c a q) rfl (0 : Fin 3)
        (Or.inr (show n % 8 + 1 ≤ c.val by omega)), ih (by omega), if_neg (by omega), if_neg (by omega)]

/-- The first `n` maps of the narrow tile, as the sums read afterwards. -/
theorem narA_read (S : ℕ → FVec Ideal S256x256 .f32) (vt : ℕ → Vec Ideal S80x256 .bf16) (n : ℕ) (hn : n ≤ 8) (c : Fin 8) (r : Fin 80)
    (q : Fin 256) :
    arg10.view.read (Elt Ideal) (arg10.view.writes (Elt Ideal) arg10.view.junk (narA arg9 arg10 S vt n)) (ixA c r q)
      = if c.val < n then (0 : EReal) * Ideal.exp2 (((negR : ℝ) : EReal) - max ((negR : ℝ) : EReal) (rN (S c.val) (ix1 q)))
          + ∑ x : Fin 256, vt c.val (ix2 r x)
            * Ideal.exp2 (S c.val (ix2 x q) - max ((negR : ℝ) : EReal) (rN (S c.val) (ix1 q))) else 0 := by
  induction n with
  | zero => rw [if_neg (Nat.not_lt_zero _), narA, initA_apply]
  | succ n ih =>
    rw [narA]
    by_cases h : c.val = n
    · have hm : ∀ a : Fin 8, oldM arg9 (arg9.view.writes (Elt Ideal) arg9.view.junk (narM arg9 S c.val)) c.val (ix3 (0 : Fin 1) a q)
          = ((negR : ℝ) : EReal) := fun a => by
        rw [oldM_apply, narM_read _ _ _ (by omega), if_neg (by omega)]
      rw [View.read_writes_cons_unit_of_mem arg10.view _ (inbA n) _ _ (ixA c r q) (ix3 (0 : Fin 1) r q) rfl (by
        intro b
        match b with
        | ⟨0, _⟩ => show c.val % 2 = n % 2 + 0; omega
        | ⟨1, _⟩ => show 80 * (c.val / 2 % 4) + r.val = 80 * (n / 2 % 4) + r.val; omega
        | ⟨2, _⟩ => show q.val = 0 + q.val; omega), if_pos (by omega), ← h, aUp_apply, oldA_apply, pvN_apply, hm, h,
        ih (by omega), if_neg (by omega)]
    · have hstep : ∀ w, arg10.view.read (Elt Ideal) (arg10.view.writes (Elt Ideal) arg10.view.junk
            ((⟨rcA n, w⟩ : View.Piece (Elt Ideal) S2x320x256 .f32) :: narA arg9 arg10 S vt n)) (ixA c r q)
          = arg10.view.read (Elt Ideal) (arg10.view.writes (Elt Ideal) arg10.view.junk (narA arg9 arg10 S vt n)) (ixA c r q) := by
        intro w
        by_cases h0 : c.val % 2 = n % 2
        · exact View.read_writes_cons_unit_of_not_mem arg10.view _ (inbA n) w _ (ixA c r q) rfl (1 : Fin 3)
            (show 80 * (c.val / 2 % 4) + r.val < 80 * (n / 2 % 4) ∨ 80 * (n / 2 % 4) + 80 ≤ 80 * (c.val / 2 % 4) + r.val by omega)
        · exact View.read_writes_cons_unit_of_not_mem arg10.view _ (inbA n) w _ (ixA c r q) rfl (0 : Fin 3)
            (show c.val % 2 < n % 2 ∨ n % 2 + 1 ≤ c.val % 2 by omega)
      rw [hstep, ih (by omega)]
      by_cases h2 : c.val < n
      · rw [if_pos h2, if_pos (by omega)]
      · rw [if_neg h2, if_neg (by omega)]

/-- After the narrow tile the first 256 keys have been seen. -/
theorem nar_inv (hx3 : ∀ j, ∃ z : ℝ, x3 j = (z : EReal)) :
    Inv x1 x2 x3
      (arg9.view.read (Elt Ideal) (arg9.view.writes (Elt Ideal) arg9.view.junk (narM arg9 (narS arg3 harg3 arg4 harg4 arg8 x1 x2) 8)))
      (arg10.view.read (Elt Ideal) (arg10.view.writes (Elt Ideal) arg10.view.junk
        (narA arg9 arg10 (narS arg3 harg3 arg4 harg4 arg8 x1 x2) (narV arg5 harg5 x3) 8))) 256 := by
  have hr : ∀ (c : Fin 8) (q : Fin 256), rN (narS arg3 harg3 arg4 harg4 arg8 x1 x2 c.val) (ix1 q)
      = Finset.univ.fold max ⊥ (fun x : Fin 256 => logit x1 x2 c.val q (0 + x.val)) := fun c q => by
    rw [rN_apply]
    exact congrArg (Finset.fold max ⊥ · Finset.univ) (funext fun x => narS_apply arg3 harg3 arg4 harg4 arg8 x1 x2 c x q)
  refine Inv.step x1 x2 x3 hx3 _ _ 0 (init_inv arg9 arg10 x1 x2 x3) 256 (by omega) _ _ (fun c q => ?_) (fun c q r => ?_)
  · rw [narM_read _ _ _ le_rfl, if_pos c.isLt, initM_apply, hr]
  · rw [narA_read _ _ _ _ _ le_rfl, narM_read _ _ _ le_rfl, if_pos c.isLt, if_pos c.isLt, initM_apply, initA_apply]
    congr 1
    refine Finset.sum_congr rfl fun x _ => ?_
    rw [narS_apply]
    congr 1
    rw [narV, rdAt arg5.view _ (size := S80x256.size) (inbV (c.val / 2)) (ix2 r x) (ix2 (⟨80 * (c.val / 2) + r.val, by omega⟩ : Fin 320) (⟨0 + x.val, by omega⟩ : Fin 8448)) (by
      intro a
      match a with
      | ⟨0, _⟩ => show 80 * (c.val / 2) + r.val = 80 * (c.val / 2 % 4) + r.val; omega
      | ⟨1, _⟩ => rfl), harg5.read_unread]

end

end Cert.DA.Second

end
-- ==== Proof.DA.Second.Block.lean ====
/-
  The second layer. The block of outputs that each case of the body writes, read at an index: per head, the two maps' sums over the keys seen,
  normalised and scaled.
-/
module

public import proofs.«01_k».proof.Proof.DA.Second.State

@[expose] public section

set_option maxRecDepth 16384

noncomputable section

namespace Cert.DA.Second

open Idealize.ShloMosaic Idealize.SL.Sem Cert.Kernel8Ideal Cert.Kernel8Ideal.Gen

/-- Map `c` of head `h`: the even maps are the first softmaxes, the odd ones the second. -/
def mapOf (h : Fin 4) (b : Fin 2) : Fin 8 := ⟨2 * h.val + b.val, by omega⟩

section

variable (x0 : Vec Ideal S1 .f32) (x1 : Vec Ideal S256x256 .bf16) (x2 : Vec Ideal S8448x256 .bf16) (x3 : Vec Ideal S320x8448 .bf16)
  (x4 : Vec Ideal S1x256 .f32)

/-- One output of a block whose queries have seen the first `n` keys against the maxima `M1`, `M2`. -/
def outVal (n : ℕ) (M1 M2 : EReal) (q : Fin 256) (h : Fin 4) (d : Fin 64) : EReal :=
  nrm ((64 : ℝ) : EReal) (Ideal.ofBits .f32 0x358637BD#32)
    (fun d => Ideal.div ((wsum (logit x1 x2 (mapOf h 0).val q) (vrow x3 (mapOf h 0) ⟨d.val, by omega⟩) n M1 : ℝ) : EReal)
        ((wsum (logit x1 x2 (mapOf h 0).val q) (vrow x3 (mapOf h 0) ⟨64, by omega⟩) n M1 : ℝ) : EReal)
      - x0 (ix1 (0 : Fin 1)) * Ideal.div ((wsum (logit x1 x2 (mapOf h 1).val q) (vrow x3 (mapOf h 1) ⟨d.val, by omega⟩) n M2 : ℝ) : EReal)
        ((wsum (logit x1 x2 (mapOf h 1).val q) (vrow x3 (mapOf h 1) ⟨64, by omega⟩) n M2 : ℝ) : EReal)) d
    * x4 (ix2 (0 : Fin 1) (⟨h.val * 64 + d.val, by omega⟩ : Fin 256)) * Ideal.ofBits .f32 0x3F24FD5C#32

/-- `B` holds the outputs of queries that have seen the first `n` keys. -/
def IsOut (n : ℕ) (B : FVec Ideal S256x256 .f32) : Prop :=
  ∀ (q : Fin 256) (h : Fin 4) (d : Fin 64), ∃ M1 M2 : EReal,
    Seen negR (logit x1 x2 (mapOf h 0).val q) n M1 ∧ Seen negR (logit x1 x2 (mapOf h 1).val q) n M2
      ∧ B (ix2 q (⟨h.val * 64 + d.val, by omega⟩ : Fin 256)) = outVal x0 x1 x2 x3 x4 n M1 M2 q h d

end

section

variable (arg2 : Memref sig .tc .smem S1 .f32) (harg2 : arg2.IsWhole) (arg6 : Memref sig .tc .vmem S1x256 .f32) (harg6 : arg6.IsWhole)
  (arg10 : Memref sig .tc .vmem S2x320x256 .f32)
  (x0 : Vec Ideal S1 .f32) (x1 : Vec Ideal S256x256 .bf16) (x2 : Vec Ideal S8448x256 .bf16) (x3 : Vec Ideal S320x8448 .bf16)
  (x4 : Vec Ideal S1x256 .f32)

/-- A map's numerators are the first 64 of its eighty rows. -/
theorem numOf_apply (f10 : BufTy.Contents (Elt Ideal) arg10.view.ty) (c : Fin 8) (d : Fin 64) (q : Fin 256) :
    numOf arg10 f10 c.val (ix3 (0 : Fin 1) d q) = arg10.view.read (Elt Ideal) f10 (ixA c ⟨d.val, by omega⟩ q) := by
  refine rdAt arg10.view f10 (size := S1x64x256.size) (inbNum c.val) _ _ ?_
  intro b
  match b with
  | ⟨0, _⟩ => rfl
  | ⟨1, _⟩ => rfl
  | ⟨2, _⟩ => exact (Nat.zero_add _).symm

/-- And its denominator the row after them. -/
theorem denOf_apply (f10 : BufTy.Contents (Elt Ideal) arg10.view.ty) (c : Fin 8) (q : Fin 256) :
    denOf arg10 f10 c.val (ix3 (0 : Fin 1) (0 : Fin 1) q) = arg10.view.read (Elt Ideal) f10 (ixA c ⟨64, by omega⟩ q) := by
  refine rdAt arg10.view f10 (size := S1x1x256.size) (inbDen c.val) _ _ ?_
  intro b
  match b with
  | ⟨0, _⟩ => rfl
  | ⟨1, _⟩ => rfl
  | ⟨2, _⟩ => exact (Nat.zero_add _).symm

/-- The block from a scratch that means the first `n` keys. -/
theorem fin_isOut (n : ℕ) (M : S8x8x256.Idx → EReal) (L : List (View.Piece (Elt Ideal) S2x320x256 .f32))
    (hI : Inv x1 x2 x3 M (arg10.view.read (Elt Ideal) (arg10.view.writes (Elt Ideal) arg10.view.junk L)) n) :
    IsOut x0 x1 x2 x3 x4 n (fin10 arg2 harg2 arg6 harg6 arg10 x0 x4 L) := by
  intro q h d
  refine ⟨M (ix3 (mapOf h 0) (0 : Fin 8) q), M (ix3 (mapOf h 1) (0 : Fin 8) q), (hI _ q).1, (hI _ q).1, ?_⟩
  unfold fin10 blockAt outVal
  rw [show (headAt arg10 (arg10.view.writes (Elt Ideal) arg10.view.junk L) _ 0)
      = (fun h : Fin 4 => headAt arg10 (arg10.view.writes (Elt Ideal) arg10.view.junk L)
        (View.readAt (Elt Ideal) arg2.view (Rect.unit (s := S1) ![0] S1.size inb_S1_S1_0).toLoadRect (harg2.unread x0)
          (Shape.Idx.first (s := S1) (by decide))) h.val) 0 from rfl]
  refine (blockOut_apply (fun h : Fin 4 => headAt arg10 (arg10.view.writes (Elt Ideal) arg10.view.junk L)
        (View.readAt (Elt Ideal) arg2.view (Rect.unit (s := S1) ![0] S1.size inb_S1_S1_0).toLoadRect (harg2.unread x0)
          (Shape.Idx.first (s := S1) (by decide))) h.val) _ q h d).trans ?_
  have e0 : View.readAt (Elt Ideal) arg2.view (Rect.unit (s := S1) ![0] S1.size inb_S1_S1_0).toLoadRect (harg2.unread x0)
      (Shape.Idx.first (s := S1) (by decide)) = x0 (ix1 (0 : Fin 1)) := by
    rw [rdAt arg2.view (harg2.unread x0) (size := S1.size) inb_S1_S1_0 _ (ix1 (0 : Fin 1)) (by
      intro a
      match a with
      | ⟨0, _⟩ => rfl), harg2.read_unread]
  have e4 : View.readAt (Elt Ideal) arg6.view (Rect.unit (s := S1x256) ![0, 0] S1x256.size inb_S1x256_S1x256_0_0).toLoadRect
      (harg6.unread x4) (ix2 (0 : Fin 1) (⟨h.val * 64 + d.val, by omega⟩ : Fin 256))
        = x4 (ix2 (0 : Fin 1) (⟨h.val * 64 + d.val, by omega⟩ : Fin 256)) := by
    rw [rdAt arg6.view (harg6.unread x4) (size := S1x256.size) inb_S1x256_S1x256_0_0 _
      (ix2 (0 : Fin 1) (⟨h.val * 64 + d.val, by omega⟩ : Fin 256)) (by
      intro a
      match a with
      | ⟨0, _⟩ => rfl
      | ⟨1, _⟩ => exact (Nat.zero_add _).symm), harg6.read_unread]
  rw [e4]
  congr 2
  dsimp only
  rw [headAt, headOut_apply, e0]
  congr 1
  funext x
  have n0 := numOf_apply arg10 (arg10.view.writes (Elt Ideal) arg10.view.junk L) (mapOf h 0) x q
  have d0 := denOf_apply arg10 (arg10.view.writes (Elt Ideal) arg10.view.junk L) (mapOf h 0) q
  have n1 := numOf_apply arg10 (arg10.view.writes (Elt Ideal) arg10.view.junk L) (mapOf h 1) x q
  have d1 := denOf_apply arg10 (arg10.view.writes (Elt Ideal) arg10.view.junk L) (mapOf h 1) q
  rw [(hI _ q).2] at n0 d0 n1 d1
  exact congrArg₂ (· - ·) (congrArg₂ Ideal.div n0 d0) (congrArg (x0 (ix1 (0 : Fin 1)) * ·) (congrArg₂ Ideal.div n1 d1))

end

section

variable (c : Dev nD) (i : grid0.Coords) (arg2 : Memref sig .tc .smem S1 .f32) (harg2 : arg2.IsWhole) (arg3 : Memref sig .tc .vmem S256x256 .bf16) (harg3 : arg3.IsWhole) (arg4 : Memref sig .tc .vmem S8448x256 .bf16) (harg4 : arg4.IsWhole) (arg5 : Memref sig .tc .vmem S320x8448 .bf16) (harg5 : arg5.IsWhole) (arg6 : Memref sig .tc .vmem S1x256 .f32) (harg6 : arg6.IsWhole) (arg7 : Memref sig .tc .vmem S256x256 .f32) (harg7 : arg7.IsWhole) (arg8 : Memref sig .tc .vmem S8x256x256 .bf16) (harg8 : arg8.IsWhole) (arg9 : Memref sig .tc .vmem S8x8x256 .f32) (harg9 : arg9.IsWhole) (arg10 : Memref sig .tc .vmem S2x320x256 .f32) (harg10 : arg10.IsWhole)
  (x0 : Vec Ideal S1 .f32) (x1 : Vec Ideal S256x256 .bf16) (x2 : Vec Ideal S8448x256 .bf16) (x3 : Vec Ideal S320x8448 .bf16) (x4 : Vec Ideal S1x256 .f32)

/-- A context tile's block: its queries see the 256 context keys. -/
theorem isOut_A (hx3 : ∀ j, ∃ z : ℝ, x3 j = (z : EReal)) (hc0 : cond0_0 i) (hc1 : ¬cond0_1 i) :
    IsOut x0 x1 x2 x3 x4 256
      (out0_A_5 c i arg2 harg2 arg3 harg3 arg4 harg4 arg5 harg5 arg6 harg6 arg7 harg7 arg8 harg8 arg9 harg9 arg10 harg10 hc0 hc1 x0 x1 x2 x3 x4) := by
  rw [out_A]
  exact fin_isOut _ _ _ _ _ _ _ _ _ _ _ _ _ (nar_inv arg3 harg3 arg4 harg4 arg5 harg5 arg8 arg9 arg10 x1 x2 x3 hx3)

/-- Before trip `n` of the loop, the first `1408 * n` keys have been seen. -/
theorem loop_inv (hx3 : ∀ j, ∃ z : ℝ, x3 j = (z : EReal)) (hc1 : cond0_1 i) (arg1 : BitVec 32) (v1 : FVec Ideal S256x256 .bf16)
    (v26 : IVec S256x256 32) (v70 : IVec S256x256 1) (cst_25 : Ideal .bf16) (n : ℕ) (hn : n ≤ 6) :
    Inv x1 x2 x3
      (arg9.view.read (Elt Ideal) (arg9.view.writes (Elt Ideal) (arg9.view.writes (Elt Ideal) arg9.view.junk initM)
        (pb_k0_t1 Variants.none c none i arg2 harg2 arg3 harg3 arg4 harg4 arg5 harg5 arg6 harg6 arg7 harg7 arg8 harg8 arg9 harg9 arg10 harg10
          arg1 v1 v26 v70 cst_25 hc1 (harg4.unread x2) (harg5.unread x3) (qScr arg3 (harg3.unread x1) arg8)
          (arg9.view.writes (Elt Ideal) arg9.view.junk initM) (arg10.view.writes (Elt Ideal) arg10.view.junk initA) n).1))
      (arg10.view.read (Elt Ideal) (arg10.view.writes (Elt Ideal) (arg10.view.writes (Elt Ideal) arg10.view.junk initA)
        (pb_k0_t1 Variants.none c none i arg2 harg2 arg3 harg3 arg4 harg4 arg5 harg5 arg6 harg6 arg7 harg7 arg8 harg8 arg9 harg9 arg10 harg10
          arg1 v1 v26 v70 cst_25 hc1 (harg4.unread x2) (harg5.unread x3) (qScr arg3 (harg3.unread x1) arg8)
          (arg9.view.writes (Elt Ideal) arg9.view.junk initM) (arg10.view.writes (Elt Ideal) arg10.view.junk initA) n).2)) (1408 * n) := by
  induction n with
  | zero => exact init_inv arg9 arg10 x1 x2 x3
  | succ n ih =>
    have ht : n < k0_t1_loop.trips := lt_of_lt_of_eq (show n < 6 by omega) (by decide +kernel)
    have hs := pb_k0_t1_succ Variants.none c none i arg2 harg2 arg3 harg3 arg4 harg4 arg5 harg5 arg6 harg6 arg7 harg7 arg8 harg8 arg9 harg9 arg10 harg10
          arg1 v1 v26 v70 cst_25 hc1 (harg4.unread x2) (harg5.unread x3) (qScr arg3 (harg3.unread x1) arg8)
          (arg9.view.writes (Elt Ideal) arg9.view.junk initM) (arg10.view.writes (Elt Ideal) arg10.view.junk initA) ⟨n, ht⟩
    dsimp only at hs
    rw [hs]
    dsimp only [tripL_k0_t1]
    rw [trip_maxima, trip_sums, View.writes_append, View.writes_append]
    exact trip_inv i arg4 arg5 arg8 arg9 arg10 hc1 _ _ _ x1 x2 x3 hx3 (harg4.read_unread x2) (harg5.read_unread x3)
      (qScr_apply arg3 harg3 arg8 x1) ⟨n, ht⟩ (by show n < 6; omega) _ _ (ih (by omega))

/-- A latent tile's block: its queries see every key of the batch. -/
theorem isOut_B (hx3 : ∀ j, ∃ z : ℝ, x3 j = (z : EReal)) (hc0 : ¬cond0_0 i) (hc1 : cond0_1 i) :
    IsOut x0 x1 x2 x3 x4 8448
      (out0_B_5 c i arg2 harg2 arg3 harg3 arg4 harg4 arg5 harg5 arg6 harg6 arg7 harg7 arg8 harg8 arg9 harg9 arg10 harg10 hc0 hc1 x0 x1 x2 x3 x4) := by
  obtain ⟨v1, v26, v70, cst_25, e⟩ := out_B c i arg2 harg2 arg3 harg3 arg4 harg4 arg5 harg5 arg6 harg6 arg7 harg7 arg8 harg8 arg9 harg9 arg10 harg10
    x0 x1 x2 x3 x4 hc0 hc1
  rw [e]
  have hI := loop_inv c i arg2 harg2 arg3 harg3 arg4 harg4 arg5 harg5 arg6 harg6 arg7 harg7 arg8 harg8 arg9 harg9 arg10 harg10 x1 x2 x3 hx3
    hc1 (BitVec.ofNat 32 ↑(i 1)) v1 v26 v70 cst_25 6 le_rfl
  rw [show k0_t1_loop.trips = 6 from by decide +kernel]
  rw [← View.writes_append arg10.view] at hI
  exact fin_isOut _ _ _ _ _ _ _ _ _ _ 8448 _ _ hI

end

end Cert.DA.Second

end
-- ==== Proof.DA.Second.Prep.lean ====
/-
  The second layer. The arrays the host prepares for the kernel, and the kernel's blocks of them, read at an index.
-/
module

public import proofs.«01_k».proof.Proof.DA.Second.Block
public import proofs.«01_k».proof.Proof.DA.Second.Data
public import proofs.«01_k».proof.Proof.Gen.Kernel8Ideal.Value
public import Idealize.ShloMosaic.Lib.StableHlo.ReadAt
public import Idealize.ShloMosaic.Lib.Pipeline.ValueKit.Geometry

@[expose] public section

set_option maxRecDepth 16384

noncomputable section

namespace Cert.DA.Second

open Idealize.ShloMosaic Idealize.SL.Sem Cert.Kernel8Ideal Cert.Kernel8Ideal.Gen

variable (m : (ℓ : Loc nD τ sig) → Buf (Elt Ideal) ℓ) (c : Dev nD)

/-- The arguments' elements by their coordinates. -/
abbrev g0 (i : Fin 4) (j : Fin 32) : EReal := m (c, Proc.tc.devRef main_arg0) (ix2 i j)
@[inherit_doc g0] abbrev g1 (i : Fin 16896) (j : Fin 1024) : EReal := m (c, Proc.tc.devRef main_arg1) (ix2 i j)
@[inherit_doc g0] abbrev g2 (i : Fin 16896) (j : Fin 256) : EReal := m (c, Proc.tc.devRef main_arg2) (ix2 i j)
@[inherit_doc g0] abbrev g3 (i : Fin 64) : EReal := m (c, Proc.tc.devRef main_arg3) (ix1 i)

/-- The kernel's factor of the queries. -/
def ss : EReal := Ideal.div 1 (Ideal.sqrt (Ideal.ofBits .f32 1107296256#32) * Ideal.log (Ideal.ofBits .f32 1073741824#32))

/-! ## The host's arrays -/

theorem query_apply (i : Fin 16896) (l : Fin 256) :
    V m c main_v9 (ix2 i (⟨l.val, by omega⟩ : Fin 1024)) = g1 m c i ⟨l.val, by omega⟩ * ss := by
  unfold V
  after_reads_at
  after_reads_at
  rfl

theorem key_apply (i : Fin 16896) (l : Fin 256) :
    V m c main_v9 (ix2 i (⟨256 + l.val, by omega⟩ : Fin 1024)) = g1 m c i ⟨256 + l.val, by omega⟩ := by
  unfold V
  after_reads_at
  after_reads_at

theorem value_apply (b : Fin 2) (h : Fin 4) (d : Fin 64) (k : Fin 8448) :
    V m c main_v15 (ix2 (⟨b.val * 320 + (h.val * 80 + d.val), by omega⟩ : Fin 640) k) = g2 m c (row b k) (col h d) := by
  unfold V
  after_reads_at
  rw [dif_pos (show (b.val * 320 + (h.val * 80 + d.val)) % 80 < 64 by omega)]
  after_reads_at
  exact congrArg (m (c, Proc.tc.devRef main_arg2)) (ix2_congr
    (show (b.val * 320 + (h.val * 80 + d.val)) / 320 * 8448 + k.val = b.val * 8448 + k.val by omega)
    (show (b.val * 320 + (h.val * 80 + d.val)) / 80 % 4 * 64 + (b.val * 320 + (h.val * 80 + d.val)) % 80 = h.val * 64 + d.val by omega))

theorem ones_apply (b : Fin 2) (h : Fin 4) (d : Fin 16) (k : Fin 8448) :
    V m c main_v15 (ix2 (⟨b.val * 320 + (h.val * 80 + (64 + d.val)), by omega⟩ : Fin 640) k) = (1 : EReal) := by
  unfold V
  after_reads_at
  rw [dif_neg (show ¬ (b.val * 320 + (h.val * 80 + (64 + d.val))) % 80 < 64 by omega)]
  after_reads_at

theorem lam_apply : V m c main_v32 (ix1 (0 : Fin 1)) = lamOf (g0 m c) := by
  unfold V
  after_reads_at
  rfl

theorem gain_apply (j : Fin 256) : V m c main_v36 (ix2 (0 : Fin 1) j) = g3 m c ⟨j.val % 64, by omega⟩ := by
  unfold V
  after_reads_at

/-! ## The kernel's blocks -/

theorem idx0 : ∀ t : Fin cfg0.N, win0_0.index t = ![0] := (by decide +kernel : ∀ t : Fin grid0.N, win0_0.index t = ![0])
theorem idx1 : ∀ t : Fin cfg0.N, win0_1.index t = ![t.val, 0] := (by decide +kernel : ∀ t : Fin grid0.N, win0_1.index t = ![t.val, 0])
theorem idx2 : ∀ t : Fin cfg0.N, win0_2.index t = ![t.val / 33, 1] :=
  (by decide +kernel : ∀ t : Fin grid0.N, win0_2.index t = ![t.val / 33, 1])
theorem idx3 : ∀ t : Fin cfg0.N, win0_3.index t = ![t.val / 33, 0] :=
  (by decide +kernel : ∀ t : Fin grid0.N, win0_3.index t = ![t.val / 33, 0])
theorem idx4 : ∀ t : Fin cfg0.N, win0_4.index t = ![0, 0] := (by decide +kernel : ∀ t : Fin grid0.N, win0_4.index t = ![0, 0])
theorem idx5 : ∀ t : Fin cfg0.N, win0_5.index t = ![t.val, 0] := (by decide +kernel : ∀ t : Fin grid0.N, win0_5.index t = ![t.val, 0])
theorem pt_lt (t : Fin cfg0.N) : t.val < 66 := t.isLt

/-- The sequence that point `t` works on, and the position of its first query. -/
def seqOf (t : Fin cfg0.N) : Fin 2 := ⟨t.val / 33, by have := pt_lt t; omega⟩
@[inherit_doc seqOf] def posOf (t : Fin cfg0.N) (q : Fin 256) : Fin 8448 := ⟨t.val % 33 * 256 + q.val, by omega⟩

theorem blk0_apply (t : Fin cfg0.N) : iblk m c 0 t (ix1 (0 : Fin 1)) = lamOf (g0 m c) := by
  refine Eq.trans ?_ (lam_apply m c)
  have hi := idx0 t
  unfold iblk
  generalize V m c = W
  blk_ext [hi]

theorem blk1_apply (t : Fin cfg0.N) (q l : Fin 256) :
    iblk m c 1 t (ix2 q l) = g1 m c (row (seqOf t) (posOf t q)) ⟨l.val, by omega⟩ * ss := by
  refine Eq.trans ?_ (query_apply m c _ l)
  have hi := idx1 t
  unfold iblk row seqOf posOf
  generalize V m c = W
  blk_ext [hi]

theorem blk2_apply (t : Fin cfg0.N) (k : Fin 8448) (l : Fin 256) :
    iblk m c 2 t (ix2 k l) = g1 m c (row (seqOf t) k) ⟨256 + l.val, by omega⟩ := by
  refine Eq.trans ?_ (key_apply m c _ l)
  have hi := idx2 t
  unfold iblk row seqOf
  generalize V m c = W
  blk_ext [hi]

theorem blk3_apply (t : Fin cfg0.N) (r : Fin 320) (k : Fin 8448) :
    iblk m c 3 t (ix2 r k) = V m c main_v15 (ix2 (⟨(seqOf t).val * 320 + r.val, by omega⟩ : Fin 640) k) := by
  have hi := idx3 t
  unfold iblk seqOf
  generalize V m c = W
  blk_ext [hi]

theorem blk4_apply (t : Fin cfg0.N) (j : Fin 256) : iblk m c 4 t (ix2 (0 : Fin 1) j) = g3 m c ⟨j.val % 64, by omega⟩ := by
  refine Eq.trans ?_ (gain_apply m c j)
  have hi := idx4 t
  unfold iblk
  generalize V m c = W
  blk_ext [hi]

end Cert.DA.Second

end
-- ==== Proof.DA.Second.Bridge.lean ====
/-
  The second layer. The kernel's block outputs, from the sums over the keys seen to the reference's form.
-/
module

public import proofs.«01_k».proof.Proof.DA.Second.Prep

@[expose] public section

set_option maxRecDepth 16384

noncomputable section

namespace Cert.DA.Second

open Idealize.ShloMosaic Idealize.SL.Sem Cert.Kernel8Ideal Cert.Kernel8Ideal.Gen
open scoped BigOperators

/-! ## The two factors -/

/-- The factors of the products, as real numbers: the reference's and the kernel's. -/
def rReal : ℝ := 1 / Real.sqrt 32
@[inherit_doc rReal] def sReal : ℝ := 1 / (Real.sqrt 32 * Real.log 2)

theorem thirtyTwo_eq : Ideal.ofBits .f32 1107296256#32 = ((32 : ℝ) : EReal) := by
  simp [Ideal.ofBits, Ideal.ieee]
  rw [← EReal.coe_mul, EReal.coe_eq_coe_iff]
  norm_num

theorem two_eq : Ideal.ofBits .f32 1073741824#32 = ((2 : ℝ) : EReal) := by
  simp [Ideal.ofBits, Ideal.ieee]
  rw [← EReal.coe_mul, EReal.coe_eq_coe_iff]
  norm_num

theorem sqrt32_pos : 0 < Real.sqrt 32 := Real.sqrt_pos.mpr (by norm_num)
theorem log2_pos : 0 < Real.log 2 := Real.log_pos one_lt_two

theorem rr_eq : rr = ((rReal : ℝ) : EReal) := by
  unfold rr rReal
  rw [thirtyTwo_eq, Ideal.sqrt_coe, if_neg (by norm_num)]
  exact div_coe 1 (Real.sqrt 32) sqrt32_pos.ne'

theorem ss_eq : ss = ((sReal : ℝ) : EReal) := by
  unfold ss sReal
  rw [thirtyTwo_eq, two_eq, Ideal.sqrt_coe, if_neg (by norm_num), Ideal.log_coe, if_neg (by norm_num), ← EReal.coe_mul]
  exact div_coe 1 (Real.sqrt 32 * Real.log 2) (mul_pos sqrt32_pos log2_pos).ne'

theorem sReal_pos : 0 < sReal := one_div_pos.mpr (mul_pos sqrt32_pos log2_pos)

theorem rReal_eq : rReal = sReal * Real.log 2 := by
  unfold rReal sReal
  field_simp [sqrt32_pos.ne', log2_pos.ne']

/-! ## The products of a map's lanes -/

/-- A sum over the 256 lanes that keeps one map's lanes is a sum over that map's 32 lanes. -/
theorem sum_lanes (f : Fin 256 → EReal) (e : Fin 8) :
    (∑ l : Fin 256, if l.val / 32 = e.val then f l else 0) = ∑ l : Fin 32, f ⟨e.val * 32 + l.val, by omega⟩ := by
  rw [← Equiv.sum_comp (finProdFinEquiv : Fin 8 × Fin 32 ≃ Fin 256)]
  rw [Fintype.sum_prod_type]
  rw [Finset.sum_eq_single e]
  · refine Finset.sum_congr rfl fun l _ => ?_
    have h : ((finProdFinEquiv (e, l) : Fin 256) : ℕ) = l.val + 32 * e.val := rfl
    rw [if_pos (by rw [h]; omega)]
    exact congrArg f (Fin.ext (by rw [h]; show _ = e.val * 32 + l.val; omega))
  · intro a _ ha
    refine Finset.sum_eq_zero fun l _ => if_neg ?_
    have h : ((finProdFinEquiv (a, l) : Fin 256) : ℕ) = l.val + 32 * a.val := rfl
    rw [h]
    intro hc
    exact ha (Fin.ext (by omega))
  · exact fun h => absurd (Finset.mem_univ e) h

/-- A logit, from the query's and the key's lanes. -/
theorem logit_of (x1 : Vec Ideal S256x256 .bf16) (x2 : Vec Ideal S8448x256 .bf16) (u w : Fin 256 → EReal) (e : Fin 8) (q : Fin 256)
    (k : ℕ) (hk : k < 8448) (h1 : ∀ l, x1 (ix2 q l) = u l * ((sReal : ℝ) : EReal)) (h2 : ∀ l, x2 (ix2 (⟨k, hk⟩ : Fin 8448) l) = w l) :
    logit x1 x2 e.val q k = ((sReal : ℝ) : EReal) * ∑ l : Fin 32, u ⟨e.val * 32 + l.val, by omega⟩ * w ⟨e.val * 32 + l.val, by omega⟩ := by
  rw [logit_of_lt _ _ _ _ _ hk]
  have e1 : ∀ l : Fin 256, x2 (ix2 (⟨k, hk⟩ : Fin 8448) l) * (if l.val / 32 = e.val then x1 (ix2 q l) else 0)
      = if l.val / 32 = e.val then ((sReal : ℝ) : EReal) * (u l * w l) else 0 := by
    intro l
    by_cases hl : l.val / 32 = e.val
    · rw [if_pos hl, if_pos hl, h1, h2, mul_comm (w l), mul_assoc, mul_comm ((sReal : ℝ) : EReal) (w l), ← mul_assoc, mul_comm _ ((sReal : ℝ) : EReal)]
    · rw [if_neg hl, if_neg hl, mul_zero]
  rw [Finset.sum_congr rfl fun l _ => e1 l, sum_lanes (fun l => ((sReal : ℝ) : EReal) * (u l * w l)) e, coe_mul_sum _ _ _ sReal_pos.le]

variable (m : (ℓ : Loc nD τ sig) → Buf (Elt Ideal) ℓ) (c : Dev nD)

/-- A logit of the kernel is its factor times the product of query and key. -/
theorem logit_eq (t : Fin cfg0.N) (h : Fin 4) (e : Fin 2) (q : Fin 256) (k : ℕ) (hk : k < 8448) :
    logit (iblk m c 1 t) (iblk m c 2 t) (mapOf h e).val q k = ((sReal : ℝ) : EReal) * dotp (g1 m c) (seqOf t) h e (posOf t q) k := by
  refine (logit_of _ _ (fun l => g1 m c (row (seqOf t) (posOf t q)) ⟨l.val, by omega⟩)
    (fun l => g1 m c (row (seqOf t) ⟨k, hk⟩) ⟨256 + l.val, by omega⟩) (mapOf h e) q k hk
    (fun l => (blk1_apply m c t q l).trans (congrArg _ ss_eq)) (fun l => blk2_apply m c t ⟨k, hk⟩ l)).trans ?_
  unfold dotp
  rw [dif_pos hk]
  refine congrArg _ (Finset.sum_congr rfl fun l _ => ?_)
  have hl : (mapOf h e).val * 32 + l.val = (lane h e l).val := by
    show (2 * h.val + e.val) * 32 + l.val = h.val * 64 + e.val * 32 + l.val
    omega
  exact congrArg₂ (· * ·) (congrArg (g1 m c _) (Fin.ext hl)) (congrArg (g1 m c _) (Fin.ext (congrArg (256 + ·) hl)))

/-! ## The values and the ones -/

/-- The rows of the values' block. -/
theorem vals_apply (t : Fin cfg0.N) (h : Fin 4) (d : Fin 64) (k : Fin 8448) :
    iblk m c 3 t (ix2 (⟨h.val * 80 + d.val, by omega⟩ : Fin 320) k) = g2 m c (row (seqOf t) k) (col h d) := by
  rw [blk3_apply]
  exact value_apply m c (seqOf t) h d k

theorem unit_apply (t : Fin cfg0.N) (h : Fin 4) (d : Fin 16) (k : Fin 8448) :
    iblk m c 3 t (ix2 (⟨h.val * 80 + (64 + d.val), by omega⟩ : Fin 320) k) = (1 : EReal) := by
  rw [blk3_apply]
  exact ones_apply m c (seqOf t) h d k

/-- The values' block is real when the values are. -/
theorem vals_real (hv : ∀ i j, ∃ z : ℝ, g2 m c i j = (z : EReal)) (t : Fin cfg0.N) (j : S320x8448.Idx) :
    ∃ z : ℝ, iblk m c 3 t j = (z : EReal) := by
  obtain ⟨r, k, rfl⟩ : ∃ (r : Fin 320) (k : Fin 8448), j = ix2 r k := ⟨j 0, j 1, by funext a; match a with | ⟨0, _⟩ => rfl | ⟨1, _⟩ => rfl⟩
  by_cases hr : r.val % 80 < 64
  · have e : r = ⟨(⟨r.val / 80, by omega⟩ : Fin 4).val * 80 + (⟨r.val % 80, hr⟩ : Fin 64).val, by show r.val / 80 * 80 + r.val % 80 < 320; omega⟩ :=
      Fin.ext (by show r.val = r.val / 80 * 80 + r.val % 80; omega)
    rw [e, vals_apply]
    exact hv _ _
  · have e : r = ⟨(⟨r.val / 80, by omega⟩ : Fin 4).val * 80 + (64 + (⟨r.val % 80 - 64, by omega⟩ : Fin 16).val), by
        show r.val / 80 * 80 + (64 + (r.val % 80 - 64)) < 320; omega⟩ :=
      Fin.ext (by show r.val = r.val / 80 * 80 + (64 + (r.val % 80 - 64)); omega)
    rw [e, unit_apply]
    exact ⟨1, rfl⟩

theorem vrow_val (t : Fin cfg0.N) (h : Fin 4) (e : Fin 2) (d : Fin 64) (k : ℕ) (hk : k < 8448) :
    vrow (iblk m c 3 t) (mapOf h e) ⟨d.val, by omega⟩ k = (vvec (g2 m c) (seqOf t) h d k).toReal := by
  unfold vrow vvec
  rw [dif_pos hk, dif_pos hk, ← vals_apply m c t h d ⟨k, hk⟩]
  refine congrArg (fun r : Fin 320 => EReal.toReal (iblk m c 3 t (ix2 r (⟨k, hk⟩ : Fin 8448)))) (Fin.ext ?_)
  show 80 * ((2 * h.val + e.val) / 2) + d.val = h.val * 80 + d.val
  omega

theorem vrow_one (t : Fin cfg0.N) (h : Fin 4) (e : Fin 2) (k : ℕ) (hk : k < 8448) :
    vrow (iblk m c 3 t) (mapOf h e) ⟨64, by omega⟩ k = 1 := by
  unfold vrow
  rw [dif_pos hk]
  have e1 : (⟨80 * ((mapOf h e).val / 2) + 64, by have := (mapOf h e).isLt; omega⟩ : Fin 320) = ⟨h.val * 80 + (64 + (0 : Fin 16).val), by show h.val * 80 + (64 + 0) < 320; omega⟩ :=
    Fin.ext (by show 80 * ((2 * h.val + e.val) / 2) + 64 = h.val * 80 + (64 + 0); omega)
  have e2 := unit_apply m c t h 0 ⟨k, hk⟩
  rw [← e1] at e2
  exact (congrArg EReal.toReal e2).trans EReal.toReal_one

/-! ## A block's outputs -/

/-- A block whose queries have seen the first `K` keys holds the reference's results. -/
theorem block_eq (hv : ∀ i j, ∃ z : ℝ, g2 m c i j = (z : EReal)) (lam : ℝ) (hlam : lamOf (g0 m c) = (lam : EReal)) (t : Fin cfg0.N)
    (K : ℕ) (hK : K ≤ 8448) (B : FVec Ideal S256x256 .f32)
    (hB : IsOut (iblk m c 0 t) (iblk m c 1 t) (iblk m c 2 t) (iblk m c 3 t) (iblk m c 4 t) K B) (q : Fin 256) (h : Fin 4) (d : Fin 64) :
    B (ix2 q (col h d)) = refVal (g0 m c) (g1 m c) (g2 m c) (g3 m c) (seqOf t) (posOf t q) h K d := by
  obtain ⟨M1, M2, h1, h2, e⟩ := hB q h d
  refine e.trans ?_
  unfold outVal refVal attn
  rw [blk0_apply, hlam, blk4_apply, rr_eq, sixtyFour_eq]
  have hg : (⟨(⟨h.val * 64 + d.val, by omega⟩ : Fin 256).val % 64, by omega⟩ : Fin 64) = d :=
    Fin.ext (by show (h.val * 64 + d.val) % 64 = d.val; omega)
  rw [hg]
  refine congrArg (· * g3 m c d * Ideal.ofBits .f32 1059388764#32) ?_
  exact heads_eq 64 (by norm_num) _ eps_ne_bot lam sReal rReal negR sReal_pos rReal_eq
    (dotp (g1 m c) (seqOf t) h 0 (posOf t q)) (dotp (g1 m c) (seqOf t) h 1 (posOf t q)) _ _
    (fun d k => vrow (iblk m c 3 t) (mapOf h 0) ⟨d.val, by omega⟩ k) _ _ (fun d k => vvec (g2 m c) (seqOf t) h d k)
    (fun d k => vrow (iblk m c 3 t) (mapOf h 1) ⟨d.val, by omega⟩ k) K
    (fun k hk => logit_eq m c t h 0 q k (by omega)) (fun k hk => logit_eq m c t h 1 q k (by omega))
    (fun k hk => vrow_one m c t h 0 k (by omega)) (fun k hk => vrow_one m c t h 1 k (by omega))
    (fun d k hk => by
      rw [vrow_val m c t h 0 d k (by omega)]
      unfold vvec
      rw [dif_pos (show k < 8448 by omega)]
      obtain ⟨z, hz⟩ := hv (row (seqOf t) ⟨k, by omega⟩) (col h d)
      rw [hz, EReal.toReal_coe])
    (fun d k hk => (vrow_val m c t h 1 d k (by omega)).trans (vrow_val m c t h 0 d k (by omega)).symm)
    M1 M2 h1 h2 d

end Cert.DA.Second

end
-- ==== Proof.DA.Second.Array.lean ====
/-
  The second layer. The kernel's result array after the run, at every index.
-/
module

public import proofs.«01_k».proof.Proof.DA.Second.Bridge

@[expose] public section

set_option maxRecDepth 16384

noncomputable section

namespace Cert.DA.Second

open Idealize.ShloMosaic Idealize.SL.Sem Cert.Kernel8Ideal Cert.Kernel8Ideal.Gen

variable (m : (ℓ : Loc nD τ sig) → Buf (Elt Ideal) ℓ) (c : Dev nD)

/-- Every pair of coordinates is the row of a position of a sequence and the column of a component of a head. -/
theorem exists_coords (i : S16896x256.Idx) : ∃ (b : Fin 2) (n : Fin 8448) (h : Fin 4) (d : Fin 64), i = ix2 (row b n) (col h d) := by
  have h0 : (i 0).val < 16896 := (i 0).isLt
  have h1 : (i 1).val < 256 := (i 1).isLt
  refine ⟨⟨(i 0).val / 8448, by omega⟩, ⟨(i 0).val % 8448, by omega⟩, ⟨(i 1).val / 64, by omega⟩, ⟨(i 1).val % 64, by omega⟩, ?_⟩
  funext a
  match a with
  | ⟨0, _⟩ => exact Fin.ext (by show (i 0).val = (i 0).val / 8448 * 8448 + (i 0).val % 8448; omega)
  | ⟨1, _⟩ => exact Fin.ext (by show (i 1).val = (i 1).val / 64 * 64 + (i 1).val % 64; omega)

/-- The reference's result as an array. -/
def resultOf (a0 : Fin 4 → Fin 32 → EReal) (a1 : Fin 16896 → Fin 1024 → EReal) (a2 : Fin 16896 → Fin 256 → EReal) (a3 : Fin 64 → EReal)
    (i : S16896x256.Idx) : EReal :=
  have h0 : (i 0).val < 16896 := (i 0).isLt
  have h1 : (i 1).val < 256 := (i 1).isLt
  refVal a0 a1 a2 a3 ⟨(i 0).val / 8448, by omega⟩ ⟨(i 0).val % 8448, by omega⟩ ⟨(i 1).val / 64, by omega⟩
    (keys ⟨(i 0).val % 8448, by omega⟩) ⟨(i 1).val % 64, by omega⟩

theorem resultOf_apply (a0 : Fin 4 → Fin 32 → EReal) (a1 : Fin 16896 → Fin 1024 → EReal) (a2 : Fin 16896 → Fin 256 → EReal) (a3 : Fin 64 → EReal)
    (b : Fin 2) (n : Fin 8448) (h : Fin 4) (d : Fin 64) (i : S16896x256.Idx) (e0 : (i 0).val = b.val * 8448 + n.val)
    (e1 : (i 1).val = h.val * 64 + d.val) : resultOf a0 a1 a2 a3 i = refVal a0 a1 a2 a3 b n h (keys n) d := by
  unfold resultOf
  have w0 : (i 0).val / 8448 = b.val := by rw [e0]; omega
  have w1 : (i 0).val % 8448 = n.val := by rw [e0]; omega
  have w2 : (i 1).val / 64 = h.val := by rw [e1]; omega
  have w3 : (i 1).val % 64 = d.val := by rw [e1]; omega
  simp only [w0, w1, w2, w3]

/-- The kernel's result array is the reference's, when the values and the second softmax's factor are real. -/
theorem array_eq (hv : ∀ i j, ∃ z : ℝ, g2 m c i j = (z : EReal)) (lam : ℝ) (hlam : lamOf (g0 m c) = (lam : EReal)) :
    (dats m 0 c).arrAt 5 cfg0.N = resultOf (g0 m c) (g1 m c) (g2 m c) (g3 m c) := by
  refine (dats m 0 c).arrAt_eq_of_covers 5 _ (by decide +kernel) fun t hf y => ?_
  change (dats m 0 c).flushed 5 t y = _
  have hi := idx5 t
  have ht := pt_lt t
  have f0 : ((((cfg0.win 5).blk t).view.emb y) 0).val = t.val * 256 + (y 0).val := by blk_simp [hi]
  have f1 : ((((cfg0.win 5).blk t).view.emb y) 1).val = (y 1).val := by blk_simp [hi]
  have y0 : (y 0).val < 256 := (y 0).isLt
  have y1 : (y 1).val < 256 := (y 1).isLt
  have key : ∀ (K : ℕ) (hK : K ≤ 8448) (hk : keys (posOf t ⟨(y 0).val, y0⟩) = K) (B : FVec Ideal S256x256 .f32),
      IsOut (iblk m c 0 t) (iblk m c 1 t) (iblk m c 2 t) (iblk m c 3 t) (iblk m c 4 t) K B →
      (cfg0.win 5).cut (grid0.coords t) B y = resultOf (g0 m c) (g1 m c) (g2 m c) (g3 m c) (((cfg0.win 5).blk t).view.emb y) := by
    intro K hK hk B hB
    have e := block_eq m c hv lam hlam t K hK B hB ⟨(y 0).val, y0⟩ ⟨(y 1).val / 64, by omega⟩ ⟨(y 1).val % 64, by omega⟩
    have e' := resultOf_apply (g0 m c) (g1 m c) (g2 m c) (g3 m c) (seqOf t) (posOf t ⟨(y 0).val, y0⟩) ⟨(y 1).val / 64, by omega⟩
      ⟨(y 1).val % 64, by omega⟩ (((cfg0.win 5).blk t).view.emb y)
      (by rw [f0]; show _ = t.val / 33 * 8448 + (t.val % 33 * 256 + (y 0).val); omega)
      (by rw [f1]; show _ = (y 1).val / 64 * 64 + (y 1).val % 64; omega)
    rw [e', hk, ← e]
    show B ((cfg0.win 5).xinj (grid0.coords t) y) = _
    refine congrArg B (funext fun a => ?_)
    match a with
    | ⟨0, _⟩ => rfl
    | ⟨1, _⟩ => exact Fin.ext (by show (y 1).val = (y 1).val / 64 * 64 + (y 1).val % 64; omega)
  by_cases h0 : t.val % 33 = 0
  · have h1 : ¬1 ≤ t.val % 33 := by omega
    rw [Value.flushed5_A m c t h0 h1]
    exact key 256 (by omega) (if_pos (by show t.val % 33 * 256 + (y 0).val < 256; omega)) _
      (isOut_A _ _ _ _ _ _ _ _ _ _ _ _ _ _ _ _ _ _ _ _ _ _ _ _ _ (vals_real m c hv t) _ _)
  · have h1 : 1 ≤ t.val % 33 := by omega
    rw [Value.flushed5_B m c t h0 h1]
    exact key 8448 le_rfl (if_neg (by show ¬ t.val % 33 * 256 + (y 0).val < 256; omega)) _
      (isOut_B _ _ _ _ _ _ _ _ _ _ _ _ _ _ _ _ _ _ _ _ _ _ _ _ _ (vals_real m c hv t) _ _)

end Cert.DA.Second

end
-- ==== Proof.DA.Second.Pre.lean ====
/-
  The second layer. What the precondition gives: the values and the second softmax's factor are real.
-/
module

public import proofs.«01_k».proof.Proof.DA.Second.Array
public import proofs.«01_k».proof.Pre_finite
public import Idealize.ShloMosaic.Lib.ReduceAll
public import Idealize.ShloMosaic.Lib.Affine

@[expose] public section

set_option maxRecDepth 16384

noncomputable section

namespace Cert.DA.Second

open Idealize.ShloMosaic Idealize.SL.Sem

/-- An extended real whose absolute value is below infinity is real. -/
theorem real_of_abs (x : EReal) (h : max x (-x) < ⊤) : ∃ z : ℝ, x = (z : EReal) := by
  induction x with
  | bot => simp at h
  | top => simp at h
  | coe z => exact ⟨z, rfl⟩

theorem inf_eq : Ideal.ofBits .f32 0x7F800000#32 = ⊤ := by simp [Ideal.ofBits, Ideal.ieee]

/-- The same, from the comparison's word. -/
theorem real_of_word (x : EReal) (h : BitVec.ofBool (decide (max x (-x) < Ideal.ofBits .f32 0x7F800000#32)) = 1#1) :
    ∃ z : ℝ, x = (z : EReal) := by
  rw [inf_eq] at h
  refine real_of_abs x ?_
  by_contra hc
  rw [decide_eq_false hc] at h
  exact absurd h (by decide)

/-- The precondition, element by element. -/
theorem pre_real [Cert.Pre_finite.Facts] (A0 : FVec Ideal Cert.Pre_finite.S4x32 .f32) (A1 : FVec Ideal Cert.Pre_finite.S16896x1024 .f32)
    (A2 : FVec Ideal Cert.Pre_finite.S16896x256 .f32) (A3 : FVec Ideal Cert.Pre_finite.S64 .f32)
    (h : Cert.Pre_finite.fn (F := Ideal) A0 A1 A2 A3 = fun _ => 1#1) :
    (∀ i, ∃ z : ℝ, A0 i = (z : EReal)) ∧ ∀ i, ∃ z : ℝ, A2 i = (z : EReal) := by
  have e := congrFun h ix0
  dsimp only [Cert.Pre_finite.fn] at e
  obtain ⟨e0, e2⟩ := IntOp.andi_eq_one.mp e
  have one : Subsingleton Cert.Pre_finite.S_.Idx := ⟨fun a b => funext fun k => k.elim0⟩
  exact ⟨fun i => real_of_word _ (Host.reduce_andi_all _ _ _ _ _ e0 i), fun i => real_of_word _ (Host.reduce_andi_all _ _ _ _ _ e2 i)⟩

/-- The factor of the second softmax is real when its vectors are. -/
theorem lam_real (a0 : Fin 4 → Fin 32 → EReal) (h : ∀ i j, ∃ z : ℝ, a0 i j = (z : EReal)) : ∃ lam : ℝ, lamOf a0 = (lam : EReal) := by
  choose z hz using h
  have hs : ∀ i j, (∑ x, a0 i x * a0 j x) = ((∑ x, z i x * z j x : ℝ) : EReal) := by
    intro i j
    rw [coe_sum]
    exact Finset.sum_congr rfl fun x _ => by rw [hz, hz, EReal.coe_mul]
  have hc : ∃ w : ℝ, Ideal.ofBits .f32 1052116297#32 = (w : EReal) := by
    simp only [Ideal.ofBits, Ideal.ieee]
    norm_num
    exact ⟨_, rfl⟩
  obtain ⟨w, hw⟩ := hc
  unfold lamOf
  rw [hs, hs, Ideal.exp_coe, Ideal.exp_coe, hw]
  exact ⟨Real.exp _ - Real.exp _ + w, by push_cast; rfl⟩

end Cert.DA.Second

end
-- ==== Proof.Moe.Second.Ref.lean ====
/-
  The second layer. The reference's experts at an index.
-/
module

public import proofs.«01_k».proof.Proof.Moe.Data
public import proofs.«01_k».proof.Proof.Gen.Reference9Ideal.Read

@[expose] public section

set_option maxRecDepth 16384

noncomputable section

namespace Cert.Moe.Second

open Idealize.ShloMosaic Idealize.SL.Sem Cert.Reference9Ideal Cert.Reference9Ideal.Gen Cert.Reference9Ideal.Read

variable (A0 : (⟨S16896x1024, .f32⟩ : BufTy).Contents (Elt Ideal)) (A1 : (⟨S16896x64, .f32⟩ : BufTy).Contents (Elt Ideal))
  (A2 : (⟨S2x64x1024x512, .f32⟩ : BufTy).Contents (Elt Ideal)) (A3 : (⟨S2x64x256x1024, .f32⟩ : BufTy).Contents (Elt Ideal))
  (A4 : (⟨S1024x512, .f32⟩ : BufTy).Contents (Elt Ideal)) (A5 : (⟨S256x1024, .f32⟩ : BufTy).Contents (Elt Ideal))

/-- The arrays' elements by their coordinates. -/
abbrev f0 (i : Fin 16896) (j : Fin 1024) : EReal := A0 (ix2 i j)
@[inherit_doc f0] abbrev f1 (i : Fin 16896) (e : Fin 64) : EReal := A1 (ix2 i e)
@[inherit_doc f0] abbrev f2 (e : Fin 64) (k : Fin 1024) (h : Fin 512) : EReal := A2 (ix4 (1 : Fin 2) e k h)
@[inherit_doc f0] abbrev f3 (e : Fin 64) (h : Fin 256) (j : Fin 1024) : EReal := A3 (ix4 (1 : Fin 2) e h j)
@[inherit_doc f0] abbrev f4 (k : Fin 1024) (h : Fin 512) : EReal := A4 (ix2 k h)
@[inherit_doc f0] abbrev f5 (h : Fin 256) (j : Fin 1024) : EReal := A5 (ix2 h j)

/-- One expert's result for a token. -/
theorem expert_apply (e : Fin 64) (r : Fin 16896) (j : Fin 1024) :
    val_main_v10 (F := Ideal) A0 A2 A3 (ix3 e r j) = ffn (f0 A0 r) (f2 A2 e) (f3 A3 e) j := by
  pointwise [val_main_v10, val_main_v9, val_main_v8, val_main_v7, val_main_v6, val_main_v5, val_main_v4, val_main_v3,
    val_main_v2, val_main_v1, val_main_v0, val_main_call0_v5, val_main_call0_v4, val_main_call0_v3, val_main_call0_v2, val_main_call0_v1, val_main_call0_v0,
    val_main_call0_cst, val_main_call0_cst_0]
  unfold ffn silu Ideal.logistic
  simp only [mul_comm (A2 _)]

/-- The reference's result. -/
theorem ref_apply (r : Fin 16896) (j : Fin 1024) :
    val_main_v18 (F := Ideal) A0 A1 A2 A3 A4 A5 (ix2 r j) = moeVal (f0 A0 r) (f1 A1 r) (f2 A2) (f3 A3) (f4 A4) (f5 A5) j := by
  pointwise [val_main_v18, val_main_v17, val_main_v16, val_main_v15, val_main_v14, val_main_v13, val_main_v12, val_main_v11,
    expert_apply, val_main_call1_v5, val_main_call1_v4, val_main_call1_v3, val_main_call1_v2, val_main_call1_v1, val_main_call1_v0,
    val_main_call1_cst, val_main_call1_cst_0]
  unfold moeVal
  rw [add_comm]
  exact congrArg₂ (· + ·) rfl (Finset.sum_congr rfl fun e _ => mul_comm _ _)

end Cert.Moe.Second

end
-- ==== Proof.Moe.Second.Kern.lean ====
/-
  The second layer. The kernel's experts: what one point of the grid adds to a block of the result, at an index.
-/
module

public import proofs.«01_k».proof.Proof.Moe.Data
public import proofs.«01_k».proof.Proof.Gen.Kernel9Ideal.Value
public import Idealize.ShloMosaic.Lib.StableHlo.ReadAt
public import Idealize.ShloMosaic.Lib.Pipeline.ValueKit.Geometry
public import Idealize.ShloMosaic.Lib.Pipeline.ValueKit.Acc

@[expose] public section

set_option maxRecDepth 16384

noncomputable section

namespace Cert.Moe.Second

open Idealize.ShloMosaic Idealize.SL.Sem Cert.Kernel9Ideal Cert.Kernel9Ideal.Gen

/-- The shared unit's result for a block of tokens. -/
theorem shared_apply (gu : Vec Ideal S1024x512 .bf16) (d : Vec Ideal S256x1024 .bf16) (x : Vec Ideal S2112x1024 .bf16)
    (q : Fin 2112) (j : Fin 1024) :
    k0_pay2 gu d x (ix2 q j) = ffn (fun k => x (ix2 q k)) (fun k h => gu (ix2 k h)) (fun h j => d (ix2 h j)) j := by
  pointwise [k0_pay2]
  rfl

/-- A row's sum over the lanes whose number is `e` is lane `e`. -/
theorem gate_sum (gate : Fin 64 → EReal) (w : BitVec 32) (e : ℕ) (he : e < 64) (hw : w = BitVec.ofNat 32 e) :
    ∑ x : Fin 64, Scalar.select (IntOp.cmpi CmpIPredicate.eq (BitVec.ofNat 32 x.val) w) (gate x) 0 = gate ⟨e, he⟩ := by
  subst hw
  rw [Finset.sum_eq_single (⟨e, he⟩ : Fin 64)]
  · rw [WordCmp.select_of_eq_one ((WordCmp.cmpi_eq_ofNat_eq_one_iff (by omega) (by omega)).mpr rfl)]
  · intro x _ hx
    exact WordCmp.select_of_eq_zero ((WordCmp.cmpi_eq_ofNat_eq_zero_iff (by have := x.isLt; omega) (by omega)).mpr
      fun h => hx (Fin.ext h)) _ _
  · exact fun h => absurd (Finset.mem_univ _) h

variable (x : Vec Ideal S2112x1024 .bf16) (gate : Vec Ideal S2112x64 .f32) (acc : Vec Ideal S2112x1024 .f32)
  (gu : Vec Ideal S1x1x1024x512 .f32) (d : Vec Ideal S1x1x256x1024 .f32)

/-- The first expert of a point is added with its gate. -/
theorem pay3_apply (i : grid0.Coords) (e : ℕ) (he : e < 32) (hi : (i 1).val = e) (q : Fin 2112) (j : Fin 1024) :
    k0_pay3 i gate acc gu d x (ix2 q j)
      = acc (ix2 q j) + ffn (fun k => x (ix2 q k)) (fun k h => gu (ix4 (0 : Fin 1) (0 : Fin 1) k h))
          (fun h j => d (ix4 (0 : Fin 1) (0 : Fin 1) h j)) j * gate (ix2 q (⟨2 * e, by omega⟩ : Fin 64)) := by
  have hg := gate_sum (fun l => gate (ix2 q l)) (Scalar.addi (Scalar.muli (BitVec.ofNat 32 (i 1).val) 2#32) 0#32) (2 * e) (by omega)
    (by rw [hi]; interval_cases e <;> rfl)
  rw [← hg]
  pointwise [k0_pay3]
  rfl

/-- The second expert of a point is added with its gate. -/
theorem pay1_apply (e : ℕ) (he : e < 32) (q : Fin 2112) (j : Fin 1024) :
    k0_pay1 (BitVec.ofNat 32 e) gate (iota Kind.tc S2112x64 32 [1] iota_S2112x64_d1_w32) acc gu d x (ix2 q j)
      = acc (ix2 q j) + ffn (fun k => x (ix2 q k)) (fun k h => gu (ix4 (0 : Fin 1) (0 : Fin 1) k h))
          (fun h j => d (ix4 (0 : Fin 1) (0 : Fin 1) h j)) j * gate (ix2 q (⟨2 * e + 1, by omega⟩ : Fin 64)) := by
  have hg := gate_sum (fun l => gate (ix2 q l)) (Scalar.addi (Scalar.muli (BitVec.ofNat 32 e) 2#32) 1#32) (2 * e + 1) (by omega)
    (by interval_cases e <;> rfl)
  rw [← hg]
  pointwise [k0_pay1]
  rfl

/-- Expert `u`'s part of a point's block of two experts' gate and up projections. -/
theorem part_gu (X : Vec Ideal S1x2x1024x512 .f32) (u : Fin 2) (inb) (k : Fin 1024) (h : Fin 512) :
    View.ld X (Rect.unit ![0, u.val, 0, 0] ![1, 1, 1024, 512] inb) (ix4 (0 : Fin 1) (0 : Fin 1) k h) = X (ix4 (0 : Fin 1) u k h) := by
  refine congrArg X (funext fun a => Fin.ext ?_)
  match a with
  | ⟨0, _⟩ => rfl
  | ⟨1, _⟩ => exact Nat.add_zero _
  | ⟨2, _⟩ => exact (Nat.zero_add _).trans (Nat.one_mul _)
  | ⟨3, _⟩ => exact (Nat.zero_add _).trans (Nat.one_mul _)

/-- Expert `u`'s part of a point's block of two experts' down projections. -/
theorem part_d (X : Vec Ideal S1x2x256x1024 .f32) (u : Fin 2) (inb) (h : Fin 256) (j : Fin 1024) :
    View.ld X (Rect.unit ![0, u.val, 0, 0] ![1, 1, 256, 1024] inb) (ix4 (0 : Fin 1) (0 : Fin 1) h j) = X (ix4 (0 : Fin 1) u h j) := by
  refine congrArg X (funext fun a => Fin.ext ?_)
  match a with
  | ⟨0, _⟩ => rfl
  | ⟨1, _⟩ => exact Nat.add_zero _
  | ⟨2, _⟩ => exact (Nat.zero_add _).trans (Nat.one_mul _)
  | ⟨3, _⟩ => exact (Nat.zero_add _).trans (Nat.one_mul _)

variable (m : (ℓ : Loc nD τ sig) → Buf (Elt Ideal) ℓ) (c : Dev nD)

/-- The arguments' elements by their coordinates. -/
abbrev g0 (i : Fin 16896) (j : Fin 1024) : EReal := m (c, Proc.tc.devRef main_arg0) (ix2 i j)
@[inherit_doc g0] abbrev g1 (i : Fin 16896) (e : Fin 64) : EReal := m (c, Proc.tc.devRef main_arg1) (ix2 i e)
@[inherit_doc g0] abbrev g2 (e : Fin 64) (k : Fin 1024) (h : Fin 512) : EReal := m (c, Proc.tc.devRef main_arg2) (ix4 (1 : Fin 2) e k h)
@[inherit_doc g0] abbrev g3 (e : Fin 64) (h : Fin 256) (j : Fin 1024) : EReal := m (c, Proc.tc.devRef main_arg3) (ix4 (1 : Fin 2) e h j)
@[inherit_doc g0] abbrev g4 (k : Fin 1024) (h : Fin 512) : EReal := m (c, Proc.tc.devRef main_arg4) (ix2 k h)
@[inherit_doc g0] abbrev g5 (h : Fin 256) (j : Fin 1024) : EReal := m (c, Proc.tc.devRef main_arg5) (ix2 h j)

theorem idx0 : ∀ t : Fin cfg0.N, win0_0.index t = ![t.val / 32, 0] := (by decide +kernel : ∀ t : Fin grid0.N, win0_0.index t = ![t.val / 32, 0])
theorem idx1 : ∀ t : Fin cfg0.N, win0_1.index t = ![t.val / 32, 0] := (by decide +kernel : ∀ t : Fin grid0.N, win0_1.index t = ![t.val / 32, 0])
theorem idx2 : ∀ t : Fin cfg0.N, win0_2.index t = ![1, t.val % 32, 0, 0] :=
  (by decide +kernel : ∀ t : Fin grid0.N, win0_2.index t = ![1, t.val % 32, 0, 0])
theorem idx3 : ∀ t : Fin cfg0.N, win0_3.index t = ![1, t.val % 32, 0, 0] :=
  (by decide +kernel : ∀ t : Fin grid0.N, win0_3.index t = ![1, t.val % 32, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val / 32, 0] := (by decide +kernel : ∀ t : Fin grid0.N, win0_6.index t = ![t.val / 32, 0])
theorem coord1 : ∀ t : Fin cfg0.N, (grid0.coords t 1).val = t.val % 32 :=
  (by decide +kernel : ∀ t : Fin grid0.N, (grid0.coords t 1).val = t.val % 32)
theorem pt_lt (t : Fin cfg0.N) : t.val < 256 := t.isLt

/-- The row of the arrays that row `q` of block `b` is. -/
def rowOf (b : ℕ) (hb : b < 8) (q : Fin 2112) : Fin 16896 := ⟨b * 2112 + q.val, by omega⟩

theorem div_lt (t : Fin cfg0.N) : t.val / 32 < 8 := by have := pt_lt t; omega

theorem blk0_apply (t : Fin cfg0.N) (q : Fin 2112) (k : Fin 1024) : iblk m c 0 t (ix2 q k) = g0 m c (rowOf (t.val / 32) (div_lt t) q) k := by
  have e : V m c main_v0 (ix2 (rowOf (t.val / 32) (div_lt t) q) k) = g0 m c (rowOf (t.val / 32) (div_lt t) q) k := by
    unfold V
    after_reads_at
  refine Eq.trans ?_ e
  have hi := idx0 t
  unfold iblk rowOf
  generalize V m c = W
  blk_ext [hi]

theorem blk1_apply (t : Fin cfg0.N) (q : Fin 2112) (l : Fin 64) : iblk m c 1 t (ix2 q l) = g1 m c (rowOf (t.val / 32) (div_lt t) q) l := by
  refine Eq.trans ?_ (congrFun (V_main_arg1 m c) _)
  have hi := idx1 t
  unfold iblk rowOf
  generalize V m c = W
  blk_ext [hi]

theorem blk2_apply (t : Fin cfg0.N) (u : Fin 2) (k : Fin 1024) (h : Fin 512) :
    iblk m c 2 t (ix4 (0 : Fin 1) u k h) = g2 m c ⟨2 * (t.val % 32) + u.val, by omega⟩ k h := by
  refine Eq.trans ?_ (congrFun (V_main_arg2 m c) _)
  have hi := idx2 t
  unfold iblk
  generalize V m c = W
  blk_ext [hi]

theorem blk3_apply (t : Fin cfg0.N) (u : Fin 2) (h : Fin 256) (j : Fin 1024) :
    iblk m c 3 t (ix4 (0 : Fin 1) u h j) = g3 m c ⟨2 * (t.val % 32) + u.val, by omega⟩ h j := by
  refine Eq.trans ?_ (congrFun (V_main_arg3 m c) _)
  have hi := idx3 t
  unfold iblk
  generalize V m c = W
  blk_ext [hi]

theorem blk4_apply (t : Fin cfg0.N) (k : Fin 1024) (h : Fin 512) : iblk m c 4 t (ix2 k h) = g4 m c k h := by
  have e : V m c main_v1 (ix2 k h) = g4 m c k h := by
    unfold V
    after_reads_at
  refine Eq.trans ?_ e
  have hi := idx4 t
  unfold iblk
  generalize V m c = W
  blk_ext [hi]

theorem blk5_apply (t : Fin cfg0.N) (h : Fin 256) (j : Fin 1024) : iblk m c 5 t (ix2 h j) = g5 m c h j := by
  have e : V m c main_v2 (ix2 h j) = g5 m c h j := by
    unfold V
    after_reads_at
  refine Eq.trans ?_ e
  have hi := idx5 t
  unfold iblk
  generalize V m c = W
  blk_ext [hi]

/-- The result of row `q` of block `b` after the shared unit and `n` experts. -/
abbrev part (b : ℕ) (hb : b < 8) (n : ℕ) (q : Fin 2112) (j : Fin 1024) : EReal :=
  moePart (g0 m c (rowOf b hb q)) (g1 m c (rowOf b hb q)) (g2 m c) (g3 m c) (g4 m c) (g5 m c) n j

/-- One of a point's two experts: its result times its gate, in the arguments' elements. -/
theorem expert_point (t : Fin cfg0.N) (u : Fin 2) (inb2 inb3) (q : Fin 2112) (j : Fin 1024) :
    ffn (fun k => iblk m c 0 t (ix2 q k))
        (fun k h => View.ld (iblk m c 2 t) (Rect.unit ![0, u.val, 0, 0] ![1, 1, 1024, 512] inb2) (ix4 (0 : Fin 1) (0 : Fin 1) k h))
        (fun h j => View.ld (iblk m c 3 t) (Rect.unit ![0, u.val, 0, 0] ![1, 1, 256, 1024] inb3) (ix4 (0 : Fin 1) (0 : Fin 1) h j)) j
        * iblk m c 1 t (ix2 q (⟨2 * (t.val % 32) + u.val, by omega⟩ : Fin 64))
      = ffn (g0 m c (rowOf (t.val / 32) (div_lt t) q)) (g2 m c ⟨2 * (t.val % 32) + u.val, by omega⟩)
          (g3 m c ⟨2 * (t.val % 32) + u.val, by omega⟩) j
        * g1 m c (rowOf (t.val / 32) (div_lt t) q) ⟨2 * (t.val % 32) + u.val, by omega⟩ := by
  have e0 : (fun k => iblk m c 0 t (ix2 q k)) = g0 m c (rowOf (t.val / 32) (div_lt t) q) := funext fun k => blk0_apply m c t q k
  have e2 : (fun k h => View.ld (iblk m c 2 t) (Rect.unit ![0, u.val, 0, 0] ![1, 1, 1024, 512] inb2) (ix4 (0 : Fin 1) (0 : Fin 1) k h))
      = g2 m c ⟨2 * (t.val % 32) + u.val, by omega⟩ :=
    funext fun k => funext fun h => (part_gu _ u inb2 k h).trans (blk2_apply m c t u k h)
  have e3 : (fun h j => View.ld (iblk m c 3 t) (Rect.unit ![0, u.val, 0, 0] ![1, 1, 256, 1024] inb3) (ix4 (0 : Fin 1) (0 : Fin 1) h j))
      = g3 m c ⟨2 * (t.val % 32) + u.val, by omega⟩ :=
    funext fun h => funext fun j => (part_d _ u inb3 h j).trans (blk3_apply m c t u h j)
  rw [blk1_apply]
  exact congrArg (· * g1 m c _ _) (congrFun (congr (congr (congrArg ffn e0) e2) e3) j)

/-- The contents a point leaves: over `acc`, its two experts' results times their gates. -/
theorem point_apply (t : Fin cfg0.N) (inb2 inb2' inb3 inb3') (q : Fin 2112) (j : Fin 1024)
    (ha : acc (ix2 q j) = part m c (t.val / 32) (div_lt t) (2 * (t.val % 32)) q j) :
    k0_pay1 (BitVec.ofNat 32 (grid0.coords t 1).val) (iblk m c 1 t) (iota Kind.tc S2112x64 32 [1] iota_S2112x64_d1_w32)
      (k0_pay3 (grid0.coords t) (iblk m c 1 t) acc
        (View.ld (iblk m c 2 t) (Rect.unit ![0, 0, 0, 0] ![1, 1, 1024, 512] inb2))
        (View.ld (iblk m c 3 t) (Rect.unit ![0, 0, 0, 0] ![1, 1, 256, 1024] inb3)) (iblk m c 0 t))
      (View.ld (iblk m c 2 t) (Rect.unit ![0, 1, 0, 0] ![1, 1, 1024, 512] inb2'))
      (View.ld (iblk m c 3 t) (Rect.unit ![0, 1, 0, 0] ![1, 1, 256, 1024] inb3')) (iblk m c 0 t) (ix2 q j)
      = part m c (t.val / 32) (div_lt t) (2 * (t.val % 32) + 2) q j := by
  have he : t.val % 32 < 32 := Nat.mod_lt _ (by omega)
  rw [coord1 t, pay1_apply _ _ _ _ _ (t.val % 32) he, pay3_apply _ _ _ _ _ _ (t.val % 32) he (coord1 t), ha]
  unfold part
  rw [moePart_succ _ _ _ _ _ _ _ (2 * (t.val % 32) + 1) (by omega), moePart_succ _ _ _ _ _ _ _ (2 * (t.val % 32)) (by omega)]
  exact congrArg₂ (· + ·) (congrArg (_ + ·) (expert_point m c t 0 inb2 inb3 q j)) (expert_point m c t 1 inb2' inb3' q j)

/-- The first point of a block leaves the shared unit's result and its two experts'. -/
theorem first_point (t : Fin cfg0.N) (h0 : t.val % 32 = 0) (q : Fin 2112) (j : Fin 1024) :
    outsAt0 m c t.val t.isLt (ix2 q j) = part m c (t.val / 32) (div_lt t) (2 * (t.val % 32) + 2) q j := by
  rw [outsAt0_A m c t h0]
  frame_out
  refine point_apply _ m c t _ _ _ _ q j ?_
  rw [shared_apply, h0]
  unfold part
  rw [moePart_zero]
  have e0 : (fun k => iblk m c 0 t (ix2 q k)) = g0 m c (rowOf (t.val / 32) (div_lt t) q) := funext fun k => blk0_apply m c t q k
  have e4 : (fun k h => iblk m c 4 t (ix2 k h)) = g4 m c := funext fun k => funext fun h => blk4_apply m c t k h
  have e5 : (fun h j => iblk m c 5 t (ix2 h j)) = g5 m c := funext fun h => funext fun j => blk5_apply m c t h j
  exact congrFun (congr (congr (congrArg ffn e0) e4) e5) j

/-- A later point adds its two experts' results to what the point before left. -/
theorem later_point (t : Fin cfg0.N) (h0 : ¬t.val % 32 = 0) (q : Fin 2112) (j : Fin 1024)
    (hb : outsAt0 m c (t.val - 1) (Nat.lt_of_le_of_lt (Nat.sub_le _ _) t.isLt) (ix2 q j)
      = part m c (t.val / 32) (div_lt t) (2 * (t.val % 32)) q j) :
    outsAt0 m c t.val t.isLt (ix2 q j) = part m c (t.val / 32) (div_lt t) (2 * (t.val % 32) + 2) q j := by
  rw [outsAt0_B m c t h0]
  frame_out
  exact point_apply _ m c t _ _ _ _ q j hb

/-- The result so far of two equal blocks and numbers of experts. -/
theorem part_congr {b b' : ℕ} (hb : b < 8) (hb' : b' < 8) {n n' : ℕ} (e : b = b') (f : n = n') (q : Fin 2112) (j : Fin 1024) :
    part m c b hb n q j = part m c b' hb' n' q j := by
  subst e f
  rfl

/-- After every point the block holds the shared unit's result and those of the experts so far. -/
theorem state_eq (n : ℕ) : ∀ (hn : n < cfg0.N) (q : Fin 2112) (j : Fin 1024),
    outsAt0 m c n hn (ix2 q j) = part m c (n / 32) (div_lt ⟨n, hn⟩) (2 * (n % 32) + 2) q j := by
  induction n with
  | zero => exact fun hn q j => first_point m c ⟨0, hn⟩ rfl q j
  | succ n ih =>
    intro hn q j
    by_cases h0 : (n + 1) % 32 = 0
    · exact first_point m c ⟨n + 1, hn⟩ h0 q j
    · refine later_point m c ⟨n + 1, hn⟩ h0 q j ((ih (Nat.lt_of_succ_lt hn) q j).trans ?_)
      refine part_congr m c _ _ ?_ ?_ q j
      · show n / 32 = (n + 1) / 32
        omega
      · show 2 * (n % 32) + 2 = 2 * ((n + 1) % 32)
        omega

/-- The experts' values as an array. -/
def resultOf (x : Fin 16896 → Fin 1024 → EReal) (gate : Fin 16896 → Fin 64 → EReal) (gu : Fin 64 → Fin 1024 → Fin 512 → EReal)
    (d : Fin 64 → Fin 256 → Fin 1024 → EReal) (sgu : Fin 1024 → Fin 512 → EReal) (sd : Fin 256 → Fin 1024 → EReal) :
    FVec Ideal S16896x1024 .f32 :=
  fun i => moeVal (x ⟨(i 0).val, (i 0).isLt⟩) (gate ⟨(i 0).val, (i 0).isLt⟩) gu d sgu sd ⟨(i 1).val, (i 1).isLt⟩

/-- The kernel's result array holds the experts' values. -/
theorem array_eq :
    (dats m 0 c).arrAt 6 cfg0.N = resultOf (g0 m c) (g1 m c) (g2 m c) (g3 m c) (g4 m c) (g5 m c) := by
  refine (dats m 0 c).arrAt_eq_of_covers 6 _ (by decide +kernel) fun t hf y => ?_
  change (dats m 0 c).flushed 6 t y = _
  have hl : t.val % 32 = 31 := (flush0_6 t).mp hf
  have hi := idx6 t
  have f0 : ((((cfg0.win 6).blk t).view.emb y) 0).val = t.val / 32 * 2112 + (y 0).val := by blk_simp [hi]
  have f1 : ((((cfg0.win 6).blk t).view.emb y) 1).val = (y 1).val := by blk_simp [hi]
  rw [Value.flushed6]
  have e := state_eq m c t.val t.isLt ⟨(y 0).val, (y 0).isLt⟩ ⟨(y 1).val, (y 1).isLt⟩
  refine Eq.trans ?_ ((e.trans (part_congr m c (div_lt t) (div_lt t) rfl (by omega : _ = 64) _ _)).trans ?_)
  · refine congrArg (outsAt0 m c t.val t.isLt) (funext fun a => ?_)
    match a with
    | ⟨0, _⟩ => rfl
    | ⟨1, _⟩ => rfl
  · unfold part resultOf
    rw [moePart_all]
    exact congrArg₂ (fun r j => moeVal (g0 m c r) (g1 m c r) _ _ _ _ j) (Fin.ext f0.symm) (Fin.ext f1.symm)

end Cert.Moe.Second

end
-- ==== Proof.lean ====
/-
  The proof of this directory's claim (Defs.lean): the frames, and the equality of the two results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.DA.Ref
public import proofs.«01_k».proof.Proof.DA.Pre
public import proofs.«01_k».proof.Proof.Proj.Ref
public import proofs.«01_k».proof.Proof.Proj.Kern
public import proofs.«01_k».proof.Proof.Moe.Ref
public import proofs.«01_k».proof.Proof.Moe.Kern
public import proofs.«01_k».proof.Proof.Merge.Eq
public import proofs.«01_k».proof.Proof.MergeBits.Frame
public import proofs.«01_k».proof.Proof.Resid.First
public import proofs.«01_k».proof.Proof.Resid.RefFirst
public import proofs.«01_k».proof.Proof.Resid.Last
public import proofs.«01_k».proof.Proof.Resid.RefLast
public import proofs.«01_k».proof.Proof.Ada.Kern
public import proofs.«01_k».proof.Proof.Ada.Ref
public import proofs.«01_k».proof.Proof.DA.Second.Ref
public import proofs.«01_k».proof.Proof.DA.Second.Pre
public import proofs.«01_k».proof.Proof.Moe.Second.Ref
public import proofs.«01_k».proof.Proof.Moe.Second.Kern
public import Idealize.ShloMosaic.Lib.QuiescentFlight
public import Idealize.ShloMosaic.Adequacy
public import Idealize.ShloMosaic.Init

@[expose] public section

noncomputable section

namespace Cert.Proof

open Idealize.ShloMosaic Idealize.SL.Sem

/-- What the precondition's two facts are: witnesses of the shapes' broadcasts and reductions. -/
theorem preFacts : Cert.Pre_finite.Facts where
  bcast_S_S4x32 := by decide
  reducesTo_S4x32_S_d0_1 := by decide
  h_S_ := by decide
  bcast_S_S16896x256 := by decide
  reducesTo_S16896x256_S_d0_1 := by decide

/-- The reference runs from every memory and leaves its arguments as they were. -/
theorem frame_ri : Cert.quiescent_ReferenceIdeal (hReferenceIdeal := Cert.ReferenceIdeal.Gen.facts) := by
  intro m g _
  exact (θ_run _ _ _).mono (fun r h => ⟨fun c => (h c).2,
    Idealize.ShloMosaic.sem_eq_zero_of_no_sems (by decide) r.2⟩) (Cert.ReferenceIdeal.Value.run (F := Ideal) m g)

/-- The reference's result array is the array that the kernel's is (`Cert.DA.array_eq`). -/
theorem ref_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v127 m' c
      = Cert.DA.resultOf (Cert.DA.f0 (m' ((c.tc : Thread Cert.ReferenceIdeal.nD Cert.ReferenceIdeal.τ).loc Cert.ReferenceIdeal.main_arg0)))
        (Cert.DA.f1 (m' ((c.tc : Thread Cert.ReferenceIdeal.nD Cert.ReferenceIdeal.τ).loc Cert.ReferenceIdeal.main_arg1)))
        (Cert.DA.f2 (m' ((c.tc : Thread Cert.ReferenceIdeal.nD Cert.ReferenceIdeal.τ).loc Cert.ReferenceIdeal.main_arg2)))
        (Cert.DA.f3 (m' ((c.tc : Thread Cert.ReferenceIdeal.nD Cert.ReferenceIdeal.τ).loc Cert.ReferenceIdeal.main_arg3))) := by
  rw [Cert.ReferenceIdeal.Read.val_main_v127_eq]
  funext i
  obtain ⟨b, n, h, d, rfl⟩ := Cert.DA.exists_coords i
  refine (Cert.DA.ref_apply _ _ _ _ b n h d).trans ?_
  exact (Cert.DA.resultOf_apply _ _ _ _ b n h d _ rfl rfl).symm

/-- The two programs' results are equal. -/
theorem results_eq : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hm
  have hP := fun c => haveI := preFacts; Cert.DA.pre_real _ _ _ _ (hpre c)
  refine ⟨fun c => (Cert.KernelIdeal.Gen.dats m 0 c).arrAt 5 Cert.KernelIdeal.cfg0.N, Cert.KernelIdeal.Value.run_blocks m g, ?_⟩
  refine (θ_run _ _ _).mono (fun r h c => ⟨(h c).1.trans ?_, (h c).2⟩) (Cert.ReferenceIdeal.Value.run (F := Ideal) m' g')
  obtain ⟨lam, hlam⟩ := Cert.DA.lam_real (Cert.DA.g0 m c) (fun i j => (hP c).1 (ix2 i j))
  refine Eq.trans ?_ (Cert.DA.array_eq m c (fun i j => (hP c).2 (ix2 i j)) lam hlam).symm
  rw [ref_result, (hm c).1, (hm c).2.1, (hm c).2.2.1, (hm c).2.2.2]

/-- The projection's reference runs from every memory and leaves its arguments as they were. -/
theorem frame_ri2 : Cert.quiescent_Reference2Ideal (hReference2Ideal := Cert.Reference2Ideal.Gen.facts) := by
  intro m g _
  exact (θ_run _ _ _).mono (fun r h => ⟨fun c => (h c).2,
    Idealize.ShloMosaic.sem_eq_zero_of_no_sems (by decide) r.2⟩) (Cert.Reference2Ideal.Value.run (F := Ideal) m g)

/-- The projection's reference's result array is the array that the kernel's is (`Cert.Proj.array_eq`). -/
theorem ref_result2 (A0 : (⟨Cert.Reference2Ideal.S16896x1024, .f32⟩ : BufTy).Contents (Elt Ideal))
    (A1 : (⟨Cert.Reference2Ideal.S1024, .f32⟩ : BufTy).Contents (Elt Ideal))
    (A2 : (⟨Cert.Reference2Ideal.S3x1x1024, .f32⟩ : BufTy).Contents (Elt Ideal))
    (A3 : (⟨Cert.Reference2Ideal.S3x1x1024, .f32⟩ : BufTy).Contents (Elt Ideal))
    (A4 : (⟨Cert.Reference2Ideal.S1024x7168, .f32⟩ : BufTy).Contents (Elt Ideal)) :
    Cert.Reference2Ideal.Read.val_main_v47 (F := Ideal) A0 A1 A2 A3 A4
      = Cert.Proj.resultOf (Cert.Proj.f0 A0) (Cert.Proj.f1 A1) (Cert.Proj.f2 A2) (Cert.Proj.f2 A3) (Cert.Proj.f4 A4) := by
  funext i
  have hi : i = ix2 (⟨(i 0).val, (i 0).isLt⟩ : Fin 16896) (⟨(i 1).val, (i 1).isLt⟩ : Fin 7168) := by
    funext a
    match a with
    | ⟨0, _⟩ => rfl
    | ⟨1, _⟩ => rfl
  exact (congrArg (Cert.Reference2Ideal.Read.val_main_v47 (F := Ideal) _ _ _ _ _) hi).trans (Cert.Proj.ref_apply _ _ _ _ _ _ _)

/-- The two projection programs' results are equal. -/
theorem results_eq2 : Cert.algebraic_Kernel2Ideal_Reference2Ideal (hKernel2Ideal := Cert.Kernel2Ideal.Gen.facts)
    (hReference2Ideal := Cert.Reference2Ideal.Gen.facts) := by
  intro m g m' g' _ hm
  refine ⟨fun c => (Cert.Kernel2Ideal.Gen.dats m 0 c).arrAt 7 Cert.Kernel2Ideal.cfg0.N, Cert.Kernel2Ideal.Value.run_blocks m g, ?_⟩
  refine (θ_run _ _ _).mono (fun r h c => ⟨(h c).1.trans ?_, (h c).2⟩) (Cert.Reference2Ideal.Value.run (F := Ideal) m' g')
  obtain ⟨hm0, hm1, hm2, hm3, hm4⟩ := hm c
  refine (Cert.Reference2Ideal.Read.val_main_v47_eq _ _ _ _ _).trans ?_
  refine Eq.trans ?_ (Cert.Proj.array_eq m c).symm
  rw [ref_result2, hm0, hm1, hm2, hm3, hm4]

/-- The experts' reference runs from every memory and leaves its arguments as they were. -/
theorem frame_ri3 : Cert.quiescent_Reference3Ideal (hReference3Ideal := Cert.Reference3Ideal.Gen.facts) := by
  intro m g _
  exact (θ_run _ _ _).mono (fun r h => ⟨fun c => (h c).2,
    Idealize.ShloMosaic.sem_eq_zero_of_no_sems (by decide) r.2⟩) (Cert.Reference3Ideal.Value.run (F := Ideal) m g)

/-- The experts' reference's result array is the array that the kernel's is (`Cert.Moe.array_eq`). -/
theorem ref_result3 (A0 : (⟨Cert.Reference3Ideal.S16896x1024, .f32⟩ : BufTy).Contents (Elt Ideal))
    (A1 : (⟨Cert.Reference3Ideal.S16896x64, .f32⟩ : BufTy).Contents (Elt Ideal))
    (A2 : (⟨Cert.Reference3Ideal.S2x64x1024x512, .f32⟩ : BufTy).Contents (Elt Ideal))
    (A3 : (⟨Cert.Reference3Ideal.S2x64x256x1024, .f32⟩ : BufTy).Contents (Elt Ideal))
    (A4 : (⟨Cert.Reference3Ideal.S1024x512, .f32⟩ : BufTy).Contents (Elt Ideal))
    (A5 : (⟨Cert.Reference3Ideal.S256x1024, .f32⟩ : BufTy).Contents (Elt Ideal)) :
    Cert.Reference3Ideal.Read.val_main_v18 (F := Ideal) A0 A1 A2 A3 A4 A5
      = Cert.Moe.resultOf (Cert.Moe.f0 A0) (Cert.Moe.f1 A1) (Cert.Moe.f2 A2) (Cert.Moe.f3 A3) (Cert.Moe.f4 A4) (Cert.Moe.f5 A5) := by
  funext i
  have hi : i = ix2 (⟨(i 0).val, (i 0).isLt⟩ : Fin 16896) (⟨(i 1).val, (i 1).isLt⟩ : Fin 1024) := by
    funext a
    match a with
    | ⟨0, _⟩ => rfl
    | ⟨1, _⟩ => rfl
  exact (congrArg (Cert.Reference3Ideal.Read.val_main_v18 (F := Ideal) _ _ _ _ _ _) hi).trans (Cert.Moe.ref_apply _ _ _ _ _ _ _ _)

/-- The two experts' programs' results are equal. -/
theorem results_eq3 : Cert.algebraic_Kernel3Ideal_Reference3Ideal (hKernel3Ideal := Cert.Kernel3Ideal.Gen.facts)
    (hReference3Ideal := Cert.Reference3Ideal.Gen.facts) := by
  intro m g m' g' _ hm
  refine ⟨fun c => (Cert.Kernel3Ideal.Gen.dats m 0 c).arrAt 6 Cert.Kernel3Ideal.cfg0.N, Cert.Kernel3Ideal.Value.run_blocks m g, ?_⟩
  refine (θ_run _ _ _).mono (fun r h c => ⟨(h c).1.trans ?_, (h c).2⟩) (Cert.Reference3Ideal.Value.run (F := Ideal) m' g')
  obtain ⟨hm0, hm1, hm2, hm3, hm4, hm5⟩ := hm c
  refine (Cert.Reference3Ideal.Read.val_main_v18_eq _ _ _ _ _ _).trans ?_
  refine Eq.trans ?_ (Cert.Moe.array_eq m c).symm
  rw [ref_result3, hm0, hm1, hm2, hm3, hm4, hm5]

/-- What the merge's precondition's facts are. -/
theorem preFacts4 : Cert.Pre_summable.Facts where
  bcast_S_S16896x256 := by decide
  reducesTo_S16896x256_S_d0_1 := by decide
  h_S_ := by decide

/-- The merge's reference runs from every memory and leaves its arguments as they were. -/
theorem frame_ri4 : Cert.quiescent_Reference4Ideal (hReference4Ideal := Cert.Reference4Ideal.Gen.facts) := by
  intro m g _
  exact (θ_run _ _ _).mono (fun r h => ⟨fun c => (h c).2.2,
    Idealize.ShloMosaic.sem_eq_zero_of_no_sems (by decide) r.2⟩) (Cert.Reference4Ideal.Value.run (F := Ideal) m g)

/-- The two merge programs' results are equal. -/
theorem results_eq4 : Cert.algebraic_Kernel4Ideal_Reference4Ideal_pre_summable (hKernel4Ideal := Cert.Kernel4Ideal.Gen.facts)
    (hReference4Ideal := Cert.Reference4Ideal.Gen.facts) (hPre_summable := preFacts4) := by
  intro m g m' g' hpre hm
  have hr : ∀ c, Cert.Merge.RealRows m c := fun c => by
    haveI := preFacts4
    have h := Cert.Merge.pre_rows _ _ _ _ _ _ _ _ _ _ _ _ _ _ _ _ _ _ _ (hpre c)
    exact ⟨fun r l => h.1 (ix2 r l), fun r l => h.2 (ix2 r l)⟩
  refine ⟨fun c => (Cert.Kernel4Ideal.Run.dats m 0 c).arrAt 24 Cert.Kernel4Ideal.cfg0.N,
    fun c => (Cert.Kernel4Ideal.Run.dats m 0 c).arrAt 25 Cert.Kernel4Ideal.cfg0.N, ?_, ?_⟩
  · exact (θ_run _ _ _).mono (fun r h c => ⟨(h.1 c).1, (h.1 c).2, h.2 c⟩)
      (θ_run_and (Cert.Merge.run_results m g) (Cert.Kernel4Ideal.Run.unchanged m g))
  · refine (θ_run _ _ _).mono (fun r h c => ⟨(h c).1.trans ?_, (h c).2.1.trans ?_, (h c).2.2⟩) (Cert.Reference4Ideal.Value.run (F := Ideal) m' g')
    · obtain ⟨hm0, hm1, hm2, hm3, hm4, hm5, hm6, hm7, hm8, hm9, hm10, hm11, hm12, hm13, hm14, hm15, hm16, hm17, hm18⟩ := hm c
      refine (Cert.Reference4Ideal.Read.val_main_v98_eq _ _).trans ?_
      refine Eq.trans ?_ (Cert.Merge.stream_array m c (hr c)).symm
      rw [Cert.Merge.ref_stream_array, hm0, hm1, hm2, hm3, hm4, hm5, hm6, hm7, hm8, hm9, hm10, hm11, hm12, hm13]
    · obtain ⟨hm0, hm1, hm2, hm3, hm4, hm5, hm6, hm7, hm8, hm9, hm10, hm11, hm12, hm13, hm14, hm15, hm16, hm17, hm18⟩ := hm c
      refine (Cert.Reference4Ideal.Read.val_main_v128_eq _ _).trans ?_
      refine Eq.trans ?_ (Cert.Merge.tok_array m c (hr c)).symm
      rw [Cert.Merge.ref_tok_array, hm0, hm1, hm2, hm3, hm4, hm5, hm6, hm7, hm8, hm9, hm10, hm11, hm12, hm13, hm14, hm15, hm16]

/-- The reference of the first layer's residual sum runs from every memory and leaves its arguments as they were. -/
theorem frame_ri5 : Cert.quiescent_Reference5Ideal (hReference5Ideal := Cert.Reference5Ideal.Gen.facts) := by
  intro m g _
  exact (θ_run _ _ _).mono (fun r h => ⟨fun c => (h c).2,
    Idealize.ShloMosaic.sem_eq_zero_of_no_sems (by decide) r.2⟩) (Cert.Reference5Ideal.Value.run (F := Ideal) m g)

/-- The result array of the reference of the first layer's residual sum is the array that the kernel's is (`Cert.Resid.First.array_eq`). -/
theorem ref_result5 (A0 : (⟨Cert.Reference5Ideal.S16896x1024, .f32⟩ : BufTy).Contents (Elt Ideal))
    (A1 : (⟨Cert.Reference5Ideal.S16896x1024, .f32⟩ : BufTy).Contents (Elt Ideal))
    (A2 : (⟨Cert.Reference5Ideal.S1024, .f32⟩ : BufTy).Contents (Elt Ideal))
    (A3 : (⟨Cert.Reference5Ideal.S3x1x1024, .f32⟩ : BufTy).Contents (Elt Ideal)) :
    Cert.Reference5Ideal.Read.val_main_v41 (F := Ideal) A0 A1 A2 A3 = Cert.Resid.First.resultOf (Cert.Resid.First.f0 A0) (Cert.Resid.First.f0 A1) (Cert.Resid.First.f2 A2) (Cert.Resid.First.f3 A3) := by
  funext i
  have hi : i = ix2 (⟨(i 0).val, (i 0).isLt⟩ : Fin 16896) (⟨(i 1).val, (i 1).isLt⟩ : Fin 1024) := by
    funext a
    match a with
    | ⟨0, _⟩ => rfl
    | ⟨1, _⟩ => rfl
  exact (congrArg (Cert.Reference5Ideal.Read.val_main_v41 (F := Ideal) _ _ _ _) hi).trans (Cert.Resid.First.ref_apply _ _ _ _ _ _)

/-- The two results of the first layer's residual sum are equal. -/
theorem results_eq5 : Cert.algebraic_Kernel5Ideal_Reference5Ideal (hKernel5Ideal := Cert.Kernel5Ideal.Gen.facts)
    (hReference5Ideal := Cert.Reference5Ideal.Gen.facts) := by
  intro m g m' g' _ hm
  refine ⟨fun c => (Cert.Kernel5Ideal.Gen.dats m 0 c).arrAt 4 Cert.Kernel5Ideal.cfg0.N, Cert.Kernel5Ideal.Value.run_blocks m g, ?_⟩
  refine (θ_run _ _ _).mono (fun r h c => ⟨(h c).1.trans ?_, (h c).2⟩) (Cert.Reference5Ideal.Value.run (F := Ideal) m' g')
  obtain ⟨hm0, hm1, hm2, hm3⟩ := hm c
  refine (Cert.Reference5Ideal.Read.val_main_v41_eq _ _ _ _).trans ?_
  refine Eq.trans ?_ (Cert.Resid.First.array_eq m c).symm
  rw [ref_result5, hm0, hm1, hm2, hm3]

/-- The reference of the last layer's residual sum runs from every memory and leaves its arguments as they were. -/
theorem frame_ri6 : Cert.quiescent_Reference6Ideal (hReference6Ideal := Cert.Reference6Ideal.Gen.facts) := by
  intro m g _
  exact (θ_run _ _ _).mono (fun r h => ⟨fun c => (h c).2,
    Idealize.ShloMosaic.sem_eq_zero_of_no_sems (by decide) r.2⟩) (Cert.Reference6Ideal.Value.run (F := Ideal) m g)

/-- The result array of the reference of the last layer's residual sum is the array that the kernel's is (`Cert.Resid.Last.array_eq`). -/
theorem ref_result6 (A0 : (⟨Cert.Reference6Ideal.S16896x1024, .f32⟩ : BufTy).Contents (Elt Ideal))
    (A1 : (⟨Cert.Reference6Ideal.S16896x1024, .f32⟩ : BufTy).Contents (Elt Ideal))
    (A2 : (⟨Cert.Reference6Ideal.S1024, .f32⟩ : BufTy).Contents (Elt Ideal))
    (A3 : (⟨Cert.Reference6Ideal.S3x1x1024, .f32⟩ : BufTy).Contents (Elt Ideal)) :
    Cert.Reference6Ideal.Read.val_main_v21 (F := Ideal) A0 A1 A2 A3 = Cert.Resid.Last.resultOf (Cert.Resid.Last.f0 A0) (Cert.Resid.Last.f0 A1) (Cert.Resid.Last.f2 A2) (Cert.Resid.Last.f3 A3) := by
  funext i
  have hi : i = ix2 (⟨(i 0).val, (i 0).isLt⟩ : Fin 16384) (⟨(i 1).val, (i 1).isLt⟩ : Fin 1024) := by
    funext a
    match a with
    | ⟨0, _⟩ => rfl
    | ⟨1, _⟩ => rfl
  exact (congrArg (Cert.Reference6Ideal.Read.val_main_v21 (F := Ideal) _ _ _ _) hi).trans (Cert.Resid.Last.ref_apply _ _ _ _ _ _)

/-- The two results of the last layer's residual sum are equal. -/
theorem results_eq6 : Cert.algebraic_Kernel6Ideal_Reference6Ideal (hKernel6Ideal := Cert.Kernel6Ideal.Gen.facts)
    (hReference6Ideal := Cert.Reference6Ideal.Gen.facts) := by
  intro m g m' g' _ hm
  refine ⟨fun c => (Cert.Kernel6Ideal.Gen.dats m 0 c).arrAt 4 Cert.Kernel6Ideal.cfg0.N, Cert.Kernel6Ideal.Value.run_blocks m g, ?_⟩
  refine (θ_run _ _ _).mono (fun r h c => ⟨(h c).1.trans ?_, (h c).2⟩) (Cert.Reference6Ideal.Value.run (F := Ideal) m' g')
  obtain ⟨hm0, hm1, hm2, hm3⟩ := hm c
  refine (Cert.Reference6Ideal.Read.val_main_v21_eq _ _ _ _).trans ?_
  refine Eq.trans ?_ (Cert.Resid.Last.array_eq m c).symm
  rw [ref_result6, hm0, hm1, hm2, hm3]

/-- The reference of the modulation runs from every memory and leaves its arguments as they were. -/
theorem frame_ri7 : Cert.quiescent_Reference7Ideal (hReference7Ideal := Cert.Reference7Ideal.Gen.facts) := by
  intro m g _
  exact (θ_run _ _ _).mono (fun r h => ⟨fun c => (h c).2,
    Idealize.ShloMosaic.sem_eq_zero_of_no_sems (by decide) r.2⟩) (Cert.Reference7Ideal.Value.run (F := Ideal) m g)

/-- The result array of the reference of the modulation is the array that the kernel's is (`Cert.Ada.array_eq`). -/
theorem ref_result7 (A0 : (⟨Cert.Reference7Ideal.S8x1024, .f32⟩ : BufTy).Contents (Elt Ideal))
    (A1 : (⟨Cert.Reference7Ideal.S2x1024x6144, .f32⟩ : BufTy).Contents (Elt Ideal))
    (A2 : (⟨Cert.Reference7Ideal.S2x6144, .f32⟩ : BufTy).Contents (Elt Ideal)) :
    Cert.Reference7Ideal.Read.val_main_v19 (F := Ideal) A0 A1 A2 = Cert.Ada.resultOf (Cert.Ada.f0 A0) (Cert.Ada.f1 A1) (Cert.Ada.f2 A2) := by
  funext i
  have hi : i = ix3 (⟨(i 0).val, (i 0).isLt⟩ : Fin 2) (⟨(i 1).val, (i 1).isLt⟩ : Fin 8) (⟨(i 2).val, (i 2).isLt⟩ : Fin 6144) := by
    funext a
    match a with
    | ⟨0, _⟩ => rfl
    | ⟨1, _⟩ => rfl
    | ⟨2, _⟩ => rfl
  exact (congrArg (Cert.Reference7Ideal.Read.val_main_v19 (F := Ideal) _ _ _) hi).trans (Cert.Ada.ref_apply _ _ _ _ _ _)

/-- The two results of the modulation are equal. -/
theorem results_eq7 : Cert.algebraic_Kernel7Ideal_Reference7Ideal (hKernel7Ideal := Cert.Kernel7Ideal.Gen.facts)
    (hReference7Ideal := Cert.Reference7Ideal.Gen.facts) := by
  intro m g m' g' _ hm
  refine ⟨fun c => (Cert.Kernel7Ideal.Gen.dats m 0 c).arrAt 3 Cert.Kernel7Ideal.cfg0.N, Cert.Kernel7Ideal.Value.run_blocks m g, ?_⟩
  refine (θ_run _ _ _).mono (fun r h c => ⟨(h c).1.trans ?_, (h c).2⟩) (Cert.Reference7Ideal.Value.run (F := Ideal) m' g')
  obtain ⟨hm0, hm1, hm2⟩ := hm c
  refine (Cert.Reference7Ideal.Read.val_main_v19_eq _ _ _).trans ?_
  refine Eq.trans ?_ (Cert.Ada.array_eq m c).symm
  rw [ref_result7, hm0, hm1, hm2]

/-- The reference of the second layer's attention runs from every memory and leaves its arguments as they were. -/
theorem frame_ri8 : Cert.quiescent_Reference8Ideal (hReference8Ideal := Cert.Reference8Ideal.Gen.facts) := by
  intro m g _
  exact (θ_run _ _ _).mono (fun r h => ⟨fun c => (h c).2,
    Idealize.ShloMosaic.sem_eq_zero_of_no_sems (by decide) r.2⟩) (Cert.Reference8Ideal.Value.run (F := Ideal) m g)

/-- The result array of the reference of the second layer's attention is the array that the kernel's is (`Cert.DA.Second.array_eq`). -/
theorem ref_result8 (m' : (ℓ : Loc Cert.Reference8Ideal.nD Cert.Reference8Ideal.τ Cert.Reference8Ideal.sig) → Buf (Elt Ideal) ℓ)
    (c : Dev Cert.Reference8Ideal.nD) :
    Cert.Reference8Ideal.Value.res_main_v127 m' c
      = Cert.DA.Second.resultOf (Cert.DA.Second.f0 (m' ((c.tc : Thread Cert.Reference8Ideal.nD Cert.Reference8Ideal.τ).loc Cert.Reference8Ideal.main_arg0)))
        (Cert.DA.Second.f1 (m' ((c.tc : Thread Cert.Reference8Ideal.nD Cert.Reference8Ideal.τ).loc Cert.Reference8Ideal.main_arg1)))
        (Cert.DA.Second.f2 (m' ((c.tc : Thread Cert.Reference8Ideal.nD Cert.Reference8Ideal.τ).loc Cert.Reference8Ideal.main_arg2)))
        (Cert.DA.Second.f3 (m' ((c.tc : Thread Cert.Reference8Ideal.nD Cert.Reference8Ideal.τ).loc Cert.Reference8Ideal.main_arg3))) := by
  rw [Cert.Reference8Ideal.Read.val_main_v127_eq]
  funext i
  obtain ⟨b, n, h, d, rfl⟩ := Cert.DA.Second.exists_coords i
  refine (Cert.DA.Second.ref_apply _ _ _ _ b n h d).trans ?_
  exact (Cert.DA.Second.resultOf_apply _ _ _ _ b n h d _ rfl rfl).symm

/-- The two results of the second layer's attention are equal. -/
theorem results_eq8 : Cert.algebraic_Kernel8Ideal_Reference8Ideal_pre_finite (hKernel8Ideal := Cert.Kernel8Ideal.Gen.facts)
    (hReference8Ideal := Cert.Reference8Ideal.Gen.facts) (hPre_finite := preFacts) := by
  intro m g m' g' hpre hm
  have hP := fun c => haveI := preFacts; Cert.DA.Second.pre_real _ _ _ _ (hpre c)
  refine ⟨fun c => (Cert.Kernel8Ideal.Gen.dats m 0 c).arrAt 5 Cert.Kernel8Ideal.cfg0.N, Cert.Kernel8Ideal.Value.run_blocks m g, ?_⟩
  refine (θ_run _ _ _).mono (fun r h c => ⟨(h c).1.trans ?_, (h c).2⟩) (Cert.Reference8Ideal.Value.run (F := Ideal) m' g')
  obtain ⟨lam, hlam⟩ := Cert.DA.Second.lam_real (Cert.DA.Second.g0 m c) (fun i j => (hP c).1 (ix2 i j))
  refine Eq.trans ?_ (Cert.DA.Second.array_eq m c (fun i j => (hP c).2 (ix2 i j)) lam hlam).symm
  rw [ref_result8, (hm c).1, (hm c).2.1, (hm c).2.2.1, (hm c).2.2.2]

/-- The reference of the second layer's experts runs from every memory and leaves its arguments as they were. -/
theorem frame_ri9 : Cert.quiescent_Reference9Ideal (hReference9Ideal := Cert.Reference9Ideal.Gen.facts) := by
  intro m g _
  exact (θ_run _ _ _).mono (fun r h => ⟨fun c => (h c).2,
    Idealize.ShloMosaic.sem_eq_zero_of_no_sems (by decide) r.2⟩) (Cert.Reference9Ideal.Value.run (F := Ideal) m g)

/-- The result array of the reference of the second layer's experts is the array that the kernel's is (`Cert.Moe.Second.array_eq`). -/
theorem ref_result9 (A0 : (⟨Cert.Reference9Ideal.S16896x1024, .f32⟩ : BufTy).Contents (Elt Ideal))
    (A1 : (⟨Cert.Reference9Ideal.S16896x64, .f32⟩ : BufTy).Contents (Elt Ideal))
    (A2 : (⟨Cert.Reference9Ideal.S2x64x1024x512, .f32⟩ : BufTy).Contents (Elt Ideal))
    (A3 : (⟨Cert.Reference9Ideal.S2x64x256x1024, .f32⟩ : BufTy).Contents (Elt Ideal))
    (A4 : (⟨Cert.Reference9Ideal.S1024x512, .f32⟩ : BufTy).Contents (Elt Ideal))
    (A5 : (⟨Cert.Reference9Ideal.S256x1024, .f32⟩ : BufTy).Contents (Elt Ideal)) :
    Cert.Reference9Ideal.Read.val_main_v18 (F := Ideal) A0 A1 A2 A3 A4 A5
      = Cert.Moe.Second.resultOf (Cert.Moe.Second.f0 A0) (Cert.Moe.Second.f1 A1) (Cert.Moe.Second.f2 A2) (Cert.Moe.Second.f3 A3) (Cert.Moe.Second.f4 A4) (Cert.Moe.Second.f5 A5) := by
  funext i
  have hi : i = ix2 (⟨(i 0).val, (i 0).isLt⟩ : Fin 16896) (⟨(i 1).val, (i 1).isLt⟩ : Fin 1024) := by
    funext a
    match a with
    | ⟨0, _⟩ => rfl
    | ⟨1, _⟩ => rfl
  exact (congrArg (Cert.Reference9Ideal.Read.val_main_v18 (F := Ideal) _ _ _ _ _ _) hi).trans (Cert.Moe.Second.ref_apply _ _ _ _ _ _ _ _)

/-- The two results of the second layer's experts are equal. -/
theorem results_eq9 : Cert.algebraic_Kernel9Ideal_Reference9Ideal (hKernel9Ideal := Cert.Kernel9Ideal.Gen.facts)
    (hReference9Ideal := Cert.Reference9Ideal.Gen.facts) := by
  intro m g m' g' _ hm
  refine ⟨fun c => (Cert.Kernel9Ideal.Gen.dats m 0 c).arrAt 6 Cert.Kernel9Ideal.cfg0.N, Cert.Kernel9Ideal.Value.run_blocks m g, ?_⟩
  refine (θ_run _ _ _).mono (fun r h c => ⟨(h c).1.trans ?_, (h c).2⟩) (Cert.Reference9Ideal.Value.run (F := Ideal) m' g')
  obtain ⟨hm0, hm1, hm2, hm3, hm4, hm5⟩ := hm c
  refine (Cert.Reference9Ideal.Read.val_main_v18_eq _ _ _ _ _ _).trans ?_
  refine Eq.trans ?_ (Cert.Moe.Second.array_eq m c).symm
  rw [ref_result9, hm0, hm1, hm2, hm3, hm4, hm5]

/-- All the claims of the nine programs. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    preFacts, preFacts4,
    fun m g _ => Cert.Kernel.Gen.frame m g, fun m g _ => Cert.KernelIdeal.Gen.frame m g,
    fun m g _ => Cert.KernelIdeal.Gen.frame m g, frame_ri, fun m g _ => frame_ri m g trivial,
    fun m g _ => Cert.Kernel2.Gen.frame m g, fun m g _ => Cert.Kernel2Ideal.Gen.frame m g, frame_ri2,
    fun m g _ => Cert.Kernel3.Gen.frame m g, fun m g _ => Cert.Kernel3Ideal.Gen.frame m g, frame_ri3,
    fun m g _ => Cert.Kernel4.Run.frame m g, fun m g _ => Cert.Kernel4Ideal.Run.frame m g,
    fun m g _ => Cert.Kernel4Ideal.Run.frame m g, frame_ri4, fun m g _ => frame_ri4 m g trivial,
    fun m g _ => Cert.Kernel5.Gen.frame m g, fun m g _ => Cert.Kernel5Ideal.Gen.frame m g, frame_ri5,
    fun m g _ => Cert.Kernel6.Gen.frame m g, fun m g _ => Cert.Kernel6Ideal.Gen.frame m g, frame_ri6,
    fun m g _ => Cert.Kernel7.Gen.frame m g, fun m g _ => Cert.Kernel7Ideal.Gen.frame m g, frame_ri7,
    fun m g _ => Cert.Kernel8.Gen.frame m g, fun m g _ => Cert.Kernel8Ideal.Gen.frame m g,
    fun m g _ => Cert.Kernel8Ideal.Gen.frame m g, frame_ri8, fun m g _ => frame_ri8 m g trivial,
    fun m g _ => Cert.Kernel9.Gen.frame m g, fun m g _ => Cert.Kernel9Ideal.Gen.frame m g, frame_ri9,
    trivial, results_eq, trivial, results_eq2, trivial, results_eq3, trivial, results_eq4,
    trivial, results_eq5, trivial, results_eq6, trivial, results_eq7,
    trivial, results_eq8, trivial, results_eq9⟩

end Cert.Proof

end
